-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_InProjSample (m : (ℓ : Loc Cert.InProjSample.nD Cert.InProjSample.τ Cert.InProjSample.sig) → Buf (Elt Bits) ℓ) : Prop :=
  True

def Pre_InProjSampleIdeal (m : (ℓ : Loc Cert.InProjSampleIdeal.nD Cert.InProjSampleIdeal.τ Cert.InProjSampleIdeal.sig) → Buf (Elt Ideal) ℓ) : Prop :=
  True

def Pre_InProjSampleRefIdeal (m : (ℓ : Loc Cert.InProjSampleRefIdeal.nD Cert.InProjSampleRefIdeal.τ Cert.InProjSampleRefIdeal.sig) → Buf (Elt Ideal) ℓ) : Prop :=
  True

def Pre_AttnOut (m : (ℓ : Loc Cert.AttnOut.nD Cert.AttnOut.τ Cert.AttnOut.sig) → Buf (Elt Bits) ℓ) : Prop :=
  True

def Pre_AttnOutIdeal (m : (ℓ : Loc Cert.AttnOutIdeal.nD Cert.AttnOutIdeal.τ Cert.AttnOutIdeal.sig) → Buf (Elt Ideal) ℓ) : Prop :=
  True

def Pre_AttnOutRefIdeal (m : (ℓ : Loc Cert.AttnOutRefIdeal.nD Cert.AttnOutRefIdeal.τ Cert.AttnOutRefIdeal.sig) → Buf (Elt Ideal) ℓ) : Prop :=
  True

def Pre_S5In (m : (ℓ : Loc Cert.S5In.nD Cert.S5In.τ Cert.S5In.sig) → Buf (Elt Bits) ℓ) : Prop :=
  True

def Pre_S5InIdeal (m : (ℓ : Loc Cert.S5InIdeal.nD Cert.S5InIdeal.τ Cert.S5InIdeal.sig) → Buf (Elt Ideal) ℓ) : Prop :=
  True

def Pre_S5InRefIdeal (m : (ℓ : Loc Cert.S5InRefIdeal.nD Cert.S5InRefIdeal.τ Cert.S5InRefIdeal.sig) → Buf (Elt Ideal) ℓ) : Prop :=
  True

def Pre_S5Out (m : (ℓ : Loc Cert.S5Out.nD Cert.S5Out.τ Cert.S5Out.sig) → Buf (Elt Bits) ℓ) : Prop :=
  True

def Pre_S5OutIdeal (m : (ℓ : Loc Cert.S5OutIdeal.nD Cert.S5OutIdeal.τ Cert.S5OutIdeal.sig) → Buf (Elt Ideal) ℓ) : Prop :=
  True

def Pre_S5OutRefIdeal (m : (ℓ : Loc Cert.S5OutRefIdeal.nD Cert.S5OutRefIdeal.τ Cert.S5OutRefIdeal.sig) → Buf (Elt Ideal) ℓ) : Prop :=
  True

def Pre_AttnOutSample (m : (ℓ : Loc Cert.AttnOutSample.nD Cert.AttnOutSample.τ Cert.AttnOutSample.sig) → Buf (Elt Bits) ℓ) : Prop :=
  True

def Pre_AttnOutSampleIdeal (m : (ℓ : Loc Cert.AttnOutSampleIdeal.nD Cert.AttnOutSampleIdeal.τ Cert.AttnOutSampleIdeal.sig) → Buf (Elt Ideal) ℓ) : Prop :=
  True

def Pre_AttnOutSampleRefIdeal (m : (ℓ : Loc Cert.AttnOutSampleRefIdeal.nD Cert.AttnOutSampleRefIdeal.τ Cert.AttnOutSampleRefIdeal.sig) → Buf (Elt Ideal) ℓ) : Prop :=
  True

def Pre_S5InSample (m : (ℓ : Loc Cert.S5InSample.nD Cert.S5InSample.τ Cert.S5InSample.sig) → Buf (Elt Bits) ℓ) : Prop :=
  True

def Pre_S5InSampleIdeal (m : (ℓ : Loc Cert.S5InSampleIdeal.nD Cert.S5InSampleIdeal.τ Cert.S5InSampleIdeal.sig) → Buf (Elt Ideal) ℓ) : Prop :=
  True

def Pre_S5InSampleRefIdeal (m : (ℓ : Loc Cert.S5InSampleRefIdeal.nD Cert.S5InSampleRefIdeal.τ Cert.S5InSampleRefIdeal.sig) → Buf (Elt Ideal) ℓ) : Prop :=
  True

def Pre_S5Steps (m : (ℓ : Loc Cert.S5Steps.nD Cert.S5Steps.τ Cert.S5Steps.sig) → Buf (Elt Bits) ℓ) : Prop :=
  True

def Pre_S5StepsIdeal (m : (ℓ : Loc Cert.S5StepsIdeal.nD Cert.S5StepsIdeal.τ Cert.S5StepsIdeal.sig) → Buf (Elt Ideal) ℓ) : Prop :=
  True

def Pre_S5StepsRefIdeal (m : (ℓ : Loc Cert.S5StepsRefIdeal.nD Cert.S5StepsRefIdeal.τ Cert.S5StepsRefIdeal.sig) → Buf (Elt Ideal) ℓ) : Prop :=
  True

def Pre_S5OutSample (m : (ℓ : Loc Cert.S5OutSample.nD Cert.S5OutSample.τ Cert.S5OutSample.sig) → Buf (Elt Bits) ℓ) : Prop :=
  True

def Pre_S5OutSampleIdeal (m : (ℓ : Loc Cert.S5OutSampleIdeal.nD Cert.S5OutSampleIdeal.τ Cert.S5OutSampleIdeal.sig) → Buf (Elt Ideal) ℓ) : Prop :=
  True

def Pre_S5OutSampleRefIdeal (m : (ℓ : Loc Cert.S5OutSampleRefIdeal.nD Cert.S5OutSampleRefIdeal.τ Cert.S5OutSampleRefIdeal.sig) → Buf (Elt Ideal) ℓ) : Prop :=
  True

def Pre_Sums (m : (ℓ : Loc Cert.Sums.nD Cert.Sums.τ Cert.Sums.sig) → Buf (Elt Bits) ℓ) : Prop :=
  True

def Pre_SumsIdeal (m : (ℓ : Loc Cert.SumsIdeal.nD Cert.SumsIdeal.τ Cert.SumsIdeal.sig) → Buf (Elt Ideal) ℓ) : Prop :=
  True

def Pre_SumsIdeal_finite_sums [hPre_finite_sums : Cert.Pre_finite_sums.Facts] (m : (ℓ : Loc Cert.SumsIdeal.nD Cert.SumsIdeal.τ Cert.SumsIdeal.sig) → Buf (Elt Ideal) ℓ) : Prop :=
  ∀ c : Dev Cert.SumsIdeal.nD,
    (Cert.Pre_finite_sums.fn (F := Ideal) (m ((c.tc : Thread Cert.SumsIdeal.nD Cert.SumsIdeal.τ).loc Cert.SumsIdeal.main_arg0))) = (fun _ => 1#1)

def Pre_SumsRefIdeal (m : (ℓ : Loc Cert.SumsRefIdeal.nD Cert.SumsRefIdeal.τ Cert.SumsRefIdeal.sig) → Buf (Elt Ideal) ℓ) : Prop :=
  True

def Pre_SumsRefIdeal_finite_sums [hPre_finite_sums : Cert.Pre_finite_sums.Facts] (m : (ℓ : Loc Cert.SumsRefIdeal.nD Cert.SumsRefIdeal.τ Cert.SumsRefIdeal.sig) → Buf (Elt Ideal) ℓ) : Prop :=
  ∀ c : Dev Cert.SumsRefIdeal.nD,
    (Cert.Pre_finite_sums.fn (F := Ideal) (m ((c.tc : Thread Cert.SumsRefIdeal.nD Cert.SumsRefIdeal.τ).loc Cert.SumsRefIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_InProjSample [hInProjSample : Cert.InProjSample.Facts] : Prop :=
  ∀ (m : (ℓ : Loc Cert.InProjSample.nD Cert.InProjSample.τ Cert.InProjSample.sig) → Buf (Elt Bits) ℓ) (g : Dev Cert.InProjSample.nD → PrngReg), Pre_InProjSample m →
    θ_run (Cert.InProjSample.defs (F := Bits)) (onTc (τ := Cert.InProjSample.τ) (Cert.InProjSample.main (F := Bits))) ⟨m, fun _ => 0, g⟩ (fun r => (∀ c : Dev Cert.InProjSample.nD,
      r.2.mem ((c.tc : Thread Cert.InProjSample.nD Cert.InProjSample.τ).loc Cert.InProjSample.main_arg0) = m ((c.tc : Thread Cert.InProjSample.nD Cert.InProjSample.τ).loc Cert.InProjSample.main_arg0)
      ∧ r.2.mem ((c.tc : Thread Cert.InProjSample.nD Cert.InProjSample.τ).loc Cert.InProjSample.main_arg1) = m ((c.tc : Thread Cert.InProjSample.nD Cert.InProjSample.τ).loc Cert.InProjSample.main_arg1)
      ∧ r.2.mem ((c.tc : Thread Cert.InProjSample.nD Cert.InProjSample.τ).loc Cert.InProjSample.main_arg2) = m ((c.tc : Thread Cert.InProjSample.nD Cert.InProjSample.τ).loc Cert.InProjSample.main_arg2))
      ∧ r.2.sem = fun _ => 0)

def quiescent_InProjSampleIdeal [hInProjSampleIdeal : Cert.InProjSampleIdeal.Facts] : Prop :=
  ∀ (m : (ℓ : Loc Cert.InProjSampleIdeal.nD Cert.InProjSampleIdeal.τ Cert.InProjSampleIdeal.sig) → Buf (Elt Ideal) ℓ) (g : Dev Cert.InProjSampleIdeal.nD → PrngReg), Pre_InProjSampleIdeal m →
    θ_run (Cert.InProjSampleIdeal.defs (F := Ideal)) (onTc (τ := Cert.InProjSampleIdeal.τ) (Cert.InProjSampleIdeal.main (F := Ideal))) ⟨m, fun _ => 0, g⟩ (fun r => (∀ c : Dev Cert.InProjSampleIdeal.nD,
      r.2.mem ((c.tc : Thread Cert.InProjSampleIdeal.nD Cert.InProjSampleIdeal.τ).loc Cert.InProjSampleIdeal.main_arg0) = m ((c.tc : Thread Cert.InProjSampleIdeal.nD Cert.InProjSampleIdeal.τ).loc Cert.InProjSampleIdeal.main_arg0)
      ∧ r.2.mem ((c.tc : Thread Cert.InProjSampleIdeal.nD Cert.InProjSampleIdeal.τ).loc Cert.InProjSampleIdeal.main_arg1) = m ((c.tc : Thread Cert.InProjSampleIdeal.nD Cert.InProjSampleIdeal.τ).loc Cert.InProjSampleIdeal.main_arg1)
      ∧ r.2.mem ((c.tc : Thread Cert.InProjSampleIdeal.nD Cert.InProjSampleIdeal.τ).loc Cert.InProjSampleIdeal.main_arg2) = m ((c.tc : Thread Cert.InProjSampleIdeal.nD Cert.InProjSampleIdeal.τ).loc Cert.InProjSampleIdeal.main_arg2))
      ∧ r.2.sem = fun _ => 0)

def quiescent_InProjSampleRefIdeal [hInProjSampleRefIdeal : Cert.InProjSampleRefIdeal.Facts] : Prop :=
  ∀ (m : (ℓ : Loc Cert.InProjSampleRefIdeal.nD Cert.InProjSampleRefIdeal.τ Cert.InProjSampleRefIdeal.sig) → Buf (Elt Ideal) ℓ) (g : Dev Cert.InProjSampleRefIdeal.nD → PrngReg), Pre_InProjSampleRefIdeal m →
    θ_run (Cert.InProjSampleRefIdeal.defs (F := Ideal)) (onTc (τ := Cert.InProjSampleRefIdeal.τ) (Cert.InProjSampleRefIdeal.main (F := Ideal))) ⟨m, fun _ => 0, g⟩ (fun r => (∀ c : Dev Cert.InProjSampleRefIdeal.nD,
      r.2.mem ((c.tc : Thread Cert.InProjSampleRefIdeal.nD Cert.InProjSampleRefIdeal.τ).loc Cert.InProjSampleRefIdeal.main_arg0) = m ((c.tc : Thread Cert.InProjSampleRefIdeal.nD Cert.InProjSampleRefIdeal.τ).loc Cert.InProjSampleRefIdeal.main_arg0)
      ∧ r.2.mem ((c.tc : Thread Cert.InProjSampleRefIdeal.nD Cert.InProjSampleRefIdeal.τ).loc Cert.InProjSampleRefIdeal.main_arg1) = m ((c.tc : Thread Cert.InProjSampleRefIdeal.nD Cert.InProjSampleRefIdeal.τ).loc Cert.InProjSampleRefIdeal.main_arg1)
      ∧ r.2.mem ((c.tc : Thread Cert.InProjSampleRefIdeal.nD Cert.InProjSampleRefIdeal.τ).loc Cert.InProjSampleRefIdeal.main_arg2) = m ((c.tc : Thread Cert.InProjSampleRefIdeal.nD Cert.InProjSampleRefIdeal.τ).loc Cert.InProjSampleRefIdeal.main_arg2))
      ∧ r.2.sem = fun _ => 0)

def quiescent_AttnOut [hAttnOut : Cert.AttnOut.Facts] : Prop :=
  ∀ (m : (ℓ : Loc Cert.AttnOut.nD Cert.AttnOut.τ Cert.AttnOut.sig) → Buf (Elt Bits) ℓ) (g : Dev Cert.AttnOut.nD → PrngReg), Pre_AttnOut m →
    θ_run (Cert.AttnOut.defs (F := Bits)) (onTc (τ := Cert.AttnOut.τ) (Cert.AttnOut.main (F := Bits))) ⟨m, fun _ => 0, g⟩ (fun r => (∀ c : Dev Cert.AttnOut.nD,
      r.2.mem ((c.tc : Thread Cert.AttnOut.nD Cert.AttnOut.τ).loc Cert.AttnOut.main_arg0) = m ((c.tc : Thread Cert.AttnOut.nD Cert.AttnOut.τ).loc Cert.AttnOut.main_arg0)
      ∧ r.2.mem ((c.tc : Thread Cert.AttnOut.nD Cert.AttnOut.τ).loc Cert.AttnOut.main_arg1) = m ((c.tc : Thread Cert.AttnOut.nD Cert.AttnOut.τ).loc Cert.AttnOut.main_arg1)
      ∧ r.2.mem ((c.tc : Thread Cert.AttnOut.nD Cert.AttnOut.τ).loc Cert.AttnOut.main_arg2) = m ((c.tc : Thread Cert.AttnOut.nD Cert.AttnOut.τ).loc Cert.AttnOut.main_arg2)
      ∧ r.2.mem ((c.tc : Thread Cert.AttnOut.nD Cert.AttnOut.τ).loc Cert.AttnOut.main_arg3) = m ((c.tc : Thread Cert.AttnOut.nD Cert.AttnOut.τ).loc Cert.AttnOut.main_arg3)
      ∧ r.2.mem ((c.tc : Thread Cert.AttnOut.nD Cert.AttnOut.τ).loc Cert.AttnOut.main_arg4) = m ((c.tc : Thread Cert.AttnOut.nD Cert.AttnOut.τ).loc Cert.AttnOut.main_arg4)
      ∧ r.2.mem ((c.tc : Thread Cert.AttnOut.nD Cert.AttnOut.τ).loc Cert.AttnOut.main_arg5) = m ((c.tc : Thread Cert.AttnOut.nD Cert.AttnOut.τ).loc Cert.AttnOut.main_arg5))
      ∧ r.2.sem = fun _ => 0)

def quiescent_AttnOutIdeal [hAttnOutIdeal : Cert.AttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
      ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
      ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3)
      ∧ r.2.mem ((c.tc : Thread Cert.AttnOutIdeal.nD Cert.AttnOutIdeal.τ).loc Cert.AttnOutIdeal.main_arg4) = m ((c.tc : Thread Cert.AttnOutIdeal.nD Cert.AttnOutIdeal.τ).loc Cert.AttnOutIdeal.main_arg4)
      ∧ r.2.mem ((c.tc : Thread Cert.AttnOutIdeal.nD Cert.AttnOutIdeal.τ).loc Cert.AttnOutIdeal.main_arg5) = m ((c.tc : Thread Cert.AttnOutIdeal.nD Cert.AttnOutIdeal.τ).loc Cert.AttnOutIdeal.main_arg5))
      ∧ r.2.sem = fun _ => 0)

def quiescent_AttnOutRefIdeal [hAttnOutRefIdeal : Cert.AttnOutRefIdeal.Facts] : Prop :=
  ∀ (m : (ℓ : Loc Cert.AttnOutRefIdeal.nD Cert.AttnOutRefIdeal.τ Cert.AttnOutRefIdeal.sig) → Buf (Elt Ideal) ℓ) (g : Dev Cert.AttnOutRefIdeal.nD → PrngReg), Pre_AttnOutRefIdeal m →
    θ_run (Cert.AttnOutRefIdeal.defs (F := Ideal)) (onTc (τ := Cert.AttnOutRefIdeal.τ) (Cert.AttnOutRefIdeal.main (F := Ideal))) ⟨m, fun _ => 0, g⟩ (fun r => (∀ c : Dev Cert.AttnOutRefIdeal.nD,
      r.2.mem ((c.tc : Thread Cert.AttnOutRefIdeal.nD Cert.AttnOutRefIdeal.τ).loc Cert.AttnOutRefIdeal.main_arg0) = m ((c.tc : Thread Cert.AttnOutRefIdeal.nD Cert.AttnOutRefIdeal.τ).loc Cert.AttnOutRefIdeal.main_arg0)
      ∧ r.2.mem ((c.tc : Thread Cert.AttnOutRefIdeal.nD Cert.AttnOutRefIdeal.τ).loc Cert.AttnOutRefIdeal.main_arg1) = m ((c.tc : Thread Cert.AttnOutRefIdeal.nD Cert.AttnOutRefIdeal.τ).loc Cert.AttnOutRefIdeal.main_arg1)
      ∧ r.2.mem ((c.tc : Thread Cert.AttnOutRefIdeal.nD Cert.AttnOutRefIdeal.τ).loc Cert.AttnOutRefIdeal.main_arg2) = m ((c.tc : Thread Cert.AttnOutRefIdeal.nD Cert.AttnOutRefIdeal.τ).loc Cert.AttnOutRefIdeal.main_arg2)
      ∧ r.2.mem ((c.tc : Thread Cert.AttnOutRefIdeal.nD Cert.AttnOutRefIdeal.τ).loc Cert.AttnOutRefIdeal.main_arg3) = m ((c.tc : Thread Cert.AttnOutRefIdeal.nD Cert.AttnOutRefIdeal.τ).loc Cert.AttnOutRefIdeal.main_arg3)
      ∧ r.2.mem ((c.tc : Thread Cert.AttnOutRefIdeal.nD Cert.AttnOutRefIdeal.τ).loc Cert.AttnOutRefIdeal.main_arg4) = m ((c.tc : Thread Cert.AttnOutRefIdeal.nD Cert.AttnOutRefIdeal.τ).loc Cert.AttnOutRefIdeal.main_arg4)
      ∧ r.2.mem ((c.tc : Thread Cert.AttnOutRefIdeal.nD Cert.AttnOutRefIdeal.τ).loc Cert.AttnOutRefIdeal.main_arg5) = m ((c.tc : Thread Cert.AttnOutRefIdeal.nD Cert.AttnOutRefIdeal.τ).loc Cert.AttnOutRefIdeal.main_arg5))
      ∧ r.2.sem = fun _ => 0)

def quiescent_S5In [hS5In : Cert.S5In.Facts] : Prop :=
  ∀ (m : (ℓ : Loc Cert.S5In.nD Cert.S5In.τ Cert.S5In.sig) → Buf (Elt Bits) ℓ) (g : Dev Cert.S5In.nD → PrngReg), Pre_S5In m →
    θ_run (Cert.S5In.defs (F := Bits)) (onTc (τ := Cert.S5In.τ) (Cert.S5In.main (F := Bits))) ⟨m, fun _ => 0, g⟩ (fun r => (∀ c : Dev Cert.S5In.nD,
      r.2.mem ((c.tc : Thread Cert.S5In.nD Cert.S5In.τ).loc Cert.S5In.main_arg0) = m ((c.tc : Thread Cert.S5In.nD Cert.S5In.τ).loc Cert.S5In.main_arg0)
      ∧ r.2.mem ((c.tc : Thread Cert.S5In.nD Cert.S5In.τ).loc Cert.S5In.main_arg1) = m ((c.tc : Thread Cert.S5In.nD Cert.S5In.τ).loc Cert.S5In.main_arg1))
      ∧ r.2.sem = fun _ => 0)

def quiescent_S5InIdeal [hS5InIdeal : Cert.S5InIdeal.Facts] : Prop :=
  ∀ (m : (ℓ : Loc Cert.S5InIdeal.nD Cert.S5InIdeal.τ Cert.S5InIdeal.sig) → Buf (Elt Ideal) ℓ) (g : Dev Cert.S5InIdeal.nD → PrngReg), Pre_S5InIdeal m →
    θ_run (Cert.S5InIdeal.defs (F := Ideal)) (onTc (τ := Cert.S5InIdeal.τ) (Cert.S5InIdeal.main (F := Ideal))) ⟨m, fun _ => 0, g⟩ (fun r => (∀ c : Dev Cert.S5InIdeal.nD,
      r.2.mem ((c.tc : Thread Cert.S5InIdeal.nD Cert.S5InIdeal.τ).loc Cert.S5InIdeal.main_arg0) = m ((c.tc : Thread Cert.S5InIdeal.nD Cert.S5InIdeal.τ).loc Cert.S5InIdeal.main_arg0)
      ∧ r.2.mem ((c.tc : Thread Cert.S5InIdeal.nD Cert.S5InIdeal.τ).loc Cert.S5InIdeal.main_arg1) = m ((c.tc : Thread Cert.S5InIdeal.nD Cert.S5InIdeal.τ).loc Cert.S5InIdeal.main_arg1))
      ∧ r.2.sem = fun _ => 0)

def quiescent_S5InRefIdeal [hS5InRefIdeal : Cert.S5InRefIdeal.Facts] : Prop :=
  ∀ (m : (ℓ : Loc Cert.S5InRefIdeal.nD Cert.S5InRefIdeal.τ Cert.S5InRefIdeal.sig) → Buf (Elt Ideal) ℓ) (g : Dev Cert.S5InRefIdeal.nD → PrngReg), Pre_S5InRefIdeal m →
    θ_run (Cert.S5InRefIdeal.defs (F := Ideal)) (onTc (τ := Cert.S5InRefIdeal.τ) (Cert.S5InRefIdeal.main (F := Ideal))) ⟨m, fun _ => 0, g⟩ (fun r => (∀ c : Dev Cert.S5InRefIdeal.nD,
      r.2.mem ((c.tc : Thread Cert.S5InRefIdeal.nD Cert.S5InRefIdeal.τ).loc Cert.S5InRefIdeal.main_arg0) = m ((c.tc : Thread Cert.S5InRefIdeal.nD Cert.S5InRefIdeal.τ).loc Cert.S5InRefIdeal.main_arg0)
      ∧ r.2.mem ((c.tc : Thread Cert.S5InRefIdeal.nD Cert.S5InRefIdeal.τ).loc Cert.S5InRefIdeal.main_arg1) = m ((c.tc : Thread Cert.S5InRefIdeal.nD Cert.S5InRefIdeal.τ).loc Cert.S5InRefIdeal.main_arg1))
      ∧ r.2.sem = fun _ => 0)

def quiescent_S5Out [hS5Out : Cert.S5Out.Facts] : Prop :=
  ∀ (m : (ℓ : Loc Cert.S5Out.nD Cert.S5Out.τ Cert.S5Out.sig) → Buf (Elt Bits) ℓ) (g : Dev Cert.S5Out.nD → PrngReg), Pre_S5Out m →
    θ_run (Cert.S5Out.defs (F := Bits)) (onTc (τ := Cert.S5Out.τ) (Cert.S5Out.main (F := Bits))) ⟨m, fun _ => 0, g⟩ (fun r => (∀ c : Dev Cert.S5Out.nD,
      r.2.mem ((c.tc : Thread Cert.S5Out.nD Cert.S5Out.τ).loc Cert.S5Out.main_arg0) = m ((c.tc : Thread Cert.S5Out.nD Cert.S5Out.τ).loc Cert.S5Out.main_arg0)
      ∧ r.2.mem ((c.tc : Thread Cert.S5Out.nD Cert.S5Out.τ).loc Cert.S5Out.main_arg1) = m ((c.tc : Thread Cert.S5Out.nD Cert.S5Out.τ).loc Cert.S5Out.main_arg1)
      ∧ r.2.mem ((c.tc : Thread Cert.S5Out.nD Cert.S5Out.τ).loc Cert.S5Out.main_arg2) = m ((c.tc : Thread Cert.S5Out.nD Cert.S5Out.τ).loc Cert.S5Out.main_arg2)
      ∧ r.2.mem ((c.tc : Thread Cert.S5Out.nD Cert.S5Out.τ).loc Cert.S5Out.main_arg3) = m ((c.tc : Thread Cert.S5Out.nD Cert.S5Out.τ).loc Cert.S5Out.main_arg3)
      ∧ r.2.mem ((c.tc : Thread Cert.S5Out.nD Cert.S5Out.τ).loc Cert.S5Out.main_arg4) = m ((c.tc : Thread Cert.S5Out.nD Cert.S5Out.τ).loc Cert.S5Out.main_arg4)
      ∧ r.2.mem ((c.tc : Thread Cert.S5Out.nD Cert.S5Out.τ).loc Cert.S5Out.main_arg5) = m ((c.tc : Thread Cert.S5Out.nD Cert.S5Out.τ).loc Cert.S5Out.main_arg5)
      ∧ r.2.mem ((c.tc : Thread Cert.S5Out.nD Cert.S5Out.τ).loc Cert.S5Out.main_arg6) = m ((c.tc : Thread Cert.S5Out.nD Cert.S5Out.τ).loc Cert.S5Out.main_arg6)
      ∧ r.2.mem ((c.tc : Thread Cert.S5Out.nD Cert.S5Out.τ).loc Cert.S5Out.main_arg7) = m ((c.tc : Thread Cert.S5Out.nD Cert.S5Out.τ).loc Cert.S5Out.main_arg7))
      ∧ r.2.sem = fun _ => 0)

def quiescent_S5OutIdeal [hS5OutIdeal : Cert.S5OutIdeal.Facts] : Prop :=
  ∀ (m : (ℓ : Loc Cert.S5OutIdeal.nD Cert.S5OutIdeal.τ Cert.S5OutIdeal.sig) → Buf (Elt Ideal) ℓ) (g : Dev Cert.S5OutIdeal.nD → PrngReg), Pre_S5OutIdeal m →
    θ_run (Cert.S5OutIdeal.defs (F := Ideal)) (onTc (τ := Cert.S5OutIdeal.τ) (Cert.S5OutIdeal.main (F := Ideal))) ⟨m, fun _ => 0, g⟩ (fun r => (∀ c : Dev Cert.S5OutIdeal.nD,
      r.2.mem ((c.tc : Thread Cert.S5OutIdeal.nD Cert.S5OutIdeal.τ).loc Cert.S5OutIdeal.main_arg0) = m ((c.tc : Thread Cert.S5OutIdeal.nD Cert.S5OutIdeal.τ).loc Cert.S5OutIdeal.main_arg0)
      ∧ r.2.mem ((c.tc : Thread Cert.S5OutIdeal.nD Cert.S5OutIdeal.τ).loc Cert.S5OutIdeal.main_arg1) = m ((c.tc : Thread Cert.S5OutIdeal.nD Cert.S5OutIdeal.τ).loc Cert.S5OutIdeal.main_arg1)
      ∧ r.2.mem ((c.tc : Thread Cert.S5OutIdeal.nD Cert.S5OutIdeal.τ).loc Cert.S5OutIdeal.main_arg2) = m ((c.tc : Thread Cert.S5OutIdeal.nD Cert.S5OutIdeal.τ).loc Cert.S5OutIdeal.main_arg2)
      ∧ r.2.mem ((c.tc : Thread Cert.S5OutIdeal.nD Cert.S5OutIdeal.τ).loc Cert.S5OutIdeal.main_arg3) = m ((c.tc : Thread Cert.S5OutIdeal.nD Cert.S5OutIdeal.τ).loc Cert.S5OutIdeal.main_arg3)
      ∧ r.2.mem ((c.tc : Thread Cert.S5OutIdeal.nD Cert.S5OutIdeal.τ).loc Cert.S5OutIdeal.main_arg4) = m ((c.tc : Thread Cert.S5OutIdeal.nD Cert.S5OutIdeal.τ).loc Cert.S5OutIdeal.main_arg4)
      ∧ r.2.mem ((c.tc : Thread Cert.S5OutIdeal.nD Cert.S5OutIdeal.τ).loc Cert.S5OutIdeal.main_arg5) = m ((c.tc : Thread Cert.S5OutIdeal.nD Cert.S5OutIdeal.τ).loc Cert.S5OutIdeal.main_arg5)
      ∧ r.2.mem ((c.tc : Thread Cert.S5OutIdeal.nD Cert.S5OutIdeal.τ).loc Cert.S5OutIdeal.main_arg6) = m ((c.tc : Thread Cert.S5OutIdeal.nD Cert.S5OutIdeal.τ).loc Cert.S5OutIdeal.main_arg6)
      ∧ r.2.mem ((c.tc : Thread Cert.S5OutIdeal.nD Cert.S5OutIdeal.τ).loc Cert.S5OutIdeal.main_arg7) = m ((c.tc : Thread Cert.S5OutIdeal.nD Cert.S5OutIdeal.τ).loc Cert.S5OutIdeal.main_arg7))
      ∧ r.2.sem = fun _ => 0)

def quiescent_S5OutRefIdeal [hS5OutRefIdeal : Cert.S5OutRefIdeal.Facts] : Prop :=
  ∀ (m : (ℓ : Loc Cert.S5OutRefIdeal.nD Cert.S5OutRefIdeal.τ Cert.S5OutRefIdeal.sig) → Buf (Elt Ideal) ℓ) (g : Dev Cert.S5OutRefIdeal.nD → PrngReg), Pre_S5OutRefIdeal m →
    θ_run (Cert.S5OutRefIdeal.defs (F := Ideal)) (onTc (τ := Cert.S5OutRefIdeal.τ) (Cert.S5OutRefIdeal.main (F := Ideal))) ⟨m, fun _ => 0, g⟩ (fun r => (∀ c : Dev Cert.S5OutRefIdeal.nD,
      r.2.mem ((c.tc : Thread Cert.S5OutRefIdeal.nD Cert.S5OutRefIdeal.τ).loc Cert.S5OutRefIdeal.main_arg0) = m ((c.tc : Thread Cert.S5OutRefIdeal.nD Cert.S5OutRefIdeal.τ).loc Cert.S5OutRefIdeal.main_arg0)
      ∧ r.2.mem ((c.tc : Thread Cert.S5OutRefIdeal.nD Cert.S5OutRefIdeal.τ).loc Cert.S5OutRefIdeal.main_arg1) = m ((c.tc : Thread Cert.S5OutRefIdeal.nD Cert.S5OutRefIdeal.τ).loc Cert.S5OutRefIdeal.main_arg1)
      ∧ r.2.mem ((c.tc : Thread Cert.S5OutRefIdeal.nD Cert.S5OutRefIdeal.τ).loc Cert.S5OutRefIdeal.main_arg2) = m ((c.tc : Thread Cert.S5OutRefIdeal.nD Cert.S5OutRefIdeal.τ).loc Cert.S5OutRefIdeal.main_arg2)
      ∧ r.2.mem ((c.tc : Thread Cert.S5OutRefIdeal.nD Cert.S5OutRefIdeal.τ).loc Cert.S5OutRefIdeal.main_arg3) = m ((c.tc : Thread Cert.S5OutRefIdeal.nD Cert.S5OutRefIdeal.τ).loc Cert.S5OutRefIdeal.main_arg3)
      ∧ r.2.mem ((c.tc : Thread Cert.S5OutRefIdeal.nD Cert.S5OutRefIdeal.τ).loc Cert.S5OutRefIdeal.main_arg4) = m ((c.tc : Thread Cert.S5OutRefIdeal.nD Cert.S5OutRefIdeal.τ).loc Cert.S5OutRefIdeal.main_arg4)
      ∧ r.2.mem ((c.tc : Thread Cert.S5OutRefIdeal.nD Cert.S5OutRefIdeal.τ).loc Cert.S5OutRefIdeal.main_arg5) = m ((c.tc : Thread Cert.S5OutRefIdeal.nD Cert.S5OutRefIdeal.τ).loc Cert.S5OutRefIdeal.main_arg5)
      ∧ r.2.mem ((c.tc : Thread Cert.S5OutRefIdeal.nD Cert.S5OutRefIdeal.τ).loc Cert.S5OutRefIdeal.main_arg6) = m ((c.tc : Thread Cert.S5OutRefIdeal.nD Cert.S5OutRefIdeal.τ).loc Cert.S5OutRefIdeal.main_arg6)
      ∧ r.2.mem ((c.tc : Thread Cert.S5OutRefIdeal.nD Cert.S5OutRefIdeal.τ).loc Cert.S5OutRefIdeal.main_arg7) = m ((c.tc : Thread Cert.S5OutRefIdeal.nD Cert.S5OutRefIdeal.τ).loc Cert.S5OutRefIdeal.main_arg7))
      ∧ r.2.sem = fun _ => 0)

def quiescent_AttnOutSample [hAttnOutSample : Cert.AttnOutSample.Facts] : Prop :=
  ∀ (m : (ℓ : Loc Cert.AttnOutSample.nD Cert.AttnOutSample.τ Cert.AttnOutSample.sig) → Buf (Elt Bits) ℓ) (g : Dev Cert.AttnOutSample.nD → PrngReg), Pre_AttnOutSample m →
    θ_run (Cert.AttnOutSample.defs (F := Bits)) (onTc (τ := Cert.AttnOutSample.τ) (Cert.AttnOutSample.main (F := Bits))) ⟨m, fun _ => 0, g⟩ (fun r => (∀ c : Dev Cert.AttnOutSample.nD,
      r.2.mem ((c.tc : Thread Cert.AttnOutSample.nD Cert.AttnOutSample.τ).loc Cert.AttnOutSample.main_arg0) = m ((c.tc : Thread Cert.AttnOutSample.nD Cert.AttnOutSample.τ).loc Cert.AttnOutSample.main_arg0)
      ∧ r.2.mem ((c.tc : Thread Cert.AttnOutSample.nD Cert.AttnOutSample.τ).loc Cert.AttnOutSample.main_arg1) = m ((c.tc : Thread Cert.AttnOutSample.nD Cert.AttnOutSample.τ).loc Cert.AttnOutSample.main_arg1)
      ∧ r.2.mem ((c.tc : Thread Cert.AttnOutSample.nD Cert.AttnOutSample.τ).loc Cert.AttnOutSample.main_arg2) = m ((c.tc : Thread Cert.AttnOutSample.nD Cert.AttnOutSample.τ).loc Cert.AttnOutSample.main_arg2)
      ∧ r.2.mem ((c.tc : Thread Cert.AttnOutSample.nD Cert.AttnOutSample.τ).loc Cert.AttnOutSample.main_arg3) = m ((c.tc : Thread Cert.AttnOutSample.nD Cert.AttnOutSample.τ).loc Cert.AttnOutSample.main_arg3)
      ∧ r.2.mem ((c.tc : Thread Cert.AttnOutSample.nD Cert.AttnOutSample.τ).loc Cert.AttnOutSample.main_arg4) = m ((c.tc : Thread Cert.AttnOutSample.nD Cert.AttnOutSample.τ).loc Cert.AttnOutSample.main_arg4)
      ∧ r.2.mem ((c.tc : Thread Cert.AttnOutSample.nD Cert.AttnOutSample.τ).loc Cert.AttnOutSample.main_arg5) = m ((c.tc : Thread Cert.AttnOutSample.nD Cert.AttnOutSample.τ).loc Cert.AttnOutSample.main_arg5))
      ∧ r.2.sem = fun _ => 0)

def quiescent_AttnOutSampleIdeal [hAttnOutSampleIdeal : Cert.AttnOutSampleIdeal.Facts] : Prop :=
  ∀ (m : (ℓ : Loc Cert.AttnOutSampleIdeal.nD Cert.AttnOutSampleIdeal.τ Cert.AttnOutSampleIdeal.sig) → Buf (Elt Ideal) ℓ) (g : Dev Cert.AttnOutSampleIdeal.nD → PrngReg), Pre_AttnOutSampleIdeal m →
    θ_run (Cert.AttnOutSampleIdeal.defs (F := Ideal)) (onTc (τ := Cert.AttnOutSampleIdeal.τ) (Cert.AttnOutSampleIdeal.main (F := Ideal))) ⟨m, fun _ => 0, g⟩ (fun r => (∀ c : Dev Cert.AttnOutSampleIdeal.nD,
      r.2.mem ((c.tc : Thread Cert.AttnOutSampleIdeal.nD Cert.AttnOutSampleIdeal.τ).loc Cert.AttnOutSampleIdeal.main_arg0) = m ((c.tc : Thread Cert.AttnOutSampleIdeal.nD Cert.AttnOutSampleIdeal.τ).loc Cert.AttnOutSampleIdeal.main_arg0)
      ∧ r.2.mem ((c.tc : Thread Cert.AttnOutSampleIdeal.nD Cert.AttnOutSampleIdeal.τ).loc Cert.AttnOutSampleIdeal.main_arg1) = m ((c.tc : Thread Cert.AttnOutSampleIdeal.nD Cert.AttnOutSampleIdeal.τ).loc Cert.AttnOutSampleIdeal.main_arg1)
      ∧ r.2.mem ((c.tc : Thread Cert.AttnOutSampleIdeal.nD Cert.AttnOutSampleIdeal.τ).loc Cert.AttnOutSampleIdeal.main_arg2) = m ((c.tc : Thread Cert.AttnOutSampleIdeal.nD Cert.AttnOutSampleIdeal.τ).loc Cert.AttnOutSampleIdeal.main_arg2)
      ∧ r.2.mem ((c.tc : Thread Cert.AttnOutSampleIdeal.nD Cert.AttnOutSampleIdeal.τ).loc Cert.AttnOutSampleIdeal.main_arg3) = m ((c.tc : Thread Cert.AttnOutSampleIdeal.nD Cert.AttnOutSampleIdeal.τ).loc Cert.AttnOutSampleIdeal.main_arg3)
      ∧ r.2.mem ((c.tc : Thread Cert.AttnOutSampleIdeal.nD Cert.AttnOutSampleIdeal.τ).loc Cert.AttnOutSampleIdeal.main_arg4) = m ((c.tc : Thread Cert.AttnOutSampleIdeal.nD Cert.AttnOutSampleIdeal.τ).loc Cert.AttnOutSampleIdeal.main_arg4)
      ∧ r.2.mem ((c.tc : Thread Cert.AttnOutSampleIdeal.nD Cert.AttnOutSampleIdeal.τ).loc Cert.AttnOutSampleIdeal.main_arg5) = m ((c.tc : Thread Cert.AttnOutSampleIdeal.nD Cert.AttnOutSampleIdeal.τ).loc Cert.AttnOutSampleIdeal.main_arg5))
      ∧ r.2.sem = fun _ => 0)

def quiescent_AttnOutSampleRefIdeal [hAttnOutSampleRefIdeal : Cert.AttnOutSampleRefIdeal.Facts] : Prop :=
  ∀ (m : (ℓ : Loc Cert.AttnOutSampleRefIdeal.nD Cert.AttnOutSampleRefIdeal.τ Cert.AttnOutSampleRefIdeal.sig) → Buf (Elt Ideal) ℓ) (g : Dev Cert.AttnOutSampleRefIdeal.nD → PrngReg), Pre_AttnOutSampleRefIdeal m →
    θ_run (Cert.AttnOutSampleRefIdeal.defs (F := Ideal)) (onTc (τ := Cert.AttnOutSampleRefIdeal.τ) (Cert.AttnOutSampleRefIdeal.main (F := Ideal))) ⟨m, fun _ => 0, g⟩ (fun r => (∀ c : Dev Cert.AttnOutSampleRefIdeal.nD,
      r.2.mem ((c.tc : Thread Cert.AttnOutSampleRefIdeal.nD Cert.AttnOutSampleRefIdeal.τ).loc Cert.AttnOutSampleRefIdeal.main_arg0) = m ((c.tc : Thread Cert.AttnOutSampleRefIdeal.nD Cert.AttnOutSampleRefIdeal.τ).loc Cert.AttnOutSampleRefIdeal.main_arg0)
      ∧ r.2.mem ((c.tc : Thread Cert.AttnOutSampleRefIdeal.nD Cert.AttnOutSampleRefIdeal.τ).loc Cert.AttnOutSampleRefIdeal.main_arg1) = m ((c.tc : Thread Cert.AttnOutSampleRefIdeal.nD Cert.AttnOutSampleRefIdeal.τ).loc Cert.AttnOutSampleRefIdeal.main_arg1)
      ∧ r.2.mem ((c.tc : Thread Cert.AttnOutSampleRefIdeal.nD Cert.AttnOutSampleRefIdeal.τ).loc Cert.AttnOutSampleRefIdeal.main_arg2) = m ((c.tc : Thread Cert.AttnOutSampleRefIdeal.nD Cert.AttnOutSampleRefIdeal.τ).loc Cert.AttnOutSampleRefIdeal.main_arg2)
      ∧ r.2.mem ((c.tc : Thread Cert.AttnOutSampleRefIdeal.nD Cert.AttnOutSampleRefIdeal.τ).loc Cert.AttnOutSampleRefIdeal.main_arg3) = m ((c.tc : Thread Cert.AttnOutSampleRefIdeal.nD Cert.AttnOutSampleRefIdeal.τ).loc Cert.AttnOutSampleRefIdeal.main_arg3)
      ∧ r.2.mem ((c.tc : Thread Cert.AttnOutSampleRefIdeal.nD Cert.AttnOutSampleRefIdeal.τ).loc Cert.AttnOutSampleRefIdeal.main_arg4) = m ((c.tc : Thread Cert.AttnOutSampleRefIdeal.nD Cert.AttnOutSampleRefIdeal.τ).loc Cert.AttnOutSampleRefIdeal.main_arg4)
      ∧ r.2.mem ((c.tc : Thread Cert.AttnOutSampleRefIdeal.nD Cert.AttnOutSampleRefIdeal.τ).loc Cert.AttnOutSampleRefIdeal.main_arg5) = m ((c.tc : Thread Cert.AttnOutSampleRefIdeal.nD Cert.AttnOutSampleRefIdeal.τ).loc Cert.AttnOutSampleRefIdeal.main_arg5))
      ∧ r.2.sem = fun _ => 0)

def quiescent_S5InSample [hS5InSample : Cert.S5InSample.Facts] : Prop :=
  ∀ (m : (ℓ : Loc Cert.S5InSample.nD Cert.S5InSample.τ Cert.S5InSample.sig) → Buf (Elt Bits) ℓ) (g : Dev Cert.S5InSample.nD → PrngReg), Pre_S5InSample m →
    θ_run (Cert.S5InSample.defs (F := Bits)) (onTc (τ := Cert.S5InSample.τ) (Cert.S5InSample.main (F := Bits))) ⟨m, fun _ => 0, g⟩ (fun r => (∀ c : Dev Cert.S5InSample.nD,
      r.2.mem ((c.tc : Thread Cert.S5InSample.nD Cert.S5InSample.τ).loc Cert.S5InSample.main_arg0) = m ((c.tc : Thread Cert.S5InSample.nD Cert.S5InSample.τ).loc Cert.S5InSample.main_arg0)
      ∧ r.2.mem ((c.tc : Thread Cert.S5InSample.nD Cert.S5InSample.τ).loc Cert.S5InSample.main_arg1) = m ((c.tc : Thread Cert.S5InSample.nD Cert.S5InSample.τ).loc Cert.S5InSample.main_arg1))
      ∧ r.2.sem = fun _ => 0)

def quiescent_S5InSampleIdeal [hS5InSampleIdeal : Cert.S5InSampleIdeal.Facts] : Prop :=
  ∀ (m : (ℓ : Loc Cert.S5InSampleIdeal.nD Cert.S5InSampleIdeal.τ Cert.S5InSampleIdeal.sig) → Buf (Elt Ideal) ℓ) (g : Dev Cert.S5InSampleIdeal.nD → PrngReg), Pre_S5InSampleIdeal m →
    θ_run (Cert.S5InSampleIdeal.defs (F := Ideal)) (onTc (τ := Cert.S5InSampleIdeal.τ) (Cert.S5InSampleIdeal.main (F := Ideal))) ⟨m, fun _ => 0, g⟩ (fun r => (∀ c : Dev Cert.S5InSampleIdeal.nD,
      r.2.mem ((c.tc : Thread Cert.S5InSampleIdeal.nD Cert.S5InSampleIdeal.τ).loc Cert.S5InSampleIdeal.main_arg0) = m ((c.tc : Thread Cert.S5InSampleIdeal.nD Cert.S5InSampleIdeal.τ).loc Cert.S5InSampleIdeal.main_arg0)
      ∧ r.2.mem ((c.tc : Thread Cert.S5InSampleIdeal.nD Cert.S5InSampleIdeal.τ).loc Cert.S5InSampleIdeal.main_arg1) = m ((c.tc : Thread Cert.S5InSampleIdeal.nD Cert.S5InSampleIdeal.τ).loc Cert.S5InSampleIdeal.main_arg1))
      ∧ r.2.sem = fun _ => 0)

def quiescent_S5InSampleRefIdeal [hS5InSampleRefIdeal : Cert.S5InSampleRefIdeal.Facts] : Prop :=
  ∀ (m : (ℓ : Loc Cert.S5InSampleRefIdeal.nD Cert.S5InSampleRefIdeal.τ Cert.S5InSampleRefIdeal.sig) → Buf (Elt Ideal) ℓ) (g : Dev Cert.S5InSampleRefIdeal.nD → PrngReg), Pre_S5InSampleRefIdeal m →
    θ_run (Cert.S5InSampleRefIdeal.defs (F := Ideal)) (onTc (τ := Cert.S5InSampleRefIdeal.τ) (Cert.S5InSampleRefIdeal.main (F := Ideal))) ⟨m, fun _ => 0, g⟩ (fun r => (∀ c : Dev Cert.S5InSampleRefIdeal.nD,
      r.2.mem ((c.tc : Thread Cert.S5InSampleRefIdeal.nD Cert.S5InSampleRefIdeal.τ).loc Cert.S5InSampleRefIdeal.main_arg0) = m ((c.tc : Thread Cert.S5InSampleRefIdeal.nD Cert.S5InSampleRefIdeal.τ).loc Cert.S5InSampleRefIdeal.main_arg0)
      ∧ r.2.mem ((c.tc : Thread Cert.S5InSampleRefIdeal.nD Cert.S5InSampleRefIdeal.τ).loc Cert.S5InSampleRefIdeal.main_arg1) = m ((c.tc : Thread Cert.S5InSampleRefIdeal.nD Cert.S5InSampleRefIdeal.τ).loc Cert.S5InSampleRefIdeal.main_arg1))
      ∧ r.2.sem = fun _ => 0)

def quiescent_S5Steps [hS5Steps : Cert.S5Steps.Facts] : Prop :=
  ∀ (m : (ℓ : Loc Cert.S5Steps.nD Cert.S5Steps.τ Cert.S5Steps.sig) → Buf (Elt Bits) ℓ) (g : Dev Cert.S5Steps.nD → PrngReg), Pre_S5Steps m →
    θ_run (Cert.S5Steps.defs (F := Bits)) (onTc (τ := Cert.S5Steps.τ) (Cert.S5Steps.main (F := Bits))) ⟨m, fun _ => 0, g⟩ (fun r => (∀ c : Dev Cert.S5Steps.nD,
      r.2.mem ((c.tc : Thread Cert.S5Steps.nD Cert.S5Steps.τ).loc Cert.S5Steps.main_arg0) = m ((c.tc : Thread Cert.S5Steps.nD Cert.S5Steps.τ).loc Cert.S5Steps.main_arg0)
      ∧ r.2.mem ((c.tc : Thread Cert.S5Steps.nD Cert.S5Steps.τ).loc Cert.S5Steps.main_arg1) = m ((c.tc : Thread Cert.S5Steps.nD Cert.S5Steps.τ).loc Cert.S5Steps.main_arg1)
      ∧ r.2.mem ((c.tc : Thread Cert.S5Steps.nD Cert.S5Steps.τ).loc Cert.S5Steps.main_arg2) = m ((c.tc : Thread Cert.S5Steps.nD Cert.S5Steps.τ).loc Cert.S5Steps.main_arg2)
      ∧ r.2.mem ((c.tc : Thread Cert.S5Steps.nD Cert.S5Steps.τ).loc Cert.S5Steps.main_arg3) = m ((c.tc : Thread Cert.S5Steps.nD Cert.S5Steps.τ).loc Cert.S5Steps.main_arg3)
      ∧ r.2.mem ((c.tc : Thread Cert.S5Steps.nD Cert.S5Steps.τ).loc Cert.S5Steps.main_arg4) = m ((c.tc : Thread Cert.S5Steps.nD Cert.S5Steps.τ).loc Cert.S5Steps.main_arg4)
      ∧ r.2.mem ((c.tc : Thread Cert.S5Steps.nD Cert.S5Steps.τ).loc Cert.S5Steps.main_arg5) = m ((c.tc : Thread Cert.S5Steps.nD Cert.S5Steps.τ).loc Cert.S5Steps.main_arg5)
      ∧ r.2.mem ((c.tc : Thread Cert.S5Steps.nD Cert.S5Steps.τ).loc Cert.S5Steps.main_arg6) = m ((c.tc : Thread Cert.S5Steps.nD Cert.S5Steps.τ).loc Cert.S5Steps.main_arg6)
      ∧ r.2.mem ((c.tc : Thread Cert.S5Steps.nD Cert.S5Steps.τ).loc Cert.S5Steps.main_arg7) = m ((c.tc : Thread Cert.S5Steps.nD Cert.S5Steps.τ).loc Cert.S5Steps.main_arg7)
      ∧ r.2.mem ((c.tc : Thread Cert.S5Steps.nD Cert.S5Steps.τ).loc Cert.S5Steps.main_arg8) = m ((c.tc : Thread Cert.S5Steps.nD Cert.S5Steps.τ).loc Cert.S5Steps.main_arg8)
      ∧ r.2.mem ((c.tc : Thread Cert.S5Steps.nD Cert.S5Steps.τ).loc Cert.S5Steps.main_arg9) = m ((c.tc : Thread Cert.S5Steps.nD Cert.S5Steps.τ).loc Cert.S5Steps.main_arg9))
      ∧ r.2.sem = fun _ => 0)

def quiescent_S5StepsIdeal [hS5StepsIdeal : Cert.S5StepsIdeal.Facts] : Prop :=
  ∀ (m : (ℓ : Loc Cert.S5StepsIdeal.nD Cert.S5StepsIdeal.τ Cert.S5StepsIdeal.sig) → Buf (Elt Ideal) ℓ) (g : Dev Cert.S5StepsIdeal.nD → PrngReg), Pre_S5StepsIdeal m →
    θ_run (Cert.S5StepsIdeal.defs (F := Ideal)) (onTc (τ := Cert.S5StepsIdeal.τ) (Cert.S5StepsIdeal.main (F := Ideal))) ⟨m, fun _ => 0, g⟩ (fun r => (∀ c : Dev Cert.S5StepsIdeal.nD,
      r.2.mem ((c.tc : Thread Cert.S5StepsIdeal.nD Cert.S5StepsIdeal.τ).loc Cert.S5StepsIdeal.main_arg0) = m ((c.tc : Thread Cert.S5StepsIdeal.nD Cert.S5StepsIdeal.τ).loc Cert.S5StepsIdeal.main_arg0)
      ∧ r.2.mem ((c.tc : Thread Cert.S5StepsIdeal.nD Cert.S5StepsIdeal.τ).loc Cert.S5StepsIdeal.main_arg1) = m ((c.tc : Thread Cert.S5StepsIdeal.nD Cert.S5StepsIdeal.τ).loc Cert.S5StepsIdeal.main_arg1)
      ∧ r.2.mem ((c.tc : Thread Cert.S5StepsIdeal.nD Cert.S5StepsIdeal.τ).loc Cert.S5StepsIdeal.main_arg2) = m ((c.tc : Thread Cert.S5StepsIdeal.nD Cert.S5StepsIdeal.τ).loc Cert.S5StepsIdeal.main_arg2)
      ∧ r.2.mem ((c.tc : Thread Cert.S5StepsIdeal.nD Cert.S5StepsIdeal.τ).loc Cert.S5StepsIdeal.main_arg3) = m ((c.tc : Thread Cert.S5StepsIdeal.nD Cert.S5StepsIdeal.τ).loc Cert.S5StepsIdeal.main_arg3)
      ∧ r.2.mem ((c.tc : Thread Cert.S5StepsIdeal.nD Cert.S5StepsIdeal.τ).loc Cert.S5StepsIdeal.main_arg4) = m ((c.tc : Thread Cert.S5StepsIdeal.nD Cert.S5StepsIdeal.τ).loc Cert.S5StepsIdeal.main_arg4)
      ∧ r.2.mem ((c.tc : Thread Cert.S5StepsIdeal.nD Cert.S5StepsIdeal.τ).loc Cert.S5StepsIdeal.main_arg5) = m ((c.tc : Thread Cert.S5StepsIdeal.nD Cert.S5StepsIdeal.τ).loc Cert.S5StepsIdeal.main_arg5)
      ∧ r.2.mem ((c.tc : Thread Cert.S5StepsIdeal.nD Cert.S5StepsIdeal.τ).loc Cert.S5StepsIdeal.main_arg6) = m ((c.tc : Thread Cert.S5StepsIdeal.nD Cert.S5StepsIdeal.τ).loc Cert.S5StepsIdeal.main_arg6)
      ∧ r.2.mem ((c.tc : Thread Cert.S5StepsIdeal.nD Cert.S5StepsIdeal.τ).loc Cert.S5StepsIdeal.main_arg7) = m ((c.tc : Thread Cert.S5StepsIdeal.nD Cert.S5StepsIdeal.τ).loc Cert.S5StepsIdeal.main_arg7)
      ∧ r.2.mem ((c.tc : Thread Cert.S5StepsIdeal.nD Cert.S5StepsIdeal.τ).loc Cert.S5StepsIdeal.main_arg8) = m ((c.tc : Thread Cert.S5StepsIdeal.nD Cert.S5StepsIdeal.τ).loc Cert.S5StepsIdeal.main_arg8)
      ∧ r.2.mem ((c.tc : Thread Cert.S5StepsIdeal.nD Cert.S5StepsIdeal.τ).loc Cert.S5StepsIdeal.main_arg9) = m ((c.tc : Thread Cert.S5StepsIdeal.nD Cert.S5StepsIdeal.τ).loc Cert.S5StepsIdeal.main_arg9))
      ∧ r.2.sem = fun _ => 0)

def quiescent_S5StepsRefIdeal [hS5StepsRefIdeal : Cert.S5StepsRefIdeal.Facts] : Prop :=
  ∀ (m : (ℓ : Loc Cert.S5StepsRefIdeal.nD Cert.S5StepsRefIdeal.τ Cert.S5StepsRefIdeal.sig) → Buf (Elt Ideal) ℓ) (g : Dev Cert.S5StepsRefIdeal.nD → PrngReg), Pre_S5StepsRefIdeal m →
    θ_run (Cert.S5StepsRefIdeal.defs (F := Ideal)) (onTc (τ := Cert.S5StepsRefIdeal.τ) (Cert.S5StepsRefIdeal.main (F := Ideal))) ⟨m, fun _ => 0, g⟩ (fun r => (∀ c : Dev Cert.S5StepsRefIdeal.nD,
      r.2.mem ((c.tc : Thread Cert.S5StepsRefIdeal.nD Cert.S5StepsRefIdeal.τ).loc Cert.S5StepsRefIdeal.main_arg0) = m ((c.tc : Thread Cert.S5StepsRefIdeal.nD Cert.S5StepsRefIdeal.τ).loc Cert.S5StepsRefIdeal.main_arg0)
      ∧ r.2.mem ((c.tc : Thread Cert.S5StepsRefIdeal.nD Cert.S5StepsRefIdeal.τ).loc Cert.S5StepsRefIdeal.main_arg1) = m ((c.tc : Thread Cert.S5StepsRefIdeal.nD Cert.S5StepsRefIdeal.τ).loc Cert.S5StepsRefIdeal.main_arg1)
      ∧ r.2.mem ((c.tc : Thread Cert.S5StepsRefIdeal.nD Cert.S5StepsRefIdeal.τ).loc Cert.S5StepsRefIdeal.main_arg2) = m ((c.tc : Thread Cert.S5StepsRefIdeal.nD Cert.S5StepsRefIdeal.τ).loc Cert.S5StepsRefIdeal.main_arg2)
      ∧ r.2.mem ((c.tc : Thread Cert.S5StepsRefIdeal.nD Cert.S5StepsRefIdeal.τ).loc Cert.S5StepsRefIdeal.main_arg3) = m ((c.tc : Thread Cert.S5StepsRefIdeal.nD Cert.S5StepsRefIdeal.τ).loc Cert.S5StepsRefIdeal.main_arg3)
      ∧ r.2.mem ((c.tc : Thread Cert.S5StepsRefIdeal.nD Cert.S5StepsRefIdeal.τ).loc Cert.S5StepsRefIdeal.main_arg4) = m ((c.tc : Thread Cert.S5StepsRefIdeal.nD Cert.S5StepsRefIdeal.τ).loc Cert.S5StepsRefIdeal.main_arg4)
      ∧ r.2.mem ((c.tc : Thread Cert.S5StepsRefIdeal.nD Cert.S5StepsRefIdeal.τ).loc Cert.S5StepsRefIdeal.main_arg5) = m ((c.tc : Thread Cert.S5StepsRefIdeal.nD Cert.S5StepsRefIdeal.τ).loc Cert.S5StepsRefIdeal.main_arg5)
      ∧ r.2.mem ((c.tc : Thread Cert.S5StepsRefIdeal.nD Cert.S5StepsRefIdeal.τ).loc Cert.S5StepsRefIdeal.main_arg6) = m ((c.tc : Thread Cert.S5StepsRefIdeal.nD Cert.S5StepsRefIdeal.τ).loc Cert.S5StepsRefIdeal.main_arg6)
      ∧ r.2.mem ((c.tc : Thread Cert.S5StepsRefIdeal.nD Cert.S5StepsRefIdeal.τ).loc Cert.S5StepsRefIdeal.main_arg7) = m ((c.tc : Thread Cert.S5StepsRefIdeal.nD Cert.S5StepsRefIdeal.τ).loc Cert.S5StepsRefIdeal.main_arg7)
      ∧ r.2.mem ((c.tc : Thread Cert.S5StepsRefIdeal.nD Cert.S5StepsRefIdeal.τ).loc Cert.S5StepsRefIdeal.main_arg8) = m ((c.tc : Thread Cert.S5StepsRefIdeal.nD Cert.S5StepsRefIdeal.τ).loc Cert.S5StepsRefIdeal.main_arg8)
      ∧ r.2.mem ((c.tc : Thread Cert.S5StepsRefIdeal.nD Cert.S5StepsRefIdeal.τ).loc Cert.S5StepsRefIdeal.main_arg9) = m ((c.tc : Thread Cert.S5StepsRefIdeal.nD Cert.S5StepsRefIdeal.τ).loc Cert.S5StepsRefIdeal.main_arg9))
      ∧ r.2.sem = fun _ => 0)

def quiescent_S5OutSample [hS5OutSample : Cert.S5OutSample.Facts] : Prop :=
  ∀ (m : (ℓ : Loc Cert.S5OutSample.nD Cert.S5OutSample.τ Cert.S5OutSample.sig) → Buf (Elt Bits) ℓ) (g : Dev Cert.S5OutSample.nD → PrngReg), Pre_S5OutSample m →
    θ_run (Cert.S5OutSample.defs (F := Bits)) (onTc (τ := Cert.S5OutSample.τ) (Cert.S5OutSample.main (F := Bits))) ⟨m, fun _ => 0, g⟩ (fun r => (∀ c : Dev Cert.S5OutSample.nD,
      r.2.mem ((c.tc : Thread Cert.S5OutSample.nD Cert.S5OutSample.τ).loc Cert.S5OutSample.main_arg0) = m ((c.tc : Thread Cert.S5OutSample.nD Cert.S5OutSample.τ).loc Cert.S5OutSample.main_arg0)
      ∧ r.2.mem ((c.tc : Thread Cert.S5OutSample.nD Cert.S5OutSample.τ).loc Cert.S5OutSample.main_arg1) = m ((c.tc : Thread Cert.S5OutSample.nD Cert.S5OutSample.τ).loc Cert.S5OutSample.main_arg1)
      ∧ r.2.mem ((c.tc : Thread Cert.S5OutSample.nD Cert.S5OutSample.τ).loc Cert.S5OutSample.main_arg2) = m ((c.tc : Thread Cert.S5OutSample.nD Cert.S5OutSample.τ).loc Cert.S5OutSample.main_arg2)
      ∧ r.2.mem ((c.tc : Thread Cert.S5OutSample.nD Cert.S5OutSample.τ).loc Cert.S5OutSample.main_arg3) = m ((c.tc : Thread Cert.S5OutSample.nD Cert.S5OutSample.τ).loc Cert.S5OutSample.main_arg3)
      ∧ r.2.mem ((c.tc : Thread Cert.S5OutSample.nD Cert.S5OutSample.τ).loc Cert.S5OutSample.main_arg4) = m ((c.tc : Thread Cert.S5OutSample.nD Cert.S5OutSample.τ).loc Cert.S5OutSample.main_arg4)
      ∧ r.2.mem ((c.tc : Thread Cert.S5OutSample.nD Cert.S5OutSample.τ).loc Cert.S5OutSample.main_arg5) = m ((c.tc : Thread Cert.S5OutSample.nD Cert.S5OutSample.τ).loc Cert.S5OutSample.main_arg5)
      ∧ r.2.mem ((c.tc : Thread Cert.S5OutSample.nD Cert.S5OutSample.τ).loc Cert.S5OutSample.main_arg6) = m ((c.tc : Thread Cert.S5OutSample.nD Cert.S5OutSample.τ).loc Cert.S5OutSample.main_arg6)
      ∧ r.2.mem ((c.tc : Thread Cert.S5OutSample.nD Cert.S5OutSample.τ).loc Cert.S5OutSample.main_arg7) = m ((c.tc : Thread Cert.S5OutSample.nD Cert.S5OutSample.τ).loc Cert.S5OutSample.main_arg7))
      ∧ r.2.sem = fun _ => 0)

def quiescent_S5OutSampleIdeal [hS5OutSampleIdeal : Cert.S5OutSampleIdeal.Facts] : Prop :=
  ∀ (m : (ℓ : Loc Cert.S5OutSampleIdeal.nD Cert.S5OutSampleIdeal.τ Cert.S5OutSampleIdeal.sig) → Buf (Elt Ideal) ℓ) (g : Dev Cert.S5OutSampleIdeal.nD → PrngReg), Pre_S5OutSampleIdeal m →
    θ_run (Cert.S5OutSampleIdeal.defs (F := Ideal)) (onTc (τ := Cert.S5OutSampleIdeal.τ) (Cert.S5OutSampleIdeal.main (F := Ideal))) ⟨m, fun _ => 0, g⟩ (fun r => (∀ c : Dev Cert.S5OutSampleIdeal.nD,
      r.2.mem ((c.tc : Thread Cert.S5OutSampleIdeal.nD Cert.S5OutSampleIdeal.τ).loc Cert.S5OutSampleIdeal.main_arg0) = m ((c.tc : Thread Cert.S5OutSampleIdeal.nD Cert.S5OutSampleIdeal.τ).loc Cert.S5OutSampleIdeal.main_arg0)
      ∧ r.2.mem ((c.tc : Thread Cert.S5OutSampleIdeal.nD Cert.S5OutSampleIdeal.τ).loc Cert.S5OutSampleIdeal.main_arg1) = m ((c.tc : Thread Cert.S5OutSampleIdeal.nD Cert.S5OutSampleIdeal.τ).loc Cert.S5OutSampleIdeal.main_arg1)
      ∧ r.2.mem ((c.tc : Thread Cert.S5OutSampleIdeal.nD Cert.S5OutSampleIdeal.τ).loc Cert.S5OutSampleIdeal.main_arg2) = m ((c.tc : Thread Cert.S5OutSampleIdeal.nD Cert.S5OutSampleIdeal.τ).loc Cert.S5OutSampleIdeal.main_arg2)
      ∧ r.2.mem ((c.tc : Thread Cert.S5OutSampleIdeal.nD Cert.S5OutSampleIdeal.τ).loc Cert.S5OutSampleIdeal.main_arg3) = m ((c.tc : Thread Cert.S5OutSampleIdeal.nD Cert.S5OutSampleIdeal.τ).loc Cert.S5OutSampleIdeal.main_arg3)
      ∧ r.2.mem ((c.tc : Thread Cert.S5OutSampleIdeal.nD Cert.S5OutSampleIdeal.τ).loc Cert.S5OutSampleIdeal.main_arg4) = m ((c.tc : Thread Cert.S5OutSampleIdeal.nD Cert.S5OutSampleIdeal.τ).loc Cert.S5OutSampleIdeal.main_arg4)
      ∧ r.2.mem ((c.tc : Thread Cert.S5OutSampleIdeal.nD Cert.S5OutSampleIdeal.τ).loc Cert.S5OutSampleIdeal.main_arg5) = m ((c.tc : Thread Cert.S5OutSampleIdeal.nD Cert.S5OutSampleIdeal.τ).loc Cert.S5OutSampleIdeal.main_arg5)
      ∧ r.2.mem ((c.tc : Thread Cert.S5OutSampleIdeal.nD Cert.S5OutSampleIdeal.τ).loc Cert.S5OutSampleIdeal.main_arg6) = m ((c.tc : Thread Cert.S5OutSampleIdeal.nD Cert.S5OutSampleIdeal.τ).loc Cert.S5OutSampleIdeal.main_arg6)
      ∧ r.2.mem ((c.tc : Thread Cert.S5OutSampleIdeal.nD Cert.S5OutSampleIdeal.τ).loc Cert.S5OutSampleIdeal.main_arg7) = m ((c.tc : Thread Cert.S5OutSampleIdeal.nD Cert.S5OutSampleIdeal.τ).loc Cert.S5OutSampleIdeal.main_arg7))
      ∧ r.2.sem = fun _ => 0)

def quiescent_S5OutSampleRefIdeal [hS5OutSampleRefIdeal : Cert.S5OutSampleRefIdeal.Facts] : Prop :=
  ∀ (m : (ℓ : Loc Cert.S5OutSampleRefIdeal.nD Cert.S5OutSampleRefIdeal.τ Cert.S5OutSampleRefIdeal.sig) → Buf (Elt Ideal) ℓ) (g : Dev Cert.S5OutSampleRefIdeal.nD → PrngReg), Pre_S5OutSampleRefIdeal m →
    θ_run (Cert.S5OutSampleRefIdeal.defs (F := Ideal)) (onTc (τ := Cert.S5OutSampleRefIdeal.τ) (Cert.S5OutSampleRefIdeal.main (F := Ideal))) ⟨m, fun _ => 0, g⟩ (fun r => (∀ c : Dev Cert.S5OutSampleRefIdeal.nD,
      r.2.mem ((c.tc : Thread Cert.S5OutSampleRefIdeal.nD Cert.S5OutSampleRefIdeal.τ).loc Cert.S5OutSampleRefIdeal.main_arg0) = m ((c.tc : Thread Cert.S5OutSampleRefIdeal.nD Cert.S5OutSampleRefIdeal.τ).loc Cert.S5OutSampleRefIdeal.main_arg0)
      ∧ r.2.mem ((c.tc : Thread Cert.S5OutSampleRefIdeal.nD Cert.S5OutSampleRefIdeal.τ).loc Cert.S5OutSampleRefIdeal.main_arg1) = m ((c.tc : Thread Cert.S5OutSampleRefIdeal.nD Cert.S5OutSampleRefIdeal.τ).loc Cert.S5OutSampleRefIdeal.main_arg1)
      ∧ r.2.mem ((c.tc : Thread Cert.S5OutSampleRefIdeal.nD Cert.S5OutSampleRefIdeal.τ).loc Cert.S5OutSampleRefIdeal.main_arg2) = m ((c.tc : Thread Cert.S5OutSampleRefIdeal.nD Cert.S5OutSampleRefIdeal.τ).loc Cert.S5OutSampleRefIdeal.main_arg2)
      ∧ r.2.mem ((c.tc : Thread Cert.S5OutSampleRefIdeal.nD Cert.S5OutSampleRefIdeal.τ).loc Cert.S5OutSampleRefIdeal.main_arg3) = m ((c.tc : Thread Cert.S5OutSampleRefIdeal.nD Cert.S5OutSampleRefIdeal.τ).loc Cert.S5OutSampleRefIdeal.main_arg3)
      ∧ r.2.mem ((c.tc : Thread Cert.S5OutSampleRefIdeal.nD Cert.S5OutSampleRefIdeal.τ).loc Cert.S5OutSampleRefIdeal.main_arg4) = m ((c.tc : Thread Cert.S5OutSampleRefIdeal.nD Cert.S5OutSampleRefIdeal.τ).loc Cert.S5OutSampleRefIdeal.main_arg4)
      ∧ r.2.mem ((c.tc : Thread Cert.S5OutSampleRefIdeal.nD Cert.S5OutSampleRefIdeal.τ).loc Cert.S5OutSampleRefIdeal.main_arg5) = m ((c.tc : Thread Cert.S5OutSampleRefIdeal.nD Cert.S5OutSampleRefIdeal.τ).loc Cert.S5OutSampleRefIdeal.main_arg5)
      ∧ r.2.mem ((c.tc : Thread Cert.S5OutSampleRefIdeal.nD Cert.S5OutSampleRefIdeal.τ).loc Cert.S5OutSampleRefIdeal.main_arg6) = m ((c.tc : Thread Cert.S5OutSampleRefIdeal.nD Cert.S5OutSampleRefIdeal.τ).loc Cert.S5OutSampleRefIdeal.main_arg6)
      ∧ r.2.mem ((c.tc : Thread Cert.S5OutSampleRefIdeal.nD Cert.S5OutSampleRefIdeal.τ).loc Cert.S5OutSampleRefIdeal.main_arg7) = m ((c.tc : Thread Cert.S5OutSampleRefIdeal.nD Cert.S5OutSampleRefIdeal.τ).loc Cert.S5OutSampleRefIdeal.main_arg7))
      ∧ r.2.sem = fun _ => 0)

def quiescent_Sums [hSums : Cert.Sums.Facts] : Prop :=
  ∀ (m : (ℓ : Loc Cert.Sums.nD Cert.Sums.τ Cert.Sums.sig) → Buf (Elt Bits) ℓ) (g : Dev Cert.Sums.nD → PrngReg), Pre_Sums m →
    θ_run (Cert.Sums.defs (F := Bits)) (onTc (τ := Cert.Sums.τ) (Cert.Sums.main (F := Bits))) ⟨m, fun _ => 0, g⟩ (fun r => (∀ c : Dev Cert.Sums.nD,
      r.2.mem ((c.tc : Thread Cert.Sums.nD Cert.Sums.τ).loc Cert.Sums.main_arg0) = m ((c.tc : Thread Cert.Sums.nD Cert.Sums.τ).loc Cert.Sums.main_arg0))
      ∧ r.2.sem = fun _ => 0)

def quiescent_SumsIdeal [hSumsIdeal : Cert.SumsIdeal.Facts] : Prop :=
  ∀ (m : (ℓ : Loc Cert.SumsIdeal.nD Cert.SumsIdeal.τ Cert.SumsIdeal.sig) → Buf (Elt Ideal) ℓ) (g : Dev Cert.SumsIdeal.nD → PrngReg), Pre_SumsIdeal m →
    θ_run (Cert.SumsIdeal.defs (F := Ideal)) (onTc (τ := Cert.SumsIdeal.τ) (Cert.SumsIdeal.main (F := Ideal))) ⟨m, fun _ => 0, g⟩ (fun r => (∀ c : Dev Cert.SumsIdeal.nD,
      r.2.mem ((c.tc : Thread Cert.SumsIdeal.nD Cert.SumsIdeal.τ).loc Cert.SumsIdeal.main_arg0) = m ((c.tc : Thread Cert.SumsIdeal.nD Cert.SumsIdeal.τ).loc Cert.SumsIdeal.main_arg0))
      ∧ r.2.sem = fun _ => 0)

def quiescent_SumsIdeal_pre_finite_sums [hSumsIdeal : Cert.SumsIdeal.Facts] [hPre_finite_sums : Cert.Pre_finite_sums.Facts] : Prop :=
  ∀ (m : (ℓ : Loc Cert.SumsIdeal.nD Cert.SumsIdeal.τ Cert.SumsIdeal.sig) → Buf (Elt Ideal) ℓ) (g : Dev Cert.SumsIdeal.nD → PrngReg), Pre_SumsIdeal_finite_sums m →
    θ_run (Cert.SumsIdeal.defs (F := Ideal)) (onTc (τ := Cert.SumsIdeal.τ) (Cert.SumsIdeal.main (F := Ideal))) ⟨m, fun _ => 0, g⟩ (fun r => (∀ c : Dev Cert.SumsIdeal.nD,
      r.2.mem ((c.tc : Thread Cert.SumsIdeal.nD Cert.SumsIdeal.τ).loc Cert.SumsIdeal.main_arg0) = m ((c.tc : Thread Cert.SumsIdeal.nD Cert.SumsIdeal.τ).loc Cert.SumsIdeal.main_arg0))
      ∧ r.2.sem = fun _ => 0)

def quiescent_SumsRefIdeal [hSumsRefIdeal : Cert.SumsRefIdeal.Facts] : Prop :=
  ∀ (m : (ℓ : Loc Cert.SumsRefIdeal.nD Cert.SumsRefIdeal.τ Cert.SumsRefIdeal.sig) → Buf (Elt Ideal) ℓ) (g : Dev Cert.SumsRefIdeal.nD → PrngReg), Pre_SumsRefIdeal m →
    θ_run (Cert.SumsRefIdeal.defs (F := Ideal)) (onTc (τ := Cert.SumsRefIdeal.τ) (Cert.SumsRefIdeal.main (F := Ideal))) ⟨m, fun _ => 0, g⟩ (fun r => (∀ c : Dev Cert.SumsRefIdeal.nD,
      r.2.mem ((c.tc : Thread Cert.SumsRefIdeal.nD Cert.SumsRefIdeal.τ).loc Cert.SumsRefIdeal.main_arg0) = m ((c.tc : Thread Cert.SumsRefIdeal.nD Cert.SumsRefIdeal.τ).loc Cert.SumsRefIdeal.main_arg0))
      ∧ r.2.sem = fun _ => 0)

def quiescent_SumsRefIdeal_pre_finite_sums [hSumsRefIdeal : Cert.SumsRefIdeal.Facts] [hPre_finite_sums : Cert.Pre_finite_sums.Facts] : Prop :=
  ∀ (m : (ℓ : Loc Cert.SumsRefIdeal.nD Cert.SumsRefIdeal.τ Cert.SumsRefIdeal.sig) → Buf (Elt Ideal) ℓ) (g : Dev Cert.SumsRefIdeal.nD → PrngReg), Pre_SumsRefIdeal_finite_sums m →
    θ_run (Cert.SumsRefIdeal.defs (F := Ideal)) (onTc (τ := Cert.SumsRefIdeal.τ) (Cert.SumsRefIdeal.main (F := Ideal))) ⟨m, fun _ => 0, g⟩ (fun r => (∀ c : Dev Cert.SumsRefIdeal.nD,
      r.2.mem ((c.tc : Thread Cert.SumsRefIdeal.nD Cert.SumsRefIdeal.τ).loc Cert.SumsRefIdeal.main_arg0) = m ((c.tc : Thread Cert.SumsRefIdeal.nD Cert.SumsRefIdeal.τ).loc Cert.SumsRefIdeal.main_arg0))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_InProj_InProjIdeal : Prop :=
  IdealRules.named_const.Statement Cert.InProjIdeal.κ "query_scale" .f32 0x3E38AA3B#32 (((8 * (Real.log 2))⁻¹ : ℝ) : EReal)

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v15_0)) (v1 : (c : Dev Cert.InProjIdeal.nD) → Buf (Elt Ideal) ((c.tc : Thread Cert.InProjIdeal.nD Cert.InProjIdeal.τ).loc Cert.InProjIdeal.main_v15_1)) (v2 : (c : Dev Cert.InProjIdeal.nD) → Buf (Elt Ideal) ((c.tc : Thread Cert.InProjIdeal.nD Cert.InProjIdeal.τ).loc Cert.InProjIdeal.main_v15_2)) (v3 : (c : Dev Cert.InProjIdeal.nD) → Buf (Elt Ideal) ((c.tc : Thread Cert.InProjIdeal.nD Cert.InProjIdeal.τ).loc Cert.InProjIdeal.main_v15_3)) (v4 : (c : Dev Cert.InProjIdeal.nD) → Buf (Elt Ideal) ((c.tc : Thread Cert.InProjIdeal.nD Cert.InProjIdeal.τ).loc Cert.InProjIdeal.main_v15_4)) (v5 : (c : Dev Cert.InProjIdeal.nD) → Buf (Elt Ideal) ((c.tc : Thread Cert.InProjIdeal.nD Cert.InProjIdeal.τ).loc Cert.InProjIdeal.main_v15_5)) (v6 : (c : Dev Cert.InProjIdeal.nD) → Buf (Elt Ideal) ((c.tc : Thread Cert.InProjIdeal.nD Cert.InProjIdeal.τ).loc Cert.InProjIdeal.main_v15_6)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v15_0) = v0 c
          ∧ r.2.mem ((c.tc : Thread Cert.InProjIdeal.nD Cert.InProjIdeal.τ).loc Cert.InProjIdeal.main_v15_1) = v1 c
          ∧ r.2.mem ((c.tc : Thread Cert.InProjIdeal.nD Cert.InProjIdeal.τ).loc Cert.InProjIdeal.main_v15_2) = v2 c
          ∧ r.2.mem ((c.tc : Thread Cert.InProjIdeal.nD Cert.InProjIdeal.τ).loc Cert.InProjIdeal.main_v15_3) = v3 c
          ∧ r.2.mem ((c.tc : Thread Cert.InProjIdeal.nD Cert.InProjIdeal.τ).loc Cert.InProjIdeal.main_v15_4) = v4 c
          ∧ r.2.mem ((c.tc : Thread Cert.InProjIdeal.nD Cert.InProjIdeal.τ).loc Cert.InProjIdeal.main_v15_5) = v5 c
          ∧ r.2.mem ((c.tc : Thread Cert.InProjIdeal.nD Cert.InProjIdeal.τ).loc Cert.InProjIdeal.main_v15_6) = v6 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v19) = v0 c
          ∧ r.2.mem ((c.tc : Thread Cert.InProjRefIdeal.nD Cert.InProjRefIdeal.τ).loc Cert.InProjRefIdeal.main_v20) = v1 c
          ∧ r.2.mem ((c.tc : Thread Cert.InProjRefIdeal.nD Cert.InProjRefIdeal.τ).loc Cert.InProjRefIdeal.main_v7) = v2 c
          ∧ r.2.mem ((c.tc : Thread Cert.InProjRefIdeal.nD Cert.InProjRefIdeal.τ).loc Cert.InProjRefIdeal.main_v21) = v3 c
          ∧ r.2.mem ((c.tc : Thread Cert.InProjRefIdeal.nD Cert.InProjRefIdeal.τ).loc Cert.InProjRefIdeal.main_v23) = v4 c
          ∧ r.2.mem ((c.tc : Thread Cert.InProjRefIdeal.nD Cert.InProjRefIdeal.τ).loc Cert.InProjRefIdeal.main_v24) = v5 c
          ∧ r.2.mem ((c.tc : Thread Cert.InProjRefIdeal.nD Cert.InProjRefIdeal.τ).loc Cert.InProjRefIdeal.main_v13) = v6 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_InProjSample_InProjSampleIdeal : Prop :=
  True

def algebraic_InProjSampleIdeal_InProjSampleRefIdeal [hInProjSampleIdeal : Cert.InProjSampleIdeal.Facts] [hInProjSampleRefIdeal : Cert.InProjSampleRefIdeal.Facts] : Prop :=
  ∀ (m : (ℓ : Loc Cert.InProjSampleIdeal.nD Cert.InProjSampleIdeal.τ Cert.InProjSampleIdeal.sig) → Buf (Elt Ideal) ℓ) (g : Dev Cert.InProjSampleIdeal.nD → PrngReg)
    (m' : (ℓ : Loc Cert.InProjSampleRefIdeal.nD Cert.InProjSampleRefIdeal.τ Cert.InProjSampleRefIdeal.sig) → Buf (Elt Ideal) ℓ) (g' : Dev Cert.InProjSampleRefIdeal.nD → PrngReg), Pre_InProjSampleIdeal m →
    (∀ c : Dev Cert.InProjSampleIdeal.nD,
      m' ((c.tc : Thread Cert.InProjSampleRefIdeal.nD Cert.InProjSampleRefIdeal.τ).loc Cert.InProjSampleRefIdeal.main_arg0) = m ((c.tc : Thread Cert.InProjSampleIdeal.nD Cert.InProjSampleIdeal.τ).loc Cert.InProjSampleIdeal.main_arg0)
      ∧ m' ((c.tc : Thread Cert.InProjSampleRefIdeal.nD Cert.InProjSampleRefIdeal.τ).loc Cert.InProjSampleRefIdeal.main_arg1) = m ((c.tc : Thread Cert.InProjSampleIdeal.nD Cert.InProjSampleIdeal.τ).loc Cert.InProjSampleIdeal.main_arg1)
      ∧ m' ((c.tc : Thread Cert.InProjSampleRefIdeal.nD Cert.InProjSampleRefIdeal.τ).loc Cert.InProjSampleRefIdeal.main_arg2) = m ((c.tc : Thread Cert.InProjSampleIdeal.nD Cert.InProjSampleIdeal.τ).loc Cert.InProjSampleIdeal.main_arg2)) →
    ∃ (v0 : (c : Dev Cert.InProjSampleIdeal.nD) → Buf (Elt Ideal) ((c.tc : Thread Cert.InProjSampleIdeal.nD Cert.InProjSampleIdeal.τ).loc Cert.InProjSampleIdeal.main_v10_0)) (v1 : (c : Dev Cert.InProjSampleIdeal.nD) → Buf (Elt Ideal) ((c.tc : Thread Cert.InProjSampleIdeal.nD Cert.InProjSampleIdeal.τ).loc Cert.InProjSampleIdeal.main_v10_1)) (v2 : (c : Dev Cert.InProjSampleIdeal.nD) → Buf (Elt Ideal) ((c.tc : Thread Cert.InProjSampleIdeal.nD Cert.InProjSampleIdeal.τ).loc Cert.InProjSampleIdeal.main_v10_2)) (v3 : (c : Dev Cert.InProjSampleIdeal.nD) → Buf (Elt Ideal) ((c.tc : Thread Cert.InProjSampleIdeal.nD Cert.InProjSampleIdeal.τ).loc Cert.InProjSampleIdeal.main_v10_3)) (v4 : (c : Dev Cert.InProjSampleIdeal.nD) → Buf (Elt Ideal) ((c.tc : Thread Cert.InProjSampleIdeal.nD Cert.InProjSampleIdeal.τ).loc Cert.InProjSampleIdeal.main_v10_4)) (v5 : (c : Dev Cert.InProjSampleIdeal.nD) → Buf (Elt Ideal) ((c.tc : Thread Cert.InProjSampleIdeal.nD Cert.InProjSampleIdeal.τ).loc Cert.InProjSampleIdeal.main_v10_5)) (v6 : (c : Dev Cert.InProjSampleIdeal.nD) → Buf (Elt Ideal) ((c.tc : Thread Cert.InProjSampleIdeal.nD Cert.InProjSampleIdeal.τ).loc Cert.InProjSampleIdeal.main_v10_6)),
      θ_run (Cert.InProjSampleIdeal.defs (F := Ideal)) (onTc (τ := Cert.InProjSampleIdeal.τ) (Cert.InProjSampleIdeal.main (F := Ideal))) ⟨m, fun _ => 0, g⟩ (fun r => ∀ c : Dev Cert.InProjSampleIdeal.nD,
          r.2.mem ((c.tc : Thread Cert.InProjSampleIdeal.nD Cert.InProjSampleIdeal.τ).loc Cert.InProjSampleIdeal.main_v10_0) = v0 c
          ∧ r.2.mem ((c.tc : Thread Cert.InProjSampleIdeal.nD Cert.InProjSampleIdeal.τ).loc Cert.InProjSampleIdeal.main_v10_1) = v1 c
          ∧ r.2.mem ((c.tc : Thread Cert.InProjSampleIdeal.nD Cert.InProjSampleIdeal.τ).loc Cert.InProjSampleIdeal.main_v10_2) = v2 c
          ∧ r.2.mem ((c.tc : Thread Cert.InProjSampleIdeal.nD Cert.InProjSampleIdeal.τ).loc Cert.InProjSampleIdeal.main_v10_3) = v3 c
          ∧ r.2.mem ((c.tc : Thread Cert.InProjSampleIdeal.nD Cert.InProjSampleIdeal.τ).loc Cert.InProjSampleIdeal.main_v10_4) = v4 c
          ∧ r.2.mem ((c.tc : Thread Cert.InProjSampleIdeal.nD Cert.InProjSampleIdeal.τ).loc Cert.InProjSampleIdeal.main_v10_5) = v5 c
          ∧ r.2.mem ((c.tc : Thread Cert.InProjSampleIdeal.nD Cert.InProjSampleIdeal.τ).loc Cert.InProjSampleIdeal.main_v10_6) = v6 c
          ∧ r.2.mem ((c.tc : Thread Cert.InProjSampleIdeal.nD Cert.InProjSampleIdeal.τ).loc Cert.InProjSampleIdeal.main_arg0) = m ((c.tc : Thread Cert.InProjSampleIdeal.nD Cert.InProjSampleIdeal.τ).loc Cert.InProjSampleIdeal.main_arg0)
          ∧ r.2.mem ((c.tc : Thread Cert.InProjSampleIdeal.nD Cert.InProjSampleIdeal.τ).loc Cert.InProjSampleIdeal.main_arg1) = m ((c.tc : Thread Cert.InProjSampleIdeal.nD Cert.InProjSampleIdeal.τ).loc Cert.InProjSampleIdeal.main_arg1)
          ∧ r.2.mem ((c.tc : Thread Cert.InProjSampleIdeal.nD Cert.InProjSampleIdeal.τ).loc Cert.InProjSampleIdeal.main_arg2) = m ((c.tc : Thread Cert.InProjSampleIdeal.nD Cert.InProjSampleIdeal.τ).loc Cert.InProjSampleIdeal.main_arg2))
      ∧ θ_run (Cert.InProjSampleRefIdeal.defs (F := Ideal)) (onTc (τ := Cert.InProjSampleRefIdeal.τ) (Cert.InProjSampleRefIdeal.main (F := Ideal))) ⟨m', fun _ => 0, g'⟩ (fun r => ∀ c : Dev Cert.InProjSampleRefIdeal.nD,
          r.2.mem ((c.tc : Thread Cert.InProjSampleRefIdeal.nD Cert.InProjSampleRefIdeal.τ).loc Cert.InProjSampleRefIdeal.main_v16) = v0 c
          ∧ r.2.mem ((c.tc : Thread Cert.InProjSampleRefIdeal.nD Cert.InProjSampleRefIdeal.τ).loc Cert.InProjSampleRefIdeal.main_v5) = v1 c
          ∧ r.2.mem ((c.tc : Thread Cert.InProjSampleRefIdeal.nD Cert.InProjSampleRefIdeal.τ).loc Cert.InProjSampleRefIdeal.main_v6) = v2 c
          ∧ r.2.mem ((c.tc : Thread Cert.InProjSampleRefIdeal.nD Cert.InProjSampleRefIdeal.τ).loc Cert.InProjSampleRefIdeal.main_v17) = v3 c
          ∧ r.2.mem ((c.tc : Thread Cert.InProjSampleRefIdeal.nD Cert.InProjSampleRefIdeal.τ).loc Cert.InProjSampleRefIdeal.main_v18) = v4 c
          ∧ r.2.mem ((c.tc : Thread Cert.InProjSampleRefIdeal.nD Cert.InProjSampleRefIdeal.τ).loc Cert.InProjSampleRefIdeal.main_v7) = v5 c
          ∧ r.2.mem ((c.tc : Thread Cert.InProjSampleRefIdeal.nD Cert.InProjSampleRefIdeal.τ).loc Cert.InProjSampleRefIdeal.main_v13) = v6 c
          ∧ r.2.mem ((c.tc : Thread Cert.InProjSampleRefIdeal.nD Cert.InProjSampleRefIdeal.τ).loc Cert.InProjSampleRefIdeal.main_arg0) = m' ((c.tc : Thread Cert.InProjSampleRefIdeal.nD Cert.InProjSampleRefIdeal.τ).loc Cert.InProjSampleRefIdeal.main_arg0)
          ∧ r.2.mem ((c.tc : Thread Cert.InProjSampleRefIdeal.nD Cert.InProjSampleRefIdeal.τ).loc Cert.InProjSampleRefIdeal.main_arg1) = m' ((c.tc : Thread Cert.InProjSampleRefIdeal.nD Cert.InProjSampleRefIdeal.τ).loc Cert.InProjSampleRefIdeal.main_arg1)
          ∧ r.2.mem ((c.tc : Thread Cert.InProjSampleRefIdeal.nD Cert.InProjSampleRefIdeal.τ).loc Cert.InProjSampleRefIdeal.main_arg2) = m' ((c.tc : Thread Cert.InProjSampleRefIdeal.nD Cert.InProjSampleRefIdeal.τ).loc Cert.InProjSampleRefIdeal.main_arg2))

def preserves_AttnOut_AttnOutIdeal : Prop :=
  IdealRules.named_const.Statement Cert.AttnOutIdeal.κ "alpha" .f32 0x3FB504F3#32 ((Real.sqrt 2 : ℝ) : EReal)

def algebraic_AttnOutIdeal_AttnOutRefIdeal [hAttnOutIdeal : Cert.AttnOutIdeal.Facts] [hAttnOutRefIdeal : Cert.AttnOutRefIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg)
    (m' : (ℓ : Loc Cert.AttnOutRefIdeal.nD Cert.AttnOutRefIdeal.τ Cert.AttnOutRefIdeal.sig) → Buf (Elt Ideal) ℓ) (g' : Dev Cert.AttnOutRefIdeal.nD → PrngReg), Pre_AttnOutIdeal m →
    (∀ c : Dev Cert.AttnOutIdeal.nD,
      m' ((c.tc : Thread Cert.AttnOutRefIdeal.nD Cert.AttnOutRefIdeal.τ).loc Cert.AttnOutRefIdeal.main_arg0) = m ((c.tc : Thread Cert.AttnOutIdeal.nD Cert.AttnOutIdeal.τ).loc Cert.AttnOutIdeal.main_arg0)
      ∧ m' ((c.tc : Thread Cert.AttnOutRefIdeal.nD Cert.AttnOutRefIdeal.τ).loc Cert.AttnOutRefIdeal.main_arg1) = m ((c.tc : Thread Cert.AttnOutIdeal.nD Cert.AttnOutIdeal.τ).loc Cert.AttnOutIdeal.main_arg1)
      ∧ m' ((c.tc : Thread Cert.AttnOutRefIdeal.nD Cert.AttnOutRefIdeal.τ).loc Cert.AttnOutRefIdeal.main_arg2) = m ((c.tc : Thread Cert.AttnOutIdeal.nD Cert.AttnOutIdeal.τ).loc Cert.AttnOutIdeal.main_arg2)
      ∧ m' ((c.tc : Thread Cert.AttnOutRefIdeal.nD Cert.AttnOutRefIdeal.τ).loc Cert.AttnOutRefIdeal.main_arg3) = m ((c.tc : Thread Cert.AttnOutIdeal.nD Cert.AttnOutIdeal.τ).loc Cert.AttnOutIdeal.main_arg3)
      ∧ m' ((c.tc : Thread Cert.AttnOutRefIdeal.nD Cert.AttnOutRefIdeal.τ).loc Cert.AttnOutRefIdeal.main_arg4) = m ((c.tc : Thread Cert.AttnOutIdeal.nD Cert.AttnOutIdeal.τ).loc Cert.AttnOutIdeal.main_arg4)
      ∧ m' ((c.tc : Thread Cert.AttnOutRefIdeal.nD Cert.AttnOutRefIdeal.τ).loc Cert.AttnOutRefIdeal.main_arg5) = m ((c.tc : Thread Cert.AttnOutIdeal.nD Cert.AttnOutIdeal.τ).loc Cert.AttnOutIdeal.main_arg5)) →
    ∃ (v0 : (c : Dev Cert.AttnOutIdeal.nD) → Buf (Elt Ideal) ((c.tc : Thread Cert.AttnOutIdeal.nD Cert.AttnOutIdeal.τ).loc Cert.AttnOutIdeal.main_v8)),
      θ_run (Cert.AttnOutIdeal.defs (F := Ideal)) (onTc (τ := Cert.AttnOutIdeal.τ) (Cert.AttnOutIdeal.main (F := Ideal))) ⟨m, fun _ => 0, g⟩ (fun r => ∀ c : Dev Cert.AttnOutIdeal.nD,
          r.2.mem ((c.tc : Thread Cert.AttnOutIdeal.nD Cert.AttnOutIdeal.τ).loc Cert.AttnOutIdeal.main_v8) = v0 c
          ∧ r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
          ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
          ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
          ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3)
          ∧ r.2.mem ((c.tc : Thread Cert.AttnOutIdeal.nD Cert.AttnOutIdeal.τ).loc Cert.AttnOutIdeal.main_arg4) = m ((c.tc : Thread Cert.AttnOutIdeal.nD Cert.AttnOutIdeal.τ).loc Cert.AttnOutIdeal.main_arg4)
          ∧ r.2.mem ((c.tc : Thread Cert.AttnOutIdeal.nD Cert.AttnOutIdeal.τ).loc Cert.AttnOutIdeal.main_arg5) = m ((c.tc : Thread Cert.AttnOutIdeal.nD Cert.AttnOutIdeal.τ).loc Cert.AttnOutIdeal.main_arg5))
      ∧ θ_run (Cert.AttnOutRefIdeal.defs (F := Ideal)) (onTc (τ := Cert.AttnOutRefIdeal.τ) (Cert.AttnOutRefIdeal.main (F := Ideal))) ⟨m', fun _ => 0, g'⟩ (fun r => ∀ c : Dev Cert.AttnOutRefIdeal.nD,
          r.2.mem ((c.tc : Thread Cert.AttnOutRefIdeal.nD Cert.AttnOutRefIdeal.τ).loc Cert.AttnOutRefIdeal.main_v36) = v0 c
          ∧ r.2.mem ((c.tc : Thread Cert.AttnOutRefIdeal.nD Cert.AttnOutRefIdeal.τ).loc Cert.AttnOutRefIdeal.main_arg0) = m' ((c.tc : Thread Cert.AttnOutRefIdeal.nD Cert.AttnOutRefIdeal.τ).loc Cert.AttnOutRefIdeal.main_arg0)
          ∧ r.2.mem ((c.tc : Thread Cert.AttnOutRefIdeal.nD Cert.AttnOutRefIdeal.τ).loc Cert.AttnOutRefIdeal.main_arg1) = m' ((c.tc : Thread Cert.AttnOutRefIdeal.nD Cert.AttnOutRefIdeal.τ).loc Cert.AttnOutRefIdeal.main_arg1)
          ∧ r.2.mem ((c.tc : Thread Cert.AttnOutRefIdeal.nD Cert.AttnOutRefIdeal.τ).loc Cert.AttnOutRefIdeal.main_arg2) = m' ((c.tc : Thread Cert.AttnOutRefIdeal.nD Cert.AttnOutRefIdeal.τ).loc Cert.AttnOutRefIdeal.main_arg2)
          ∧ r.2.mem ((c.tc : Thread Cert.AttnOutRefIdeal.nD Cert.AttnOutRefIdeal.τ).loc Cert.AttnOutRefIdeal.main_arg3) = m' ((c.tc : Thread Cert.AttnOutRefIdeal.nD Cert.AttnOutRefIdeal.τ).loc Cert.AttnOutRefIdeal.main_arg3)
          ∧ r.2.mem ((c.tc : Thread Cert.AttnOutRefIdeal.nD Cert.AttnOutRefIdeal.τ).loc Cert.AttnOutRefIdeal.main_arg4) = m' ((c.tc : Thread Cert.AttnOutRefIdeal.nD Cert.AttnOutRefIdeal.τ).loc Cert.AttnOutRefIdeal.main_arg4)
          ∧ r.2.mem ((c.tc : Thread Cert.AttnOutRefIdeal.nD Cert.AttnOutRefIdeal.τ).loc Cert.AttnOutRefIdeal.main_arg5) = m' ((c.tc : Thread Cert.AttnOutRefIdeal.nD Cert.AttnOutRefIdeal.τ).loc Cert.AttnOutRefIdeal.main_arg5))

def preserves_S5In_S5InIdeal : Prop :=
  True

def algebraic_S5InIdeal_S5InRefIdeal [hS5InIdeal : Cert.S5InIdeal.Facts] [hS5InRefIdeal : Cert.S5InRefIdeal.Facts] : Prop :=
  ∀ (m : (ℓ : Loc Cert.S5InIdeal.nD Cert.S5InIdeal.τ Cert.S5InIdeal.sig) → Buf (Elt Ideal) ℓ) (g : Dev Cert.S5InIdeal.nD → PrngReg)
    (m' : (ℓ : Loc Cert.S5InRefIdeal.nD Cert.S5InRefIdeal.τ Cert.S5InRefIdeal.sig) → Buf (Elt Ideal) ℓ) (g' : Dev Cert.S5InRefIdeal.nD → PrngReg), Pre_S5InIdeal m →
    (∀ c : Dev Cert.S5InIdeal.nD,
      m' ((c.tc : Thread Cert.S5InRefIdeal.nD Cert.S5InRefIdeal.τ).loc Cert.S5InRefIdeal.main_arg0) = m ((c.tc : Thread Cert.S5InIdeal.nD Cert.S5InIdeal.τ).loc Cert.S5InIdeal.main_arg0)
      ∧ m' ((c.tc : Thread Cert.S5InRefIdeal.nD Cert.S5InRefIdeal.τ).loc Cert.S5InRefIdeal.main_arg1) = m ((c.tc : Thread Cert.S5InIdeal.nD Cert.S5InIdeal.τ).loc Cert.S5InIdeal.main_arg1)) →
    ∃ (v0 : (c : Dev Cert.S5InIdeal.nD) → Buf (Elt Ideal) ((c.tc : Thread Cert.S5InIdeal.nD Cert.S5InIdeal.τ).loc Cert.S5InIdeal.main_v2_0)) (v1 : (c : Dev Cert.S5InIdeal.nD) → Buf (Elt Ideal) ((c.tc : Thread Cert.S5InIdeal.nD Cert.S5InIdeal.τ).loc Cert.S5InIdeal.main_v2_1)),
      θ_run (Cert.S5InIdeal.defs (F := Ideal)) (onTc (τ := Cert.S5InIdeal.τ) (Cert.S5InIdeal.main (F := Ideal))) ⟨m, fun _ => 0, g⟩ (fun r => ∀ c : Dev Cert.S5InIdeal.nD,
          r.2.mem ((c.tc : Thread Cert.S5InIdeal.nD Cert.S5InIdeal.τ).loc Cert.S5InIdeal.main_v2_0) = v0 c
          ∧ r.2.mem ((c.tc : Thread Cert.S5InIdeal.nD Cert.S5InIdeal.τ).loc Cert.S5InIdeal.main_v2_1) = v1 c
          ∧ r.2.mem ((c.tc : Thread Cert.S5InIdeal.nD Cert.S5InIdeal.τ).loc Cert.S5InIdeal.main_arg0) = m ((c.tc : Thread Cert.S5InIdeal.nD Cert.S5InIdeal.τ).loc Cert.S5InIdeal.main_arg0)
          ∧ r.2.mem ((c.tc : Thread Cert.S5InIdeal.nD Cert.S5InIdeal.τ).loc Cert.S5InIdeal.main_arg1) = m ((c.tc : Thread Cert.S5InIdeal.nD Cert.S5InIdeal.τ).loc Cert.S5InIdeal.main_arg1))
      ∧ θ_run (Cert.S5InRefIdeal.defs (F := Ideal)) (onTc (τ := Cert.S5InRefIdeal.τ) (Cert.S5InRefIdeal.main (F := Ideal))) ⟨m', fun _ => 0, g'⟩ (fun r => ∀ c : Dev Cert.S5InRefIdeal.nD,
          r.2.mem ((c.tc : Thread Cert.S5InRefIdeal.nD Cert.S5InRefIdeal.τ).loc Cert.S5InRefIdeal.main_v2) = v0 c
          ∧ r.2.mem ((c.tc : Thread Cert.S5InRefIdeal.nD Cert.S5InRefIdeal.τ).loc Cert.S5InRefIdeal.main_v3) = v1 c
          ∧ r.2.mem ((c.tc : Thread Cert.S5InRefIdeal.nD Cert.S5InRefIdeal.τ).loc Cert.S5InRefIdeal.main_arg0) = m' ((c.tc : Thread Cert.S5InRefIdeal.nD Cert.S5InRefIdeal.τ).loc Cert.S5InRefIdeal.main_arg0)
          ∧ r.2.mem ((c.tc : Thread Cert.S5InRefIdeal.nD Cert.S5InRefIdeal.τ).loc Cert.S5InRefIdeal.main_arg1) = m' ((c.tc : Thread Cert.S5InRefIdeal.nD Cert.S5InRefIdeal.τ).loc Cert.S5InRefIdeal.main_arg1))

def preserves_S5Out_S5OutIdeal : Prop :=
  IdealRules.named_const.Statement Cert.S5OutIdeal.κ "alpha" .f32 0x3FB504F3#32 ((Real.sqrt 2 : ℝ) : EReal)

def algebraic_S5OutIdeal_S5OutRefIdeal [hS5OutIdeal : Cert.S5OutIdeal.Facts] [hS5OutRefIdeal : Cert.S5OutRefIdeal.Facts] : Prop :=
  ∀ (m : (ℓ : Loc Cert.S5OutIdeal.nD Cert.S5OutIdeal.τ Cert.S5OutIdeal.sig) → Buf (Elt Ideal) ℓ) (g : Dev Cert.S5OutIdeal.nD → PrngReg)
    (m' : (ℓ : Loc Cert.S5OutRefIdeal.nD Cert.S5OutRefIdeal.τ Cert.S5OutRefIdeal.sig) → Buf (Elt Ideal) ℓ) (g' : Dev Cert.S5OutRefIdeal.nD → PrngReg), Pre_S5OutIdeal m →
    (∀ c : Dev Cert.S5OutIdeal.nD,
      m' ((c.tc : Thread Cert.S5OutRefIdeal.nD Cert.S5OutRefIdeal.τ).loc Cert.S5OutRefIdeal.main_arg0) = m ((c.tc : Thread Cert.S5OutIdeal.nD Cert.S5OutIdeal.τ).loc Cert.S5OutIdeal.main_arg0)
      ∧ m' ((c.tc : Thread Cert.S5OutRefIdeal.nD Cert.S5OutRefIdeal.τ).loc Cert.S5OutRefIdeal.main_arg1) = m ((c.tc : Thread Cert.S5OutIdeal.nD Cert.S5OutIdeal.τ).loc Cert.S5OutIdeal.main_arg1)
      ∧ m' ((c.tc : Thread Cert.S5OutRefIdeal.nD Cert.S5OutRefIdeal.τ).loc Cert.S5OutRefIdeal.main_arg2) = m ((c.tc : Thread Cert.S5OutIdeal.nD Cert.S5OutIdeal.τ).loc Cert.S5OutIdeal.main_arg2)
      ∧ m' ((c.tc : Thread Cert.S5OutRefIdeal.nD Cert.S5OutRefIdeal.τ).loc Cert.S5OutRefIdeal.main_arg3) = m ((c.tc : Thread Cert.S5OutIdeal.nD Cert.S5OutIdeal.τ).loc Cert.S5OutIdeal.main_arg3)
      ∧ m' ((c.tc : Thread Cert.S5OutRefIdeal.nD Cert.S5OutRefIdeal.τ).loc Cert.S5OutRefIdeal.main_arg4) = m ((c.tc : Thread Cert.S5OutIdeal.nD Cert.S5OutIdeal.τ).loc Cert.S5OutIdeal.main_arg4)
      ∧ m' ((c.tc : Thread Cert.S5OutRefIdeal.nD Cert.S5OutRefIdeal.τ).loc Cert.S5OutRefIdeal.main_arg5) = m ((c.tc : Thread Cert.S5OutIdeal.nD Cert.S5OutIdeal.τ).loc Cert.S5OutIdeal.main_arg5)
      ∧ m' ((c.tc : Thread Cert.S5OutRefIdeal.nD Cert.S5OutRefIdeal.τ).loc Cert.S5OutRefIdeal.main_arg6) = m ((c.tc : Thread Cert.S5OutIdeal.nD Cert.S5OutIdeal.τ).loc Cert.S5OutIdeal.main_arg6)
      ∧ m' ((c.tc : Thread Cert.S5OutRefIdeal.nD Cert.S5OutRefIdeal.τ).loc Cert.S5OutRefIdeal.main_arg7) = m ((c.tc : Thread Cert.S5OutIdeal.nD Cert.S5OutIdeal.τ).loc Cert.S5OutIdeal.main_arg7)) →
    ∃ (v0 : (c : Dev Cert.S5OutIdeal.nD) → Buf (Elt Ideal) ((c.tc : Thread Cert.S5OutIdeal.nD Cert.S5OutIdeal.τ).loc Cert.S5OutIdeal.main_v12)),
      θ_run (Cert.S5OutIdeal.defs (F := Ideal)) (onTc (τ := Cert.S5OutIdeal.τ) (Cert.S5OutIdeal.main (F := Ideal))) ⟨m, fun _ => 0, g⟩ (fun r => ∀ c : Dev Cert.S5OutIdeal.nD,
          r.2.mem ((c.tc : Thread Cert.S5OutIdeal.nD Cert.S5OutIdeal.τ).loc Cert.S5OutIdeal.main_v12) = v0 c
          ∧ r.2.mem ((c.tc : Thread Cert.S5OutIdeal.nD Cert.S5OutIdeal.τ).loc Cert.S5OutIdeal.main_arg0) = m ((c.tc : Thread Cert.S5OutIdeal.nD Cert.S5OutIdeal.τ).loc Cert.S5OutIdeal.main_arg0)
          ∧ r.2.mem ((c.tc : Thread Cert.S5OutIdeal.nD Cert.S5OutIdeal.τ).loc Cert.S5OutIdeal.main_arg1) = m ((c.tc : Thread Cert.S5OutIdeal.nD Cert.S5OutIdeal.τ).loc Cert.S5OutIdeal.main_arg1)
          ∧ r.2.mem ((c.tc : Thread Cert.S5OutIdeal.nD Cert.S5OutIdeal.τ).loc Cert.S5OutIdeal.main_arg2) = m ((c.tc : Thread Cert.S5OutIdeal.nD Cert.S5OutIdeal.τ).loc Cert.S5OutIdeal.main_arg2)
          ∧ r.2.mem ((c.tc : Thread Cert.S5OutIdeal.nD Cert.S5OutIdeal.τ).loc Cert.S5OutIdeal.main_arg3) = m ((c.tc : Thread Cert.S5OutIdeal.nD Cert.S5OutIdeal.τ).loc Cert.S5OutIdeal.main_arg3)
          ∧ r.2.mem ((c.tc : Thread Cert.S5OutIdeal.nD Cert.S5OutIdeal.τ).loc Cert.S5OutIdeal.main_arg4) = m ((c.tc : Thread Cert.S5OutIdeal.nD Cert.S5OutIdeal.τ).loc Cert.S5OutIdeal.main_arg4)
          ∧ r.2.mem ((c.tc : Thread Cert.S5OutIdeal.nD Cert.S5OutIdeal.τ).loc Cert.S5OutIdeal.main_arg5) = m ((c.tc : Thread Cert.S5OutIdeal.nD Cert.S5OutIdeal.τ).loc Cert.S5OutIdeal.main_arg5)
          ∧ r.2.mem ((c.tc : Thread Cert.S5OutIdeal.nD Cert.S5OutIdeal.τ).loc Cert.S5OutIdeal.main_arg6) = m ((c.tc : Thread Cert.S5OutIdeal.nD Cert.S5OutIdeal.τ).loc Cert.S5OutIdeal.main_arg6)
          ∧ r.2.mem ((c.tc : Thread Cert.S5OutIdeal.nD Cert.S5OutIdeal.τ).loc Cert.S5OutIdeal.main_arg7) = m ((c.tc : Thread Cert.S5OutIdeal.nD Cert.S5OutIdeal.τ).loc Cert.S5OutIdeal.main_arg7))
      ∧ θ_run (Cert.S5OutRefIdeal.defs (F := Ideal)) (onTc (τ := Cert.S5OutRefIdeal.τ) (Cert.S5OutRefIdeal.main (F := Ideal))) ⟨m', fun _ => 0, g'⟩ (fun r => ∀ c : Dev Cert.S5OutRefIdeal.nD,
          r.2.mem ((c.tc : Thread Cert.S5OutRefIdeal.nD Cert.S5OutRefIdeal.τ).loc Cert.S5OutRefIdeal.main_v62) = v0 c
          ∧ r.2.mem ((c.tc : Thread Cert.S5OutRefIdeal.nD Cert.S5OutRefIdeal.τ).loc Cert.S5OutRefIdeal.main_arg0) = m' ((c.tc : Thread Cert.S5OutRefIdeal.nD Cert.S5OutRefIdeal.τ).loc Cert.S5OutRefIdeal.main_arg0)
          ∧ r.2.mem ((c.tc : Thread Cert.S5OutRefIdeal.nD Cert.S5OutRefIdeal.τ).loc Cert.S5OutRefIdeal.main_arg1) = m' ((c.tc : Thread Cert.S5OutRefIdeal.nD Cert.S5OutRefIdeal.τ).loc Cert.S5OutRefIdeal.main_arg1)
          ∧ r.2.mem ((c.tc : Thread Cert.S5OutRefIdeal.nD Cert.S5OutRefIdeal.τ).loc Cert.S5OutRefIdeal.main_arg2) = m' ((c.tc : Thread Cert.S5OutRefIdeal.nD Cert.S5OutRefIdeal.τ).loc Cert.S5OutRefIdeal.main_arg2)
          ∧ r.2.mem ((c.tc : Thread Cert.S5OutRefIdeal.nD Cert.S5OutRefIdeal.τ).loc Cert.S5OutRefIdeal.main_arg3) = m' ((c.tc : Thread Cert.S5OutRefIdeal.nD Cert.S5OutRefIdeal.τ).loc Cert.S5OutRefIdeal.main_arg3)
          ∧ r.2.mem ((c.tc : Thread Cert.S5OutRefIdeal.nD Cert.S5OutRefIdeal.τ).loc Cert.S5OutRefIdeal.main_arg4) = m' ((c.tc : Thread Cert.S5OutRefIdeal.nD Cert.S5OutRefIdeal.τ).loc Cert.S5OutRefIdeal.main_arg4)
          ∧ r.2.mem ((c.tc : Thread Cert.S5OutRefIdeal.nD Cert.S5OutRefIdeal.τ).loc Cert.S5OutRefIdeal.main_arg5) = m' ((c.tc : Thread Cert.S5OutRefIdeal.nD Cert.S5OutRefIdeal.τ).loc Cert.S5OutRefIdeal.main_arg5)
          ∧ r.2.mem ((c.tc : Thread Cert.S5OutRefIdeal.nD Cert.S5OutRefIdeal.τ).loc Cert.S5OutRefIdeal.main_arg6) = m' ((c.tc : Thread Cert.S5OutRefIdeal.nD Cert.S5OutRefIdeal.τ).loc Cert.S5OutRefIdeal.main_arg6)
          ∧ r.2.mem ((c.tc : Thread Cert.S5OutRefIdeal.nD Cert.S5OutRefIdeal.τ).loc Cert.S5OutRefIdeal.main_arg7) = m' ((c.tc : Thread Cert.S5OutRefIdeal.nD Cert.S5OutRefIdeal.τ).loc Cert.S5OutRefIdeal.main_arg7))

def preserves_AttnOutSample_AttnOutSampleIdeal : Prop :=
  IdealRules.named_const.Statement Cert.AttnOutSampleIdeal.κ "alpha" .f32 0x3FB504F3#32 ((Real.sqrt 2 : ℝ) : EReal)

def algebraic_AttnOutSampleIdeal_AttnOutSampleRefIdeal [hAttnOutSampleIdeal : Cert.AttnOutSampleIdeal.Facts] [hAttnOutSampleRefIdeal : Cert.AttnOutSampleRefIdeal.Facts] : Prop :=
  ∀ (m : (ℓ : Loc Cert.AttnOutSampleIdeal.nD Cert.AttnOutSampleIdeal.τ Cert.AttnOutSampleIdeal.sig) → Buf (Elt Ideal) ℓ) (g : Dev Cert.AttnOutSampleIdeal.nD → PrngReg)
    (m' : (ℓ : Loc Cert.AttnOutSampleRefIdeal.nD Cert.AttnOutSampleRefIdeal.τ Cert.AttnOutSampleRefIdeal.sig) → Buf (Elt Ideal) ℓ) (g' : Dev Cert.AttnOutSampleRefIdeal.nD → PrngReg), Pre_AttnOutSampleIdeal m →
    (∀ c : Dev Cert.AttnOutSampleIdeal.nD,
      m' ((c.tc : Thread Cert.AttnOutSampleRefIdeal.nD Cert.AttnOutSampleRefIdeal.τ).loc Cert.AttnOutSampleRefIdeal.main_arg0) = m ((c.tc : Thread Cert.AttnOutSampleIdeal.nD Cert.AttnOutSampleIdeal.τ).loc Cert.AttnOutSampleIdeal.main_arg0)
      ∧ m' ((c.tc : Thread Cert.AttnOutSampleRefIdeal.nD Cert.AttnOutSampleRefIdeal.τ).loc Cert.AttnOutSampleRefIdeal.main_arg1) = m ((c.tc : Thread Cert.AttnOutSampleIdeal.nD Cert.AttnOutSampleIdeal.τ).loc Cert.AttnOutSampleIdeal.main_arg1)
      ∧ m' ((c.tc : Thread Cert.AttnOutSampleRefIdeal.nD Cert.AttnOutSampleRefIdeal.τ).loc Cert.AttnOutSampleRefIdeal.main_arg2) = m ((c.tc : Thread Cert.AttnOutSampleIdeal.nD Cert.AttnOutSampleIdeal.τ).loc Cert.AttnOutSampleIdeal.main_arg2)
      ∧ m' ((c.tc : Thread Cert.AttnOutSampleRefIdeal.nD Cert.AttnOutSampleRefIdeal.τ).loc Cert.AttnOutSampleRefIdeal.main_arg3) = m ((c.tc : Thread Cert.AttnOutSampleIdeal.nD Cert.AttnOutSampleIdeal.τ).loc Cert.AttnOutSampleIdeal.main_arg3)
      ∧ m' ((c.tc : Thread Cert.AttnOutSampleRefIdeal.nD Cert.AttnOutSampleRefIdeal.τ).loc Cert.AttnOutSampleRefIdeal.main_arg4) = m ((c.tc : Thread Cert.AttnOutSampleIdeal.nD Cert.AttnOutSampleIdeal.τ).loc Cert.AttnOutSampleIdeal.main_arg4)
      ∧ m' ((c.tc : Thread Cert.AttnOutSampleRefIdeal.nD Cert.AttnOutSampleRefIdeal.τ).loc Cert.AttnOutSampleRefIdeal.main_arg5) = m ((c.tc : Thread Cert.AttnOutSampleIdeal.nD Cert.AttnOutSampleIdeal.τ).loc Cert.AttnOutSampleIdeal.main_arg5)) →
    ∃ (v0 : (c : Dev Cert.AttnOutSampleIdeal.nD) → Buf (Elt Ideal) ((c.tc : Thread Cert.AttnOutSampleIdeal.nD Cert.AttnOutSampleIdeal.τ).loc Cert.AttnOutSampleIdeal.main_v8)),
      θ_run (Cert.AttnOutSampleIdeal.defs (F := Ideal)) (onTc (τ := Cert.AttnOutSampleIdeal.τ) (Cert.AttnOutSampleIdeal.main (F := Ideal))) ⟨m, fun _ => 0, g⟩ (fun r => ∀ c : Dev Cert.AttnOutSampleIdeal.nD,
          r.2.mem ((c.tc : Thread Cert.AttnOutSampleIdeal.nD Cert.AttnOutSampleIdeal.τ).loc Cert.AttnOutSampleIdeal.main_v8) = v0 c
          ∧ r.2.mem ((c.tc : Thread Cert.AttnOutSampleIdeal.nD Cert.AttnOutSampleIdeal.τ).loc Cert.AttnOutSampleIdeal.main_arg0) = m ((c.tc : Thread Cert.AttnOutSampleIdeal.nD Cert.AttnOutSampleIdeal.τ).loc Cert.AttnOutSampleIdeal.main_arg0)
          ∧ r.2.mem ((c.tc : Thread Cert.AttnOutSampleIdeal.nD Cert.AttnOutSampleIdeal.τ).loc Cert.AttnOutSampleIdeal.main_arg1) = m ((c.tc : Thread Cert.AttnOutSampleIdeal.nD Cert.AttnOutSampleIdeal.τ).loc Cert.AttnOutSampleIdeal.main_arg1)
          ∧ r.2.mem ((c.tc : Thread Cert.AttnOutSampleIdeal.nD Cert.AttnOutSampleIdeal.τ).loc Cert.AttnOutSampleIdeal.main_arg2) = m ((c.tc : Thread Cert.AttnOutSampleIdeal.nD Cert.AttnOutSampleIdeal.τ).loc Cert.AttnOutSampleIdeal.main_arg2)
          ∧ r.2.mem ((c.tc : Thread Cert.AttnOutSampleIdeal.nD Cert.AttnOutSampleIdeal.τ).loc Cert.AttnOutSampleIdeal.main_arg3) = m ((c.tc : Thread Cert.AttnOutSampleIdeal.nD Cert.AttnOutSampleIdeal.τ).loc Cert.AttnOutSampleIdeal.main_arg3)
          ∧ r.2.mem ((c.tc : Thread Cert.AttnOutSampleIdeal.nD Cert.AttnOutSampleIdeal.τ).loc Cert.AttnOutSampleIdeal.main_arg4) = m ((c.tc : Thread Cert.AttnOutSampleIdeal.nD Cert.AttnOutSampleIdeal.τ).loc Cert.AttnOutSampleIdeal.main_arg4)
          ∧ r.2.mem ((c.tc : Thread Cert.AttnOutSampleIdeal.nD Cert.AttnOutSampleIdeal.τ).loc Cert.AttnOutSampleIdeal.main_arg5) = m ((c.tc : Thread Cert.AttnOutSampleIdeal.nD Cert.AttnOutSampleIdeal.τ).loc Cert.AttnOutSampleIdeal.main_arg5))
      ∧ θ_run (Cert.AttnOutSampleRefIdeal.defs (F := Ideal)) (onTc (τ := Cert.AttnOutSampleRefIdeal.τ) (Cert.AttnOutSampleRefIdeal.main (F := Ideal))) ⟨m', fun _ => 0, g'⟩ (fun r => ∀ c : Dev Cert.AttnOutSampleRefIdeal.nD,
          r.2.mem ((c.tc : Thread Cert.AttnOutSampleRefIdeal.nD Cert.AttnOutSampleRefIdeal.τ).loc Cert.AttnOutSampleRefIdeal.main_v36) = v0 c
          ∧ r.2.mem ((c.tc : Thread Cert.AttnOutSampleRefIdeal.nD Cert.AttnOutSampleRefIdeal.τ).loc Cert.AttnOutSampleRefIdeal.main_arg0) = m' ((c.tc : Thread Cert.AttnOutSampleRefIdeal.nD Cert.AttnOutSampleRefIdeal.τ).loc Cert.AttnOutSampleRefIdeal.main_arg0)
          ∧ r.2.mem ((c.tc : Thread Cert.AttnOutSampleRefIdeal.nD Cert.AttnOutSampleRefIdeal.τ).loc Cert.AttnOutSampleRefIdeal.main_arg1) = m' ((c.tc : Thread Cert.AttnOutSampleRefIdeal.nD Cert.AttnOutSampleRefIdeal.τ).loc Cert.AttnOutSampleRefIdeal.main_arg1)
          ∧ r.2.mem ((c.tc : Thread Cert.AttnOutSampleRefIdeal.nD Cert.AttnOutSampleRefIdeal.τ).loc Cert.AttnOutSampleRefIdeal.main_arg2) = m' ((c.tc : Thread Cert.AttnOutSampleRefIdeal.nD Cert.AttnOutSampleRefIdeal.τ).loc Cert.AttnOutSampleRefIdeal.main_arg2)
          ∧ r.2.mem ((c.tc : Thread Cert.AttnOutSampleRefIdeal.nD Cert.AttnOutSampleRefIdeal.τ).loc Cert.AttnOutSampleRefIdeal.main_arg3) = m' ((c.tc : Thread Cert.AttnOutSampleRefIdeal.nD Cert.AttnOutSampleRefIdeal.τ).loc Cert.AttnOutSampleRefIdeal.main_arg3)
          ∧ r.2.mem ((c.tc : Thread Cert.AttnOutSampleRefIdeal.nD Cert.AttnOutSampleRefIdeal.τ).loc Cert.AttnOutSampleRefIdeal.main_arg4) = m' ((c.tc : Thread Cert.AttnOutSampleRefIdeal.nD Cert.AttnOutSampleRefIdeal.τ).loc Cert.AttnOutSampleRefIdeal.main_arg4)
          ∧ r.2.mem ((c.tc : Thread Cert.AttnOutSampleRefIdeal.nD Cert.AttnOutSampleRefIdeal.τ).loc Cert.AttnOutSampleRefIdeal.main_arg5) = m' ((c.tc : Thread Cert.AttnOutSampleRefIdeal.nD Cert.AttnOutSampleRefIdeal.τ).loc Cert.AttnOutSampleRefIdeal.main_arg5))

def preserves_S5InSample_S5InSampleIdeal : Prop :=
  True

def algebraic_S5InSampleIdeal_S5InSampleRefIdeal [hS5InSampleIdeal : Cert.S5InSampleIdeal.Facts] [hS5InSampleRefIdeal : Cert.S5InSampleRefIdeal.Facts] : Prop :=
  ∀ (m : (ℓ : Loc Cert.S5InSampleIdeal.nD Cert.S5InSampleIdeal.τ Cert.S5InSampleIdeal.sig) → Buf (Elt Ideal) ℓ) (g : Dev Cert.S5InSampleIdeal.nD → PrngReg)
    (m' : (ℓ : Loc Cert.S5InSampleRefIdeal.nD Cert.S5InSampleRefIdeal.τ Cert.S5InSampleRefIdeal.sig) → Buf (Elt Ideal) ℓ) (g' : Dev Cert.S5InSampleRefIdeal.nD → PrngReg), Pre_S5InSampleIdeal m →
    (∀ c : Dev Cert.S5InSampleIdeal.nD,
      m' ((c.tc : Thread Cert.S5InSampleRefIdeal.nD Cert.S5InSampleRefIdeal.τ).loc Cert.S5InSampleRefIdeal.main_arg0) = m ((c.tc : Thread Cert.S5InSampleIdeal.nD Cert.S5InSampleIdeal.τ).loc Cert.S5InSampleIdeal.main_arg0)
      ∧ m' ((c.tc : Thread Cert.S5InSampleRefIdeal.nD Cert.S5InSampleRefIdeal.τ).loc Cert.S5InSampleRefIdeal.main_arg1) = m ((c.tc : Thread Cert.S5InSampleIdeal.nD Cert.S5InSampleIdeal.τ).loc Cert.S5InSampleIdeal.main_arg1)) →
    ∃ (v0 : (c : Dev Cert.S5InSampleIdeal.nD) → Buf (Elt Ideal) ((c.tc : Thread Cert.S5InSampleIdeal.nD Cert.S5InSampleIdeal.τ).loc Cert.S5InSampleIdeal.main_v2_0)) (v1 : (c : Dev Cert.S5InSampleIdeal.nD) → Buf (Elt Ideal) ((c.tc : Thread Cert.S5InSampleIdeal.nD Cert.S5InSampleIdeal.τ).loc Cert.S5InSampleIdeal.main_v2_1)),
      θ_run (Cert.S5InSampleIdeal.defs (F := Ideal)) (onTc (τ := Cert.S5InSampleIdeal.τ) (Cert.S5InSampleIdeal.main (F := Ideal))) ⟨m, fun _ => 0, g⟩ (fun r => ∀ c : Dev Cert.S5InSampleIdeal.nD,
          r.2.mem ((c.tc : Thread Cert.S5InSampleIdeal.nD Cert.S5InSampleIdeal.τ).loc Cert.S5InSampleIdeal.main_v2_0) = v0 c
          ∧ r.2.mem ((c.tc : Thread Cert.S5InSampleIdeal.nD Cert.S5InSampleIdeal.τ).loc Cert.S5InSampleIdeal.main_v2_1) = v1 c
          ∧ r.2.mem ((c.tc : Thread Cert.S5InSampleIdeal.nD Cert.S5InSampleIdeal.τ).loc Cert.S5InSampleIdeal.main_arg0) = m ((c.tc : Thread Cert.S5InSampleIdeal.nD Cert.S5InSampleIdeal.τ).loc Cert.S5InSampleIdeal.main_arg0)
          ∧ r.2.mem ((c.tc : Thread Cert.S5InSampleIdeal.nD Cert.S5InSampleIdeal.τ).loc Cert.S5InSampleIdeal.main_arg1) = m ((c.tc : Thread Cert.S5InSampleIdeal.nD Cert.S5InSampleIdeal.τ).loc Cert.S5InSampleIdeal.main_arg1))
      ∧ θ_run (Cert.S5InSampleRefIdeal.defs (F := Ideal)) (onTc (τ := Cert.S5InSampleRefIdeal.τ) (Cert.S5InSampleRefIdeal.main (F := Ideal))) ⟨m', fun _ => 0, g'⟩ (fun r => ∀ c : Dev Cert.S5InSampleRefIdeal.nD,
          r.2.mem ((c.tc : Thread Cert.S5InSampleRefIdeal.nD Cert.S5InSampleRefIdeal.τ).loc Cert.S5InSampleRefIdeal.main_v2) = v0 c
          ∧ r.2.mem ((c.tc : Thread Cert.S5InSampleRefIdeal.nD Cert.S5InSampleRefIdeal.τ).loc Cert.S5InSampleRefIdeal.main_v3) = v1 c
          ∧ r.2.mem ((c.tc : Thread Cert.S5InSampleRefIdeal.nD Cert.S5InSampleRefIdeal.τ).loc Cert.S5InSampleRefIdeal.main_arg0) = m' ((c.tc : Thread Cert.S5InSampleRefIdeal.nD Cert.S5InSampleRefIdeal.τ).loc Cert.S5InSampleRefIdeal.main_arg0)
          ∧ r.2.mem ((c.tc : Thread Cert.S5InSampleRefIdeal.nD Cert.S5InSampleRefIdeal.τ).loc Cert.S5InSampleRefIdeal.main_arg1) = m' ((c.tc : Thread Cert.S5InSampleRefIdeal.nD Cert.S5InSampleRefIdeal.τ).loc Cert.S5InSampleRefIdeal.main_arg1))

def preserves_S5Steps_S5StepsIdeal : Prop :=
  True

def algebraic_S5StepsIdeal_S5StepsRefIdeal [hS5StepsIdeal : Cert.S5StepsIdeal.Facts] [hS5StepsRefIdeal : Cert.S5StepsRefIdeal.Facts] : Prop :=
  ∀ (m : (ℓ : Loc Cert.S5StepsIdeal.nD Cert.S5StepsIdeal.τ Cert.S5StepsIdeal.sig) → Buf (Elt Ideal) ℓ) (g : Dev Cert.S5StepsIdeal.nD → PrngReg)
    (m' : (ℓ : Loc Cert.S5StepsRefIdeal.nD Cert.S5StepsRefIdeal.τ Cert.S5StepsRefIdeal.sig) → Buf (Elt Ideal) ℓ) (g' : Dev Cert.S5StepsRefIdeal.nD → PrngReg), Pre_S5StepsIdeal m →
    (∀ c : Dev Cert.S5StepsIdeal.nD,
      m' ((c.tc : Thread Cert.S5StepsRefIdeal.nD Cert.S5StepsRefIdeal.τ).loc Cert.S5StepsRefIdeal.main_arg0) = m ((c.tc : Thread Cert.S5StepsIdeal.nD Cert.S5StepsIdeal.τ).loc Cert.S5StepsIdeal.main_arg0)
      ∧ m' ((c.tc : Thread Cert.S5StepsRefIdeal.nD Cert.S5StepsRefIdeal.τ).loc Cert.S5StepsRefIdeal.main_arg1) = m ((c.tc : Thread Cert.S5StepsIdeal.nD Cert.S5StepsIdeal.τ).loc Cert.S5StepsIdeal.main_arg1)
      ∧ m' ((c.tc : Thread Cert.S5StepsRefIdeal.nD Cert.S5StepsRefIdeal.τ).loc Cert.S5StepsRefIdeal.main_arg2) = m ((c.tc : Thread Cert.S5StepsIdeal.nD Cert.S5StepsIdeal.τ).loc Cert.S5StepsIdeal.main_arg2)
      ∧ m' ((c.tc : Thread Cert.S5StepsRefIdeal.nD Cert.S5StepsRefIdeal.τ).loc Cert.S5StepsRefIdeal.main_arg3) = m ((c.tc : Thread Cert.S5StepsIdeal.nD Cert.S5StepsIdeal.τ).loc Cert.S5StepsIdeal.main_arg3)
      ∧ m' ((c.tc : Thread Cert.S5StepsRefIdeal.nD Cert.S5StepsRefIdeal.τ).loc Cert.S5StepsRefIdeal.main_arg4) = m ((c.tc : Thread Cert.S5StepsIdeal.nD Cert.S5StepsIdeal.τ).loc Cert.S5StepsIdeal.main_arg4)
      ∧ m' ((c.tc : Thread Cert.S5StepsRefIdeal.nD Cert.S5StepsRefIdeal.τ).loc Cert.S5StepsRefIdeal.main_arg5) = m ((c.tc : Thread Cert.S5StepsIdeal.nD Cert.S5StepsIdeal.τ).loc Cert.S5StepsIdeal.main_arg5)
      ∧ m' ((c.tc : Thread Cert.S5StepsRefIdeal.nD Cert.S5StepsRefIdeal.τ).loc Cert.S5StepsRefIdeal.main_arg6) = m ((c.tc : Thread Cert.S5StepsIdeal.nD Cert.S5StepsIdeal.τ).loc Cert.S5StepsIdeal.main_arg6)
      ∧ m' ((c.tc : Thread Cert.S5StepsRefIdeal.nD Cert.S5StepsRefIdeal.τ).loc Cert.S5StepsRefIdeal.main_arg7) = m ((c.tc : Thread Cert.S5StepsIdeal.nD Cert.S5StepsIdeal.τ).loc Cert.S5StepsIdeal.main_arg7)
      ∧ m' ((c.tc : Thread Cert.S5StepsRefIdeal.nD Cert.S5StepsRefIdeal.τ).loc Cert.S5StepsRefIdeal.main_arg8) = m ((c.tc : Thread Cert.S5StepsIdeal.nD Cert.S5StepsIdeal.τ).loc Cert.S5StepsIdeal.main_arg8)
      ∧ m' ((c.tc : Thread Cert.S5StepsRefIdeal.nD Cert.S5StepsRefIdeal.τ).loc Cert.S5StepsRefIdeal.main_arg9) = m ((c.tc : Thread Cert.S5StepsIdeal.nD Cert.S5StepsIdeal.τ).loc Cert.S5StepsIdeal.main_arg9)) →
    ∃ (v0 : (c : Dev Cert.S5StepsIdeal.nD) → Buf (Elt Ideal) ((c.tc : Thread Cert.S5StepsIdeal.nD Cert.S5StepsIdeal.τ).loc Cert.S5StepsIdeal.main_v60_0)) (v1 : (c : Dev Cert.S5StepsIdeal.nD) → Buf (Elt Ideal) ((c.tc : Thread Cert.S5StepsIdeal.nD Cert.S5StepsIdeal.τ).loc Cert.S5StepsIdeal.main_v60_1)),
      θ_run (Cert.S5StepsIdeal.defs (F := Ideal)) (onTc (τ := Cert.S5StepsIdeal.τ) (Cert.S5StepsIdeal.main (F := Ideal))) ⟨m, fun _ => 0, g⟩ (fun r => ∀ c : Dev Cert.S5StepsIdeal.nD,
          r.2.mem ((c.tc : Thread Cert.S5StepsIdeal.nD Cert.S5StepsIdeal.τ).loc Cert.S5StepsIdeal.main_v60_0) = v0 c
          ∧ r.2.mem ((c.tc : Thread Cert.S5StepsIdeal.nD Cert.S5StepsIdeal.τ).loc Cert.S5StepsIdeal.main_v60_1) = v1 c
          ∧ r.2.mem ((c.tc : Thread Cert.S5StepsIdeal.nD Cert.S5StepsIdeal.τ).loc Cert.S5StepsIdeal.main_arg0) = m ((c.tc : Thread Cert.S5StepsIdeal.nD Cert.S5StepsIdeal.τ).loc Cert.S5StepsIdeal.main_arg0)
          ∧ r.2.mem ((c.tc : Thread Cert.S5StepsIdeal.nD Cert.S5StepsIdeal.τ).loc Cert.S5StepsIdeal.main_arg1) = m ((c.tc : Thread Cert.S5StepsIdeal.nD Cert.S5StepsIdeal.τ).loc Cert.S5StepsIdeal.main_arg1)
          ∧ r.2.mem ((c.tc : Thread Cert.S5StepsIdeal.nD Cert.S5StepsIdeal.τ).loc Cert.S5StepsIdeal.main_arg2) = m ((c.tc : Thread Cert.S5StepsIdeal.nD Cert.S5StepsIdeal.τ).loc Cert.S5StepsIdeal.main_arg2)
          ∧ r.2.mem ((c.tc : Thread Cert.S5StepsIdeal.nD Cert.S5StepsIdeal.τ).loc Cert.S5StepsIdeal.main_arg3) = m ((c.tc : Thread Cert.S5StepsIdeal.nD Cert.S5StepsIdeal.τ).loc Cert.S5StepsIdeal.main_arg3)
          ∧ r.2.mem ((c.tc : Thread Cert.S5StepsIdeal.nD Cert.S5StepsIdeal.τ).loc Cert.S5StepsIdeal.main_arg4) = m ((c.tc : Thread Cert.S5StepsIdeal.nD Cert.S5StepsIdeal.τ).loc Cert.S5StepsIdeal.main_arg4)
          ∧ r.2.mem ((c.tc : Thread Cert.S5StepsIdeal.nD Cert.S5StepsIdeal.τ).loc Cert.S5StepsIdeal.main_arg5) = m ((c.tc : Thread Cert.S5StepsIdeal.nD Cert.S5StepsIdeal.τ).loc Cert.S5StepsIdeal.main_arg5)
          ∧ r.2.mem ((c.tc : Thread Cert.S5StepsIdeal.nD Cert.S5StepsIdeal.τ).loc Cert.S5StepsIdeal.main_arg6) = m ((c.tc : Thread Cert.S5StepsIdeal.nD Cert.S5StepsIdeal.τ).loc Cert.S5StepsIdeal.main_arg6)
          ∧ r.2.mem ((c.tc : Thread Cert.S5StepsIdeal.nD Cert.S5StepsIdeal.τ).loc Cert.S5StepsIdeal.main_arg7) = m ((c.tc : Thread Cert.S5StepsIdeal.nD Cert.S5StepsIdeal.τ).loc Cert.S5StepsIdeal.main_arg7)
          ∧ r.2.mem ((c.tc : Thread Cert.S5StepsIdeal.nD Cert.S5StepsIdeal.τ).loc Cert.S5StepsIdeal.main_arg8) = m ((c.tc : Thread Cert.S5StepsIdeal.nD Cert.S5StepsIdeal.τ).loc Cert.S5StepsIdeal.main_arg8)
          ∧ r.2.mem ((c.tc : Thread Cert.S5StepsIdeal.nD Cert.S5StepsIdeal.τ).loc Cert.S5StepsIdeal.main_arg9) = m ((c.tc : Thread Cert.S5StepsIdeal.nD Cert.S5StepsIdeal.τ).loc Cert.S5StepsIdeal.main_arg9))
      ∧ θ_run (Cert.S5StepsRefIdeal.defs (F := Ideal)) (onTc (τ := Cert.S5StepsRefIdeal.τ) (Cert.S5StepsRefIdeal.main (F := Ideal))) ⟨m', fun _ => 0, g'⟩ (fun r => ∀ c : Dev Cert.S5StepsRefIdeal.nD,
          r.2.mem ((c.tc : Thread Cert.S5StepsRefIdeal.nD Cert.S5StepsRefIdeal.τ).loc Cert.S5StepsRefIdeal.main_v181) = v0 c
          ∧ r.2.mem ((c.tc : Thread Cert.S5StepsRefIdeal.nD Cert.S5StepsRefIdeal.τ).loc Cert.S5StepsRefIdeal.main_v186) = v1 c
          ∧ r.2.mem ((c.tc : Thread Cert.S5StepsRefIdeal.nD Cert.S5StepsRefIdeal.τ).loc Cert.S5StepsRefIdeal.main_arg0) = m' ((c.tc : Thread Cert.S5StepsRefIdeal.nD Cert.S5StepsRefIdeal.τ).loc Cert.S5StepsRefIdeal.main_arg0)
          ∧ r.2.mem ((c.tc : Thread Cert.S5StepsRefIdeal.nD Cert.S5StepsRefIdeal.τ).loc Cert.S5StepsRefIdeal.main_arg1) = m' ((c.tc : Thread Cert.S5StepsRefIdeal.nD Cert.S5StepsRefIdeal.τ).loc Cert.S5StepsRefIdeal.main_arg1)
          ∧ r.2.mem ((c.tc : Thread Cert.S5StepsRefIdeal.nD Cert.S5StepsRefIdeal.τ).loc Cert.S5StepsRefIdeal.main_arg2) = m' ((c.tc : Thread Cert.S5StepsRefIdeal.nD Cert.S5StepsRefIdeal.τ).loc Cert.S5StepsRefIdeal.main_arg2)
          ∧ r.2.mem ((c.tc : Thread Cert.S5StepsRefIdeal.nD Cert.S5StepsRefIdeal.τ).loc Cert.S5StepsRefIdeal.main_arg3) = m' ((c.tc : Thread Cert.S5StepsRefIdeal.nD Cert.S5StepsRefIdeal.τ).loc Cert.S5StepsRefIdeal.main_arg3)
          ∧ r.2.mem ((c.tc : Thread Cert.S5StepsRefIdeal.nD Cert.S5StepsRefIdeal.τ).loc Cert.S5StepsRefIdeal.main_arg4) = m' ((c.tc : Thread Cert.S5StepsRefIdeal.nD Cert.S5StepsRefIdeal.τ).loc Cert.S5StepsRefIdeal.main_arg4)
          ∧ r.2.mem ((c.tc : Thread Cert.S5StepsRefIdeal.nD Cert.S5StepsRefIdeal.τ).loc Cert.S5StepsRefIdeal.main_arg5) = m' ((c.tc : Thread Cert.S5StepsRefIdeal.nD Cert.S5StepsRefIdeal.τ).loc Cert.S5StepsRefIdeal.main_arg5)
          ∧ r.2.mem ((c.tc : Thread Cert.S5StepsRefIdeal.nD Cert.S5StepsRefIdeal.τ).loc Cert.S5StepsRefIdeal.main_arg6) = m' ((c.tc : Thread Cert.S5StepsRefIdeal.nD Cert.S5StepsRefIdeal.τ).loc Cert.S5StepsRefIdeal.main_arg6)
          ∧ r.2.mem ((c.tc : Thread Cert.S5StepsRefIdeal.nD Cert.S5StepsRefIdeal.τ).loc Cert.S5StepsRefIdeal.main_arg7) = m' ((c.tc : Thread Cert.S5StepsRefIdeal.nD Cert.S5StepsRefIdeal.τ).loc Cert.S5StepsRefIdeal.main_arg7)
          ∧ r.2.mem ((c.tc : Thread Cert.S5StepsRefIdeal.nD Cert.S5StepsRefIdeal.τ).loc Cert.S5StepsRefIdeal.main_arg8) = m' ((c.tc : Thread Cert.S5StepsRefIdeal.nD Cert.S5StepsRefIdeal.τ).loc Cert.S5StepsRefIdeal.main_arg8)
          ∧ r.2.mem ((c.tc : Thread Cert.S5StepsRefIdeal.nD Cert.S5StepsRefIdeal.τ).loc Cert.S5StepsRefIdeal.main_arg9) = m' ((c.tc : Thread Cert.S5StepsRefIdeal.nD Cert.S5StepsRefIdeal.τ).loc Cert.S5StepsRefIdeal.main_arg9))

def preserves_S5OutSample_S5OutSampleIdeal : Prop :=
  IdealRules.named_const.Statement Cert.S5OutSampleIdeal.κ "alpha" .f32 0x3FB504F3#32 ((Real.sqrt 2 : ℝ) : EReal)

def algebraic_S5OutSampleIdeal_S5OutSampleRefIdeal [hS5OutSampleIdeal : Cert.S5OutSampleIdeal.Facts] [hS5OutSampleRefIdeal : Cert.S5OutSampleRefIdeal.Facts] : Prop :=
  ∀ (m : (ℓ : Loc Cert.S5OutSampleIdeal.nD Cert.S5OutSampleIdeal.τ Cert.S5OutSampleIdeal.sig) → Buf (Elt Ideal) ℓ) (g : Dev Cert.S5OutSampleIdeal.nD → PrngReg)
    (m' : (ℓ : Loc Cert.S5OutSampleRefIdeal.nD Cert.S5OutSampleRefIdeal.τ Cert.S5OutSampleRefIdeal.sig) → Buf (Elt Ideal) ℓ) (g' : Dev Cert.S5OutSampleRefIdeal.nD → PrngReg), Pre_S5OutSampleIdeal m →
    (∀ c : Dev Cert.S5OutSampleIdeal.nD,
      m' ((c.tc : Thread Cert.S5OutSampleRefIdeal.nD Cert.S5OutSampleRefIdeal.τ).loc Cert.S5OutSampleRefIdeal.main_arg0) = m ((c.tc : Thread Cert.S5OutSampleIdeal.nD Cert.S5OutSampleIdeal.τ).loc Cert.S5OutSampleIdeal.main_arg0)
      ∧ m' ((c.tc : Thread Cert.S5OutSampleRefIdeal.nD Cert.S5OutSampleRefIdeal.τ).loc Cert.S5OutSampleRefIdeal.main_arg1) = m ((c.tc : Thread Cert.S5OutSampleIdeal.nD Cert.S5OutSampleIdeal.τ).loc Cert.S5OutSampleIdeal.main_arg1)
      ∧ m' ((c.tc : Thread Cert.S5OutSampleRefIdeal.nD Cert.S5OutSampleRefIdeal.τ).loc Cert.S5OutSampleRefIdeal.main_arg2) = m ((c.tc : Thread Cert.S5OutSampleIdeal.nD Cert.S5OutSampleIdeal.τ).loc Cert.S5OutSampleIdeal.main_arg2)
      ∧ m' ((c.tc : Thread Cert.S5OutSampleRefIdeal.nD Cert.S5OutSampleRefIdeal.τ).loc Cert.S5OutSampleRefIdeal.main_arg3) = m ((c.tc : Thread Cert.S5OutSampleIdeal.nD Cert.S5OutSampleIdeal.τ).loc Cert.S5OutSampleIdeal.main_arg3)
      ∧ m' ((c.tc : Thread Cert.S5OutSampleRefIdeal.nD Cert.S5OutSampleRefIdeal.τ).loc Cert.S5OutSampleRefIdeal.main_arg4) = m ((c.tc : Thread Cert.S5OutSampleIdeal.nD Cert.S5OutSampleIdeal.τ).loc Cert.S5OutSampleIdeal.main_arg4)
      ∧ m' ((c.tc : Thread Cert.S5OutSampleRefIdeal.nD Cert.S5OutSampleRefIdeal.τ).loc Cert.S5OutSampleRefIdeal.main_arg5) = m ((c.tc : Thread Cert.S5OutSampleIdeal.nD Cert.S5OutSampleIdeal.τ).loc Cert.S5OutSampleIdeal.main_arg5)
      ∧ m' ((c.tc : Thread Cert.S5OutSampleRefIdeal.nD Cert.S5OutSampleRefIdeal.τ).loc Cert.S5OutSampleRefIdeal.main_arg6) = m ((c.tc : Thread Cert.S5OutSampleIdeal.nD Cert.S5OutSampleIdeal.τ).loc Cert.S5OutSampleIdeal.main_arg6)
      ∧ m' ((c.tc : Thread Cert.S5OutSampleRefIdeal.nD Cert.S5OutSampleRefIdeal.τ).loc Cert.S5OutSampleRefIdeal.main_arg7) = m ((c.tc : Thread Cert.S5OutSampleIdeal.nD Cert.S5OutSampleIdeal.τ).loc Cert.S5OutSampleIdeal.main_arg7)) →
    ∃ (v0 : (c : Dev Cert.S5OutSampleIdeal.nD) → Buf (Elt Ideal) ((c.tc : Thread Cert.S5OutSampleIdeal.nD Cert.S5OutSampleIdeal.τ).loc Cert.S5OutSampleIdeal.main_v12)),
      θ_run (Cert.S5OutSampleIdeal.defs (F := Ideal)) (onTc (τ := Cert.S5OutSampleIdeal.τ) (Cert.S5OutSampleIdeal.main (F := Ideal))) ⟨m, fun _ => 0, g⟩ (fun r => ∀ c : Dev Cert.S5OutSampleIdeal.nD,
          r.2.mem ((c.tc : Thread Cert.S5OutSampleIdeal.nD Cert.S5OutSampleIdeal.τ).loc Cert.S5OutSampleIdeal.main_v12) = v0 c
          ∧ r.2.mem ((c.tc : Thread Cert.S5OutSampleIdeal.nD Cert.S5OutSampleIdeal.τ).loc Cert.S5OutSampleIdeal.main_arg0) = m ((c.tc : Thread Cert.S5OutSampleIdeal.nD Cert.S5OutSampleIdeal.τ).loc Cert.S5OutSampleIdeal.main_arg0)
          ∧ r.2.mem ((c.tc : Thread Cert.S5OutSampleIdeal.nD Cert.S5OutSampleIdeal.τ).loc Cert.S5OutSampleIdeal.main_arg1) = m ((c.tc : Thread Cert.S5OutSampleIdeal.nD Cert.S5OutSampleIdeal.τ).loc Cert.S5OutSampleIdeal.main_arg1)
          ∧ r.2.mem ((c.tc : Thread Cert.S5OutSampleIdeal.nD Cert.S5OutSampleIdeal.τ).loc Cert.S5OutSampleIdeal.main_arg2) = m ((c.tc : Thread Cert.S5OutSampleIdeal.nD Cert.S5OutSampleIdeal.τ).loc Cert.S5OutSampleIdeal.main_arg2)
          ∧ r.2.mem ((c.tc : Thread Cert.S5OutSampleIdeal.nD Cert.S5OutSampleIdeal.τ).loc Cert.S5OutSampleIdeal.main_arg3) = m ((c.tc : Thread Cert.S5OutSampleIdeal.nD Cert.S5OutSampleIdeal.τ).loc Cert.S5OutSampleIdeal.main_arg3)
          ∧ r.2.mem ((c.tc : Thread Cert.S5OutSampleIdeal.nD Cert.S5OutSampleIdeal.τ).loc Cert.S5OutSampleIdeal.main_arg4) = m ((c.tc : Thread Cert.S5OutSampleIdeal.nD Cert.S5OutSampleIdeal.τ).loc Cert.S5OutSampleIdeal.main_arg4)
          ∧ r.2.mem ((c.tc : Thread Cert.S5OutSampleIdeal.nD Cert.S5OutSampleIdeal.τ).loc Cert.S5OutSampleIdeal.main_arg5) = m ((c.tc : Thread Cert.S5OutSampleIdeal.nD Cert.S5OutSampleIdeal.τ).loc Cert.S5OutSampleIdeal.main_arg5)
          ∧ r.2.mem ((c.tc : Thread Cert.S5OutSampleIdeal.nD Cert.S5OutSampleIdeal.τ).loc Cert.S5OutSampleIdeal.main_arg6) = m ((c.tc : Thread Cert.S5OutSampleIdeal.nD Cert.S5OutSampleIdeal.τ).loc Cert.S5OutSampleIdeal.main_arg6)
          ∧ r.2.mem ((c.tc : Thread Cert.S5OutSampleIdeal.nD Cert.S5OutSampleIdeal.τ).loc Cert.S5OutSampleIdeal.main_arg7) = m ((c.tc : Thread Cert.S5OutSampleIdeal.nD Cert.S5OutSampleIdeal.τ).loc Cert.S5OutSampleIdeal.main_arg7))
      ∧ θ_run (Cert.S5OutSampleRefIdeal.defs (F := Ideal)) (onTc (τ := Cert.S5OutSampleRefIdeal.τ) (Cert.S5OutSampleRefIdeal.main (F := Ideal))) ⟨m', fun _ => 0, g'⟩ (fun r => ∀ c : Dev Cert.S5OutSampleRefIdeal.nD,
          r.2.mem ((c.tc : Thread Cert.S5OutSampleRefIdeal.nD Cert.S5OutSampleRefIdeal.τ).loc Cert.S5OutSampleRefIdeal.main_v62) = v0 c
          ∧ r.2.mem ((c.tc : Thread Cert.S5OutSampleRefIdeal.nD Cert.S5OutSampleRefIdeal.τ).loc Cert.S5OutSampleRefIdeal.main_arg0) = m' ((c.tc : Thread Cert.S5OutSampleRefIdeal.nD Cert.S5OutSampleRefIdeal.τ).loc Cert.S5OutSampleRefIdeal.main_arg0)
          ∧ r.2.mem ((c.tc : Thread Cert.S5OutSampleRefIdeal.nD Cert.S5OutSampleRefIdeal.τ).loc Cert.S5OutSampleRefIdeal.main_arg1) = m' ((c.tc : Thread Cert.S5OutSampleRefIdeal.nD Cert.S5OutSampleRefIdeal.τ).loc Cert.S5OutSampleRefIdeal.main_arg1)
          ∧ r.2.mem ((c.tc : Thread Cert.S5OutSampleRefIdeal.nD Cert.S5OutSampleRefIdeal.τ).loc Cert.S5OutSampleRefIdeal.main_arg2) = m' ((c.tc : Thread Cert.S5OutSampleRefIdeal.nD Cert.S5OutSampleRefIdeal.τ).loc Cert.S5OutSampleRefIdeal.main_arg2)
          ∧ r.2.mem ((c.tc : Thread Cert.S5OutSampleRefIdeal.nD Cert.S5OutSampleRefIdeal.τ).loc Cert.S5OutSampleRefIdeal.main_arg3) = m' ((c.tc : Thread Cert.S5OutSampleRefIdeal.nD Cert.S5OutSampleRefIdeal.τ).loc Cert.S5OutSampleRefIdeal.main_arg3)
          ∧ r.2.mem ((c.tc : Thread Cert.S5OutSampleRefIdeal.nD Cert.S5OutSampleRefIdeal.τ).loc Cert.S5OutSampleRefIdeal.main_arg4) = m' ((c.tc : Thread Cert.S5OutSampleRefIdeal.nD Cert.S5OutSampleRefIdeal.τ).loc Cert.S5OutSampleRefIdeal.main_arg4)
          ∧ r.2.mem ((c.tc : Thread Cert.S5OutSampleRefIdeal.nD Cert.S5OutSampleRefIdeal.τ).loc Cert.S5OutSampleRefIdeal.main_arg5) = m' ((c.tc : Thread Cert.S5OutSampleRefIdeal.nD Cert.S5OutSampleRefIdeal.τ).loc Cert.S5OutSampleRefIdeal.main_arg5)
          ∧ r.2.mem ((c.tc : Thread Cert.S5OutSampleRefIdeal.nD Cert.S5OutSampleRefIdeal.τ).loc Cert.S5OutSampleRefIdeal.main_arg6) = m' ((c.tc : Thread Cert.S5OutSampleRefIdeal.nD Cert.S5OutSampleRefIdeal.τ).loc Cert.S5OutSampleRefIdeal.main_arg6)
          ∧ r.2.mem ((c.tc : Thread Cert.S5OutSampleRefIdeal.nD Cert.S5OutSampleRefIdeal.τ).loc Cert.S5OutSampleRefIdeal.main_arg7) = m' ((c.tc : Thread Cert.S5OutSampleRefIdeal.nD Cert.S5OutSampleRefIdeal.τ).loc Cert.S5OutSampleRefIdeal.main_arg7))

def preserves_Sums_SumsIdeal : Prop :=
  True

def algebraic_SumsIdeal_SumsRefIdeal_pre_finite_sums [hSumsIdeal : Cert.SumsIdeal.Facts] [hSumsRefIdeal : Cert.SumsRefIdeal.Facts] [hPre_finite_sums : Cert.Pre_finite_sums.Facts] : Prop :=
  ∀ (m : (ℓ : Loc Cert.SumsIdeal.nD Cert.SumsIdeal.τ Cert.SumsIdeal.sig) → Buf (Elt Ideal) ℓ) (g : Dev Cert.SumsIdeal.nD → PrngReg)
    (m' : (ℓ : Loc Cert.SumsRefIdeal.nD Cert.SumsRefIdeal.τ Cert.SumsRefIdeal.sig) → Buf (Elt Ideal) ℓ) (g' : Dev Cert.SumsRefIdeal.nD → PrngReg), Pre_SumsIdeal_finite_sums m →
    (∀ c : Dev Cert.SumsIdeal.nD,
      m' ((c.tc : Thread Cert.SumsRefIdeal.nD Cert.SumsRefIdeal.τ).loc Cert.SumsRefIdeal.main_arg0) = m ((c.tc : Thread Cert.SumsIdeal.nD Cert.SumsIdeal.τ).loc Cert.SumsIdeal.main_arg0)) →
    ∃ (v0 : (c : Dev Cert.SumsIdeal.nD) → Buf (Elt Ideal) ((c.tc : Thread Cert.SumsIdeal.nD Cert.SumsIdeal.τ).loc Cert.SumsIdeal.main_v0)),
      θ_run (Cert.SumsIdeal.defs (F := Ideal)) (onTc (τ := Cert.SumsIdeal.τ) (Cert.SumsIdeal.main (F := Ideal))) ⟨m, fun _ => 0, g⟩ (fun r => ∀ c : Dev Cert.SumsIdeal.nD,
          r.2.mem ((c.tc : Thread Cert.SumsIdeal.nD Cert.SumsIdeal.τ).loc Cert.SumsIdeal.main_v0) = v0 c
          ∧ r.2.mem ((c.tc : Thread Cert.SumsIdeal.nD Cert.SumsIdeal.τ).loc Cert.SumsIdeal.main_arg0) = m ((c.tc : Thread Cert.SumsIdeal.nD Cert.SumsIdeal.τ).loc Cert.SumsIdeal.main_arg0))
      ∧ θ_run (Cert.SumsRefIdeal.defs (F := Ideal)) (onTc (τ := Cert.SumsRefIdeal.τ) (Cert.SumsRefIdeal.main (F := Ideal))) ⟨m', fun _ => 0, g'⟩ (fun r => ∀ c : Dev Cert.SumsRefIdeal.nD,
          r.2.mem ((c.tc : Thread Cert.SumsRefIdeal.nD Cert.SumsRefIdeal.τ).loc Cert.SumsRefIdeal.main_v1) = v0 c
          ∧ r.2.mem ((c.tc : Thread Cert.SumsRefIdeal.nD Cert.SumsRefIdeal.τ).loc Cert.SumsRefIdeal.main_arg0) = m' ((c.tc : Thread Cert.SumsRefIdeal.nD Cert.SumsRefIdeal.τ).loc Cert.SumsRefIdeal.main_arg0))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjRefIdeal : Cert.InProjRefIdeal.Facts) (hInProjSample : Cert.InProjSample.Facts) (hInProjSampleIdeal : Cert.InProjSampleIdeal.Facts) (hInProjSampleRefIdeal : Cert.InProjSampleRefIdeal.Facts) (hAttnOut : Cert.AttnOut.Facts) (hAttnOutIdeal : Cert.AttnOutIdeal.Facts) (hAttnOutRefIdeal : Cert.AttnOutRefIdeal.Facts) (hS5In : Cert.S5In.Facts) (hS5InIdeal : Cert.S5InIdeal.Facts) (hS5InRefIdeal : Cert.S5InRefIdeal.Facts) (hS5Out : Cert.S5Out.Facts) (hS5OutIdeal : Cert.S5OutIdeal.Facts) (hS5OutRefIdeal : Cert.S5OutRefIdeal.Facts) (hAttnOutSample : Cert.AttnOutSample.Facts) (hAttnOutSampleIdeal : Cert.AttnOutSampleIdeal.Facts) (hAttnOutSampleRefIdeal : Cert.AttnOutSampleRefIdeal.Facts) (hS5InSample : Cert.S5InSample.Facts) (hS5InSampleIdeal : Cert.S5InSampleIdeal.Facts) (hS5InSampleRefIdeal : Cert.S5InSampleRefIdeal.Facts) (hS5Steps : Cert.S5Steps.Facts) (hS5StepsIdeal : Cert.S5StepsIdeal.Facts) (hS5StepsRefIdeal : Cert.S5StepsRefIdeal.Facts) (hS5OutSample : Cert.S5OutSample.Facts) (hS5OutSampleIdeal : Cert.S5OutSampleIdeal.Facts) (hS5OutSampleRefIdeal : Cert.S5OutSampleRefIdeal.Facts) (hSums : Cert.Sums.Facts) (hSumsIdeal : Cert.SumsIdeal.Facts) (hSumsRefIdeal : Cert.SumsRefIdeal.Facts) (hPre_finite : Cert.Pre_finite.Facts) (hPre_finite_sums : Cert.Pre_finite_sums.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InProj (hInProj := hInProj)
    ∧ quiescent_InProjIdeal (hInProjIdeal := hInProjIdeal)
    ∧ quiescent_InProjRefIdeal (hInProjRefIdeal := hInProjRefIdeal)
    ∧ quiescent_InProjSample (hInProjSample := hInProjSample)
    ∧ quiescent_InProjSampleIdeal (hInProjSampleIdeal := hInProjSampleIdeal)
    ∧ quiescent_InProjSampleRefIdeal (hInProjSampleRefIdeal := hInProjSampleRefIdeal)
    ∧ quiescent_AttnOut (hAttnOut := hAttnOut)
    ∧ quiescent_AttnOutIdeal (hAttnOutIdeal := hAttnOutIdeal)
    ∧ quiescent_AttnOutRefIdeal (hAttnOutRefIdeal := hAttnOutRefIdeal)
    ∧ quiescent_S5In (hS5In := hS5In)
    ∧ quiescent_S5InIdeal (hS5InIdeal := hS5InIdeal)
    ∧ quiescent_S5InRefIdeal (hS5InRefIdeal := hS5InRefIdeal)
    ∧ quiescent_S5Out (hS5Out := hS5Out)
    ∧ quiescent_S5OutIdeal (hS5OutIdeal := hS5OutIdeal)
    ∧ quiescent_S5OutRefIdeal (hS5OutRefIdeal := hS5OutRefIdeal)
    ∧ quiescent_AttnOutSample (hAttnOutSample := hAttnOutSample)
    ∧ quiescent_AttnOutSampleIdeal (hAttnOutSampleIdeal := hAttnOutSampleIdeal)
    ∧ quiescent_AttnOutSampleRefIdeal (hAttnOutSampleRefIdeal := hAttnOutSampleRefIdeal)
    ∧ quiescent_S5InSample (hS5InSample := hS5InSample)
    ∧ quiescent_S5InSampleIdeal (hS5InSampleIdeal := hS5InSampleIdeal)
    ∧ quiescent_S5InSampleRefIdeal (hS5InSampleRefIdeal := hS5InSampleRefIdeal)
    ∧ quiescent_S5Steps (hS5Steps := hS5Steps)
    ∧ quiescent_S5StepsIdeal (hS5StepsIdeal := hS5StepsIdeal)
    ∧ quiescent_S5StepsRefIdeal (hS5StepsRefIdeal := hS5StepsRefIdeal)
    ∧ quiescent_S5OutSample (hS5OutSample := hS5OutSample)
    ∧ quiescent_S5OutSampleIdeal (hS5OutSampleIdeal := hS5OutSampleIdeal)
    ∧ quiescent_S5OutSampleRefIdeal (hS5OutSampleRefIdeal := hS5OutSampleRefIdeal)
    ∧ quiescent_Sums (hSums := hSums)
    ∧ quiescent_SumsIdeal (hSumsIdeal := hSumsIdeal)
    ∧ quiescent_SumsIdeal_pre_finite_sums (hSumsIdeal := hSumsIdeal) (hPre_finite_sums := hPre_finite_sums)
    ∧ quiescent_SumsRefIdeal (hSumsRefIdeal := hSumsRefIdeal)
    ∧ quiescent_SumsRefIdeal_pre_finite_sums (hSumsRefIdeal := hSumsRefIdeal) (hPre_finite_sums := hPre_finite_sums)
    ∧ preserves_Kernel_KernelIdeal
    ∧ algebraic_KernelIdeal_ReferenceIdeal_pre_finite (hKernelIdeal := hKernelIdeal) (hReferenceIdeal := hReferenceIdeal) (hPre_finite := hPre_finite)
    ∧ preserves_InProj_InProjIdeal
    ∧ algebraic_InProjIdeal_InProjRefIdeal (hInProjIdeal := hInProjIdeal) (hInProjRefIdeal := hInProjRefIdeal)
    ∧ preserves_InProjSample_InProjSampleIdeal
    ∧ algebraic_InProjSampleIdeal_InProjSampleRefIdeal (hInProjSampleIdeal := hInProjSampleIdeal) (hInProjSampleRefIdeal := hInProjSampleRefIdeal)
    ∧ preserves_AttnOut_AttnOutIdeal
    ∧ algebraic_AttnOutIdeal_AttnOutRefIdeal (hAttnOutIdeal := hAttnOutIdeal) (hAttnOutRefIdeal := hAttnOutRefIdeal)
    ∧ preserves_S5In_S5InIdeal
    ∧ algebraic_S5InIdeal_S5InRefIdeal (hS5InIdeal := hS5InIdeal) (hS5InRefIdeal := hS5InRefIdeal)
    ∧ preserves_S5Out_S5OutIdeal
    ∧ algebraic_S5OutIdeal_S5OutRefIdeal (hS5OutIdeal := hS5OutIdeal) (hS5OutRefIdeal := hS5OutRefIdeal)
    ∧ preserves_AttnOutSample_AttnOutSampleIdeal
    ∧ algebraic_AttnOutSampleIdeal_AttnOutSampleRefIdeal (hAttnOutSampleIdeal := hAttnOutSampleIdeal) (hAttnOutSampleRefIdeal := hAttnOutSampleRefIdeal)
    ∧ preserves_S5InSample_S5InSampleIdeal
    ∧ algebraic_S5InSampleIdeal_S5InSampleRefIdeal (hS5InSampleIdeal := hS5InSampleIdeal) (hS5InSampleRefIdeal := hS5InSampleRefIdeal)
    ∧ preserves_S5Steps_S5StepsIdeal
    ∧ algebraic_S5StepsIdeal_S5StepsRefIdeal (hS5StepsIdeal := hS5StepsIdeal) (hS5StepsRefIdeal := hS5StepsRefIdeal)
    ∧ preserves_S5OutSample_S5OutSampleIdeal
    ∧ algebraic_S5OutSampleIdeal_S5OutSampleRefIdeal (hS5OutSampleIdeal := hS5OutSampleIdeal) (hS5OutSampleRefIdeal := hS5OutSampleRefIdeal)
    ∧ preserves_Sums_SumsIdeal
    ∧ algebraic_SumsIdeal_SumsRefIdeal_pre_finite_sums (hSumsIdeal := hSumsIdeal) (hSumsRefIdeal := hSumsRefIdeal) (hPre_finite_sums := hPre_finite_sums)
-- ==== Pre_finite.lean ====
abbrev S16384x1024 : Shape := ⟨2, ![16384, 1024]⟩
abbrev S1024x16384 : Shape := ⟨2, ![1024, 16384]⟩
abbrev S16x16384 : Shape := ⟨2, ![16, 16384]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x16384 : S_.BroadcastsInDim S1024x16384 (![] : Fin 0 → Fin S1024x16384.rank)
  reducesTo_S1024x16384_S_d0_1 : S1024x16384.ReducesTo [0, 1] S_
  bcast_S_S16x16384 : S_.BroadcastsInDim S16x16384 (![] : Fin 0 → Fin S16x16384.rank)
  reducesTo_S16x16384_S_d0_1 : S16x16384.ReducesTo [0, 1] S_

variable [Facts]

def fn {F : FTy → Type} [FloatOps F] (main_arg0 : FVec F S16384x1024 .bf16) (main_arg1 : FVec F S1024x16384 .bf16) (main_arg2 : FVec F S16384x1024 .bf16) (main_arg3 : FVec F S16x16384 .f32) : IVec S_ 1 :=
  let main_v0 : FVec F S16384x1024 .f32 := (extf .f32 · bitsLt_bf16_f32) main_arg0
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_c : IVec S_ 1 := constantI S_ 1 1#1
  let main_v4 : IVec S_ 1 := (fun x v => Host.reduce IntOp.andi x v reducesTo_S16384x1024_S_d0_1 h_S_) main_v3 main_c
  let main_v5 : FVec F S1024x16384 .f32 := (extf .f32 · bitsLt_bf16_f32) main_arg1
  let main_v6 : FVec F S1024x16384 .f32 := Host.absf main_v5
  let main_cst_0 : FVec F S_ .f32 := constant S_ .f32 0x7F800000#32
  let main_v7 : FVec F S1024x16384 .f32 := broadcastInDim S1024x16384 ![] bcast_S_S1024x16384 main_cst_0
  let main_v8 : IVec S1024x16384 1 := cmpf .olt main_v6 main_v7
  let main_c_1 : IVec S_ 1 := constantI S_ 1 1#1
  let main_v9 : IVec S_ 1 := (fun x v => Host.reduce IntOp.andi x v reducesTo_S1024x16384_S_d0_1 h_S_) main_v8 main_c_1
  let main_v10 : IVec S_ 1 := andi main_v4 main_v9
  let main_v11 : FVec F S16x16384 .f32 := Host.absf main_arg3
  let main_cst_2 : FVec F S_ .f32 := constant S_ .f32 0x7F800000#32
  let main_v12 : FVec F S16x16384 .f32 := broadcastInDim S16x16384 ![] bcast_S_S16x16384 main_cst_2
  let main_v13 : IVec S16x16384 1 := cmpf .olt main_v11 main_v12
  let main_c_3 : IVec S_ 1 := constantI S_ 1 1#1
  let main_v14 : IVec S_ 1 := (fun x v => Host.reduce IntOp.andi x v reducesTo_S16x16384_S_d0_1 h_S_) main_v13 main_c_3
  let main_v15 : IVec S_ 1 := andi main_v10 main_v14
  main_v15
-- ==== Pre_finite_sums.lean ====
abbrev S16384x16 : Shape := ⟨2, ![16384, 16]⟩
abbrev S_ : Shape := ⟨0, ![]⟩

class Facts : Prop where
  bcast_S_S16384x16 : S_.BroadcastsInDim S16384x16 (![] : Fin 0 → Fin S16384x16.rank)
  reducesTo_S16384x16_S_d0_1 : S16384x16.ReducesTo [0, 1] S_
  h_S_ : 0 < S_.numel

variable [Facts]

def fn {F : FTy → Type} [FloatOps F] (main_arg0 : FVec F S16384x16 .f32) : IVec S_ 1 :=
  let main_v0 : FVec F S16384x16 .f32 := Host.absf main_arg0
  let main_cst : FVec F S_ .f32 := constant S_ .f32 0x7F800000#32
  let main_v1 : FVec F S16384x16 .f32 := broadcastInDim S16384x16 ![] bcast_S_S16384x16 main_cst
  let main_v2 : IVec S16384x16 1 := cmpf .olt main_v0 main_v1
  let main_c : IVec S_ 1 := constantI S_ 1 1#1
  let main_v3 : IVec S_ 1 := (fun x v => Host.reduce IntOp.andi x v reducesTo_S16384x16_S_d0_1 h_S_) main_v2 main_c
  main_v3
-- ==== Kernel.lean ====
abbrev S16384x1024 : Shape := ⟨2, ![16384, 1024]⟩
abbrev S1024x16384 : Shape := ⟨2, ![1024, 16384]⟩
abbrev S16x16384 : Shape := ⟨2, ![16, 16384]⟩
abbrev S512x128 : Shape := ⟨2, ![512, 128]⟩
abbrev S128x16384 : Shape := ⟨2, ![128, 16384]⟩
abbrev S16384x128 : Shape := ⟨2, ![16384, 128]⟩
abbrev S1x128 : Shape := ⟨2, ![1, 128]⟩
abbrev S1x512 : Shape := ⟨2, ![1, 512]⟩
abbrev S1x1 : Shape := ⟨2, ![1, 1]⟩
abbrev S512x512 : Shape := ⟨2, ![512, 512]⟩
abbrev S512x1 : Shape := ⟨2, ![512, 1]⟩
abbrev S128x512 : Shape := ⟨2, ![128, 512]⟩
abbrev S512 : Shape := ⟨1, ![512]⟩

abbrev nBuf : Space → Nat
  | .hbm => 5
  | .vmem => 9
  | .smem => 0
  | _ => 0

abbrev bufTy : (tb : Table) → Fin (tcTables nBuf tb) → BufTy
  | .hbm, ⟨0, _⟩ => ⟨S16384x1024, .bf16⟩
  | .hbm, ⟨1, _⟩ => ⟨S1024x16384, .bf16⟩
  | .hbm, ⟨2, _⟩ => ⟨S16384x1024, .bf16⟩
  | .hbm, ⟨3, _⟩ => ⟨S16x16384, .f32⟩
  | .hbm, ⟨4, _⟩ => ⟨S16384x1024, .f32⟩
  | .local _ .vmem, ⟨0, _⟩ => ⟨S512x128, .bf16⟩
  | .local _ .vmem, ⟨1, _⟩ => ⟨S512x128, .bf16⟩
  | .local _ .vmem, ⟨2, _⟩ => ⟨S128x16384, .bf16⟩
  | .local _ .vmem, ⟨3, _⟩ => ⟨S128x16384, .bf16⟩
  | .local _ .vmem, ⟨4, _⟩ => ⟨S16384x128, .bf16⟩
  | .local _ .vmem, ⟨5, _⟩ => ⟨S16384x128, .bf16⟩
  | .local _ .vmem, ⟨6, _⟩ => ⟨S16x16384, .f32⟩
  | .local _ .vmem, ⟨7, _⟩ => ⟨S512x128, .f32⟩
  | .local _ .vmem, ⟨8, _⟩ => ⟨S512x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 32], ![false, false]⟩

def k0_mult1 (i : grid0.Coords) : BitVec 32 :=
  let arg1 : BitVec 32 := BitVec.ofNat 32 (i 1).val
  let c512_i32 : BitVec 32 := 512#32
  let v23 : BitVec 32 := Scalar.muli arg1 c512_i32
  v23
def k0_off1 (i : grid0.Coords) (c0_i32_6 : BitVec 32) : Fin 2 → Nat :=
  let c2_i32 : BitVec 32 := 2#32
  let arg0 : BitVec 32 := BitVec.ofNat 32 (i 0).val
  let v25 : BitVec 32 := Scalar.muli c2_i32 arg0
  let v26 : BitVec 32 := Scalar.addi v25 c0_i32_6
  let v27 : Index := Scalar.indexCast v26
  let arg1 : BitVec 32 := BitVec.ofNat 32 (i 1).val
  let c512_i32 : BitVec 32 := 512#32
  let v23 : BitVec 32 := Scalar.muli arg1 c512_i32
  let v24 : BitVec 32 := v23
  let v28 : Index := Scalar.indexCast v24
  ![v27.toNat, v28.toNat]
@[reducible] def k0_t1_loop (i : grid0.Coords) : Scf.Loop 32 :=
  let c0_i32_12 : BitVec 32 := 0#32
  let arg1 : BitVec 32 := BitVec.ofNat 32 (i 1).val
  let v44 : BitVec 32 := Scalar.subi arg1 c0_i32_12
  let c1_i32_13 : BitVec 32 := 1#32
  let v46 : BitVec 32 := Scalar.divsi v44 c1_i32_13
  let v47 : BitVec 32 := Scalar.muli v46 c1_i32_13
  let v48 : BitVec 32 := Scalar.addi c0_i32_12 v47
  let c1_i32_14 : BitVec 32 := 1#32
  ⟨c0_i32_12, v48, c1_i32_14⟩
def k0_mult2 (i : grid0.Coords) (k0_t1 : Fin (k0_t1_loop i).trips) : BitVec 32 :=
  let c0_i32_12 : BitVec 32 := 0#32
  let c1_i32_14 : BitVec 32 := 1#32
  let arg7 : BitVec 32 := Scf.iv c0_i32_12 c1_i32_14 k0_t1
  let c512_i32_35 : BitVec 32 := 512#32
  let v131 : BitVec 32 := Scalar.muli arg7 c512_i32_35
  v131
def k0_off2 (i : grid0.Coords) (k0_t1 : Fin (k0_t1_loop i).trips) : Fin 2 → Nat :=
  let c0_36 : Index := 0#32
  let c0_i32_12 : BitVec 32 := 0#32
  let c1_i32_14 : BitVec 32 := 1#32
  let arg7 : BitVec 32 := Scf.iv c0_i32_12 c1_i32_14 k0_t1
  let c512_i32_35 : BitVec 32 := 512#32
  let v131 : BitVec 32 := Scalar.muli arg7 c512_i32_35
  let v132 : BitVec 32 := v131
  let v133 : Index := Scalar.indexCast v132
  ![0, v133.toNat]
def k0_off3 (i : grid0.Coords) (k0_t1 : Fin (k0_t1_loop i).trips) : Fin 2 → Nat :=
  let c0_i32_12 : BitVec 32 := 0#32
  let c1_i32_14 : BitVec 32 := 1#32
  let arg7 : BitVec 32 := Scf.iv c0_i32_12 c1_i32_14 k0_t1
  let c512_i32_35 : BitVec 32 := 512#32
  let v131 : BitVec 32 := Scalar.muli arg7 c512_i32_35
  let v132 : BitVec 32 := v131
  let v135 : Index := Scalar.indexCast v132
  let c0_37 : Index := 0#32
  ![v135.toNat, 0]
def k0_off4 (i : grid0.Coords) (k0_t1 : Fin (k0_t1_loop i).trips) (c0_i32_39 : BitVec 32) : Fin 2 → Nat :=
  let c2_i32_38 : BitVec 32 := 2#32
  let arg0 : BitVec 32 := BitVec.ofNat 32 (i 0).val
  let v147 : BitVec 32 := Scalar.muli c2_i32_38 arg0
  let v148 : BitVec 32 := Scalar.addi v147 c0_i32_39
  let v149 : Index := Scalar.indexCast v148
  let c0_i32_12 : BitVec 32 := 0#32
  let c1_i32_14 : BitVec 32 := 1#32
  let arg7 : BitVec 32 := Scf.iv c0_i32_12 c1_i32_14 k0_t1
  let c512_i32_35 : BitVec 32 := 512#32
  let v131 : BitVec 32 := Scalar.muli arg7 c512_i32_35
  let v132 : BitVec 32 := v131
  let v150 : Index := Scalar.indexCast v132
  ![v149.toNat, v150.toNat]
@[reducible] def k0_t2_loop (i : grid0.Coords) : Scf.Loop 32 :=
  let c0_i32_12 : BitVec 32 := 0#32
  let arg1 : BitVec 32 := BitVec.ofNat 32 (i 1).val
  let v44 : BitVec 32 := Scalar.subi arg1 c0_i32_12
  let c1_i32_13 : BitVec 32 := 1#32
  let v46 : BitVec 32 := Scalar.divsi v44 c1_i32_13
  let v47 : BitVec 32 := Scalar.muli v46 c1_i32_13
  let v48 : BitVec 32 := Scalar.addi c0_i32_12 v47
  let v45 : BitVec 32 := Scalar.addi c0_i32_12 v44
  let c1_i32_15 : BitVec 32 := 1#32
  ⟨v48, v45, c1_i32_15⟩
def k0_mult3 (i : grid0.Coords) (k0_t2 : Fin (k0_t2_loop i).trips) : BitVec 32 :=
  let c0_i32_12 : BitVec 32 := 0#32
  let arg1 : BitVec 32 := BitVec.ofNat 32 (i 1).val
  let v44 : BitVec 32 := Scalar.subi arg1 c0_i32_12
  let c1_i32_13 : BitVec 32 := 1#32
  let v46 : BitVec 32 := Scalar.divsi v44 c1_i32_13
  let v47 : BitVec 32 := Scalar.muli v46 c1_i32_13
  let v48 : BitVec 32 := Scalar.addi c0_i32_12 v47
  let c1_i32_15 : BitVec 32 := 1#32
  let arg7 : BitVec 32 := Scf.iv v48 c1_i32_15 k0_t2
  let c512_i32_35 : BitVec 32 := 512#32
  let v131 : BitVec 32 := Scalar.muli arg7 c512_i32_35
  v131
def k0_off5 (i : grid0.Coords) (k0_t2 : Fin (k0_t2_loop i).trips) : Fin 2 → Nat :=
  let c0_36 : Index := 0#32
  let c0_i32_12 : BitVec 32 := 0#32
  let arg1 : BitVec 32 := BitVec.ofNat 32 (i 1).val
  let v44 : BitVec 32 := Scalar.subi arg1 c0_i32_12
  let c1_i32_13 : BitVec 32 := 1#32
  let v46 : BitVec 32 := Scalar.divsi v44 c1_i32_13
  let v47 : BitVec 32 := Scalar.muli v46 c1_i32_13
  let v48 : BitVec 32 := Scalar.addi c0_i32_12 v47
  let c1_i32_15 : BitVec 32 := 1#32
  let arg7 : BitVec 32 := Scf.iv v48 c1_i32_15 k0_t2
  let c512_i32_35 : BitVec 32 := 512#32
  let v131 : BitVec 32 := Scalar.muli arg7 c512_i32_35
  let v132 : BitVec 32 := v131
  let v133 : Index := Scalar.indexCast v132
  ![0, v133.toNat]
def k0_off6 (i : grid0.Coords) (k0_t2 : Fin (k0_t2_loop i).trips) : Fin 2 → Nat :=
  let c0_i32_12 : BitVec 32 := 0#32
  let arg1 : BitVec 32 := BitVec.ofNat 32 (i 1).val
  let v44 : BitVec 32 := Scalar.subi arg1 c0_i32_12
  let c1_i32_13 : BitVec 32 := 1#32
  let v46 : BitVec 32 := Scalar.divsi v44 c1_i32_13
  let v47 : BitVec 32 := Scalar.muli v46 c1_i32_13
  let v48 : BitVec 32 := Scalar.addi c0_i32_12 v47
  let c1_i32_15 : BitVec 32 := 1#32
  let arg7 : BitVec 32 := Scf.iv v48 c1_i32_15 k0_t2
  let c512_i32_35 : BitVec 32 := 512#32
  let v131 : BitVec 32 := Scalar.muli arg7 c512_i32_35
  let v132 : BitVec 32 := v131
  let v135 : Index := Scalar.indexCast v132
  let c0_37 : Index := 0#32
  ![v135.toNat, 0]
def k0_off7 (i : grid0.Coords) (k0_t2 : Fin (k0_t2_loop i).trips) (c0_i32_39 : BitVec 32) : Fin 2 → Nat :=
  let c2_i32_38 : BitVec 32 := 2#32
  let arg0 : BitVec 32 := BitVec.ofNat 32 (i 0).val
  let v147 : BitVec 32 := Scalar.muli c2_i32_38 arg0
  let v148 : BitVec 32 := Scalar.addi v147 c0_i32_39
  let v149 : Index := Scalar.indexCast v148
  let c0_i32_12 : BitVec 32 := 0#32
  let arg1 : BitVec 32 := BitVec.ofNat 32 (i 1).val
  let v44 : BitVec 32 := Scalar.subi arg1 c0_i32_12
  let c1_i32_13 : BitVec 32 := 1#32
  let v46 : BitVec 32 := Scalar.divsi v44 c1_i32_13
  let v47 : BitVec 32 := Scalar.muli v46 c1_i32_13
  let v48 : BitVec 32 := Scalar.addi c0_i32_12 v47
  let c1_i32_15 : BitVec 32 := 1#32
  let arg7 : BitVec 32 := Scf.iv v48 c1_i32_15 k0_t2
  let c512_i32_35 : BitVec 32 := 512#32
  let v131 : BitVec 32 := Scalar.muli arg7 c512_i32_35
  let v132 : BitVec 32 := v131
  let v150 : Index := Scalar.indexCast v132
  ![v149.toNat, v150.toNat]
def k0_mult4 (i : grid0.Coords) : BitVec 32 :=
  let arg1 : BitVec 32 := BitVec.ofNat 32 (i 1).val
  let c512_i32_16 : BitVec 32 := 512#32
  let v51 : BitVec 32 := Scalar.muli arg1 c512_i32_16
  v51
def k0_off8 (i : grid0.Coords) : Fin 2 → Nat :=
  let c0_17 : Index := 0#32
  let arg1 : BitVec 32 := BitVec.ofNat 32 (i 1).val
  let c512_i32_16 : BitVec 32 := 512#32
  let v51 : BitVec 32 := Scalar.muli arg1 c512_i32_16
  let v52 : BitVec 32 := v51
  let v53 : Index := Scalar.indexCast v52
  ![0, v53.toNat]
def k0_off9 (i : grid0.Coords) : Fin 2 → Nat :=
  let arg1 : BitVec 32 := BitVec.ofNat 32 (i 1).val
  let c512_i32_16 : BitVec 32 := 512#32
  let v51 : BitVec 32 := Scalar.muli arg1 c512_i32_16
  let v52 : BitVec 32 := v51
  let v55 : Index := Scalar.indexCast v52
  let c0_18 : Index := 0#32
  ![v55.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x16384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S16x16384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S16384x1024 : Shape := ⟨2, ![16384, 1024]⟩
abbrev S1024x16384 : Shape := ⟨2, ![1024, 16384]⟩
abbrev S16x16384 : Shape := ⟨2, ![16, 16384]⟩
abbrev S16384x16x64 : Shape := ⟨3, ![16384, 16, 64]⟩
abbrev S16x16384x16384 : Shape := ⟨3, ![16, 16384, 16384]⟩
abbrev S_ : Shape := ⟨0, ![]⟩
abbrev S16x16384x1 : Shape := ⟨3, ![16, 16384, 1]⟩
abbrev S16x1x16384 : Shape := ⟨3, ![16, 1, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S16x64x16384 : Shape := ⟨3, ![16, 64, 16384]⟩

abbrev nBuf : Space → Nat
  | .hbm => 50
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x16384, .bf16⟩
  | .hbm, ⟨2, _⟩ => ⟨S16384x1024, .bf16⟩
  | .hbm, ⟨3, _⟩ => ⟨S16x16384, .f32⟩
  | .hbm, ⟨4, _⟩ => ⟨S16384x1024, .f32⟩
  | .hbm, ⟨5, _⟩ => ⟨S16384x16x64, .f32⟩
  | .hbm, ⟨6, _⟩ => ⟨S1024x16384, .f32⟩
  | .hbm, ⟨7, _⟩ => ⟨S16384x1024, .f32⟩
  | .hbm, ⟨8, _⟩ => ⟨S16384x16x64, .f32⟩
  | .hbm, ⟨9, _⟩ => ⟨S16384x1024, .f32⟩
  | .hbm, ⟨10, _⟩ => ⟨S16384x16x64, .f32⟩
  | .hbm, ⟨11, _⟩ => ⟨S16x16384x16384, .f32⟩
  | .hbm, ⟨12, _⟩ => ⟨S_, .f32⟩
  | .hbm, ⟨13, _⟩ => ⟨S_, .f32⟩
  | .hbm, ⟨14, _⟩ => ⟨S16x16384x16384, .f32⟩
  | .hbm, ⟨15, _⟩ => ⟨S16x16384x16384, .f32⟩
  | .hbm, ⟨16, _⟩ => ⟨S16x16384x1, .f32⟩
  | .hbm, ⟨17, _⟩ => ⟨S16x1x16384, .f32⟩
  | .hbm, ⟨18, _⟩ => ⟨S16x16384x16384, .f32⟩
  | .hbm, ⟨19, _⟩ => ⟨S16x16384x16384, .f32⟩
  | .hbm, ⟨20, _⟩ => ⟨S16x16384x16384, .f32⟩
  | .hbm, ⟨21, _⟩ => ⟨S16x16384x16384, .f32⟩
  | .hbm, ⟨22, _⟩ => ⟨S16384, .i32⟩
  | .hbm, ⟨23, _⟩ => ⟨S1x16384, .i32⟩
  | .hbm, ⟨24, _⟩ => ⟨S16384x1, .i32⟩
  | .hbm, ⟨25, _⟩ => ⟨S16384x16384, .i32⟩
  | .hbm, ⟨26, _⟩ => ⟨S16384x16384, .i32⟩
  | .hbm, ⟨27, _⟩ => ⟨S16384x16384, .i1⟩
  | .hbm, ⟨28, _⟩ => ⟨S_, .f32⟩
  | .hbm, ⟨29, _⟩ => ⟨S_, .f32⟩
  | .hbm, ⟨30, _⟩ => ⟨S16x16384x16384, .i1⟩
  | .hbm, ⟨31, _⟩ => ⟨S16x16384x16384, .f32⟩
  | .hbm, ⟨32, _⟩ => ⟨S16x16384x16384, .f32⟩
  | .hbm, ⟨33, _⟩ => ⟨S_, .f32⟩
  | .hbm, ⟨34, _⟩ => ⟨S16x16384, .f32⟩
  | .hbm, ⟨35, _⟩ => ⟨S_, .f32⟩
  | .hbm, ⟨36, _⟩ => ⟨S16x16384, .f32⟩
  | .hbm, ⟨37, _⟩ => ⟨S16x16384, .f32⟩
  | .hbm, ⟨38, _⟩ => ⟨S16x16384x1, .f32⟩
  | .hbm, ⟨39, _⟩ => ⟨S16x16384x16384, .f32⟩
  | .hbm, ⟨40, _⟩ => ⟨S16x16384x16384, .f32⟩
  | .hbm, ⟨41, _⟩ => ⟨S16x16384x16384, .f32⟩
  | .hbm, ⟨42, _⟩ => ⟨S_, .f32⟩
  | .hbm, ⟨43, _⟩ => ⟨S16x16384, .f32⟩
  | .hbm, ⟨44, _⟩ => ⟨S16x16384x1, .f32⟩
  | .hbm, ⟨45, _⟩ => ⟨S16x16384x16384, .f32⟩
  | .hbm, ⟨46, _⟩ => ⟨S16x16384x16384, .f32⟩
  | .hbm, ⟨47, _⟩ => ⟨S16x64x16384, .f32⟩
  | .hbm, ⟨48, _⟩ => ⟨S16384x16x64, .f32⟩
  | .hbm, ⟨49, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== InProj.lean ====
abbrev S1x16384x1024 : Shape := ⟨3, ![1, 16384, 1024]⟩
abbrev S1x1024x4112 : Shape := ⟨3, ![1, 1024, 4112]⟩
abbrev S1x16 : Shape := ⟨2, ![1, 16]⟩
abbrev S1024x4112 : Shape := ⟨2, ![1024, 4112]⟩
abbrev S1024x1024 : Shape := ⟨2, ![1024, 1024]⟩
abbrev S1024x2048 : Shape := ⟨2, ![1024, 2048]⟩
abbrev S1024x3072 : Shape := ⟨2, ![1024, 3072]⟩
abbrev S2048x1024 : Shape := ⟨2, ![2048, 1024]⟩
abbrev S1024x16 : Shape := ⟨2, ![1024, 16]⟩
abbrev S_ : Shape := ⟨0, ![]⟩
abbrev S1024x128 : Shape := ⟨2, ![1024, 128]⟩
abbrev S16 : Shape := ⟨1, ![16]⟩
abbrev S128 : Shape := ⟨1, ![128]⟩
abbrev S1x128 : Shape := ⟨2, ![1, 128]⟩
abbrev S16384x1024 : Shape := ⟨2, ![16384, 1024]⟩
abbrev S1024x16384 : Shape := ⟨2, ![1024, 16384]⟩
abbrev S16384x16 : Shape := ⟨2, ![16384, 16]⟩
abbrev S512x1024 : Shape := ⟨2, ![512, 1024]⟩
abbrev S1024x512 : Shape := ⟨2, ![1024, 512]⟩
abbrev S512x16 : Shape := ⟨2, ![512, 16]⟩
abbrev S512x128 : Shape := ⟨2, ![512, 128]⟩

abbrev nBuf : Space → Nat
  | .hbm => 29
  | .vmem => 20
  | .smem => 0
  | _ => 0

abbrev bufTy : (tb : Table) → Fin (tcTables nBuf tb) → BufTy
  | .hbm, ⟨0, _⟩ => ⟨S1x16384x1024, .f32⟩
  | .hbm, ⟨1, _⟩ => ⟨S1x1024x4112, .f32⟩
  | .hbm, ⟨2, _⟩ => ⟨S1x16, .f32⟩
  | .hbm, ⟨3, _⟩ => ⟨S1024x4112, .f32⟩
  | .hbm, ⟨4, _⟩ => ⟨S1024x1024, .f32⟩
  | .hbm, ⟨5, _⟩ => ⟨S1024x2048, .f32⟩
  | .hbm, ⟨6, _⟩ => ⟨S1024x3072, .f32⟩
  | .hbm, ⟨7, _⟩ => ⟨S1024x3072, .bf16⟩
  | .hbm, ⟨8, _⟩ => ⟨S1024x2048, .f32⟩
  | .hbm, ⟨9, _⟩ => ⟨S2048x1024, .f32⟩
  | .hbm, ⟨10, _⟩ => ⟨S2048x1024, .bf16⟩
  | .hbm, ⟨11, _⟩ => ⟨S1024x16, .f32⟩
  | .hbm, ⟨12, _⟩ => ⟨S_, .i32⟩
  | .hbm, ⟨13, _⟩ => ⟨S_, .f32⟩
  | .hbm, ⟨14, _⟩ => ⟨S1024x128, .f32⟩
  | .hbm, ⟨15, _⟩ => ⟨S1024x128, .bf16⟩
  | .hbm, ⟨16, _⟩ => ⟨S16, .f32⟩
  | .hbm, ⟨17, _⟩ => ⟨S_, .i32⟩
  | .hbm, ⟨18, _⟩ => ⟨S_, .f32⟩
  | .hbm, ⟨19, _⟩ => ⟨S128, .f32⟩
  | .hbm, ⟨20, _⟩ => ⟨S1x128, .f32⟩
  | .hbm, ⟨21, _⟩ => ⟨S16384x1024, .f32⟩
  | .hbm, ⟨22, _⟩ => ⟨S16384x1024, .bf16⟩
  | .hbm, ⟨23, _⟩ => ⟨S16384x1024, .bf16⟩
  | .hbm, ⟨24, _⟩ => ⟨S16384x1024, .f32⟩
  | .hbm, ⟨25, _⟩ => ⟨S1024x16384, .f32⟩
  | .hbm, ⟨26, _⟩ => ⟨S1024x16384, .bf16⟩
  | .hbm, ⟨27, _⟩ => ⟨S1024x16384, .f32⟩
  | .hbm, ⟨28, _⟩ => ⟨S16384x16, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S2048x1024, .bf16⟩
  | .local _ .vmem, ⟨4, _⟩ => ⟨S1024x128, .bf16⟩
  | .local _ .vmem, ⟨5, _⟩ => ⟨S1x128, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S1024x512, .f32⟩
  | .local _ .vmem, ⟨13, _⟩ => ⟨S1024x512, .f32⟩
  | .local _ .vmem, ⟨14, _⟩ => ⟨S1024x512, .bf16⟩
  | .local _ .vmem, ⟨15, _⟩ => ⟨S1024x512, .bf16⟩
  | .local _ .vmem, ⟨16, _⟩ => ⟨S1024x512, .f32⟩
  | .local _ .vmem, ⟨17, _⟩ => ⟨S1024x512, .f32⟩
  | .local _ .vmem, ⟨18, _⟩ => ⟨S512x16, .f32⟩
  | .local _ .vmem, ⟨19, _⟩ => ⟨S512x16, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_call1_v0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15_0 : Ref sig .tc := ⟨.hbm, 22, rfl⟩
abbrev main_v15_1 : Ref sig .tc := ⟨.hbm, 23, rfl⟩
abbrev main_v15_2 : Ref sig .tc := ⟨.hbm, 24, rfl⟩
abbrev main_v15_3 : Ref sig .tc := ⟨.hbm, 25, rfl⟩
abbrev main_v15_4 : Ref sig .tc := ⟨.hbm, 26, rfl⟩
abbrev main_v15_5 : Ref sig .tc := ⟨.hbm, 27, rfl⟩
abbrev main_v15_6 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x16 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== InProjIdeal.lean ====
variable {F : FTy → Type} [FloatOps F] [Named F]
def κ : String → Option EReal := fun
  | "query_scale" => some (((8 * (Real.log 2))⁻¹ : ℝ) : EReal)
  | _ => none
-- ==== InProjRefIdeal.lean ====
abbrev S1x16384x1024 : Shape := ⟨3, ![1, 16384, 1024]⟩
abbrev S1x1024x4112 : Shape := ⟨3, ![1, 1024, 4112]⟩
abbrev S1x16 : Shape := ⟨2, ![1, 16]⟩
abbrev S16384x1024 : Shape := ⟨2, ![16384, 1024]⟩
abbrev S1024x4112 : Shape := ⟨2, ![1024, 4112]⟩
abbrev S16384x4112 : Shape := ⟨2, ![16384, 4112]⟩
abbrev S16384x4096 : Shape := ⟨2, ![16384, 4096]⟩
abbrev S16384x16 : Shape := ⟨2, ![16384, 16]⟩
abbrev S16 : Shape := ⟨1, ![16]⟩
abbrev S_ : Shape := ⟨0, ![]⟩
abbrev S1024x16384 : Shape := ⟨2, ![1024, 16384]⟩

abbrev nBuf : Space → Nat
  | .hbm => 45
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1x1024x4112, .f32⟩
  | .hbm, ⟨2, _⟩ => ⟨S1x16, .f32⟩
  | .hbm, ⟨3, _⟩ => ⟨S16384x1024, .f32⟩
  | .hbm, ⟨4, _⟩ => ⟨S1024x4112, .f32⟩
  | .hbm, ⟨5, _⟩ => ⟨S16384x4112, .f32⟩
  | .hbm, ⟨6, _⟩ => ⟨S16384x4096, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x16, .f32⟩
  | .hbm, ⟨12, _⟩ => ⟨S16, .f32⟩
  | .hbm, ⟨13, _⟩ => ⟨S1x16, .f32⟩
  | .hbm, ⟨14, _⟩ => ⟨S16384x16, .f32⟩
  | .hbm, ⟨15, _⟩ => ⟨S16384x16, .f32⟩
  | .hbm, ⟨16, _⟩ => ⟨S16384x16, .f32⟩
  | .hbm, ⟨17, _⟩ => ⟨S_, .f32⟩
  | .hbm, ⟨18, _⟩ => ⟨S16384x16, .f32⟩
  | .hbm, ⟨19, _⟩ => ⟨S16384x16, .f32⟩
  | .hbm, ⟨20, _⟩ => ⟨S16384x16, .f32⟩
  | .hbm, ⟨21, _⟩ => ⟨S16384x16, .f32⟩
  | .hbm, ⟨22, _⟩ => ⟨S16384x16, .i1⟩
  | .hbm, ⟨23, _⟩ => ⟨S16384x16, .f32⟩
  | .hbm, ⟨24, _⟩ => ⟨S16384x16, .f32⟩
  | .hbm, ⟨25, _⟩ => ⟨S16384x16, .f32⟩
  | .hbm, ⟨26, _⟩ => ⟨S16384x16, .f32⟩
  | .hbm, ⟨27, _⟩ => ⟨S16384x16, .f32⟩
  | .hbm, ⟨28, _⟩ => ⟨S16384x16, .f32⟩
  | .hbm, ⟨29, _⟩ => ⟨S16384x16, .f32⟩
  | .hbm, ⟨30, _⟩ => ⟨S16384x16, .f32⟩
  | .hbm, ⟨31, _⟩ => ⟨S16384x16, .f32⟩
  | .hbm, ⟨32, _⟩ => ⟨S_, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S_, .f32⟩
  | .hbm, ⟨37, _⟩ => ⟨S16384x1024, .f32⟩
  | .hbm, ⟨38, _⟩ => ⟨S16384x1024, .f32⟩
  | .hbm, ⟨39, _⟩ => ⟨S16384x1024, .bf16⟩
  | .hbm, ⟨40, _⟩ => ⟨S16384x1024, .bf16⟩
  | .hbm, ⟨41, _⟩ => ⟨S1024x16384, .f32⟩
  | .hbm, ⟨42, _⟩ => ⟨S1024x16384, .f32⟩
  | .hbm, ⟨43, _⟩ => ⟨S1024x16384, .bf16⟩
  | .hbm, ⟨44, _⟩ => ⟨S1024x16384, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_call0_v0 : Ref sig .tc := ⟨.hbm, 16, rfl⟩
abbrev main_call0_call0_cst : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_v8 : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_v1 : Ref sig .tc := ⟨.hbm, 30, rfl⟩
abbrev main_v13 : Ref sig .tc := ⟨.hbm, 31, rfl⟩
abbrev main_cst : Ref sig .tc := ⟨.hbm, 32, rfl⟩
abbrev main_v14 : Ref sig .tc := ⟨.hbm, 33, rfl⟩
abbrev main_v15 : Ref sig .tc := ⟨.hbm, 34, rfl⟩
abbrev main_cst_0 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩

abbrev nD : Nat := 1
abbrev τ : Topo := Topo.v7x

variable {F : FTy → Type} [FloatOps F]
-- ==== InProjSample.lean ====
abbrev S32x4x1024 : Shape := ⟨3, ![32, 4, 1024]⟩
abbrev S1x1024x4112 : Shape := ⟨3, ![1, 1024, 4112]⟩
abbrev S1x16 : Shape := ⟨2, ![1, 16]⟩
abbrev S1024x4112 : Shape := ⟨2, ![1024, 4112]⟩
abbrev S1024x4096 : Shape := ⟨2, ![1024, 4096]⟩
abbrev S1024x16 : Shape := ⟨2, ![1024, 16]⟩
abbrev S_ : Shape := ⟨0, ![]⟩
abbrev S1024x128 : Shape := ⟨2, ![1024, 128]⟩
abbrev S16 : Shape := ⟨1, ![16]⟩
abbrev S128 : Shape := ⟨1, ![128]⟩
abbrev S1x128 : Shape := ⟨2, ![1, 128]⟩
abbrev S128x1024 : Shape := ⟨2, ![128, 1024]⟩
abbrev S128x16 : Shape := ⟨2, ![128, 16]⟩
abbrev S1024x1024 : Shape := ⟨2, ![1024, 1024]⟩
abbrev S128x128 : Shape := ⟨2, ![128, 128]⟩

abbrev nBuf : Space → Nat
  | .hbm => 24
  | .vmem => 11
  | .smem => 0
  | _ => 0

abbrev bufTy : (tb : Table) → Fin (tcTables nBuf tb) → BufTy
  | .hbm, ⟨0, _⟩ => ⟨S32x4x1024, .f32⟩
  | .hbm, ⟨1, _⟩ => ⟨S1x1024x4112, .f32⟩
  | .hbm, ⟨2, _⟩ => ⟨S1x16, .f32⟩
  | .hbm, ⟨3, _⟩ => ⟨S1024x4112, .f32⟩
  | .hbm, ⟨4, _⟩ => ⟨S1024x4096, .f32⟩
  | .hbm, ⟨5, _⟩ => ⟨S1024x4096, .bf16⟩
  | .hbm, ⟨6, _⟩ => ⟨S1024x16, .f32⟩
  | .hbm, ⟨7, _⟩ => ⟨S_, .i32⟩
  | .hbm, ⟨8, _⟩ => ⟨S_, .f32⟩
  | .hbm, ⟨9, _⟩ => ⟨S1024x128, .f32⟩
  | .hbm, ⟨10, _⟩ => ⟨S1024x128, .bf16⟩
  | .hbm, ⟨11, _⟩ => ⟨S16, .f32⟩
  | .hbm, ⟨12, _⟩ => ⟨S_, .i32⟩
  | .hbm, ⟨13, _⟩ => ⟨S_, .f32⟩
  | .hbm, ⟨14, _⟩ => ⟨S128, .f32⟩
  | .hbm, ⟨15, _⟩ => ⟨S1x128, .f32⟩
  | .hbm, ⟨16, _⟩ => ⟨S128x1024, .f32⟩
  | .hbm, ⟨17, _⟩ => ⟨S128x1024, .bf16⟩
  | .hbm, ⟨18, _⟩ => ⟨S128x1024, .f32⟩
  | .hbm, ⟨19, _⟩ => ⟨S128x1024, .f32⟩
  | .hbm, ⟨20, _⟩ => ⟨S128x1024, .bf16⟩
  | .hbm, ⟨21, _⟩ => ⟨S128x1024, .bf16⟩
  | .hbm, ⟨22, _⟩ => ⟨S128x1024, .f32⟩
  | .hbm, ⟨23, _⟩ => ⟨S128x16, .f32⟩
  | .local _ .vmem, ⟨0, _⟩ => ⟨S128x1024, .f32⟩
  | .local _ .vmem, ⟨1, _⟩ => ⟨S1024x4096, .bf16⟩
  | .local _ .vmem, ⟨2, _⟩ => ⟨S1024x128, .bf16⟩
  | .local _ .vmem, ⟨3, _⟩ => ⟨S1x128, .f32⟩
  | .local _ .vmem, ⟨4, _⟩ => ⟨S128x1024, .bf16⟩
  | .local _ .vmem, ⟨5, _⟩ => ⟨S128x1024, .f32⟩
  | .local _ .vmem, ⟨6, _⟩ => ⟨S128x1024, .f32⟩
  | .local _ .vmem, ⟨7, _⟩ => ⟨S128x1024, .bf16⟩
  | .local _ .vmem, ⟨8, _⟩ => ⟨S128x1024, .bf16⟩
  | .local _ .vmem, ⟨9, _⟩ => ⟨S128x1024, .f32⟩
  | .local _ .vmem, ⟨10, _⟩ => ⟨S128x16, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_call1_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v10_3 : Ref sig .tc := ⟨.hbm, 20, rfl⟩
abbrev main_v10_4 : Ref sig .tc := ⟨.hbm, 21, rfl⟩
abbrev main_v10_5 : Ref sig .tc := ⟨.hbm, 22, rfl⟩
abbrev main_v10_6 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== InProjSampleRefIdeal.lean ====
abbrev S32x4x1024 : Shape := ⟨3, ![32, 4, 1024]⟩
abbrev S1x1024x4112 : Shape := ⟨3, ![1, 1024, 4112]⟩
abbrev S1x16 : Shape := ⟨2, ![1, 16]⟩
abbrev S1024x4112 : Shape := ⟨2, ![1024, 4112]⟩
abbrev S32x4x4112 : Shape := ⟨3, ![32, 4, 4112]⟩
abbrev S128x4112 : Shape := ⟨2, ![128, 4112]⟩
abbrev S128x4096 : Shape := ⟨2, ![128, 4096]⟩
abbrev S128x1024 : Shape := ⟨2, ![128, 1024]⟩
abbrev S128x16 : Shape := ⟨2, ![128, 16]⟩
abbrev S16 : Shape := ⟨1, ![16]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S1x1024x4112, .f32⟩
  | .hbm, ⟨2, _⟩ => ⟨S1x16, .f32⟩
  | .hbm, ⟨3, _⟩ => ⟨S1024x4112, .f32⟩
  | .hbm, ⟨4, _⟩ => ⟨S32x4x4112, .f32⟩
  | .hbm, ⟨5, _⟩ => ⟨S128x4112, .f32⟩
  | .hbm, ⟨6, _⟩ => ⟨S128x4096, .f32⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S128x16, .f32⟩
  | .hbm, ⟨12, _⟩ => ⟨S16, .f32⟩
  | .hbm, ⟨13, _⟩ => ⟨S1x16, .f32⟩
  | .hbm, ⟨14, _⟩ => ⟨S128x16, .f32⟩
  | .hbm, ⟨15, _⟩ => ⟨S128x16, .f32⟩
  | .hbm, ⟨16, _⟩ => ⟨S128x16, .f32⟩
  | .hbm, ⟨17, _⟩ => ⟨S_, .f32⟩
  | .hbm, ⟨18, _⟩ => ⟨S128x16, .f32⟩
  | .hbm, ⟨19, _⟩ => ⟨S128x16, .f32⟩
  | .hbm, ⟨20, _⟩ => ⟨S128x16, .f32⟩
  | .hbm, ⟨21, _⟩ => ⟨S128x16, .f32⟩
  | .hbm, ⟨22, _⟩ => ⟨S128x16, .i1⟩
  | .hbm, ⟨23, _⟩ => ⟨S128x16, .f32⟩
  | .hbm, ⟨24, _⟩ => ⟨S128x16, .f32⟩
  | .hbm, ⟨25, _⟩ => ⟨S128x16, .f32⟩
  | .hbm, ⟨26, _⟩ => ⟨S128x16, .f32⟩
  | .hbm, ⟨27, _⟩ => ⟨S128x16, .f32⟩
  | .hbm, ⟨28, _⟩ => ⟨S128x16, .f32⟩
  | .hbm, ⟨29, _⟩ => ⟨S128x16, .f32⟩
  | .hbm, ⟨30, _⟩ => ⟨S128x16, .f32⟩
  | .hbm, ⟨31, _⟩ => ⟨S128x16, .f32⟩
  | .hbm, ⟨32, _⟩ => ⟨S_, .f32⟩
  | .hbm, ⟨33, _⟩ => ⟨S128x1024, .f32⟩
  | .hbm, ⟨34, _⟩ => ⟨S128x1024, .f32⟩
  | .hbm, ⟨35, _⟩ => ⟨S128x1024, .bf16⟩
  | .hbm, ⟨36, _⟩ => ⟨S128x1024, .bf16⟩
  | .hbm, ⟨37, _⟩ => ⟨S128x1024, .bf16⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_call0_v0 : Ref sig .tc := ⟨.hbm, 16, rfl⟩
abbrev main_call0_call0_cst : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_v8 : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_v1 : Ref sig .tc := ⟨.hbm, 30, rfl⟩
abbrev main_v13 : Ref sig .tc := ⟨.hbm, 31, rfl⟩
abbrev main_cst : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩

abbrev nD : Nat := 1
abbrev τ : Topo := Topo.v7x

variable {F : FTy → Type} [FloatOps F]
-- ==== AttnOut.lean ====
abbrev S16384x1024 : Shape := ⟨2, ![16384, 1024]⟩
abbrev S1x1024x1024 : Shape := ⟨3, ![1, 1024, 1024]⟩
abbrev S2x1024 : Shape := ⟨2, ![2, 1024]⟩
abbrev S1024x1024 : Shape := ⟨2, ![1024, 1024]⟩
abbrev S1x1024 : Shape := ⟨2, ![1, 1024]⟩
abbrev S1024 : Shape := ⟨1, ![1024]⟩
abbrev S512x1024 : Shape := ⟨2, ![512, 1024]⟩
abbrev S512 : Shape := ⟨1, ![512]⟩
abbrev S512x1 : Shape := ⟨2, ![512, 1]⟩

abbrev nBuf : Space → Nat
  | .hbm => 15
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1x1024x1024, .f32⟩
  | .hbm, ⟨4, _⟩ => ⟨S2x1024, .f32⟩
  | .hbm, ⟨5, _⟩ => ⟨S2x1024, .f32⟩
  | .hbm, ⟨6, _⟩ => ⟨S1024x1024, .f32⟩
  | .hbm, ⟨7, _⟩ => ⟨S1024x1024, .bf16⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AttnOutIdeal.lean ====
abbrev S16384x1024 : Shape := ⟨2, ![16384, 1024]⟩
abbrev S1x1024x1024 : Shape := ⟨3, ![1, 1024, 1024]⟩
abbrev S2x1024 : Shape := ⟨2, ![2, 1024]⟩
abbrev S1024x1024 : Shape := ⟨2, ![1024, 1024]⟩
abbrev S1x1024 : Shape := ⟨2, ![1, 1024]⟩
abbrev S1024 : Shape := ⟨1, ![1024]⟩
abbrev S512x1024 : Shape := ⟨2, ![512, 1024]⟩
abbrev S512 : Shape := ⟨1, ![512]⟩
abbrev S512x1 : Shape := ⟨2, ![512, 1]⟩

abbrev nBuf : Space → Nat
  | .hbm => 15
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1x1024x1024, .f32⟩
  | .hbm, ⟨4, _⟩ => ⟨S2x1024, .f32⟩
  | .hbm, ⟨5, _⟩ => ⟨S2x1024, .f32⟩
  | .hbm, ⟨6, _⟩ => ⟨S1024x1024, .f32⟩
  | .hbm, ⟨7, _⟩ => ⟨S1024x1024, .bf16⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F] [Named F]

def κ : String → Option EReal := fun
  | "alpha" => some ((Real.sqrt 2 : ℝ) : EReal)
  | _ => none

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AttnOutRefIdeal.lean ====
abbrev S16384x1024 : Shape := ⟨2, ![16384, 1024]⟩
abbrev S1x1024x1024 : Shape := ⟨3, ![1, 1024, 1024]⟩
abbrev S2x1024 : Shape := ⟨2, ![2, 1024]⟩
abbrev S_ : Shape := ⟨0, ![]⟩
abbrev S1024x1024 : Shape := ⟨2, ![1024, 1024]⟩
abbrev S1x1024 : Shape := ⟨2, ![1, 1024]⟩
abbrev S1024 : Shape := ⟨1, ![1024]⟩
abbrev S16384 : Shape := ⟨1, ![16384]⟩
abbrev S16384x1 : Shape := ⟨2, ![16384, 1]⟩

abbrev nBuf : Space → Nat
  | .hbm => 57
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1x1024x1024, .f32⟩
  | .hbm, ⟨4, _⟩ => ⟨S2x1024, .f32⟩
  | .hbm, ⟨5, _⟩ => ⟨S2x1024, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S1024x1024, .f32⟩
  | .hbm, ⟨17, _⟩ => ⟨S16384x1024, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S1024, .f32⟩
  | .hbm, ⟨26, _⟩ => ⟨S1x1024, .f32⟩
  | .hbm, ⟨27, _⟩ => ⟨S1024, .f32⟩
  | .hbm, ⟨28, _⟩ => ⟨S_, .f32⟩
  | .hbm, ⟨29, _⟩ => ⟨S16384, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S16384x1, .f32⟩
  | .hbm, ⟨49, _⟩ => ⟨S16384x1024, .f32⟩
  | .hbm, ⟨50, _⟩ => ⟨S16384x1024, .f32⟩
  | .hbm, ⟨51, _⟩ => ⟨S1x1024, .f32⟩
  | .hbm, ⟨52, _⟩ => ⟨S16384x1024, .f32⟩
  | .hbm, ⟨53, _⟩ => ⟨S16384x1024, .f32⟩
  | .hbm, ⟨54, _⟩ => ⟨S1x1024, .f32⟩
  | .hbm, ⟨55, _⟩ => ⟨S16384x1024, .f32⟩
  | .hbm, ⟨56, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== S5In.lean ====
abbrev S16384x1024 : Shape := ⟨2, ![16384, 1024]⟩
abbrev S1x1024x2048 : Shape := ⟨3, ![1, 1024, 2048]⟩
abbrev S1024x2048 : Shape := ⟨2, ![1024, 2048]⟩
abbrev S512x1024 : Shape := ⟨2, ![512, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1x1024x2048, .f32⟩
  | .hbm, ⟨2, _⟩ => ⟨S1024x2048, .f32⟩
  | .hbm, ⟨3, _⟩ => ⟨S1024x2048, .bf16⟩
  | .hbm, ⟨4, _⟩ => ⟨S16384x1024, .f32⟩
  | .hbm, ⟨5, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x2048, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== S5InIdeal.lean ====
abbrev S16384x1024 : Shape := ⟨2, ![16384, 1024]⟩
abbrev S1x1024x2048 : Shape := ⟨3, ![1, 1024, 2048]⟩
abbrev S1024x2048 : Shape := ⟨2, ![1024, 2048]⟩
abbrev S512x1024 : Shape := ⟨2, ![512, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1x1024x2048, .f32⟩
  | .hbm, ⟨2, _⟩ => ⟨S1024x2048, .f32⟩
  | .hbm, ⟨3, _⟩ => ⟨S1024x2048, .bf16⟩
  | .hbm, ⟨4, _⟩ => ⟨S16384x1024, .f32⟩
  | .hbm, ⟨5, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x2048, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== S5InRefIdeal.lean ====
abbrev S16384x1024 : Shape := ⟨2, ![16384, 1024]⟩
abbrev S1x1024x2048 : Shape := ⟨3, ![1, 1024, 2048]⟩
abbrev S1024x2048 : Shape := ⟨2, ![1024, 2048]⟩
abbrev S16384x2048 : Shape := ⟨2, ![16384, 2048]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024x2048, .f32⟩
  | .hbm, ⟨2, _⟩ => ⟨S1024x2048, .f32⟩
  | .hbm, ⟨3, _⟩ => ⟨S16384x2048, .f32⟩
  | .hbm, ⟨4, _⟩ => ⟨S16384x1024, .f32⟩
  | .hbm, ⟨5, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== S5Out.lean ====
abbrev S16384x1024 : Shape := ⟨2, ![16384, 1024]⟩
abbrev S1x1024x1024 : Shape := ⟨3, ![1, 1024, 1024]⟩
abbrev S1x1024 : Shape := ⟨2, ![1, 1024]⟩
abbrev S2x1024 : Shape := ⟨2, ![2, 1024]⟩
abbrev S1024x1024 : Shape := ⟨2, ![1024, 1024]⟩
abbrev S1024 : Shape := ⟨1, ![1024]⟩
abbrev S512x1024 : Shape := ⟨2, ![512, 1024]⟩
abbrev S512 : Shape := ⟨1, ![512]⟩
abbrev S512x1 : Shape := ⟨2, ![512, 1]⟩

abbrev nBuf : Space → Nat
  | .hbm => 21
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1x1024x1024, .f32⟩
  | .hbm, ⟨4, _⟩ => ⟨S1x1024, .f32⟩
  | .hbm, ⟨5, _⟩ => ⟨S1x1024x1024, .f32⟩
  | .hbm, ⟨6, _⟩ => ⟨S2x1024, .f32⟩
  | .hbm, ⟨7, _⟩ => ⟨S2x1024, .f32⟩
  | .hbm, ⟨8, _⟩ => ⟨S1024x1024, .f32⟩
  | .hbm, ⟨9, _⟩ => ⟨S1024x1024, .bf16⟩
  | .hbm, ⟨10, _⟩ => ⟨S1024, .f32⟩
  | .hbm, ⟨11, _⟩ => ⟨S1x1024, .f32⟩
  | .hbm, ⟨12, _⟩ => ⟨S1024x1024, .f32⟩
  | .hbm, ⟨13, _⟩ => ⟨S1024x1024, .bf16⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1024, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== S5OutIdeal.lean ====
abbrev S16384x1024 : Shape := ⟨2, ![16384, 1024]⟩
abbrev S1x1024x1024 : Shape := ⟨3, ![1, 1024, 1024]⟩
abbrev S1x1024 : Shape := ⟨2, ![1, 1024]⟩
abbrev S2x1024 : Shape := ⟨2, ![2, 1024]⟩
abbrev S1024x1024 : Shape := ⟨2, ![1024, 1024]⟩
abbrev S1024 : Shape := ⟨1, ![1024]⟩
abbrev S512x1024 : Shape := ⟨2, ![512, 1024]⟩
abbrev S512 : Shape := ⟨1, ![512]⟩
abbrev S512x1 : Shape := ⟨2, ![512, 1]⟩

abbrev nBuf : Space → Nat
  | .hbm => 21
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1x1024x1024, .f32⟩
  | .hbm, ⟨4, _⟩ => ⟨S1x1024, .f32⟩
  | .hbm, ⟨5, _⟩ => ⟨S1x1024x1024, .f32⟩
  | .hbm, ⟨6, _⟩ => ⟨S2x1024, .f32⟩
  | .hbm, ⟨7, _⟩ => ⟨S2x1024, .f32⟩
  | .hbm, ⟨8, _⟩ => ⟨S1024x1024, .f32⟩
  | .hbm, ⟨9, _⟩ => ⟨S1024x1024, .bf16⟩
  | .hbm, ⟨10, _⟩ => ⟨S1024, .f32⟩
  | .hbm, ⟨11, _⟩ => ⟨S1x1024, .f32⟩
  | .hbm, ⟨12, _⟩ => ⟨S1024x1024, .f32⟩
  | .hbm, ⟨13, _⟩ => ⟨S1024x1024, .bf16⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1024, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F] [Named F]

def κ : String → Option EReal := fun
  | "alpha" => some ((Real.sqrt 2 : ℝ) : EReal)
  | _ => none

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== S5OutRefIdeal.lean ====
abbrev S16384x1024 : Shape := ⟨2, ![16384, 1024]⟩
abbrev S1x1024x1024 : Shape := ⟨3, ![1, 1024, 1024]⟩
abbrev S1x1024 : Shape := ⟨2, ![1, 1024]⟩
abbrev S2x1024 : Shape := ⟨2, ![2, 1024]⟩
abbrev S_ : Shape := ⟨0, ![]⟩
abbrev S1024x1024 : Shape := ⟨2, ![1024, 1024]⟩
abbrev S1024 : Shape := ⟨1, ![1024]⟩
abbrev S16384 : Shape := ⟨1, ![16384]⟩
abbrev S16384x1 : Shape := ⟨2, ![16384, 1]⟩

abbrev nBuf : Space → Nat
  | .hbm => 91
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1x1024x1024, .f32⟩
  | .hbm, ⟨4, _⟩ => ⟨S1x1024, .f32⟩
  | .hbm, ⟨5, _⟩ => ⟨S1x1024x1024, .f32⟩
  | .hbm, ⟨6, _⟩ => ⟨S2x1024, .f32⟩
  | .hbm, ⟨7, _⟩ => ⟨S2x1024, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S1024x1024, .f32⟩
  | .hbm, ⟨26, _⟩ => ⟨S16384x1024, .f32⟩
  | .hbm, ⟨27, _⟩ => ⟨S1024, .f32⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S_, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S1024x1024, .f32⟩
  | .hbm, ⟨51, _⟩ => ⟨S16384x1024, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S1x1024, .f32⟩
  | .hbm, ⟨59, _⟩ => ⟨S1024, .f32⟩
  | .hbm, ⟨60, _⟩ => ⟨S1x1024, .f32⟩
  | .hbm, ⟨61, _⟩ => ⟨S1024, .f32⟩
  | .hbm, ⟨62, _⟩ => ⟨S_, .f32⟩
  | .hbm, ⟨63, _⟩ => ⟨S16384, .f32⟩
  | .hbm, ⟨64, _⟩ => ⟨S16384x1, .f32⟩
  | .hbm, ⟨65, _⟩ => ⟨S_, .f32⟩
  | .hbm, ⟨66, _⟩ => ⟨S16384x1, .f32⟩
  | .hbm, ⟨67, _⟩ => ⟨S16384x1, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S_, .f32⟩
  | .hbm, ⟨72, _⟩ => ⟨S16384, .f32⟩
  | .hbm, ⟨73, _⟩ => ⟨S16384x1, .f32⟩
  | .hbm, ⟨74, _⟩ => ⟨S_, .f32⟩
  | .hbm, ⟨75, _⟩ => ⟨S16384x1, .f32⟩
  | .hbm, ⟨76, _⟩ => ⟨S16384x1, .f32⟩
  | .hbm, ⟨77, _⟩ => ⟨S16384x1024, .f32⟩
  | .hbm, ⟨78, _⟩ => ⟨S16384x1024, .f32⟩
  | .hbm, ⟨79, _⟩ => ⟨S_, .f32⟩
  | .hbm, ⟨80, _⟩ => ⟨S16384x1, .f32⟩
  | .hbm, ⟨81, _⟩ => ⟨S16384x1, .f32⟩
  | .hbm, ⟨82, _⟩ => ⟨S16384x1, .f32⟩
  | .hbm, ⟨83, _⟩ => ⟨S16384x1024, .f32⟩
  | .hbm, ⟨84, _⟩ => ⟨S16384x1024, .f32⟩
  | .hbm, ⟨85, _⟩ => ⟨S1x1024, .f32⟩
  | .hbm, ⟨86, _⟩ => ⟨S16384x1024, .f32⟩
  | .hbm, ⟨87, _⟩ => ⟨S16384x1024, .f32⟩
  | .hbm, ⟨88, _⟩ => ⟨S1x1024, .f32⟩
  | .hbm, ⟨89, _⟩ => ⟨S16384x1024, .f32⟩
  | .hbm, ⟨90, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_6 : Ref sig .tc := ⟨.hbm, 62, rfl⟩
abbrev main_v39 : Ref sig .tc := ⟨.hbm, 63, rfl⟩
abbrev main_v40 : Ref sig .tc := ⟨.hbm, 64, rfl⟩
abbrev main_cst_7 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_8 : Ref sig .tc := ⟨.hbm, 71, rfl⟩
abbrev main_v46 : Ref sig .tc := ⟨.hbm, 72, rfl⟩
abbrev main_v47 : Ref sig .tc := ⟨.hbm, 73, rfl⟩
abbrev main_cst_9 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_10 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩

abbrev nD : Nat := 1
abbrev τ : Topo := Topo.v7x

variable {F : FTy → Type} [FloatOps F]
-- ==== AttnOutSample.lean ====
abbrev S128x1024 : Shape := ⟨2, ![128, 1024]⟩
abbrev S1x1024x1024 : Shape := ⟨3, ![1, 1024, 1024]⟩
abbrev S2x1024 : Shape := ⟨2, ![2, 1024]⟩
abbrev S1024x1024 : Shape := ⟨2, ![1024, 1024]⟩
abbrev S1x1024 : Shape := ⟨2, ![1, 1024]⟩
abbrev S1024 : Shape := ⟨1, ![1024]⟩
abbrev S128 : Shape := ⟨1, ![128]⟩
abbrev S128x1 : Shape := ⟨2, ![128, 1]⟩

abbrev nBuf : Space → Nat
  | .hbm => 15
  | .vmem => 7
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S1x1024x1024, .f32⟩
  | .hbm, ⟨4, _⟩ => ⟨S2x1024, .f32⟩
  | .hbm, ⟨5, _⟩ => ⟨S2x1024, .f32⟩
  | .hbm, ⟨6, _⟩ => ⟨S1024x1024, .f32⟩
  | .hbm, ⟨7, _⟩ => ⟨S1024x1024, .bf16⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AttnOutSampleIdeal.lean ====
variable {F : FTy → Type} [FloatOps F] [Named F]
def κ : String → Option EReal := fun
  | "alpha" => some ((Real.sqrt 2 : ℝ) : EReal)
  | _ => none
-- ==== AttnOutSampleRefIdeal.lean ====
abbrev S128x1024 : Shape := ⟨2, ![128, 1024]⟩
abbrev S1x1024x1024 : Shape := ⟨3, ![1, 1024, 1024]⟩
abbrev S2x1024 : Shape := ⟨2, ![2, 1024]⟩
abbrev S_ : Shape := ⟨0, ![]⟩
abbrev S1024x1024 : Shape := ⟨2, ![1024, 1024]⟩
abbrev S1x1024 : Shape := ⟨2, ![1, 1024]⟩
abbrev S1024 : Shape := ⟨1, ![1024]⟩
abbrev S128 : Shape := ⟨1, ![128]⟩
abbrev S128x1 : Shape := ⟨2, ![128, 1]⟩

abbrev nBuf : Space → Nat
  | .hbm => 57
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S1x1024x1024, .f32⟩
  | .hbm, ⟨4, _⟩ => ⟨S2x1024, .f32⟩
  | .hbm, ⟨5, _⟩ => ⟨S2x1024, .f32⟩
  | .hbm, ⟨6, _⟩ => ⟨S128x1024, .f32⟩
  | .hbm, ⟨7, _⟩ => ⟨S128x1024, .f32⟩
  | .hbm, ⟨8, _⟩ => ⟨S_, .f32⟩
  | .hbm, ⟨9, _⟩ => ⟨S128x1024, .f32⟩
  | .hbm, ⟨10, _⟩ => ⟨S128x1024, .f32⟩
  | .hbm, ⟨11, _⟩ => ⟨S_, .f32⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S128x1024, .f32⟩
  | .hbm, ⟨16, _⟩ => ⟨S1024x1024, .f32⟩
  | .hbm, ⟨17, _⟩ => ⟨S128x1024, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S128x1024, .f32⟩
  | .hbm, ⟨22, _⟩ => ⟨S128x1024, .f32⟩
  | .hbm, ⟨23, _⟩ => ⟨S128x1024, .f32⟩
  | .hbm, ⟨24, _⟩ => ⟨S1x1024, .f32⟩
  | .hbm, ⟨25, _⟩ => ⟨S1024, .f32⟩
  | .hbm, ⟨26, _⟩ => ⟨S1x1024, .f32⟩
  | .hbm, ⟨27, _⟩ => ⟨S1024, .f32⟩
  | .hbm, ⟨28, _⟩ => ⟨S_, .f32⟩
  | .hbm, ⟨29, _⟩ => ⟨S128, .f32⟩
  | .hbm, ⟨30, _⟩ => ⟨S128x1, .f32⟩
  | .hbm, ⟨31, _⟩ => ⟨S_, .f32⟩
  | .hbm, ⟨32, _⟩ => ⟨S128x1, .f32⟩
  | .hbm, ⟨33, _⟩ => ⟨S128x1, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128, .f32⟩
  | .hbm, ⟨39, _⟩ => ⟨S128x1, .f32⟩
  | .hbm, ⟨40, _⟩ => ⟨S_, .f32⟩
  | .hbm, ⟨41, _⟩ => ⟨S128x1, .f32⟩
  | .hbm, ⟨42, _⟩ => ⟨S128x1, .f32⟩
  | .hbm, ⟨43, _⟩ => ⟨S128x1024, .f32⟩
  | .hbm, ⟨44, _⟩ => ⟨S128x1024, .f32⟩
  | .hbm, ⟨45, _⟩ => ⟨S_, .f32⟩
  | .hbm, ⟨46, _⟩ => ⟨S128x1, .f32⟩
  | .hbm, ⟨47, _⟩ => ⟨S128x1, .f32⟩
  | .hbm, ⟨48, _⟩ => ⟨S128x1, .f32⟩
  | .hbm, ⟨49, _⟩ => ⟨S128x1024, .f32⟩
  | .hbm, ⟨50, _⟩ => ⟨S128x1024, .f32⟩
  | .hbm, ⟨51, _⟩ => ⟨S1x1024, .f32⟩
  | .hbm, ⟨52, _⟩ => ⟨S128x1024, .f32⟩
  | .hbm, ⟨53, _⟩ => ⟨S128x1024, .f32⟩
  | .hbm, ⟨54, _⟩ => ⟨S1x1024, .f32⟩
  | .hbm, ⟨55, _⟩ => ⟨S128x1024, .f32⟩
  | .hbm, ⟨56, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== S5InSample.lean ====
abbrev S128x1024 : Shape := ⟨2, ![128, 1024]⟩
abbrev S1x1024x2048 : Shape := ⟨3, ![1, 1024, 2048]⟩
abbrev S1024x2048 : Shape := ⟨2, ![1024, 2048]⟩
abbrev S1024x1024 : Shape := ⟨2, ![1024, 1024]⟩

abbrev nBuf : Space → Nat
  | .hbm => 6
  | .vmem => 4
  | .smem => 0
  | _ => 0

abbrev bufTy : (tb : Table) → Fin (tcTables nBuf tb) → BufTy
  | .hbm, ⟨0, _⟩ => ⟨S128x1024, .f32⟩
  | .hbm, ⟨1, _⟩ => ⟨S1x1024x2048, .f32⟩
  | .hbm, ⟨2, _⟩ => ⟨S1024x2048, .f32⟩
  | .hbm, ⟨3, _⟩ => ⟨S1024x2048, .bf16⟩
  | .hbm, ⟨4, _⟩ => ⟨S128x1024, .f32⟩
  | .hbm, ⟨5, _⟩ => ⟨S128x1024, .f32⟩
  | .local _ .vmem, ⟨0, _⟩ => ⟨S128x1024, .f32⟩
  | .local _ .vmem, ⟨1, _⟩ => ⟨S1024x2048, .bf16⟩
  | .local _ .vmem, ⟨2, _⟩ => ⟨S128x1024, .f32⟩
  | .local _ .vmem, ⟨3, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== S5InSampleRefIdeal.lean ====
abbrev S128x1024 : Shape := ⟨2, ![128, 1024]⟩
abbrev S1x1024x2048 : Shape := ⟨3, ![1, 1024, 2048]⟩
abbrev S1024x2048 : Shape := ⟨2, ![1024, 2048]⟩
abbrev S128x2048 : Shape := ⟨2, ![128, 2048]⟩

abbrev nBuf : Space → Nat
  | .hbm => 6
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1x1024x2048, .f32⟩
  | .hbm, ⟨2, _⟩ => ⟨S1024x2048, .f32⟩
  | .hbm, ⟨3, _⟩ => ⟨S128x2048, .f32⟩
  | .hbm, ⟨4, _⟩ => ⟨S128x1024, .f32⟩
  | .hbm, ⟨5, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== S5Steps.lean ====
abbrev S128x1024 : Shape := ⟨2, ![128, 1024]⟩
abbrev S64x64x64 : Shape := ⟨3, ![64, 64, 64]⟩
abbrev S1024x64 : Shape := ⟨2, ![1024, 64]⟩
abbrev S1x64x16x64 : Shape := ⟨4, ![1, 64, 16, 64]⟩
abbrev S1x64x16 : Shape := ⟨3, ![1, 64, 16]⟩
abbrev S1x32x64x64 : Shape := ⟨4, ![1, 32, 64, 64]⟩
abbrev S64x8x512 : Shape := ⟨3, ![64, 8, 512]⟩
abbrev S8x64x512 : Shape := ⟨3, ![8, 64, 512]⟩
abbrev S8x64x1024 : Shape := ⟨3, ![8, 64, 1024]⟩
abbrev S64x16x64 : Shape := ⟨3, ![64, 16, 64]⟩
abbrev S8x8 : Shape := ⟨2, ![8, 8]⟩
abbrev S_ : Shape := ⟨0, ![]⟩
abbrev S8x8x16x64 : Shape := ⟨4, ![8, 8, 16, 64]⟩
abbrev S8x8x16x1x64 : Shape := ⟨5, ![8, 8, 16, 1, 64]⟩
abbrev S1x8x1x8x1 : Shape := ⟨5, ![1, 8, 1, 8, 1]⟩
abbrev S8x8x16x8x64 : Shape := ⟨5, ![8, 8, 16, 8, 64]⟩
abbrev S8x128x512 : Shape := ⟨3, ![8, 128, 512]⟩
abbrev S8x128x1024 : Shape := ⟨3, ![8, 128, 1024]⟩
abbrev S8x8x64x16 : Shape := ⟨4, ![8, 8, 64, 16]⟩
abbrev S8x8x64x1x16 : Shape := ⟨5, ![8, 8, 64, 1, 16]⟩
abbrev S8x8x64x8x16 : Shape := ⟨5, ![8, 8, 64, 8, 16]⟩
abbrev S8x512x128 : Shape := ⟨3, ![8, 512, 128]⟩
abbrev S8x1024x128 : Shape := ⟨3, ![8, 1024, 128]⟩
abbrev S64x16 : Shape := ⟨2, ![64, 16]⟩
abbrev S1x1024 : Shape := ⟨2, ![1, 1024]⟩
abbrev S32x64x64 : Shape := ⟨3, ![32, 64, 64]⟩
abbrev S32x8x512 : Shape := ⟨3, ![32, 8, 512]⟩
abbrev S8x32x512 : Shape := ⟨3, ![8, 32, 512]⟩
abbrev S8x32x1024 : Shape := ⟨3, ![8, 32, 1024]⟩
abbrev S32x4x1024 : Shape := ⟨3, ![32, 4, 1024]⟩
abbrev S4x32x1024 : Shape := ⟨3, ![4, 32, 1024]⟩
abbrev S128x128 : Shape := ⟨2, ![128, 128]⟩
abbrev S1x128x1024 : Shape := ⟨3, ![1, 128, 1024]⟩
abbrev S1x1x512 : Shape := ⟨3, ![1, 1, 512]⟩
abbrev S1x512 : Shape := ⟨2, ![1, 512]⟩
abbrev S1x32x1024 : Shape := ⟨3, ![1, 32, 1024]⟩
abbrev S32x1024 : Shape := ⟨2, ![32, 1024]⟩
abbrev S32x512 : Shape := ⟨2, ![32, 512]⟩
abbrev S1x1024x128 : Shape := ⟨3, ![1, 1024, 128]⟩
abbrev S1024x128 : Shape := ⟨2, ![1024, 128]⟩
abbrev S1x128 : Shape := ⟨2, ![1, 128]⟩

abbrev nBuf : Space → Nat
  | .hbm => 73
  | .vmem => 8
  | .smem => 0
  | _ => 0

abbrev bufTy : (tb : Table) → Fin (tcTables nBuf tb) → BufTy
  | .hbm, ⟨0, _⟩ => ⟨S128x1024, .f32⟩
  | .hbm, ⟨1, _⟩ => ⟨S64x64x64, .f32⟩
  | .hbm, ⟨2, _⟩ => ⟨S64x64x64, .f32⟩
  | .hbm, ⟨3, _⟩ => ⟨S1024x64, .f32⟩
  | .hbm, ⟨4, _⟩ => ⟨S1024x64, .f32⟩
  | .hbm, ⟨5, _⟩ => ⟨S1x64x16x64, .f32⟩
  | .hbm, ⟨6, _⟩ => ⟨S1x64x16x64, .f32⟩
  | .hbm, ⟨7, _⟩ => ⟨S1x64x16, .f32⟩
  | .hbm, ⟨8, _⟩ => ⟨S1x32x64x64, .f32⟩
  | .hbm, ⟨9, _⟩ => ⟨S1x32x64x64, .f32⟩
  | .hbm, ⟨10, _⟩ => ⟨S64x8x512, .f32⟩
  | .hbm, ⟨11, _⟩ => ⟨S8x64x512, .f32⟩
  | .hbm, ⟨12, _⟩ => ⟨S64x8x512, .f32⟩
  | .hbm, ⟨13, _⟩ => ⟨S8x64x512, .f32⟩
  | .hbm, ⟨14, _⟩ => ⟨S8x64x1024, .f32⟩
  | .hbm, ⟨15, _⟩ => ⟨S64x16x64, .f32⟩
  | .hbm, ⟨16, _⟩ => ⟨S64x16x64, .f32⟩
  | .hbm, ⟨17, _⟩ => ⟨S8x8, .i32⟩
  | .hbm, ⟨18, _⟩ => ⟨S8x8, .i32⟩
  | .hbm, ⟨19, _⟩ => ⟨S_, .i32⟩
  | .hbm, ⟨20, _⟩ => ⟨S8x8, .i32⟩
  | .hbm, ⟨21, _⟩ => ⟨S8x8, .i32⟩
  | .hbm, ⟨22, _⟩ => ⟨S8x8, .i1⟩
  | .hbm, ⟨23, _⟩ => ⟨S8x8, .f32⟩
  | .hbm, ⟨24, _⟩ => ⟨S8x8x16x64, .f32⟩
  | .hbm, ⟨25, _⟩ => ⟨S8x8x16x1x64, .f32⟩
  | .hbm, ⟨26, _⟩ => ⟨S1x8x1x8x1, .f32⟩
  | .hbm, ⟨27, _⟩ => ⟨S8x8x16x8x64, .f32⟩
  | .hbm, ⟨28, _⟩ => ⟨S8x8x16x8x64, .f32⟩
  | .hbm, ⟨29, _⟩ => ⟨S8x8x16x8x64, .f32⟩
  | .hbm, ⟨30, _⟩ => ⟨S8x128x512, .f32⟩
  | .hbm, ⟨31, _⟩ => ⟨S8x8x16x64, .f32⟩
  | .hbm, ⟨32, _⟩ => ⟨S8x8x16x1x64, .f32⟩
  | .hbm, ⟨33, _⟩ => ⟨S1x8x1x8x1, .f32⟩
  | .hbm, ⟨34, _⟩ => ⟨S8x8x16x8x64, .f32⟩
  | .hbm, ⟨35, _⟩ => ⟨S8x8x16x8x64, .f32⟩
  | .hbm, ⟨36, _⟩ => ⟨S8x8x16x8x64, .f32⟩
  | .hbm, ⟨37, _⟩ => ⟨S8x128x512, .f32⟩
  | .hbm, ⟨38, _⟩ => ⟨S8x128x1024, .f32⟩
  | .hbm, ⟨39, _⟩ => ⟨S8x128x1024, .bf16⟩
  | .hbm, ⟨40, _⟩ => ⟨S8x8x16x64, .f32⟩
  | .hbm, ⟨41, _⟩ => ⟨S8x8x64x16, .f32⟩
  | .hbm, ⟨42, _⟩ => ⟨S8x8x64x1x16, .f32⟩
  | .hbm, ⟨43, _⟩ => ⟨S1x8x1x8x1, .f32⟩
  | .hbm, ⟨44, _⟩ => ⟨S8x8x64x8x16, .f32⟩
  | .hbm, ⟨45, _⟩ => ⟨S8x8x64x8x16, .f32⟩
  | .hbm, ⟨46, _⟩ => ⟨S8x8x64x8x16, .f32⟩
  | .hbm, ⟨47, _⟩ => ⟨S8x512x128, .f32⟩
  | .hbm, ⟨48, _⟩ => ⟨S8x8x16x64, .f32⟩
  | .hbm, ⟨49, _⟩ => ⟨S8x8x64x16, .f32⟩
  | .hbm, ⟨50, _⟩ => ⟨S8x8x64x1x16, .f32⟩
  | .hbm, ⟨51, _⟩ => ⟨S1x8x1x8x1, .f32⟩
  | .hbm, ⟨52, _⟩ => ⟨S8x8x64x8x16, .f32⟩
  | .hbm, ⟨53, _⟩ => ⟨S8x8x64x8x16, .f32⟩
  | .hbm, ⟨54, _⟩ => ⟨S8x8x64x8x16, .f32⟩
  | .hbm, ⟨55, _⟩ => ⟨S8x512x128, .f32⟩
  | .hbm, ⟨56, _⟩ => ⟨S8x512x128, .f32⟩
  | .hbm, ⟨57, _⟩ => ⟨S8x1024x128, .f32⟩
  | .hbm, ⟨58, _⟩ => ⟨S8x1024x128, .bf16⟩
  | .hbm, ⟨59, _⟩ => ⟨S64x16, .f32⟩
  | .hbm, ⟨60, _⟩ => ⟨S1x1024, .f32⟩
  | .hbm, ⟨61, _⟩ => ⟨S32x64x64, .f32⟩
  | .hbm, ⟨62, _⟩ => ⟨S32x64x64, .f32⟩
  | .hbm, ⟨63, _⟩ => ⟨S32x8x512, .f32⟩
  | .hbm, ⟨64, _⟩ => ⟨S8x32x512, .f32⟩
  | .hbm, ⟨65, _⟩ => ⟨S32x8x512, .f32⟩
  | .hbm, ⟨66, _⟩ => ⟨S8x32x512, .f32⟩
  | .hbm, ⟨67, _⟩ => ⟨S8x32x1024, .f32⟩
  | .hbm, ⟨68, _⟩ => ⟨S32x4x1024, .f32⟩
  | .hbm, ⟨69, _⟩ => ⟨S4x32x1024, .f32⟩
  | .hbm, ⟨70, _⟩ => ⟨S128x1024, .f32⟩
  | .hbm, ⟨71, _⟩ => ⟨S128x1024, .f32⟩
  | .hbm, ⟨72, _⟩ => ⟨S8x32x1024, .f32⟩
  | .local _ .vmem, ⟨0, _⟩ => ⟨S128x1024, .f32⟩
  | .local _ .vmem, ⟨1, _⟩ => ⟨S8x128x1024, .bf16⟩
  | .local _ .vmem, ⟨2, _⟩ => ⟨S8x1024x128, .bf16⟩
  | .local _ .vmem, ⟨3, _⟩ => ⟨S8x64x1024, .f32⟩
  | .local _ .vmem, ⟨4, _⟩ => ⟨S1x1024, .f32⟩
  | .local _ .vmem, ⟨5, _⟩ => ⟨S8x32x1024, .f32⟩
  | .local _ .vmem, ⟨6, _⟩ => ⟨S128x1024, .f32⟩
  | .local _ .vmem, ⟨7, _⟩ => ⟨S8x32x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60_0 : Ref sig .tc := ⟨.hbm, 71, rfl⟩
abbrev main_v60_1 : Ref sig .tc := ⟨.hbm, 72, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x32x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== S5StepsRefIdeal.lean ====
abbrev S128x1024 : Shape := ⟨2, ![128, 1024]⟩
abbrev S64x64x64 : Shape := ⟨3, ![64, 64, 64]⟩
abbrev S1024x64 : Shape := ⟨2, ![1024, 64]⟩
abbrev S1x64x16x64 : Shape := ⟨4, ![1, 64, 16, 64]⟩
abbrev S1x64x16 : Shape := ⟨3, ![1, 64, 16]⟩
abbrev S1x32x64x64 : Shape := ⟨4, ![1, 32, 64, 64]⟩
abbrev S1x64x64 : Shape := ⟨3, ![1, 64, 64]⟩
abbrev S64x64 : Shape := ⟨2, ![64, 64]⟩
abbrev S32x4x64x16 : Shape := ⟨4, ![32, 4, 64, 16]⟩
abbrev S64x16x64 : Shape := ⟨3, ![64, 16, 64]⟩
abbrev S64x32x4x64 : Shape := ⟨4, ![64, 32, 4, 64]⟩
abbrev S32x4x64x64 : Shape := ⟨4, ![32, 4, 64, 64]⟩
abbrev S32x64x64 : Shape := ⟨3, ![32, 64, 64]⟩
abbrev S32x1x64x64 : Shape := ⟨4, ![32, 1, 64, 64]⟩
abbrev S32x64x1x64 : Shape := ⟨4, ![32, 64, 1, 64]⟩
abbrev S32x64x16x64 : Shape := ⟨4, ![32, 64, 16, 64]⟩
abbrev S_ : Shape := ⟨0, ![]⟩
abbrev S32x64x16 : Shape := ⟨3, ![32, 64, 16]⟩
abbrev S64x16 : Shape := ⟨2, ![64, 16]⟩
abbrev S32x1x64x16 : Shape := ⟨4, ![32, 1, 64, 16]⟩
abbrev S32x1024 : Shape := ⟨2, ![32, 1024]⟩
abbrev S32x8x512 : Shape := ⟨3, ![32, 8, 512]⟩
abbrev S8x32x512 : Shape := ⟨3, ![8, 32, 512]⟩
abbrev S8x32x1024 : Shape := ⟨3, ![8, 32, 1024]⟩

abbrev nBuf : Space → Nat
  | .hbm => 201
  | .vmem => 0
  | .smem => 0
  | _ => 0

abbrev hbmTy0_0 (i : Nat) : BufTy := match i % 128 with
  | 0 => ⟨S128x1024, .f32⟩
  | 1 => ⟨S64x64x64, .f32⟩
  | 2 => ⟨S64x64x64, .f32⟩
  | 3 => ⟨S1024x64, .f32⟩
  | 4 => ⟨S1024x64, .f32⟩
  | 5 => ⟨S1x64x16x64, .f32⟩
  | 6 => ⟨S1x64x16x64, .f32⟩
  | 7 => ⟨S1x64x16, .f32⟩
  | 8 => ⟨S1x32x64x64, .f32⟩
  | 9 => ⟨S1x32x64x64, .f32⟩
  | 10 => ⟨S1x64x64, .f32⟩
  | 11 => ⟨S64x64, .f32⟩
  | 12 => ⟨S1x64x64, .f32⟩
  | 13 => ⟨S64x64, .f32⟩
  | 14 => ⟨S32x4x64x16, .f32⟩
  | 15 => ⟨S64x16x64, .f32⟩
  | 16 => ⟨S64x32x4x64, .f32⟩
  | 17 => ⟨S32x4x64x64, .f32⟩
  | 18 => ⟨S64x16x64, .f32⟩
  | 19 => ⟨S64x32x4x64, .f32⟩
  | 20 => ⟨S32x4x64x64, .f32⟩
  | 21 => ⟨S32x64x64, .f32⟩
  | 22 => ⟨S32x64x64, .f32⟩
  | 23 => ⟨S1x64x64, .f32⟩
  | 24 => ⟨S32x64x64, .f32⟩
  | 25 => ⟨S32x64x64, .f32⟩
  | 26 => ⟨S1x64x64, .f32⟩
  | 27 => ⟨S32x64x64, .f32⟩
  | 28 => ⟨S32x64x64, .f32⟩
  | 29 => ⟨S32x64x64, .f32⟩
  | 30 => ⟨S32x1x64x64, .f32⟩
  | 31 => ⟨S32x64x64, .f32⟩
  | 32 => ⟨S32x64x64, .f32⟩
  | 33 => ⟨S1x64x64, .f32⟩
  | 34 => ⟨S32x64x64, .f32⟩
  | 35 => ⟨S32x64x64, .f32⟩
  | 36 => ⟨S1x64x64, .f32⟩
  | 37 => ⟨S32x64x64, .f32⟩
  | 38 => ⟨S32x64x64, .f32⟩
  | 39 => ⟨S32x64x64, .f32⟩
  | 40 => ⟨S32x1x64x64, .f32⟩
  | 41 => ⟨S32x64x64, .f32⟩
  | 42 => ⟨S32x64x64, .f32⟩
  | 43 => ⟨S64x16x64, .f32⟩
  | 44 => ⟨S32x64x1x64, .f32⟩
  | 45 => ⟨S1x64x16x64, .f32⟩
  | 46 => ⟨S32x64x16x64, .f32⟩
  | 47 => ⟨S32x64x16x64, .f32⟩
  | 48 => ⟨S32x64x16x64, .f32⟩
  | 49 => ⟨S64x16x64, .f32⟩
  | 50 => ⟨S32x64x1x64, .f32⟩
  | 51 => ⟨S1x64x16x64, .f32⟩
  | 52 => ⟨S32x64x16x64, .f32⟩
  | 53 => ⟨S32x64x16x64, .f32⟩
  | 54 => ⟨S32x64x16x64, .f32⟩
  | 55 => ⟨S32x64x16x64, .f32⟩
  | 56 => ⟨S_, .f32⟩
  | 57 => ⟨S32x64x16, .f32⟩
  | 58 => ⟨S64x16, .f32⟩
  | 59 => ⟨S32x1x64x16, .f32⟩
  | 60 => ⟨S32x64x16, .f32⟩
  | 61 => ⟨S1x64x16, .f32⟩
  | 62 => ⟨S32x64x16, .f32⟩
  | 63 => ⟨S32x64x16, .f32⟩
  | 64 => ⟨S32x64x16, .f32⟩
  | 65 => ⟨S32x1024, .f32⟩
  | 66 => ⟨S1x64x64, .f32⟩
  | 67 => ⟨S32x64x64, .f32⟩
  | 68 => ⟨S32x64x64, .f32⟩
  | 69 => ⟨S1x64x64, .f32⟩
  | 70 => ⟨S32x64x64, .f32⟩
  | 71 => ⟨S32x64x64, .f32⟩
  | 72 => ⟨S32x64x64, .f32⟩
  | 73 => ⟨S32x1x64x64, .f32⟩
  | 74 => ⟨S32x64x64, .f32⟩
  | 75 => ⟨S32x64x64, .f32⟩
  | 76 => ⟨S1x64x64, .f32⟩
  | 77 => ⟨S32x64x64, .f32⟩
  | 78 => ⟨S32x64x64, .f32⟩
  | 79 => ⟨S1x64x64, .f32⟩
  | 80 => ⟨S32x64x64, .f32⟩
  | 81 => ⟨S32x64x64, .f32⟩
  | 82 => ⟨S32x64x64, .f32⟩
  | 83 => ⟨S32x1x64x64, .f32⟩
  | 84 => ⟨S32x64x64, .f32⟩
  | 85 => ⟨S32x64x64, .f32⟩
  | 86 => ⟨S64x16x64, .f32⟩
  | 87 => ⟨S32x64x1x64, .f32⟩
  | 88 => ⟨S1x64x16x64, .f32⟩
  | 89 => ⟨S32x64x16x64, .f32⟩
  | 90 => ⟨S32x64x16x64, .f32⟩
  | 91 => ⟨S32x64x16x64, .f32⟩
  | 92 => ⟨S64x16x64, .f32⟩
  | 93 => ⟨S32x64x1x64, .f32⟩
  | 94 => ⟨S1x64x16x64, .f32⟩
  | 95 => ⟨S32x64x16x64, .f32⟩
  | 96 => ⟨S32x64x16x64, .f32⟩
  | 97 => ⟨S32x64x16x64, .f32⟩
  | 98 => ⟨S32x64x16x64, .f32⟩
  | 99 => ⟨S_, .f32⟩
  | 100 => ⟨S32x64x16, .f32⟩
  | 101 => ⟨S64x16, .f32⟩
  | 102 => ⟨S32x1x64x16, .f32⟩
  | 103 => ⟨S32x64x16, .f32⟩
  | 104 => ⟨S1x64x16, .f32⟩
  | 105 => ⟨S32x64x16, .f32⟩
  | 106 => ⟨S32x64x16, .f32⟩
  | 107 => ⟨S32x64x16, .f32⟩
  | 108 => ⟨S32x1024, .f32⟩
  | 109 => ⟨S1x64x64, .f32⟩
  | 110 => ⟨S32x64x64, .f32⟩
  | 111 => ⟨S32x64x64, .f32⟩
  | 112 => ⟨S1x64x64, .f32⟩
  | 113 => ⟨S32x64x64, .f32⟩
  | 114 => ⟨S32x64x64, .f32⟩
  | 115 => ⟨S32x64x64, .f32⟩
  | 116 => ⟨S32x1x64x64, .f32⟩
  | 117 => ⟨S32x64x64, .f32⟩
  | 118 => ⟨S32x64x64, .f32⟩
  | 119 => ⟨S1x64x64, .f32⟩
  | 120 => ⟨S32x64x64, .f32⟩
  | 121 => ⟨S32x64x64, .f32⟩
  | 122 => ⟨S1x64x64, .f32⟩
  | 123 => ⟨S32x64x64, .f32⟩
  | 124 => ⟨S32x64x64, .f32⟩
  | 125 => ⟨S32x64x64, .f32⟩
  | 126 => ⟨S32x1x64x64, .f32⟩
  | 127 => ⟨S32x64x64, .f32⟩
  | _ => ⟨S128x1024, .f32⟩

abbrev hbmTy0_1 (i : Nat) : BufTy := match i % 128 with
  | 0 => ⟨S32x64x64, .f32⟩
  | 1 => ⟨S64x16x64, .f32⟩
  | 2 => ⟨S32x64x1x64, .f32⟩
  | 3 => ⟨S1x64x16x64, .f32⟩
  | 4 => ⟨S32x64x16x64, .f32⟩
  | 5 => ⟨S32x64x16x64, .f32⟩
  | 6 => ⟨S32x64x16x64, .f32⟩
  | 7 => ⟨S64x16x64, .f32⟩
  | 8 => ⟨S32x64x1x64, .f32⟩
  | 9 => ⟨S1x64x16x64, .f32⟩
  | 10 => ⟨S32x64x16x64, .f32⟩
  | 11 => ⟨S32x64x16x64, .f32⟩
  | 12 => ⟨S32x64x16x64, .f32⟩
  | 13 => ⟨S32x64x16x64, .f32⟩
  | 14 => ⟨S_, .f32⟩
  | 15 => ⟨S32x64x16, .f32⟩
  | 16 => ⟨S64x16, .f32⟩
  | 17 => ⟨S32x1x64x16, .f32⟩
  | 18 => ⟨S32x64x16, .f32⟩
  | 19 => ⟨S1x64x16, .f32⟩
  | 20 => ⟨S32x64x16, .f32⟩
  | 21 => ⟨S32x64x16, .f32⟩
  | 22 => ⟨S32x64x16, .f32⟩
  | 23 => ⟨S32x1024, .f32⟩
  | 24 => ⟨S1x64x64, .f32⟩
  | 25 => ⟨S32x64x64, .f32⟩
  | 26 => ⟨S32x64x64, .f32⟩
  | 27 => ⟨S1x64x64, .f32⟩
  | 28 => ⟨S32x64x64, .f32⟩
  | 29 => ⟨S32x64x64, .f32⟩
  | 30 => ⟨S32x64x64, .f32⟩
  | 31 => ⟨S32x1x64x64, .f32⟩
  | 32 => ⟨S32x64x64, .f32⟩
  | 33 => ⟨S32x64x64, .f32⟩
  | 34 => ⟨S1x64x64, .f32⟩
  | 35 => ⟨S32x64x64, .f32⟩
  | 36 => ⟨S32x64x64, .f32⟩
  | 37 => ⟨S1x64x64, .f32⟩
  | 38 => ⟨S32x64x64, .f32⟩
  | 39 => ⟨S32x64x64, .f32⟩
  | 40 => ⟨S32x64x64, .f32⟩
  | 41 => ⟨S32x1x64x64, .f32⟩
  | 42 => ⟨S32x64x64, .f32⟩
  | 43 => ⟨S32x64x64, .f32⟩
  | 44 => ⟨S64x16x64, .f32⟩
  | 45 => ⟨S32x64x1x64, .f32⟩
  | 46 => ⟨S1x64x16x64, .f32⟩
  | 47 => ⟨S32x64x16x64, .f32⟩
  | 48 => ⟨S32x64x16x64, .f32⟩
  | 49 => ⟨S32x64x16x64, .f32⟩
  | 50 => ⟨S64x16x64, .f32⟩
  | 51 => ⟨S32x64x1x64, .f32⟩
  | 52 => ⟨S1x64x16x64, .f32⟩
  | 53 => ⟨S32x64x16x64, .f32⟩
  | 54 => ⟨S32x64x16x64, .f32⟩
  | 55 => ⟨S32x64x16x64, .f32⟩
  | 56 => ⟨S32x64x16x64, .f32⟩
  | 57 => ⟨S_, .f32⟩
  | 58 => ⟨S32x64x16, .f32⟩
  | 59 => ⟨S64x16, .f32⟩
  | 60 => ⟨S32x1x64x16, .f32⟩
  | 61 => ⟨S32x64x16, .f32⟩
  | 62 => ⟨S1x64x16, .f32⟩
  | 63 => ⟨S32x64x16, .f32⟩
  | 64 => ⟨S32x64x16, .f32⟩
  | 65 => ⟨S32x64x16, .f32⟩
  | 66 => ⟨S32x1024, .f32⟩
  | 67 => ⟨S128x1024, .f32⟩
  | 68 => ⟨S32x8x512, .f32⟩
  | 69 => ⟨S8x32x512, .f32⟩
  | 70 => ⟨S32x8x512, .f32⟩
  | 71 => ⟨S8x32x512, .f32⟩
  | 72 => ⟨S8x32x1024, .f32⟩
  | _ => ⟨S128x1024, .f32⟩

abbrev hbmTy (i : Nat) : BufTy := match i / 128 with
  | 0 => hbmTy0_0 i
  | 1 => hbmTy0_1 i
  | _ => ⟨S128x1024, .f32⟩

abbrev bufTy : (tb : Table) → Fin (tcTables nBuf tb) → BufTy
  | .hbm, ⟨i, _⟩ => hbmTy i
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_cst_0 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_cst_1 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_v137 : Ref sig .tc := ⟨.hbm, 150, rfl⟩
abbrev main_v138 : Ref sig .tc := ⟨.hbm, 151, rfl⟩
abbrev main_v139 : Ref sig .tc := ⟨.hbm, 152, rfl⟩
abbrev main_v140 : Ref sig .tc := ⟨.hbm, 153, rfl⟩
abbrev main_v141 : Ref sig .tc := ⟨.hbm, 154, rfl⟩
abbrev main_v142 : Ref sig .tc := ⟨.hbm, 155, rfl⟩
abbrev main_v143 : Ref sig .tc := ⟨.hbm, 156, rfl⟩
abbrev main_v144 : Ref sig .tc := ⟨.hbm, 157, rfl⟩
abbrev main_v145 : Ref sig .tc := ⟨.hbm, 158, rfl⟩
abbrev main_v146 : Ref sig .tc := ⟨.hbm, 159, rfl⟩
abbrev main_v147 : Ref sig .tc := ⟨.hbm, 160, rfl⟩
abbrev main_v148 : Ref sig .tc := ⟨.hbm, 161, rfl⟩
abbrev main_v149 : Ref sig .tc := ⟨.hbm, 162, rfl⟩
abbrev main_v150 : Ref sig .tc := ⟨.hbm, 163, rfl⟩
abbrev main_v151 : Ref sig .tc := ⟨.hbm, 164, rfl⟩
abbrev main_v152 : Ref sig .tc := ⟨.hbm, 165, rfl⟩
abbrev main_v153 : Ref sig .tc := ⟨.hbm, 166, rfl⟩
abbrev main_v154 : Ref sig .tc := ⟨.hbm, 167, rfl⟩
abbrev main_v155 : Ref sig .tc := ⟨.hbm, 168, rfl⟩
abbrev main_v156 : Ref sig .tc := ⟨.hbm, 169, rfl⟩
abbrev main_v157 : Ref sig .tc := ⟨.hbm, 170, rfl⟩
abbrev main_v158 : Ref sig .tc := ⟨.hbm, 171, rfl⟩
abbrev main_v159 : Ref sig .tc := ⟨.hbm, 172, rfl⟩
abbrev main_v160 : Ref sig .tc := ⟨.hbm, 173, rfl⟩
abbrev main_v161 : Ref sig .tc := ⟨.hbm, 174, rfl⟩
abbrev main_v162 : Ref sig .tc := ⟨.hbm, 175, rfl⟩
abbrev main_v163 : Ref sig .tc := ⟨.hbm, 176, rfl⟩
abbrev main_v164 : Ref sig .tc := ⟨.hbm, 177, rfl⟩
abbrev main_v165 : Ref sig .tc := ⟨.hbm, 178, rfl⟩
abbrev main_v166 : Ref sig .tc := ⟨.hbm, 179, rfl⟩
abbrev main_v167 : Ref sig .tc := ⟨.hbm, 180, rfl⟩
abbrev main_v168 : Ref sig .tc := ⟨.hbm, 181, rfl⟩
abbrev main_v169 : Ref sig .tc := ⟨.hbm, 182, rfl⟩
abbrev main_v170 : Ref sig .tc := ⟨.hbm, 183, rfl⟩
abbrev main_v171 : Ref sig .tc := ⟨.hbm, 184, rfl⟩
abbrev main_cst_2 : Ref sig .tc := ⟨.hbm, 185, rfl⟩
abbrev main_v172 : Ref sig .tc := ⟨.hbm, 186, rfl⟩
abbrev main_v173 : Ref sig .tc := ⟨.hbm, 187, rfl⟩
abbrev main_v174 : Ref sig .tc := ⟨.hbm, 188, rfl⟩
abbrev main_v175 : Ref sig .tc := ⟨.hbm, 189, rfl⟩
abbrev main_v176 : Ref sig .tc := ⟨.hbm, 190, rfl⟩
abbrev main_v177 : Ref sig .tc := ⟨.hbm, 191, rfl⟩
abbrev main_v178 : Ref sig .tc := ⟨.hbm, 192, rfl⟩
abbrev main_v179 : Ref sig .tc := ⟨.hbm, 193, rfl⟩
abbrev main_v180 : Ref sig .tc := ⟨.hbm, 194, rfl⟩
abbrev main_v181 : Ref sig .tc := ⟨.hbm, 195, rfl⟩
abbrev main_v182 : Ref sig .tc := ⟨.hbm, 196, rfl⟩
abbrev main_v183 : Ref sig .tc := ⟨.hbm, 197, rfl⟩
abbrev main_v184 : Ref sig .tc := ⟨.hbm, 198, rfl⟩
abbrev main_v185 : Ref sig .tc := ⟨.hbm, 199, rfl⟩
abbrev main_v186 : Ref sig .tc := ⟨.hbm, 200, rfl⟩

abbrev nD : Nat := 1
abbrev τ : Topo := Topo.v7x

variable {F : FTy → Type} [FloatOps F]
-- ==== S5OutSample.lean ====
abbrev S128x1024 : Shape := ⟨2, ![128, 1024]⟩
abbrev S1x1024x1024 : Shape := ⟨3, ![1, 1024, 1024]⟩
abbrev S1x1024 : Shape := ⟨2, ![1, 1024]⟩
abbrev S2x1024 : Shape := ⟨2, ![2, 1024]⟩
abbrev S1024x1024 : Shape := ⟨2, ![1024, 1024]⟩
abbrev S1024 : Shape := ⟨1, ![1024]⟩
abbrev S128 : Shape := ⟨1, ![128]⟩
abbrev S128x1 : Shape := ⟨2, ![128, 1]⟩

abbrev nBuf : Space → Nat
  | .hbm => 21
  | .vmem => 9
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S1x1024x1024, .f32⟩
  | .hbm, ⟨4, _⟩ => ⟨S1x1024, .f32⟩
  | .hbm, ⟨5, _⟩ => ⟨S1x1024x1024, .f32⟩
  | .hbm, ⟨6, _⟩ => ⟨S2x1024, .f32⟩
  | .hbm, ⟨7, _⟩ => ⟨S2x1024, .f32⟩
  | .hbm, ⟨8, _⟩ => ⟨S1024x1024, .f32⟩
  | .hbm, ⟨9, _⟩ => ⟨S1024x1024, .bf16⟩
  | .hbm, ⟨10, _⟩ => ⟨S1024, .f32⟩
  | .hbm, ⟨11, _⟩ => ⟨S1x1024, .f32⟩
  | .hbm, ⟨12, _⟩ => ⟨S1024x1024, .f32⟩
  | .hbm, ⟨13, _⟩ => ⟨S1024x1024, .bf16⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S1024x1024, .bf16⟩
  | .local _ .vmem, ⟨4, _⟩ => ⟨S1x1024, .f32⟩
  | .local _ .vmem, ⟨5, _⟩ => ⟨S1024x1024, .bf16⟩
  | .local _ .vmem, ⟨6, _⟩ => ⟨S1x1024, .f32⟩
  | .local _ .vmem, ⟨7, _⟩ => ⟨S1x1024, .f32⟩
  | .local _ .vmem, ⟨8, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== S5OutSampleIdeal.lean ====
variable {F : FTy → Type} [FloatOps F] [Named F]
def κ : String → Option EReal := fun
  | "alpha" => some ((Real.sqrt 2 : ℝ) : EReal)
  | _ => none
-- ==== S5OutSampleRefIdeal.lean ====
abbrev S128x1024 : Shape := ⟨2, ![128, 1024]⟩
abbrev S1x1024x1024 : Shape := ⟨3, ![1, 1024, 1024]⟩
abbrev S1x1024 : Shape := ⟨2, ![1, 1024]⟩
abbrev S2x1024 : Shape := ⟨2, ![2, 1024]⟩
abbrev S_ : Shape := ⟨0, ![]⟩
abbrev S1024x1024 : Shape := ⟨2, ![1024, 1024]⟩
abbrev S1024 : Shape := ⟨1, ![1024]⟩
abbrev S128 : Shape := ⟨1, ![128]⟩
abbrev S128x1 : Shape := ⟨2, ![128, 1]⟩

abbrev nBuf : Space → Nat
  | .hbm => 91
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S1x1024x1024, .f32⟩
  | .hbm, ⟨4, _⟩ => ⟨S1x1024, .f32⟩
  | .hbm, ⟨5, _⟩ => ⟨S1x1024x1024, .f32⟩
  | .hbm, ⟨6, _⟩ => ⟨S2x1024, .f32⟩
  | .hbm, ⟨7, _⟩ => ⟨S2x1024, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S_, .f32⟩
  | .hbm, ⟨22, _⟩ => ⟨S128x1024, .f32⟩
  | .hbm, ⟨23, _⟩ => ⟨S128x1024, .f32⟩
  | .hbm, ⟨24, _⟩ => ⟨S128x1024, .f32⟩
  | .hbm, ⟨25, _⟩ => ⟨S1024x1024, .f32⟩
  | .hbm, ⟨26, _⟩ => ⟨S128x1024, .f32⟩
  | .hbm, ⟨27, _⟩ => ⟨S1024, .f32⟩
  | .hbm, ⟨28, _⟩ => ⟨S1x1024, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S_, .f32⟩
  | .hbm, ⟨37, _⟩ => ⟨S128x1024, .f32⟩
  | .hbm, ⟨38, _⟩ => ⟨S128x1024, .f32⟩
  | .hbm, ⟨39, _⟩ => ⟨S128x1024, .f32⟩
  | .hbm, ⟨40, _⟩ => ⟨S128x1024, .f32⟩
  | .hbm, ⟨41, _⟩ => ⟨S128x1024, .f32⟩
  | .hbm, ⟨42, _⟩ => ⟨S_, .f32⟩
  | .hbm, ⟨43, _⟩ => ⟨S128x1024, .f32⟩
  | .hbm, ⟨44, _⟩ => ⟨S128x1024, .f32⟩
  | .hbm, ⟨45, _⟩ => ⟨S_, .f32⟩
  | .hbm, ⟨46, _⟩ => ⟨S128x1024, .f32⟩
  | .hbm, ⟨47, _⟩ => ⟨S128x1024, .f32⟩
  | .hbm, ⟨48, _⟩ => ⟨S128x1024, .f32⟩
  | .hbm, ⟨49, _⟩ => ⟨S128x1024, .f32⟩
  | .hbm, ⟨50, _⟩ => ⟨S1024x1024, .f32⟩
  | .hbm, ⟨51, _⟩ => ⟨S128x1024, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S128x1024, .f32⟩
  | .hbm, ⟨56, _⟩ => ⟨S128x1024, .f32⟩
  | .hbm, ⟨57, _⟩ => ⟨S128x1024, .f32⟩
  | .hbm, ⟨58, _⟩ => ⟨S1x1024, .f32⟩
  | .hbm, ⟨59, _⟩ => ⟨S1024, .f32⟩
  | .hbm, ⟨60, _⟩ => ⟨S1x1024, .f32⟩
  | .hbm, ⟨61, _⟩ => ⟨S1024, .f32⟩
  | .hbm, ⟨62, _⟩ => ⟨S_, .f32⟩
  | .hbm, ⟨63, _⟩ => ⟨S128, .f32⟩
  | .hbm, ⟨64, _⟩ => ⟨S128x1, .f32⟩
  | .hbm, ⟨65, _⟩ => ⟨S_, .f32⟩
  | .hbm, ⟨66, _⟩ => ⟨S128x1, .f32⟩
  | .hbm, ⟨67, _⟩ => ⟨S128x1, .f32⟩
  | .hbm, ⟨68, _⟩ => ⟨S128x1024, .f32⟩
  | .hbm, ⟨69, _⟩ => ⟨S128x1024, .f32⟩
  | .hbm, ⟨70, _⟩ => ⟨S128x1024, .f32⟩
  | .hbm, ⟨71, _⟩ => ⟨S_, .f32⟩
  | .hbm, ⟨72, _⟩ => ⟨S128, .f32⟩
  | .hbm, ⟨73, _⟩ => ⟨S128x1, .f32⟩
  | .hbm, ⟨74, _⟩ => ⟨S_, .f32⟩
  | .hbm, ⟨75, _⟩ => ⟨S128x1, .f32⟩
  | .hbm, ⟨76, _⟩ => ⟨S128x1, .f32⟩
  | .hbm, ⟨77, _⟩ => ⟨S128x1024, .f32⟩
  | .hbm, ⟨78, _⟩ => ⟨S128x1024, .f32⟩
  | .hbm, ⟨79, _⟩ => ⟨S_, .f32⟩
  | .hbm, ⟨80, _⟩ => ⟨S128x1, .f32⟩
  | .hbm, ⟨81, _⟩ => ⟨S128x1, .f32⟩
  | .hbm, ⟨82, _⟩ => ⟨S128x1, .f32⟩
  | .hbm, ⟨83, _⟩ => ⟨S128x1024, .f32⟩
  | .hbm, ⟨84, _⟩ => ⟨S128x1024, .f32⟩
  | .hbm, ⟨85, _⟩ => ⟨S1x1024, .f32⟩
  | .hbm, ⟨86, _⟩ => ⟨S128x1024, .f32⟩
  | .hbm, ⟨87, _⟩ => ⟨S128x1024, .f32⟩
  | .hbm, ⟨88, _⟩ => ⟨S1x1024, .f32⟩
  | .hbm, ⟨89, _⟩ => ⟨S128x1024, .f32⟩
  | .hbm, ⟨90, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_6 : Ref sig .tc := ⟨.hbm, 62, rfl⟩
abbrev main_v39 : Ref sig .tc := ⟨.hbm, 63, rfl⟩
abbrev main_v40 : Ref sig .tc := ⟨.hbm, 64, rfl⟩
abbrev main_cst_7 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_8 : Ref sig .tc := ⟨.hbm, 71, rfl⟩
abbrev main_v46 : Ref sig .tc := ⟨.hbm, 72, rfl⟩
abbrev main_v47 : Ref sig .tc := ⟨.hbm, 73, rfl⟩
abbrev main_cst_9 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_10 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩

abbrev nD : Nat := 1
abbrev τ : Topo := Topo.v7x

variable {F : FTy → Type} [FloatOps F]
-- ==== Sums.lean ====
abbrev S16384x16 : Shape := ⟨2, ![16384, 16]⟩
abbrev S16x16384 : Shape := ⟨2, ![16, 16384]⟩
abbrev S256x16 : Shape := ⟨2, ![256, 16]⟩
abbrev S16x256 : Shape := ⟨2, ![16, 256]⟩
abbrev S1x16 : Shape := ⟨2, ![1, 16]⟩
abbrev S256x256 : Shape := ⟨2, ![256, 256]⟩
abbrev S16x16 : Shape := ⟨2, ![16, 16]⟩

abbrev nBuf : Space → Nat
  | .hbm => 2
  | .vmem => 5
  | .smem => 0
  | _ => 0

abbrev bufTy : (tb : Table) → Fin (tcTables nBuf tb) → BufTy
  | .hbm, ⟨0, _⟩ => ⟨S16384x16, .f32⟩
  | .hbm, ⟨1, _⟩ => ⟨S16x16384, .f32⟩
  | .local _ .vmem, ⟨0, _⟩ => ⟨S256x16, .f32⟩
  | .local _ .vmem, ⟨1, _⟩ => ⟨S256x16, .f32⟩
  | .local _ .vmem, ⟨2, _⟩ => ⟨S16x256, .f32⟩
  | .local _ .vmem, ⟨3, _⟩ => ⟨S16x256, .f32⟩
  | .local _ .vmem, ⟨4, _⟩ => ⟨S1x16, .f32⟩
  | _, _ => ⟨S16384x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumsRefIdeal.lean ====
abbrev S16384x16 : Shape := ⟨2, ![16384, 16]⟩
abbrev S_ : Shape := ⟨0, ![]⟩
abbrev S16x16384 : Shape := ⟨2, ![16, 16384]⟩

abbrev nBuf : Space → Nat
  | .hbm => 5
  | .vmem => 0
  | .smem => 0
  | _ => 0

abbrev bufTy : (tb : Table) → Fin (tcTables nBuf tb) → BufTy
  | .hbm, ⟨0, _⟩ => ⟨S16384x16, .f32⟩
  | .hbm, ⟨1, _⟩ => ⟨S_, .f32⟩
  | .hbm, ⟨2, _⟩ => ⟨S_, .f32⟩
  | .hbm, ⟨3, _⟩ => ⟨S16384x16, .f32⟩
  | .hbm, ⟨4, _⟩ => ⟨S16x16384, .f32⟩
  | _, _ => ⟨S16384x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Proof.Consts.lean ====
/- The float constants the programs spell, as the extended reals they denote, and the comparisons of small indices
   that make the lane and causal masks. -/
module

public import Idealize.ShloMosaic.PureOps.Ideal
public import Idealize.ShloMosaic.Lib.Pointwise

@[expose] public section

noncomputable section

namespace Cert.Attn

open Idealize.ShloMosaic

/-- The pattern of `-inf` denotes `⊥`. -/
theorem ofBits_neg_inf : Ideal.ofBits .f32 0xFF800000#32 = ⊥ := by
  simp [Ideal.ofBits, Ideal.ieee]

/-- The pattern of `+inf` denotes `⊤`. -/
theorem ofBits_pos_inf : Ideal.ofBits .f32 0x7F800000#32 = ⊤ := by
  simp [Ideal.ofBits, Ideal.ieee]

/-- The pattern of `2.0` denotes the real `2`. -/
theorem ofBits_two : Ideal.ofBits .f32 0x40000000#32 = ((2 : ℝ) : EReal) := by
  simp [Ideal.ofBits, Ideal.ieee, -EReal.coe_mul]; norm_num

/-- Choosing by the signed comparison `a < b` of two small numbers is choosing by `a < b`. -/
theorem select_slt {α : Type} (a b : ℕ) (ha : a < 2 ^ 31) (hb : b < 2 ^ 31) (x y : α) :
    Scalar.select (IntOp.cmpi .slt (BitVec.ofNat 32 a) (BitVec.ofNat 32 b)) x y = if a < b then x else y := by
  have : (BitVec.ofNat 32 a).slt (BitVec.ofNat 32 b) = decide (a < b) := by
    rw [BitVec.slt_eq_decide, BitVec.toInt_eq_toNat_of_lt (by simp; omega), BitVec.toInt_eq_toNat_of_lt (by simp; omega)]
    simp; omega
  simp only [IntOp.cmpi, this, Scalar.select_ofBool, decide_eq_true_eq]

/-- Choosing by the signed comparison `a ≤ b` of two small numbers is choosing by `a ≤ b`. -/
theorem select_sle {α : Type} (a b : ℕ) (ha : a < 2 ^ 31) (hb : b < 2 ^ 31) (x y : α) :
    Scalar.select (IntOp.cmpi .sle (BitVec.ofNat 32 a) (BitVec.ofNat 32 b)) x y = if a ≤ b then x else y := by
  have : (BitVec.ofNat 32 a).sle (BitVec.ofNat 32 b) = decide (a ≤ b) := by
    rw [BitVec.sle_eq_decide, BitVec.toInt_eq_toNat_of_lt (by simp; omega), BitVec.toInt_eq_toNat_of_lt (by simp; omega)]
    simp; omega
  simp only [IntOp.cmpi, this, Scalar.select_ofBool, decide_eq_true_eq]

/-- Choosing by the equality of the words of two small numbers is choosing by their equality. -/
theorem select_eq {α : Type} (a b : ℕ) (ha : a < 2 ^ 31) (hb : b < 2 ^ 31) (x y : α) :
    Scalar.select (IntOp.cmpi .eq (BitVec.ofNat 32 a) (BitVec.ofNat 32 b)) x y = if a = b then x else y := by
  have : (BitVec.ofNat 32 a == BitVec.ofNat 32 b) = decide (a = b) := by
    rw [Bool.eq_iff_iff, beq_iff_eq, decide_eq_true_eq]
    refine ⟨fun h => ?_, fun h => by rw [h]⟩
    have h' := congrArg BitVec.toNat h
    rw [BitVec.toNat_ofNat, BitVec.toNat_ofNat] at h'
    omega
  simp only [IntOp.cmpi, this, Scalar.select_ofBool, decide_eq_true_eq]

end Cert.Attn

end
-- ==== Proof.Block.lean ====
/- The kernel's arithmetic on one block of keys, read at one entry: the scores of a row against the block's columns,
   the running maximum, the running weighted sum, and the quotient the kernel stores, for both heads of a slab. -/
module

public import proofs.«01_k».proof.Proof.Gen.KernelIdeal.Value
public import proofs.«01_k».proof.Proof.Consts
public import Idealize.ShloMosaic.Lib.Pipeline.ValueKit
public import Idealize.ShloMosaic.Lib.Pointwise

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Tactic Cert.Attn

/-- The named constant is the inverse of `log 2`. -/
theorem log2e_eq : Named.named (F := Ideal) κ "log2e" (φ := .f32) 0x3FB8AA3B#32 = (((Real.log 2)⁻¹ : ℝ) : EReal) := rfl

/-- The base-2 score of row `r` of the queries against column `c` of a block of keys, with its decay bias. -/
def score (q : Vec Ideal S512x128 .bf16) (kt : Vec Ideal S128x512 .bf16) (c0 : EReal) (ce : Vec Ideal S1x512 .f32)
    (r c : Fin 512) : EReal :=
  (∑ d : Fin 128, q (ix2 r d) * kt (ix2 d c)) + (c0 - ce (ix2 0 c)) * (((Real.log 2)⁻¹ : ℝ) : EReal)

/-- The same with the columns after the row masked. -/
def scoreM (q : Vec Ideal S512x128 .bf16) (kt : Vec Ideal S128x512 .bf16) (c0 : EReal) (ce : Vec Ideal S1x512 .f32)
    (r c : Fin 512) : EReal :=
  if (c : ℕ) ≤ r then score q kt c0 ce r c else ⊥

/-- The maximum of `m` and a row of scores. -/
def rowMax (m : EReal) (y : Fin 512 → EReal) : EReal := max m (Finset.univ.fold max ⊥ y)

/-- The running sum after a block with scores `y`, at the lane where the block's values are `v`. -/
def accNext (m acc : EReal) (y v : Fin 512 → EReal) : EReal :=
  Ideal.exp2 (m - rowMax m y) * acc + ∑ c, Ideal.exp2 (y c - rowMax m y) * v c

/-- The first head's values with the column of ones on lane 64 (and zeros to the right of it). -/
def val0 (l : ℕ) (v : EReal) : EReal := if l < 64 then v else if l = 64 then 1 else 0

/-- The second head's values with the column of ones on lane 0 (and zeros between). -/
def val1 (l : ℕ) (v : EReal) : EReal := if l < 64 then (if l = 0 then 1 else 0) else v

/-- The queries of the first head: the slab's left 64 lanes. -/
theorem query0 (x : Vec Ideal S512x128 .bf16) (r : Fin 512) (d : Fin 128) :
    k0_pay14 (F := Ideal) x (ix2 r d) = if (d : ℕ) < 64 then x (ix2 r d) else 0 := by
  pointwise [k0_pay14, k0_pay12, k0_pay13]
  exact select_slt _ _ (by omega) (by omega) _ _

/-- The queries of the second head: the slab's right 64 lanes. -/
theorem query1 (x : Vec Ideal S512x128 .bf16) (r : Fin 512) (d : Fin 128) :
    k0_pay15 (F := Ideal) x (ix2 r d) = if (d : ℕ) < 64 then 0 else x (ix2 r d) := by
  pointwise [k0_pay15, k0_pay12, k0_pay13]
  exact select_slt _ _ (by omega) (by omega) _ _

/-- The first head's new maximum after an unmasked block. -/
theorem max0 (q : Vec Ideal S512x128 .bf16) (b m kt ce) (r : Fin 512) :
    k0_pay4 (F := Ideal) q b m kt ce (ix2 r 0) = rowMax (m (ix2 r 0)) (score q kt (b (ix2 0 0)) ce r) := by
  pointwise [k0_pay4, k0_pay3]
  rw [ofBits_neg_inf]
  rfl

/-- The second head's new maximum after an unmasked block. -/
theorem max1 (q : Vec Ideal S512x128 .bf16) (b m kt ce) (r : Fin 512) :
    k0_pay26 (F := Ideal) q m kt (k0_pay6 b ce) (ix2 r 0) = rowMax (m (ix2 r 0)) (score q kt (b (ix2 0 0)) ce r) := by
  pointwise [k0_pay26, k0_pay25, k0_pay6]
  rw [ofBits_neg_inf]
  rfl

/-- The first head's new sum after an unmasked block. -/
theorem acc0 (q : Vec Ideal S512x128 .bf16) (b m acc kt v ce) (r : Fin 512) (l : Fin 128) :
    k0_pay5 (F := Ideal) k0_pay12 q k0_pay16 b m acc kt v ce (ix2 r l)
      = accNext (m (ix2 r 0)) (acc (ix2 r l)) (score q kt (b (ix2 0 0)) ce r) fun c => val0 l (v (ix2 c l)) := by
  pointwise [k0_pay5, k0_pay4, k0_pay3, k0_pay12, k0_pay16]
  simp (disch := omega) only [ofBits_neg_inf, select_slt, select_eq]
  rfl

/-- The second head's new sum after an unmasked block. -/
theorem acc1 (q : Vec Ideal S512x128 .bf16) (b m acc kt v ce) (r : Fin 512) (l : Fin 128) :
    k0_pay27 (F := Ideal) q m acc kt (k0_pay2 k0_pay12 k0_pay17 v) (k0_pay6 b ce) (ix2 r l)
      = accNext (m (ix2 r 0)) (acc (ix2 r l)) (score q kt (b (ix2 0 0)) ce r) fun c => val1 l (v (ix2 c l)) := by
  pointwise [k0_pay27, k0_pay26, k0_pay25, k0_pay2, k0_pay6, k0_pay12, k0_pay17]
  simp (disch := omega) only [ofBits_neg_inf, select_slt, select_eq]
  rfl

set_option maxHeartbeats 1000000 in
/-- What the kernel stores after the masked block: each head's sum over its sum of ones. -/
theorem stored (q0 q1 : Vec Ideal S512x128 .bf16) (b0 b1 m0 m1 a0 a1 kt v ce0 ce1) (r : Fin 512) (l : Fin 128) :
    k0_pay1 (F := Ideal) k0_pay12 q1 b1 k0_pay20 m0 a0 m1 a1 kt (k0_pay31 k0_pay12 k0_pay16 v)
        (k0_pay32 k0_pay12 k0_pay17 v) (k0_pay34 q0 b0 k0_pay20 m0 kt ce0) (k0_pay35 q0 b0 k0_pay20 m0 kt ce0) ce1 (ix2 r l)
      = if (l : ℕ) < 64 then
          Ideal.div
            (accNext (m0 (ix2 r 0)) (a0 (ix2 r l)) (scoreM q0 kt (b0 (ix2 0 0)) ce0 r) fun c => val0 l (v (ix2 c l)))
            (accNext (m0 (ix2 r 0)) (a0 (ix2 r 64)) (scoreM q0 kt (b0 (ix2 0 0)) ce0 r) fun c => val0 64 (v (ix2 c 64)))
        else
          Ideal.div
            (accNext (m1 (ix2 r 0)) (a1 (ix2 r l)) (scoreM q1 kt (b1 (ix2 0 0)) ce1 r) fun c => val1 l (v (ix2 c l)))
            (accNext (m1 (ix2 r 0)) (a1 (ix2 r 0)) (scoreM q1 kt (b1 (ix2 0 0)) ce1 r) fun c => val1 0 (v (ix2 c 0))) := by
  pointwise [k0_pay1, k0_pay34, k0_pay33, k0_pay35, k0_pay31, k0_pay32, k0_pay20, k0_pay12, k0_pay16, k0_pay17]
  simp (disch := omega) only [ofBits_neg_inf, select_slt, select_sle, select_eq]
  rfl

end Cert.KernelIdeal.Attn

end
-- ==== Proof.Online.lean ====
/- The mathematics of the online softmax, for one row of queries and one lane of values: a running maximum `m` and a
   running weighted sum `acc` in base 2, rescaled block by block, against the softmax in base e. Scores are reals,
   values any extended reals. -/
module

public import Idealize.ShloMosaic.PureOps.Ideal
public import Idealize.ShloMosaic.Lib.Pointwise

@[expose] public section

noncomputable section

namespace Cert.Attn

open Idealize.ShloMosaic Finset

/-- A real that is not negative times a finite sum of extended reals is the sum of the products. -/
theorem coe_mul_sum {ι : Type} (a : ℝ) (ha : 0 ≤ a) (s : Finset ι) (f : ι → EReal) :
    (a : EReal) * ∑ i ∈ s, f i = ∑ i ∈ s, (a : EReal) * f i := by
  classical
  induction s using Finset.induction with
  | empty => simp
  | insert i s hi ih =>
    rw [sum_insert hi, sum_insert hi, EReal.left_distrib_of_nonneg_of_ne_top (EReal.coe_nonneg.mpr ha) (EReal.coe_ne_top a), ih]

/-- A sum of reals, read as an extended real. -/
theorem coe_sum {ι : Type} (s : Finset ι) (f : ι → ℝ) : ((∑ i ∈ s, f i : ℝ) : EReal) = ∑ i ∈ s, (f i : EReal) := by
  classical
  induction s using Finset.induction with
  | empty => simp
  | insert i s hi ih => rw [sum_insert hi, sum_insert hi, EReal.coe_add, ih]

/-- The attention of the first `n` keys with base-2 scores `x`, at values `V`: each value times its weight, the
    weights `2 ^ x` over their sum. -/
def attn (n : ℕ) (x : ℕ → ℝ) (V : ℕ → EReal) : EReal :=
  ∑ s ∈ range n, (((2 : ℝ) ^ x s / ∑ u ∈ range n, (2 : ℝ) ^ x u : ℝ) : EReal) * V s

/-- What the running pair holds after the first `n` keys: the start values, or a real `m` (any real serves) and the
    sum of the values times `2 ^ (x - m)`. -/
def Inv (x : ℕ → ℝ) (V : ℕ → EReal) (n : ℕ) (m acc : EReal) : Prop :=
  (n = 0 ∧ m = ⊥ ∧ acc = 0) ∨
    ∃ μ : ℝ, m = (μ : EReal) ∧ acc = ∑ s ∈ range n, (((2 : ℝ) ^ (x s - μ) : ℝ) : EReal) * V s

/-- The running maximum is `⊥` or a real. -/
theorem Inv.max {x : ℕ → ℝ} {V : ℕ → EReal} {n : ℕ} {m acc : EReal} (h : Inv x V n m acc) : m = ⊥ ∨ ∃ μ : ℝ, m = μ := by
  rcases h with ⟨_, h, _⟩ | ⟨μ, h, _⟩
  · exact .inl h
  · exact .inr ⟨μ, h⟩

/-- A maximum over finitely many elements, each `⊥` or a real, started at `⊥` or a real, is `⊥` or a real. -/
theorem fold_max_cases {ι : Type} (s : Finset ι) (b : EReal) (f : ι → EReal) (hb : b = ⊥ ∨ ∃ μ : ℝ, b = μ)
    (hf : ∀ i, f i = ⊥ ∨ ∃ μ : ℝ, f i = μ) : s.fold max b f = ⊥ ∨ ∃ μ : ℝ, s.fold max b f = μ := by
  classical
  induction s using Finset.induction with
  | empty => simpa using hb
  | insert i s hi ih =>
    rw [fold_insert hi]
    rcases max_choice (f i) (s.fold max b f) with h | h <;> rw [h]
    · exact hf i
    · exact ih

/-- If one of the elements is a real, so is the maximum of all of them and of `m`. -/
theorem max_fold_real {ι : Type} [Fintype ι] (m : EReal) (f : ι → EReal) (hm : m = ⊥ ∨ ∃ μ : ℝ, m = μ)
    (hf : ∀ i, f i = ⊥ ∨ ∃ μ : ℝ, f i = μ) (i : ι) (ξ : ℝ) (hi : f i = ξ) :
    ∃ μ : ℝ, max m (Finset.univ.fold max ⊥ f) = μ := by
  have hle : f i ≤ Finset.univ.fold max ⊥ f := (Finset.le_fold_max (f i)).mpr (.inr ⟨i, Finset.mem_univ i, le_rfl⟩)
  have hc := fold_max_cases Finset.univ ⊥ f (.inl rfl) hf
  have : ∃ μ : ℝ, Finset.univ.fold max ⊥ f = μ := by
    rcases hc with h | h
    · rw [h, hi] at hle; exact absurd (le_bot_iff.mp hle) (EReal.coe_ne_bot ξ)
    · exact h
  obtain ⟨μ, hμ⟩ := this
  rcases hm with rfl | ⟨ν, rfl⟩
  · exact ⟨μ, by rw [hμ]; simp⟩
  · exact ⟨max ν μ, by rw [hμ]; exact (EReal.coe_strictMono.monotone.map_max (a := ν) (b := μ)).symm⟩

/-- The base-2 exponential of a difference of reals. -/
theorem exp2_coe_sub (a b : ℝ) : Ideal.exp2 ((a : EReal) - b) = (((2 : ℝ) ^ (a - b) : ℝ) : EReal) := by
  rw [← EReal.coe_sub]; rfl

/-- The base-2 exponential of `⊥` less a real is `0`. -/
theorem exp2_bot_sub (b : ℝ) : Ideal.exp2 ((⊥ : EReal) - b) = 0 := by
  rw [EReal.bot_sub]; rfl

/-- A sum over the columns of a block that are left of `w` is the sum over the first `w` numbers. -/
theorem sum_fin_lt {B : ℕ} (w : ℕ) (hw : w ≤ B) (g : ℕ → EReal) :
    ∑ c : Fin B, (if (c : ℕ) < w then g c else 0) = ∑ c ∈ range w, g c := by
  rw [Fin.sum_univ_eq_sum_range (fun c => if c < w then g c else 0) B, ← sum_filter]
  congr 1
  ext c; simp; omega

/-- ONE BLOCK of the online softmax: from the first `n` keys to the first `n + w`, the block's columns from `w` on
    being masked to `⊥`, with the new maximum any real. -/
theorem Inv.step {B : ℕ} {x : ℕ → ℝ} {V : ℕ → EReal} {n : ℕ} {m acc : EReal} (h : Inv x V n m acc) (w : ℕ)
    (hw : w ≤ B) (y v : Fin B → EReal) (hy : ∀ c, y c = if (c : ℕ) < w then (x (n + c) : EReal) else ⊥)
    (hv : ∀ c : Fin B, (c : ℕ) < w → v c = V (n + c)) (m' : EReal) (hm' : ∃ μ : ℝ, m' = μ) :
    Inv x V (n + w) m' (Ideal.exp2 (m - m') * acc + ∑ c, Ideal.exp2 (y c - m') * v c) := by
  obtain ⟨μ', rfl⟩ := hm'
  refine .inr ⟨μ', rfl, ?_⟩
  have hblock : ∑ c, Ideal.exp2 (y c - μ') * v c
      = ∑ c ∈ range w, (((2 : ℝ) ^ (x (n + c) - μ') : ℝ) : EReal) * V (n + c) := by
    rw [← sum_fin_lt w hw fun c => (((2 : ℝ) ^ (x (n + c) - μ') : ℝ) : EReal) * V (n + c)]
    refine sum_congr rfl fun c _ => ?_
    by_cases hc : (c : ℕ) < w
    · rw [hy, hv c hc, if_pos hc, if_pos hc, exp2_coe_sub]
    · rw [hy, if_neg hc, if_neg hc, exp2_bot_sub, zero_mul]
  rw [hblock, sum_range_add]
  congr 1
  rcases h with ⟨rfl, rfl, rfl⟩ | ⟨μ, rfl, rfl⟩
  · simp
  · rw [exp2_coe_sub, coe_mul_sum _ (by positivity)]
    refine sum_congr rfl fun s _ => ?_
    rw [← mul_assoc, ← EReal.coe_mul, ← Real.rpow_add two_pos]
    congr 3
    ring

/-- The quotient of an extended real by a real that is not zero. -/
theorem div_coe (a : EReal) (L : ℝ) (hL : L ≠ 0) : Ideal.div a L = ((L⁻¹ : ℝ) : EReal) * a := by
  unfold Ideal.div
  rw [if_neg (by simpa using hL), mul_comm, EReal.coe_inv]

/-- THE END of the online softmax: the running sum over the running sum of ones is the attention. -/
theorem Inv.final {x : ℕ → ℝ} {V : ℕ → EReal} {n : ℕ} (hn : 0 < n) {m acc one : EReal} (h : Inv x V n m acc)
    (h1 : Inv x (fun _ => 1) n m one) : Ideal.div acc one = attn n x V := by
  rcases h with ⟨rfl, _, _⟩ | ⟨μ, rfl, rfl⟩
  · omega
  rcases h1 with ⟨rfl, _, _⟩ | ⟨ν, hν, rfl⟩
  · omega
  obtain rfl : μ = ν := EReal.coe_injective hν
  have hsum : ∑ s ∈ range n, (((2 : ℝ) ^ (x s - μ) : ℝ) : EReal) * 1
      = ((∑ s ∈ range n, (2 : ℝ) ^ (x s - μ) : ℝ) : EReal) := by
    rw [coe_sum]; exact sum_congr rfl fun s _ => mul_one _
  have hpos : 0 < ∑ s ∈ range n, (2 : ℝ) ^ (x s - μ) :=
    sum_pos (fun s _ => by positivity) ⟨0, mem_range.mpr hn⟩
  have hpos' : 0 < ∑ s ∈ range n, (2 : ℝ) ^ x s := sum_pos (fun s _ => by positivity) ⟨0, mem_range.mpr hn⟩
  rw [hsum, div_coe _ _ hpos.ne', coe_mul_sum _ (by positivity), attn]
  refine sum_congr rfl fun s _ => ?_
  rw [← mul_assoc, ← EReal.coe_mul]
  congr 2
  have : ∑ s ∈ range n, (2 : ℝ) ^ (x s - μ) = (∑ s ∈ range n, (2 : ℝ) ^ x s) / 2 ^ μ := by
    rw [sum_div]; exact sum_congr rfl fun u _ => Real.rpow_sub two_pos _ _
  rw [this, Real.rpow_sub two_pos]
  field_simp

/-- The SOFTMAX IN BASE e over `B` keys, those from `n` on masked to `⊥`: with scores `y` that are `x * log 2` up to
    one shift `δ` of the whole row, each value times `exp (y - M) / ∑ exp (y - M)` sums to the attention. -/
theorem softmax_eq {B : ℕ} (x : ℕ → ℝ) (V : ℕ → EReal) (n : ℕ) (hn : 0 < n) (hB : n ≤ B) (δ : ℝ) (y v : Fin B → EReal)
    (hy : ∀ c, y c = if (c : ℕ) < n then ((x c * Real.log 2 + δ : ℝ) : EReal) else ⊥)
    (hv : ∀ c : Fin B, v c = V c) (M : EReal) (hM : ∃ μ : ℝ, M = μ) :
    ∑ c, v c * Ideal.div (Ideal.exp (y c - M)) (0 + ∑ c, Ideal.exp (y c - M)) = attn n x V := by
  obtain ⟨μ, rfl⟩ := hM
  have hexp : ∀ c, Ideal.exp (y c - μ) = if (c : ℕ) < n then ((Real.exp (δ - μ) * (2 : ℝ) ^ x c : ℝ) : EReal) else 0 := by
    intro c
    rw [hy]
    split_ifs with hc
    · rw [← EReal.coe_sub]
      show ((Real.exp _ : ℝ) : EReal) = _
      rw [Real.rpow_def_of_pos two_pos, ← Real.exp_add]
      congr 2; ring
    · rw [EReal.bot_sub]; rfl
  have hsum : (0 : EReal) + ∑ c, Ideal.exp (y c - μ) = ((∑ s ∈ range n, Real.exp (δ - μ) * (2 : ℝ) ^ x s : ℝ) : EReal) := by
    rw [zero_add, coe_sum, ← sum_fin_lt n hB fun s => ((Real.exp (δ - μ) * (2 : ℝ) ^ x s : ℝ) : EReal)]
    exact sum_congr rfl fun c _ => hexp c
  have hpos' : 0 < ∑ s ∈ range n, (2 : ℝ) ^ x s := sum_pos (fun s _ => by positivity) ⟨0, mem_range.mpr hn⟩
  have hpos : 0 < ∑ s ∈ range n, Real.exp (δ - μ) * (2 : ℝ) ^ x s :=
    sum_pos (fun s _ => by positivity) ⟨0, mem_range.mpr hn⟩
  rw [hsum, attn, ← sum_fin_lt n hB fun s => (((2 : ℝ) ^ x s / ∑ u ∈ range n, (2 : ℝ) ^ x u : ℝ) : EReal) * V s]
  refine sum_congr rfl fun c _ => ?_
  rw [div_coe _ _ hpos.ne', hexp, hv]
  split_ifs with hc
  · rw [← EReal.coe_mul, mul_comm]
    congr 2
    rw [← mul_sum]
    have := Real.exp_pos (δ - μ)
    field_simp
  · simp

end Cert.Attn

end
-- ==== Proof.Rows.lean ====
/- One grid point of the kernel: the loop over the blocks of keys before the diagonal one, and what the point stores.
   The loop is followed by an invariant (`StInv`), never by running its trips. -/
module

public import proofs.«01_k».proof.Proof.Block
public import proofs.«01_k».proof.Proof.Online

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Tactic Cert.Attn

/-- The key in column `c` of block `n`. -/
def key (n : Fin 32) (c : Fin 512) : Fin 16384 := ⟨512 * n + c, by omega⟩

/-- Block `n` of the transposed keys, read at an entry. -/
theorem ld_kt (X : Vec Ideal S128x16384 .bf16) (n : Fin 32) (off : Fin 2 → ℕ) (h : off = ![0, 512 * n.val])
    (inb : ∀ a, off a + S128x512.size a ≤ S128x16384.size a) (d : Fin 128) (c : Fin 512) :
    View.ld X (Rect.unit (s := S128x16384) off S128x512.size inb) (ix2 d c) = X (ix2 d (key n c)) := by
  subst h
  pointwise []
  rfl

/-- Block `n` of the values, read at an entry. -/
theorem ld_v (X : Vec Ideal S16384x128 .bf16) (n : Fin 32) (off : Fin 2 → ℕ) (h : off = ![512 * n.val, 0])
    (inb : ∀ a, off a + S512x128.size a ≤ S16384x128.size a) (c : Fin 512) (d : Fin 128) :
    View.ld X (Rect.unit (s := S16384x128) off S512x128.size inb) (ix2 c d) = X (ix2 (key n c) d) := by
  subst h
  pointwise []
  rfl

/-- Block `n` of row `h` of the running decay sums, read at an entry. -/
theorem ld_c (X : Vec Ideal S16x16384 .f32) (e : Fin 16) (n : Fin 32) (off : Fin 2 → ℕ) (h : off = ![e.val, 512 * n.val])
    (inb : ∀ a, off a + S1x512.size a ≤ S16x16384.size a) (c : Fin 512) :
    View.ld X (Rect.unit (s := S16x16384) off S1x512.size inb) (ix2 0 c) = X (ix2 e (key n c)) := by
  subst h
  pointwise []
  rfl

/-- The two heads of slab `p`. -/
def head (i : grid0.Coords) (e : Fin 2) : Fin 16 := ⟨2 * (i 0).val + e.val, by have : (i 0).val < 8 := (i 0).isLt; omega⟩

/-- The number of key blocks before the diagonal one is the query block's number. -/
theorem trips1 (i : grid0.Coords) : (k0_t1_loop i).trips = (i 1).val := by
  revert i; decide +kernel

/-- The second loop, which the printed program leaves after the first, has no trip. -/
theorem trips2 (i : grid0.Coords) : (k0_t2_loop i).trips = 0 := Nat.le_zero.mp (k0_t2_abs i).2.1

/-- The query block as a block number. -/
def qblk (i : grid0.Coords) : Fin 32 := ⟨(i 1).val, (i 1).isLt⟩

/-- The value of key `s` on lane `l`. -/
def vAt (X : Vec Ideal S16384x128 .bf16) (l : Fin 128) (s : ℕ) : EReal := if h : s < 16384 then X (ix2 ⟨s, h⟩ l) else 0

/-- The values read at a key of a tile. -/
theorem vAt_key (X : Vec Ideal S16384x128 .bf16) (l : Fin 128) (n : Fin 32) (c : Fin 512) :
    vAt X l (512 * n + c) = X (ix2 (key n c) l) := by
  unfold vAt; rw [dif_pos (by omega)]; rfl

/-- An unmasked block takes the running pair from the first `n` blocks of keys to the first `n + 1`. -/
theorem Inv.block {x : ℕ → ℝ} {V : ℕ → EReal} {n : ℕ} {m acc : EReal} (h : Inv x V (512 * n) m acc)
    (y v : Fin 512 → EReal) (hy : ∀ c, y c = (x (512 * n + c) : EReal)) (hv : ∀ c : Fin 512, v c = V (512 * n + c)) :
    Inv x V (512 * (n + 1)) (rowMax m y) (accNext m acc y v) :=
  Inv.step h 512 le_rfl y v (fun c => by rw [hy, if_pos c.isLt]) (fun c _ => hv c) (rowMax m y)
    (max_fold_real m y h.max (fun c => .inr ⟨_, hy c⟩) 0 _ (hy 0))

/-- The masked block takes it from the first `n` blocks to all keys up to the row's own. -/
theorem Inv.diag {x : ℕ → ℝ} {V : ℕ → EReal} {n : ℕ} {m acc : EReal} (h : Inv x V (512 * n) m acc) (r : Fin 512)
    (y v : Fin 512 → EReal) (hy : ∀ c : Fin 512, y c = if (c : ℕ) ≤ r then (x (512 * n + c) : EReal) else ⊥)
    (hv : ∀ c : Fin 512, v c = V (512 * n + c)) :
    Inv x V (512 * n + (r + 1)) (rowMax m y) (accNext m acc y v) :=
  Inv.step h (r + 1) (by omega) y v (fun c => by rw [hy]; simp only [Nat.lt_succ_iff]) (fun c _ => hv c) (rowMax m y)
    (max_fold_real m y h.max (fun c => by rw [hy]; split_ifs <;> simp) 0 (x (512 * n + (0 : Fin 512)))
      (by rw [hy]; exact if_pos (Nat.zero_le _)))

/-- What the loop's state holds after `n` blocks, for every row and lane: each head's running pair. -/
def StInv (X0 X1 : Fin 512 → ℕ → ℝ) (x2 : Vec Ideal S16384x128 .bf16) (n : ℕ)
    (S : FVec Ideal S512x1 .f32 × FVec Ideal S512x128 .f32 × FVec Ideal S512x1 .f32 × FVec Ideal S512x128 .f32) : Prop :=
  ∀ (r : Fin 512) (l : Fin 128),
    Inv (X0 r) (fun s => val0 l (vAt x2 l s)) (512 * n) (S.1 (ix2 r 0)) (S.2.1 (ix2 r l)) ∧
      Inv (X1 r) (fun s => val1 l (vAt x2 l s)) (512 * n) (S.2.2.1 (ix2 r 0)) (S.2.2.2 (ix2 r l))

/-- The scores of a head's queries against all keys are the reals `X`. -/
def ScoresAre (q : Vec Ideal S512x128 .bf16) (x1 : Vec Ideal S128x16384 .bf16) (x3 : Vec Ideal S16x16384 .f32) (e : Fin 16)
    (c0 : EReal) (X : Fin 512 → ℕ → ℝ) : Prop :=
  ∀ (r : Fin 512) (s : Fin 16384),
    (∑ d : Fin 128, q (ix2 r d) * x1 (ix2 d s)) + (c0 - x3 (ix2 e s)) * (((Real.log 2)⁻¹ : ℝ) : EReal) = (X r s : EReal)

/-- So a block's scores are the reals of its keys. -/
theorem score_block {q x1 x3 e c0 X} (h : ScoresAre q x1 x3 e c0 X) (n : Fin 32) (kt ce)
    (hkt : ∀ d c, kt (ix2 d c) = x1 (ix2 d (key n c))) (hce : ∀ c, ce (ix2 0 c) = x3 (ix2 e (key n c))) (r c : Fin 512) :
    score q kt c0 ce r c = (X r (512 * n + c) : EReal) := by
  unfold score
  simp only [hkt, hce]
  exact h r (key n c)

/-- The state before the first block. -/
theorem init_inv (X0 X1 : Fin 512 → ℕ → ℝ) (x2 : Vec Ideal S16384x128 .bf16) :
    StInv X0 X1 x2 0 (k0_pay21, k0_pay22 (FloatOps.ofBits .f32 0x00000000#32), k0_pay23, k0_pay24) := by
  intro r l
  refine ⟨.inl ⟨rfl, ?_, ?_⟩, .inl ⟨rfl, ?_, ?_⟩⟩
  · pointwise [k0_pay21]; exact ofBits_neg_inf
  · pointwise [k0_pay22]
  · pointwise [k0_pay23]; exact ofBits_neg_inf
  · pointwise [k0_pay24]

variable (𝒱 : Variants) (c : Dev nD) (bd : Option 𝒱.V) (i : grid0.Coords) (arg2 : Memref sig .tc .vmem S512x128 .bf16)
    (harg2 : arg2.IsWhole) (arg3 : Memref sig .tc .vmem S128x16384 .bf16) (harg3 : arg3.IsWhole)
    (arg4 : Memref sig .tc .vmem S16384x128 .bf16) (harg4 : arg4.IsWhole) (arg5 : Memref sig .tc .vmem S16x16384 .f32)
    (harg5 : arg5.IsWhole) (arg6 : Memref sig .tc .vmem S512x128 .f32) (harg6 : arg6.IsWhole)
  (arg0 arg1 : BitVec 32) (q0 q1 : Vec Ideal S512x128 .bf16) (b0 b1 : Vec Ideal S1x1 .f32)
  (v39 : IVec S512x512 1) (v40 : FVec Ideal S512x1 .f32) (z : Ideal .f32)
  (x1 : Vec Ideal S128x16384 .bf16) (x2 : Vec Ideal S16384x128 .bf16) (x3 : Vec Ideal S16x16384 .f32)
  (X0 X1 : Fin 512 → ℕ → ℝ)

set_option maxHeartbeats 1000000 in
/-- One trip keeps the invariant. -/
theorem trip_inv (h0 : ScoresAre q0 x1 x3 (head i 0) (b0 (ix2 0 0)) X0) (h1 : ScoresAre q1 x1 x3 (head i 1) (b1 (ix2 0 0)) X1)
    (k : Fin (k0_t1_loop i).trips) (S) (hS : StInv X0 X1 x2 k.val S) :
    StInv X0 X1 x2 (k.val + 1) (tripR_k0_t1 (F := Ideal) 𝒱 c bd i arg2 harg2 arg3 harg3 arg4 harg4 arg5 harg5 arg6 harg6 arg0 arg1 k0_pay12 q0 q1 k0_pay16 k0_pay17 b0 b1 v39 v40 z
      (harg3.unread x1) (harg4.unread x2) (harg5.unread x3) k S) := by
  unfold tripR_k0_t1 trip_k0_t1
  sl_unfold_words
  simp only [View.readAt_eq_ld, Memref.IsWhole.read_unread]
  have hk : k.val < 32 := by have := k.isLt; have := (k0_t1_abs i).2.1; omega
  have ekt := ld_kt x1 ⟨k.val, hk⟩ _ (k0_off2_eq i k) (k0_off2_inb i k)
  have ev := ld_v x2 ⟨k.val, hk⟩ _ (k0_off3_eq i k) (k0_off3_inb i k)
  have e0 := ld_c x3 (head i 0) ⟨k.val, hk⟩ _ (k0_off4_eq i k 0) (k0_off4_inb i k 0)
  have e1 := ld_c x3 (head i 1) ⟨k.val, hk⟩ _ (k0_off4_eq i k 1) (k0_off4_inb i k 1)
  intro r l
  obtain ⟨hA, hB⟩ := hS r l
  constructor
  · dsimp only
    rw [max0, acc0]
    refine Inv.block hA _ _ (fun c => score_block h0 ⟨k.val, hk⟩ _ _ ekt e0 r c) fun c => ?_
    exact congrArg (val0 l) ((ev c l).trans (vAt_key x2 l ⟨k.val, hk⟩ c).symm)
  · dsimp only
    rw [max1, acc1]
    refine Inv.block hB _ _ (fun c => score_block h1 ⟨k.val, hk⟩ _ _ ekt e1 r c) fun c => ?_
    exact congrArg (val1 l) ((ev c l).trans (vAt_key x2 l ⟨k.val, hk⟩ c).symm)

/-- So does the loop: after `n` trips the state holds the first `n` blocks. -/
theorem loop_inv (h0 : ScoresAre q0 x1 x3 (head i 0) (b0 (ix2 0 0)) X0) (h1 : ScoresAre q1 x1 x3 (head i 1) (b1 (ix2 0 0)) X1)
    (S) (hS : StInv X0 X1 x2 0 S) (n : ℕ) (hn : n ≤ (k0_t1_loop i).trips) :
    StInv X0 X1 x2 n (st_k0_t1 (F := Ideal) 𝒱 c bd i arg2 harg2 arg3 harg3 arg4 harg4 arg5 harg5 arg6 harg6 arg0 arg1 k0_pay12 q0 q1 k0_pay16 k0_pay17 b0 b1 v39 v40 z
      (harg3.unread x1) (harg4.unread x2) (harg5.unread x3) S n) := by
  induction n with
  | zero => rw [st_k0_t1_zero]; exact hS
  | succ n ih =>
    have e := st_k0_t1_succ (F := Ideal) 𝒱 c bd i arg2 harg2 arg3 harg3 arg4 harg4 arg5 harg5 arg6 harg6 arg0 arg1 k0_pay12 q0 q1 k0_pay16 k0_pay17 b0 b1 v39 v40 z
      (harg3.unread x1) (harg4.unread x2) (harg5.unread x3) S ⟨n, hn⟩
    dsimp only at e
    rw [e]
    exact trip_inv 𝒱 c bd i arg2 harg2 arg3 harg3 arg4 harg4 arg5 harg5 arg6 harg6 arg0 arg1 q0 q1 b0 b1 v39 v40 z x1 x2 x3 X0 X1 h0 h1 ⟨n, hn⟩ _ (ih (Nat.le_of_succ_le hn))

end Cert.KernelIdeal.Attn

end
-- ==== Proof.Point.lean ====
/- What one grid point of the kernel stores, entry by entry: the attention of the row's query over all keys up to it. -/
module

public import proofs.«01_k».proof.Proof.Rows

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Tactic Cert.Attn

variable (c : Dev nD) (i : grid0.Coords) (arg2 : Memref sig .tc .vmem S512x128 .bf16)
    (harg2 : arg2.IsWhole) (arg3 : Memref sig .tc .vmem S128x16384 .bf16) (harg3 : arg3.IsWhole)
    (arg4 : Memref sig .tc .vmem S16384x128 .bf16) (harg4 : arg4.IsWhole) (arg5 : Memref sig .tc .vmem S16x16384 .f32)
    (harg5 : arg5.IsWhole) (arg6 : Memref sig .tc .vmem S512x128 .f32) (harg6 : arg6.IsWhole)
  (x0 : Vec Ideal S512x128 .bf16) (x1 : Vec Ideal S128x16384 .bf16) (x2 : Vec Ideal S16384x128 .bf16)
  (x3 : Vec Ideal S16x16384 .f32) (X0 X1 : Fin 512 → ℕ → ℝ)

/-- The first element of a row of a block, the anchor the biases are taken from. -/
theorem first18 (x : Vec Ideal S1x512 .f32) : k0_pay18 (F := Ideal) x (ix2 0 0) = x (ix2 0 0) := by
  pointwise [k0_pay18]

/-- The first entry of a row, as the body takes it. -/
theorem first19 (x : Vec Ideal S1x512 .f32) : k0_pay19 (F := Ideal) x (ix2 0 0) = x (ix2 0 0) := by
  pointwise [k0_pay19]

/-- The masked block's scores are the reals of the keys up to the row, and `⊥` after it. -/
theorem scoreM_block {q x1 x3 e c0 X} (h : ScoresAre q x1 x3 e c0 X) (n : Fin 32) (kt ce)
    (hkt : ∀ d c, kt (ix2 d c) = x1 (ix2 d (key n c))) (hce : ∀ c, ce (ix2 0 c) = x3 (ix2 e (key n c))) (r c : Fin 512) :
    scoreM q kt c0 ce r c = if (c : ℕ) ≤ r then (X r (512 * n + c) : EReal) else ⊥ := by
  unfold scoreM
  rw [score_block h n kt ce hkt hce]

set_option maxHeartbeats 4000000 in
/-- THE POINT: at row `r` and lane `l` of the block it stores, the attention of the head the lane lies in, over the keys
    up to the row's own position, at the values of that lane. -/
theorem out_eq (h0 : ScoresAre (k0_pay14 x0) x1 x3 (head i 0) (x3 (ix2 (head i 0) (key (qblk i) 0))) X0)
    (h1 : ScoresAre (k0_pay15 x0) x1 x3 (head i 1) (x3 (ix2 (head i 1) (key (qblk i) 0))) X1) (r : Fin 512) (l : Fin 128) :
    out0_A_4 (F := Ideal) c i arg2 harg2 arg3 harg3 arg4 harg4 arg5 harg5 arg6 harg6 x0 x1 x2 x3 (ix2 r l)
      = if (l : ℕ) < 64 then attn (512 * (i 1).val + (r + 1)) (X0 r) (vAt x2 l)
        else attn (512 * (i 1).val + (r + 1)) (X1 r) (vAt x2 l) := by
  have ekt := ld_kt x1 (qblk i) _ (k0_off8_eq i) (k0_off8_inb i)
  have ev := ld_v x2 (qblk i) _ (k0_off9_eq i) (k0_off9_inb i)
  have e0 := ld_c x3 (head i 0) (qblk i) _ (k0_off1_eq i 0) (k0_off1_inb i 0)
  have e1 := ld_c x3 (head i 1) (qblk i) _ (k0_off1_eq i 1) (k0_off1_inb i 1)
  have hb0 := (first18 _).trans (e0 0)
  have hb1 := (first19 _).trans (e1 0)
  rw [← hb0] at h0
  rw [← hb1] at h1
  frame_out
  have t1 : Scf.trips (0#32) (Scalar.addi (0#32) (Scalar.muli (Scalar.divsi (Scalar.subi (BitVec.ofNat 32 ↑(i 1)) 0#32) 1#32) 1#32)) 1#32 = (i 1).val := trips1 i
  have t2 : Scf.trips (Scalar.addi (0#32) (Scalar.muli (Scalar.divsi (Scalar.subi (BitVec.ofNat 32 ↑(i 1)) 0#32) 1#32) 1#32))
    (Scalar.addi (0#32) (Scalar.subi (BitVec.ofNat 32 ↑(i 1)) 0#32)) 1#32 = 0 := trips2 i
  rw [t1, t2]
  simp only [st_k0_t2_zero]
  have hS := loop_inv Variants.none c none i arg2 harg2 arg3 harg3 arg4 harg4 arg5 harg5 arg6 harg6 (BitVec.ofNat 32 ↑(i 0))
    (BitVec.ofNat 32 ↑(i 1)) _ _ _ _ k0_pay20 k0_pay21 (FloatOps.ofBits FTy.f32 0#32) x1 x2 x3 X0 X1 h0 h1 _ (init_inv X0 X1 x2)
    (i 1).val (trips1 i).ge
  refine (stored _ _ _ _ _ _ _ _ _ _ _ _ r l).trans ?_
  have hv : ∀ (l : Fin 128) (k : Fin 512), View.ld x2 (Rect.unit (s := S16384x128) (k0_off9 i) S512x128.size (k0_off9_inb i)) (ix2 k l) = vAt x2 l (512 * (i 1).val + k) :=
    fun l k => (ev k l).trans (vAt_key x2 l (qblk i) k).symm
  split_ifs with hl
  · have hA := Inv.diag (hS r l).1 r _ _ (fun k => scoreM_block h0 (qblk i) _ _ ekt e0 r k) (fun k => congrArg (val0 l) (hv l k))
    have hO := Inv.diag (hS r 64).1 r _ _ (fun k => scoreM_block h0 (qblk i) _ _ ekt e0 r k) (fun k => congrArg (val0 64) (hv 64 k))
    have eV : (fun s => val0 l (vAt x2 l s)) = vAt x2 l := funext fun s => if_pos hl
    have eO : (fun s => val0 ((64 : Fin 128) : ℕ) (vAt x2 64 s)) = fun _ => 1 := funext fun s => rfl
    rw [eV] at hA
    rw [eO] at hO
    exact Inv.final (by omega) hA hO
  · have hA := Inv.diag (hS r l).2 r _ _ (fun k => scoreM_block h1 (qblk i) _ _ ekt e1 r k) (fun k => congrArg (val1 l) (hv l k))
    have hO := Inv.diag (hS r 0).2 r _ _ (fun k => scoreM_block h1 (qblk i) _ _ ekt e1 r k) (fun k => congrArg (val1 0) (hv 0 k))
    have eV : (fun s => val1 l (vAt x2 l s)) = vAt x2 l := funext fun s => if_neg hl
    have eO : (fun s => val1 ((0 : Fin 128) : ℕ) (vAt x2 0 s)) = fun _ => 1 := funext fun s => rfl
    rw [eV] at hA
    rw [eO] at hO
    exact Inv.final (by omega) hA hO

end Cert.KernelIdeal.Attn

end
-- ==== Proof.Spec.lean ====
/- The function both programs compute, in the mathematics' own terms: per position and lane, the causal attention of the
   head the lane lies in. -/
module

public import proofs.«01_k».proof.Proof.Online

@[expose] public section

noncomputable section

namespace Cert.Attn

open Idealize.ShloMosaic

/-- The shapes of the queries and values, of the transposed keys, and of the running decay sums. -/
abbrev SQ : Shape := ⟨2, ![16384, 1024]⟩
/-- The keys' shape. -/
abbrev SK : Shape := ⟨2, ![1024, 16384]⟩
/-- The cumulative decay's shape. -/
abbrev SC : Shape := ⟨2, ![16, 16384]⟩

/-- Every element is a real number. -/
def Finite {S : Shape} (x : S.Idx → EReal) : Prop := ∀ j, x j = ((x j).toReal : EReal)

/-- Lane `d` of head `h`, and the head of a lane. -/
def lane (h : Fin 16) (d : Fin 64) : Fin 1024 := ⟨64 * h + d, by omega⟩
/-- The head of a lane: 64 lanes each. -/
def headOf (l : Fin 1024) : Fin 16 := ⟨l / 64, by omega⟩

/-- The first position of the block of 512 that `t` lies in. -/
def anchor (t : Fin 16384) : Fin 16384 := ⟨512 * (t / 512), by omega⟩

/-- The product of head `h`'s query at `t` with its key at `s`. -/
def dot (q : SQ.Idx → EReal) (k : SK.Idx → EReal) (h : Fin 16) (t s : Fin 16384) : ℝ :=
  ∑ d : Fin 64, (q (ix2 t (lane h d))).toReal * (k (ix2 (lane h d) s)).toReal

/-- The base-2 score of position `t` against key `s`, its decay bias taken from position `a`. -/
def baseScore (q : SQ.Idx → EReal) (k : SK.Idx → EReal) (c : SC.Idx → EReal) (h : Fin 16) (a t : Fin 16384) (s : ℕ) : ℝ :=
  if hs : s < 16384 then
    dot q k h t ⟨s, hs⟩ + ((c (ix2 h a)).toReal - (c (ix2 h ⟨s, hs⟩)).toReal) * (Real.log 2)⁻¹
  else 0

/-- The value of key `s` on a lane. -/
def value (v : SQ.Idx → EReal) (l : Fin 1024) (s : ℕ) : EReal := if hs : s < 16384 then v (ix2 ⟨s, hs⟩ l) else 0

/-- The result at position `t` and lane `l`. -/
def resultAt (q : SQ.Idx → EReal) (k : SK.Idx → EReal) (v : SQ.Idx → EReal) (c : SC.Idx → EReal) (t : Fin 16384)
    (l : Fin 1024) : EReal :=
  attn (t + 1) (baseScore q k c (headOf l) (anchor t) t) (value v l)

/-- The result array. -/
def result (q : SQ.Idx → EReal) (k : SK.Idx → EReal) (v : SQ.Idx → EReal) (c : SC.Idx → EReal) : SQ.Idx → EReal :=
  fun j => resultAt q k v c (j 0) (j 1)

/-- Products of finite arrays sum to the real sum. -/
theorem sum_dot {q : SQ.Idx → EReal} {k : SK.Idx → EReal} (hq : Finite q) (hk : Finite k) (h : Fin 16) (t s : Fin 16384) :
    ∑ d : Fin 64, q (ix2 t (lane h d)) * k (ix2 (lane h d) s) = (dot q k h t s : EReal) := by
  unfold dot
  rw [coe_sum]
  refine Finset.sum_congr rfl fun d _ => ?_
  rw [EReal.coe_mul, ← hq, ← hk]

/-- With the bias, the base-2 score is that real too. -/
theorem score_eq {q : SQ.Idx → EReal} {k : SK.Idx → EReal} {c : SC.Idx → EReal} (hq : Finite q) (hk : Finite k)
    (hc : Finite c) (h : Fin 16) (a t s : Fin 16384) :
    (∑ d : Fin 64, q (ix2 t (lane h d)) * k (ix2 (lane h d) s))
        + (c (ix2 h a) - c (ix2 h s)) * (((Real.log 2)⁻¹ : ℝ) : EReal)
      = (baseScore q k c h a t s : EReal) := by
  rw [sum_dot hq hk, hc (ix2 h a), hc (ix2 h s), ← EReal.coe_sub, ← EReal.coe_mul, ← EReal.coe_add]
  unfold baseScore
  rw [dif_pos s.isLt]

/-- A sum over 128 lanes whose right half is masked is the sum over the left half. -/
theorem half_left (f g : Fin 128 → EReal) :
    ∑ d : Fin 128, (if (d : ℕ) < 64 then f d else 0) * g d
      = ∑ d : Fin 64, f ⟨d, by omega⟩ * g ⟨d, by omega⟩ := by
  rw [show (∑ d : Fin 128, (if (d : ℕ) < 64 then f d else 0) * g d) = _ from
    Fin.sum_univ_add (a := 64) (b := 64) fun d : Fin (64 + 64) => (if (d : ℕ) < 64 then f d else 0) * g d]
  rw [Finset.sum_eq_zero (s := Finset.univ) (f := fun d : Fin 64 =>
    (if ((Fin.natAdd 64 d : Fin (64 + 64)) : ℕ) < 64 then f (Fin.natAdd 64 d) else 0) * g (Fin.natAdd 64 d)), add_zero]
  · refine Finset.sum_congr rfl fun d _ => ?_
    rw [if_pos (by simp)]; rfl
  · intro d _
    rw [if_neg (by simp), zero_mul]

/-- A sum over 128 lanes whose left half is masked is the sum over the right half. -/
theorem half_right (f g : Fin 128 → EReal) :
    ∑ d : Fin 128, (if (d : ℕ) < 64 then 0 else f d) * g d
      = ∑ d : Fin 64, f ⟨64 + d, by omega⟩ * g ⟨64 + d, by omega⟩ := by
  rw [show (∑ d : Fin 128, (if (d : ℕ) < 64 then 0 else f d) * g d) = _ from
    Fin.sum_univ_add (a := 64) (b := 64) fun d : Fin (64 + 64) => (if (d : ℕ) < 64 then 0 else f d) * g d]
  rw [Finset.sum_eq_zero (s := Finset.univ) (f := fun d : Fin 64 =>
    (if ((Fin.castAdd 64 d : Fin (64 + 64)) : ℕ) < 64 then 0 else f (Fin.castAdd 64 d)) * g (Fin.castAdd 64 d)), zero_add]
  · refine Finset.sum_congr rfl fun d _ => ?_
    rw [if_neg (by simp)]; rfl
  · intro d _
    rw [if_pos (by simp), zero_mul]

end Cert.Attn

end
-- ==== Proof.Array.lean ====
/- The kernel's result array after its run: the blocks the grid points write, put together. -/
module

public import proofs.«01_k».proof.Proof.Point
public import proofs.«01_k».proof.Proof.Spec

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Tactic Cert.Attn

variable (m : (ℓ : Loc nD τ sig) → Buf (Elt Ideal) ℓ)

/-- The arguments, as arrays of extended reals: queries, transposed keys, values, running decay sums. -/
def argQ (c : Dev nD) : SQ.Idx → EReal := m ((c : Thread nD τ).loc main_arg0)
/-- The call's argument: the keys. -/
def argK (c : Dev nD) : SK.Idx → EReal := m ((c : Thread nD τ).loc main_arg1)
/-- The call's argument: the values. -/
def argV (c : Dev nD) : SQ.Idx → EReal := m ((c : Thread nD τ).loc main_arg2)
/-- The call's argument: the cumulative decay. -/
def argC (c : Dev nD) : SC.Idx → EReal := m ((c : Thread nD τ).loc main_arg3)

/-- Where each window's block sits: the grid's first coordinate is the slab, its second the block of positions. -/
theorem idx (t : Fin grid0.N) : win0_0.index t = ![(grid0.coords t 1).val, (grid0.coords t 0).val]
    ∧ win0_1.index t = ![(grid0.coords t 0).val, 0] ∧ win0_2.index t = ![0, (grid0.coords t 0).val]
    ∧ win0_3.index t = ![0, 0] ∧ win0_4.index t = ![(grid0.coords t 1).val, (grid0.coords t 0).val] := by
  revert t; decide +kernel

/-- Lane `l` of slab `p`. -/
def slab (i : grid0.Coords) (l : Fin 128) : Fin 1024 := ⟨128 * (i 0).val + l, by have : (i 0).val < 8 := (i 0).isLt; omega⟩

/-- The first window's block: a query block's rows of two heads. -/
theorem blk0 (c : Dev nD) (t : Fin cfg0.N) (r : Fin 512) (d : Fin 128) :
    iblk m c 0 t (ix2 r d) = argQ m c (ix2 (key (qblk (grid0.coords t)) r) (slab (grid0.coords t) d)) := by
  have h := (idx t).1
  unfold argQ
  blk_ext [iblk, V, h, key, qblk, slab]

/-- The second window's block: the keys of two heads. -/
theorem blk1 (c : Dev nD) (t : Fin cfg0.N) (d : Fin 128) (s : Fin 16384) :
    iblk m c 1 t (ix2 d s) = argK m c (ix2 (slab (grid0.coords t) d) s) := by
  have h := (idx t).2.1
  unfold argK
  blk_ext [iblk, V, h, slab]

/-- The third window's block: the values of two heads. -/
theorem blk2 (c : Dev nD) (t : Fin cfg0.N) (s : Fin 16384) (d : Fin 128) :
    iblk m c 2 t (ix2 s d) = argV m c (ix2 s (slab (grid0.coords t) d)) := by
  have h := (idx t).2.2.1
  unfold argV
  blk_ext [iblk, V, h, slab]

/-- The fourth window's block: the whole cumulative decay. -/
theorem blk3 (c : Dev nD) (t : Fin cfg0.N) (e : Fin 16) (s : Fin 16384) :
    iblk m c 3 t (ix2 e s) = argC m c (ix2 e s) := by
  have h := (idx t).2.2.2.1
  unfold argC
  blk_ext [iblk, V, h]

variable {m}

/-- The scores of the first head of a point's slab. -/
theorem scores0 {c : Dev nD} (hq : Finite (argQ m c)) (hk : Finite (argK m c)) (hc : Finite (argC m c)) (t : Fin cfg0.N) :
    ScoresAre (k0_pay14 (iblk m c 0 t)) (iblk m c 1 t) (iblk m c 3 t) (head (grid0.coords t) 0)
      (iblk m c 3 t (ix2 (head (grid0.coords t) 0) (key (qblk (grid0.coords t)) 0)))
      fun r => baseScore (argQ m c) (argK m c) (argC m c) (head (grid0.coords t) 0) (key (qblk (grid0.coords t)) 0)
        (key (qblk (grid0.coords t)) r) := by
  intro r s
  rw [← score_eq hq hk hc]
  congr 1
  · simp only [query0]
    rw [half_left]
    refine Finset.sum_congr rfl fun d _ => ?_
    rw [blk0, blk1]
    congr 3 <;> (congr 1; apply Fin.ext; simp only [slab, lane, head]; simp; omega)
  · rw [blk3, blk3]

/-- The scores of the second head of a point's slab. -/
theorem scores1 {c : Dev nD} (hq : Finite (argQ m c)) (hk : Finite (argK m c)) (hc : Finite (argC m c)) (t : Fin cfg0.N) :
    ScoresAre (k0_pay15 (iblk m c 0 t)) (iblk m c 1 t) (iblk m c 3 t) (head (grid0.coords t) 1)
      (iblk m c 3 t (ix2 (head (grid0.coords t) 1) (key (qblk (grid0.coords t)) 0)))
      fun r => baseScore (argQ m c) (argK m c) (argC m c) (head (grid0.coords t) 1) (key (qblk (grid0.coords t)) 0)
        (key (qblk (grid0.coords t)) r) := by
  intro r s
  rw [← score_eq hq hk hc]
  congr 1
  · simp only [query1]
    rw [half_right]
    refine Finset.sum_congr rfl fun d _ => ?_
    rw [blk0, blk1]
    congr 3 <;> (congr 1; apply Fin.ext; simp only [slab, lane, head]; simp; omega)
  · rw [blk3, blk3]

/-- THE KERNEL'S RESULT: on finite queries, keys and decay sums, the attention (`Spec.lean`). -/
theorem final_eq {c : Dev nD} (hq : Finite (argQ m c)) (hk : Finite (argK m c)) (hc : Finite (argC m c)) :
    (dats m 0 c).arrAt 4 cfg0.N = result (argQ m c) (argK m c) (argV m c) (argC m c) := by
  refine (dats m 0 c).arrAt_eq_of_covers 4 _ (by decide +kernel) fun t hf y => ?_
  blk_simp
  rw [after0_4]
  obtain ⟨r, l, rfl⟩ : ∃ (r : Fin 512) (l : Fin 128), y = ix2 r l := ⟨y 0, y 1, eq_ix2 y⟩
  have hidx := (idx t).2.2.2.2
  have hemb : (win0_4.blk t).view.emb (ix2 r l) = ix2 (key (qblk (grid0.coords t)) r) (slab (grid0.coords t) l) := by
    blk_ext [hidx, key, qblk, slab]
  rw [hemb]
  have hp : (grid0.coords t 0).val < 8 := (grid0.coords t 0).isLt
  have hqi : (grid0.coords t 1).val < 32 := (grid0.coords t 1).isLt
  refine (out_eq c (grid0.coords t) _ _ _ _ _ _ _ _ _ _ _ _ _ _ _ _ (scores0 hq hk hc t) (scores1 hq hk hc t) r l).trans ?_
  have hV : vAt (iblk m c 2 t) l = value (argV m c) (slab (grid0.coords t) l) := by
    funext s
    unfold vAt value
    split_ifs
    · exact blk2 m c t _ l
    · rfl
  have ha : anchor (key (qblk (grid0.coords t)) r) = key (qblk (grid0.coords t)) 0 := by
    apply Fin.ext; simp only [anchor, key, qblk]; simp; omega
  show _ = resultAt _ _ _ _ (key (qblk (grid0.coords t)) r) (slab (grid0.coords t) l)
  unfold resultAt
  rw [ha, hV]
  split_ifs with hl
  · have : headOf (slab (grid0.coords t) l) = head (grid0.coords t) 0 := by
      apply Fin.ext; simp only [headOf, slab, head]; simp; omega
    rw [this]; rfl
  · have : headOf (slab (grid0.coords t) l) = head (grid0.coords t) 1 := by
      apply Fin.ext; simp only [headOf, slab, head]; simp; omega
    rw [this]; rfl

end Cert.KernelIdeal.Attn

end
-- ==== Proof.RefValue.lean ====
/- What the reference computes, read at an entry and brought to the function of `Spec.lean`. -/
module

public import proofs.«01_k».proof.Proof.Gen.ReferenceIdeal.Run
public import proofs.«01_k».proof.Proof.Consts
public import proofs.«01_k».proof.Proof.Spec
public import Idealize.ShloMosaic.Lib.Pointwise

@[expose] public section

set_option maxRecDepth 16384

noncomputable section

namespace Cert.ReferenceIdeal.Attn

open Cert.ReferenceIdeal Cert.ReferenceIdeal.Gen Idealize.ShloMosaic Idealize.ShloMosaic.TcCoe Idealize.SL.Sem
open Idealize.ShloMosaic.Tactic Cert.Attn

variable (q : FVec Ideal S16384x1024 .bf16) (k : FVec Ideal S1024x16384 .bf16) (v : FVec Ideal S16384x1024 .bf16)
  (c : FVec Ideal S16x16384 .f32)

/-- The masked scores, per head, position and key. -/
def scores : FVec Ideal S16x16384x16384 .f32 :=
  select (broadcastInDim S16x16384x16384 ![1, 2] bcast_S16384x16384_S16x16384x16384_1_2 (cmpi .sle (broadcastInDim S16384x16384 ![0, 1] bcast_S1x16384_S16384x16384_0_1 (broadcastInDim S1x16384 ![1] bcast_S16384_S1x16384_1 (iotaInDim S16384 32 0))) (broadcastInDim S16384x16384 ![0, 1] bcast_S16384x1_S16384x16384_0_1 (broadcastInDim S16384x1 ![0] bcast_S16384_S16384x1_0 (iotaInDim S16384 32 0)))))
    (addf (mulf (Host.dotGeneral dot_S16384x16x64_S16384x16x64_S16x16384x16384_2_2_0_0_1_1 none (shapeCast S16384x16x64 (extf .f32 q bitsLt_bf16_f32) shapeCasts_S16384x1024_S16384x16x64) (shapeCast S16384x16x64 (transpose S16384x1024 [1, 0] (extf .f32 k bitsLt_bf16_f32) transposes_S1024x16384_S16384x1024_1_0) shapeCasts_S16384x1024_S16384x16x64)) (broadcastInDim S16x16384x16384 ![] bcast_S_S16x16384x16384 (Host.log (constant (F := Ideal) S_ .f32 0x40000000#32))))
      (subf (broadcastInDim S16x16384x16384 ![0, 1, 2] bcast_S16x16384x1_S16x16384x16384_0_1_2 (broadcastInDim S16x16384x1 ![0, 1] bcast_S16x16384_S16x16384x1_0_1 c)) (broadcastInDim S16x16384x16384 ![0, 1, 2] bcast_S16x1x16384_S16x16384x16384_0_1_2 (broadcastInDim S16x1x16384 ![0, 2] bcast_S16x16384_S16x1x16384_0_2 c))))
    (broadcastInDim S16x16384x16384 ![] bcast_S_S16x16384x16384 (id (constant (F := Ideal) S_ .f32 0xFF800000#32)))

/-- Each row's maximum. -/
def rowMax (s : FVec Ideal S16x16384x16384 .f32) : FVec Ideal S16x16384 .f32 :=
  Host.reduce FloatOps.maximumf s (constant (F := Ideal) S_ .f32 0xFF800000#32) reducesTo_S16x16384x16384_S16x16384_d2 h_S_

/-- Their exponentials, each row less its maximum. -/
def exps (s : FVec Ideal S16x16384x16384 .f32) (M : FVec Ideal S16x16384 .f32) : FVec Ideal S16x16384x16384 .f32 :=
  Host.exp (subf s (broadcastInDim S16x16384x16384 ![0, 1, 2] bcast_S16x16384x1_S16x16384x16384_0_1_2 (broadcastInDim S16x16384x1 ![0, 1] bcast_S16x16384_S16x16384x1_0_1 (maximumf (broadcastInDim S16x16384 ![] bcast_S_S16x16384 (constant (F := Ideal) S_ .f32 0xFF800000#32)) M))))

/-- The weights: the exponentials over their row's sum. -/
def weights (e : FVec Ideal S16x16384x16384 .f32) : FVec Ideal S16x16384x16384 .f32 :=
  Host.divf e (broadcastInDim S16x16384x16384 ![0, 1, 2] bcast_S16x16384x1_S16x16384x16384_0_1_2 (broadcastInDim S16x16384x1 ![0, 1] bcast_S16x16384_S16x16384x1_0_1 (Host.reduceAdd e (constant (F := Ideal) S_ .f32 0x00000000#32) reducesTo_S16x16384x16384_S16x16384_d2 h_S_)))

/-- The weighted values, one row per position. -/
def mixed (p : FVec Ideal S16x16384x16384 .f32) : FVec Ideal S16384x1024 .f32 :=
  shapeCast S16384x1024 (transpose S16384x16x64 [2, 0, 1] (Host.dotGeneral dot_S16384x16x64_S16x16384x16384_S16x64x16384_0_2_2_1_1_0 none (shapeCast S16384x16x64 (extf .f32 v bitsLt_bf16_f32) shapeCasts_S16384x1024_S16384x16x64) p) transposes_S16x64x16384_S16384x16x64_2_0_1) shapeCasts_S16384x16x64_S16384x1024

/-- The program's composed term is these stages. -/
theorem res_eq (m : (ℓ : Loc nD τ sig) → Buf (Elt Ideal) ℓ) (d : Dev nD) :
    Value.res_main_v37 (F := Ideal) m d
      = mixed (m ((d.tc : Thread nD τ).loc main_arg2))
          (weights (exps (scores (m ((d.tc : Thread nD τ).loc main_arg0)) (m ((d.tc : Thread nD τ).loc main_arg1))
              (m ((d.tc : Thread nD τ).loc main_arg3)))
            (rowMax (scores (m ((d.tc : Thread nD τ).loc main_arg0)) (m ((d.tc : Thread nD τ).loc main_arg1))
              (m ((d.tc : Thread nD τ).loc main_arg3)))))) := rfl

/-- A maximum over the last of three axes, read at an index. -/
theorem reduce_max {n0 n1 n2 : ℕ} {u : Shape} (x : (⟨3, ![n0, n1, n2]⟩ : Shape).Idx → EReal) (init : u.Idx → EReal)
    (h : (⟨3, ![n0, n1, n2]⟩ : Shape).ReducesTo [2] (⟨2, ![n0, n1]⟩ : Shape)) (hu : 0 < u.numel) (a : Fin n0) (b : Fin n1) :
    Host.reduce max x init h hu (ix2 a b)
      = Finset.univ.fold max (init (Shape.Idx.first hu)) fun k : Fin n2 => x (ix3 a b k) := by
  rw [Host.reduce_eq_fold, Shape.ReducesTo.fold_fiber_r3_a2]
  rfl

/-- A row's maximum is the maximum of its elements, started at `⊥`. -/
theorem rowMax_at (x : FVec Ideal S16x16384x16384 .f32) (h : Fin 16) (t : Fin 16384) :
    rowMax x (ix2 h t) = Finset.univ.fold max ⊥ fun s : Fin 16384 => x (ix3 h t s) := by
  rw [← ofBits_neg_inf]
  exact reduce_max x (constant (F := Ideal) S_ .f32 0xFF800000#32) reducesTo_S16x16384x16384_S16x16384_d2 h_S_ h t

/-- A score: the product of query and key times `log 2`, and the decay bias; `⊥` at the keys after the position. -/
theorem scores_at (h : Fin 16) (t s : Fin 16384) :
    scores q k c (ix3 h t s)
      = if (s : ℕ) ≤ t then (∑ d : Fin 64, q (ix2 t (lane h d)) * k (ix2 (lane h d) s)) * ((Real.log 2 : ℝ) : EReal)
          + (c (ix2 h t) - c (ix2 h s)) else ⊥ := by
  have hlog : Ideal.log (Ideal.ofBits .f32 0x40000000#32) = ((Real.log 2 : ℝ) : EReal) := by
    rw [ofBits_two]
    show (if (2 : ℝ) ≤ 0 then (⊥ : EReal) else _) = _
    rw [if_neg (by norm_num)]
  have hbot : id (constant (F := Ideal) S_ .f32 0xFF800000#32) ix0 = (⊥ : EReal) := ofBits_neg_inf
  pointwise [scores]
  rw [select_sle _ _ (by omega) (by omega), hlog, hbot]
  simp only [lane, Nat.mul_comm 64]

/-- One exponential of the reference's softmax. -/
theorem exps_at (x : FVec Ideal S16x16384x16384 .f32) (M : FVec Ideal S16x16384 .f32) (h : Fin 16) (t s : Fin 16384) :
    exps x M (ix3 h t s) = Ideal.exp (x (ix3 h t s) - max ⊥ (M (ix2 h t))) := by
  pointwise [exps]
  rw [ofBits_neg_inf]

/-- One weight of the reference's softmax: an exponential over its row's sum. -/
theorem weights_at (e : FVec Ideal S16x16384x16384 .f32) (h : Fin 16) (t s : Fin 16384) :
    weights e (ix3 h t s) = Ideal.div (e (ix3 h t s)) (0 + ∑ u : Fin 16384, e (ix3 h t u)) := by
  pointwise [weights]

/-- One entry of the reference's result: the weighted sum of the values of the lane's head. -/
theorem mixed_at (p : FVec Ideal S16x16384x16384 .f32) (t : Fin 16384) (l : Fin 1024) :
    mixed v p (ix2 t l) = ∑ s : Fin 16384, v (ix2 s l) * p (ix3 (headOf l) t s) := by
  pointwise [mixed]
  rfl

variable {q k c}

/-- On finite arguments a score is `log 2` times the base-2 score, up to a shift of the whole row. -/
theorem scores_real (hq : Finite q) (hk : Finite k) (hc : Finite c) (h : Fin 16) (t s : Fin 16384) :
    scores q k c (ix3 h t s)
      = if (s : ℕ) < t + 1 then ((baseScore q k c h (anchor t) t s * Real.log 2
          + ((c (ix2 h t)).toReal - (c (ix2 h (anchor t))).toReal) : ℝ) : EReal) else ⊥ := by
  rw [scores_at]
  simp only [Nat.lt_succ_iff]
  congr 1
  rw [sum_dot hq hk, hc (ix2 h t), hc (ix2 h s), ← EReal.coe_sub, ← EReal.coe_mul, ← EReal.coe_add]
  congr 1
  unfold baseScore
  rw [dif_pos s.isLt]
  simp only [EReal.toReal_coe]
  have : Real.log 2 ≠ 0 := (Real.log_pos (by norm_num)).ne'
  field_simp
  ring

/-- THE REFERENCE'S RESULT: on finite queries, keys and decay sums, the attention (`Spec.lean`). -/
theorem stages_eq (hq : Finite q) (hk : Finite k) (hc : Finite c) :
    mixed v (weights (exps (scores q k c) (rowMax (scores q k c)))) = result q k v c := by
  funext j
  obtain ⟨t, l, rfl⟩ : ∃ (t : Fin 16384) (l : Fin 1024), j = ix2 t l := ⟨j 0, j 1, eq_ix2 j⟩
  rw [mixed_at]
  simp only [weights_at, exps_at]
  show _ = resultAt q k v c t l
  unfold resultAt
  refine softmax_eq _ _ (t + 1) (by omega) (by omega) ((c (ix2 (headOf l) t)).toReal - (c (ix2 (headOf l) (anchor t))).toReal)
    (fun s => scores q k c (ix3 (headOf l) t s)) (fun s => v (ix2 s l)) (fun s => scores_real hq hk hc (headOf l) t s)
    (fun s => by unfold value; rw [dif_pos s.isLt]) _ ?_
  rw [rowMax_at]
  refine max_fold_real ⊥ _ (.inl rfl) (fun s => ?_) (⟨0, by omega⟩ : Fin 16384) _
    ((scores_real hq hk hc (headOf l) t _).trans (if_pos (Nat.succ_pos _)))
  rw [scores_real hq hk hc]
  split_ifs
  · exact .inr ⟨_, rfl⟩
  · exact .inl rfl

end Cert.ReferenceIdeal.Attn

end
-- ==== Proof.Pre.lean ====
/-
  THE PRECONDITION, READ BACK. `finite` says that no query, key or decay sum is infinite; here that becomes "each is a
  real number" (`Finite`, Spec.lean).
-/
module

public import proofs.«01_k».proof.Pre_finite
public import proofs.«01_k».proof.Proof.Gen.Pre_finite
public import proofs.«01_k».proof.Proof.Consts
public import proofs.«01_k».proof.Proof.Spec
public import Idealize.ShloMosaic.Lib.ReduceAll
public import Idealize.ShloMosaic.Lib.Pointwise

@[expose] public section

noncomputable section

namespace Cert.Pre_finite.Attn

open Idealize.ShloMosaic Cert.Attn

/-- An extended real whose absolute value is less than `⊤` is a real number. -/
theorem real_of_abs_lt {x : EReal} (h : Ideal.cmp .olt (max x (-x)) ⊤ = 1#1) : x = ((x.toReal : ℝ) : EReal) := by
  have hx : max x (-x) < ⊤ := by
    by_contra hn
    have h0 : Ideal.cmp .olt (max x (-x)) ⊤ = 0#1 := by
      show BitVec.ofBool (decide (max x (-x) < ⊤)) = 0#1
      rw [decide_eq_false hn]
      rfl
    exact absurd (h0.symm.trans h) (by decide)
  refine (EReal.coe_toReal ?_ ?_).symm
  · rintro rfl
    simp at hx
  · rintro rfl
    simp at hx

instance : Subsingleton S_.Idx := ⟨fun a b => funext fun i => i.elim0⟩

/-- "All absolute values are less than infinity", as the predicate writes it for one array, gives a finite array. -/
theorem finite_of_all {s : Shape} {axes : List (Fin s.rank)} {x : FVec Ideal s .f32} {h : s.ReducesTo axes S_}
    {hu : 0 < S_.numel} {hb : S_.BroadcastsInDim s (![] : Fin 0 → Fin s.rank)}
    (e : Host.reduce IntOp.andi (cmpf .olt (Host.absf x) (broadcastInDim s ![] hb (constant (F := Ideal) S_ .f32 0x7F800000#32)))
      (constantI S_ 1 1#1) h hu ix0 = 1#1) : Finite x := by
  intro j
  refine real_of_abs_lt ?_
  rw [← ofBits_pos_inf]
  exact Host.reduce_andi_all _ _ h hu ix0 e j

/-- THE PRECONDITION: the queries, the keys and the decay sums are real numbers. -/
theorem finite_of_pre [Facts] {q : FVec Ideal S16384x1024 .bf16} {k : FVec Ideal S1024x16384 .bf16}
    {v : FVec Ideal S16384x1024 .bf16} {c : FVec Ideal S16x16384 .f32} (h : fn q k v c = fun _ => 1#1) :
    Finite q ∧ Finite k ∧ Finite c := by
  have e := congrFun h ix0
  dsimp only [fn] at e
  obtain ⟨e', h3⟩ := IntOp.andi_eq_one.1 e
  obtain ⟨h1, h2⟩ := IntOp.andi_eq_one.1 e'
  exact ⟨finite_of_all h1, finite_of_all h2, finite_of_all h3⟩

end Cert.Pre_finite.Attn

end
-- ==== Proof.Gate.lean ====
/-
  THE LOG SIGMOID OF AN EXTENDED REAL, as the kernel spells it (`min h 0 - log (1 + exp (-|h|))`) and as the reference's
  library spells it (`-(max (-h) 0 + log (1 + exp (-|-h|)))`). The logarithm is finite, so the two agree at the infinities
  too.
-/
module

public import Idealize.ShloMosaic.PureOps.Ideal
public import Idealize.ShloMosaic.Lib.Pointwise

@[expose] public section

noncomputable section

namespace Cert.Gate

open Idealize.ShloMosaic

/-- `log (sigmoid h)`, as the kernel spells it. -/
def logSigmoid (h : EReal) : EReal := min h 0 - Ideal.log (1 + Ideal.exp (0 - max h (-h)))

/-- The size of a number is that of its negative. -/
theorem abs_neg (h : EReal) : max (-h) (- -h) = max h (-h) := by rw [neg_neg, max_comm]

/-- The exponential at minus infinity and the logarithm at one. -/
theorem bot : Ideal.exp ⊥ = 0 := rfl
/-- The logarithm of one is zero. -/
theorem one : Ideal.log 1 = 0 := by
  change (if _ then _ else _) = _
  rw [if_neg (by norm_num), Real.log_one, EReal.coe_zero]

/-- The logarithm in it is finite. -/
theorem log_finite (h : EReal) : ∃ r : ℝ, Ideal.log (1 + Ideal.exp (0 - max h (-h))) = (r : EReal) := by
  induction h using EReal.rec with
  | bot => exact ⟨0, by simp [bot, one]⟩
  | top => exact ⟨0, by simp [bot, one]⟩
  | coe a =>
    refine ⟨Real.log (1 + Real.exp (0 - max a (-a))), ?_⟩
    have e : (0 : EReal) - max (a : EReal) (-(a : EReal)) = ((0 - max a (-a) : ℝ) : EReal) := by push_cast; rfl
    rw [e]
    change Ideal.log (1 + ((Real.exp (0 - max a (-a)) : ℝ) : EReal)) = _
    rw [← EReal.coe_one, ← EReal.coe_add]
    change (if _ then _ else _) = _
    rw [if_neg (by have := Real.exp_pos (0 - max a (-a)); linarith)]

/-- The reference's spelling is the kernel's. -/
theorem library (h : EReal) :
    -(max (-h) 0 + Ideal.log1p (Ideal.exp (-(max (-h) (- -h))))) = logSigmoid h := by
  obtain ⟨r, hr⟩ := log_finite h
  rw [abs_neg, logSigmoid, Ideal.log1p, ← zero_sub (max h (-h)), hr]
  induction h using EReal.rec with
  | bot => simp
  | top => simp
  | coe a =>
    have e : max (-(a : EReal)) 0 = ((max (-a) 0 : ℝ) : EReal) := by push_cast; rfl
    have e' : min (a : EReal) 0 = ((min a 0 : ℝ) : EReal) := by push_cast; rfl
    rw [e, e', ← EReal.coe_add, ← EReal.coe_neg, ← EReal.coe_sub]
    congr 1
    rcases le_total a 0 with h | h
    · rw [max_eq_left (by linarith), min_eq_left h]; ring
    · rw [max_eq_right (by linarith), min_eq_right h]; ring

end Cert.Gate

end
-- ==== Proof.InProj.lean ====
/-
  THE ATTENTION LAYER'S INPUT PROJECTION OF THE PROMPT. The kernel multiplies each block of 512 rows by three arrays of
  weights that the host cuts out of one (columns of queries, values and gate; columns of keys and values, transposed;
  columns of the forget gates, filled up to 128 with zeros); the reference multiplies all rows by the whole weights and
  splits the product. Both are stated by `entry`: one row of the input against one column of the weights.
-/
module

public import proofs.«01_k».proof.Defs
public import proofs.«01_k».proof.Proof.Gen.InProjIdeal.Value
public import proofs.«01_k».proof.Proof.Gen.InProjRefIdeal.Run
public import proofs.«01_k».proof.Proof.Gate
public import proofs.«01_k».proof.Proof.Consts
public import Idealize.ShloMosaic.Lib.Pipeline.ValueKit
public import Idealize.ShloMosaic.Lib.StableHlo.ReadAt
public import Idealize.ShloMosaic.Lib.Pointwise
public import Idealize.ShloMosaic.Adequacy

@[expose] public section

set_option maxRecDepth 16384

noncomputable section

namespace Cert.InProjIdeal.Proj

open Cert.InProjIdeal Cert.InProjIdeal.Gen Idealize.ShloMosaic Idealize.ShloMosaic.TcCoe Idealize.SL.Sem
open Idealize.ShloMosaic.Tactic
open Cert.Gate (logSigmoid)

/-- Row `r` of the input against column `e` of the weights. -/
def entry (x : S1x16384x1024.Idx → EReal) (w : S1x1024x4112.Idx → EReal) (r : Fin 16384) (e : Fin 4112) : EReal :=
  ∑ d : Fin 1024, x (ix3 0 r d) * w (ix3 0 d e)

/-- The columns of queries, keys, values and gate (`b` = 0, 1, 2, 3). -/
def col (b : Fin 4) (l : Fin 1024) : Fin 4112 := ⟨1024 * b + l, by omega⟩

/-- Part `b` of the projection, its rows the positions. -/
def part (b : Fin 4) (x : S1x16384x1024.Idx → EReal) (w : S1x1024x4112.Idx → EReal) : S16384x1024.Idx → EReal := fun j =>
  entry x w (j 0) (col b (j 1))

/-- Part `b` of the projection, its columns the positions. -/
def partT (b : Fin 4) (x : S1x16384x1024.Idx → EReal) (w : S1x1024x4112.Idx → EReal) : S1024x16384.Idx → EReal := fun j =>
  entry x w (j 1) (col b (j 0))

/-- The queries as the attention takes them. -/
def query (x : S1x16384x1024.Idx → EReal) (w : S1x1024x4112.Idx → EReal) : S16384x1024.Idx → EReal := fun j =>
  part 0 x w j * (((8 * Real.log 2)⁻¹ : ℝ) : EReal)

/-- The forget gate's logit of position `r` and head `h`. -/
def logit (x : S1x16384x1024.Idx → EReal) (w : S1x1024x4112.Idx → EReal) (b : S1x16.Idx → EReal) (r : Fin 16384) (h : Fin 16) :
    EReal :=
  entry x w r ⟨4096 + h, by omega⟩ + b (ix2 0 h)

variable (m : (ℓ : Loc nD τ sig) → Buf (Elt Ideal) ℓ)

/-- The arguments, as arrays of extended reals. -/
def argX (c : Dev nD) : S1x16384x1024.Idx → EReal := m ((c : Thread nD τ).loc main_arg0)
/-- The call's argument: the projection's weights. -/
def argW (c : Dev nD) : S1x1024x4112.Idx → EReal := m ((c : Thread nD τ).loc main_arg1)
/-- The call's argument: the decay's bias. -/
def argB (c : Dev nD) : S1x16.Idx → EReal := m ((c : Thread nD τ).loc main_arg2)

/-- The rows as the call gets them are the argument's. -/
theorem rows (c : Dev nD) (r : Fin 16384) (d : Fin 1024) : V m c main_v14 (ix2 r d) = argX m c (ix3 0 r d) := by
  unfold argX V
  after_reads_at

/-- The first weights as the call gets them, at a column below 1024: a column of the queries. -/
theorem weights_q (c : Dev nD) (d : Fin 1024) (l : Fin 1024) :
    V m c main_v4 (ix2 d ⟨l.val, by omega⟩) = argW m c (ix3 0 d (col 0 l)) := by
  unfold argW V
  after_reads_at
  after_reads_at
  simp [col]

/-- The first weights at the next columns: a column of the values. -/
theorem weights_v (c : Dev nD) (d : Fin 1024) (l : Fin 1024) :
    V m c main_v4 (ix2 d ⟨1024 + l.val, by omega⟩) = argW m c (ix3 0 d (col 2 l)) := by
  unfold argW V
  after_reads_at
  after_reads_at
  rfl

/-- The first weights at the last columns: a column of the gate. -/
theorem weights_z (c : Dev nD) (d : Fin 1024) (l : Fin 1024) :
    V m c main_v4 (ix2 d ⟨2048 + l.val, by omega⟩) = argW m c (ix3 0 d (col 3 l)) := by
  unfold argW V
  after_reads_at
  after_reads_at
  rw [dif_neg (by omega)]
  exact congrArg (fun e => m ((c : Thread nD τ).loc main_arg1) (ix3 0 d e)) (Fin.ext (by simp [col]; omega))

/-- The second weights: the argument's columns of the keys and values, transposed. -/
theorem weights_kv (c : Dev nD) (e : Fin 2048) (d : Fin 1024) : V m c main_v7 (ix2 e d)
    = argW m c (ix3 0 d ⟨1024 + e.val, by omega⟩) := by
  unfold argW V
  after_reads_at

/-- The third weights: the argument's columns of the forget gates (and columns of zeros, which no result reads). -/
theorem weights_f (c : Dev nD) (d : Fin 1024) (h : Fin 16) : V m c main_v10 (ix2 d ⟨h.val, by omega⟩)
    = argW m c (ix3 0 d ⟨4096 + h.val, by omega⟩) := by
  unfold argW V
  after_reads_at

/-- The bias of the forget gates. -/
theorem bias_f (c : Dev nD) (h : Fin 16) : V m c main_v13 (ix2 0 ⟨h.val, by omega⟩) = argB m c (ix2 0 h) := by
  unfold argB V
  after_reads_at

/-- Where each window's block sits. -/
theorem idx (t : Fin grid0.N) : win0_0.index t = ![(grid0.coords t 0).val, 0] ∧ win0_1.index t = ![0, 0]
    ∧ win0_2.index t = ![0, 0] ∧ win0_3.index t = ![0, 0] ∧ win0_4.index t = ![0, 0] := by
  revert t; decide +kernel

/-- Where each result's block sits. -/
theorem idx_out (t : Fin grid0.N) : win0_5.index t = ![(grid0.coords t 0).val, 0]
    ∧ win0_6.index t = ![(grid0.coords t 0).val, 0] ∧ win0_7.index t = ![(grid0.coords t 0).val, 0]
    ∧ win0_8.index t = ![0, (grid0.coords t 0).val] ∧ win0_9.index t = ![0, (grid0.coords t 0).val]
    ∧ win0_10.index t = ![0, (grid0.coords t 0).val] ∧ win0_11.index t = ![(grid0.coords t 0).val, 0] := by
  revert t; decide +kernel

/-- Row `r` of block `i`. -/
def row (i : grid0.Coords) (r : Fin 512) : Fin 16384 := ⟨512 * (i 0).val + r, by have : (i 0).val < 32 := (i 0).isLt; omega⟩

/-- The first window's block: 512 rows of the input. -/
theorem blk0 (c : Dev nD) (t : Fin cfg0.N) (r : Fin 512) (d : Fin 1024) :
    iblk m c 0 t (ix2 r d) = argX m c (ix3 0 (row (grid0.coords t) r) d) := by
  have h := (idx t).1
  rw [← rows]
  blk_ext [iblk, h, row]

/-- The other windows' blocks are whole arrays. -/
theorem blk1 (c : Dev nD) (t : Fin cfg0.N) (d : Fin 1024) (e : Fin 3072) : iblk m c 1 t (ix2 d e) = V m c main_v4 (ix2 d e) := by
  have h := (idx t).2.1
  blk_ext [iblk, h]
/-- The third window's block: columns 1024 to 3071 of the weights, transposed. -/
theorem blk2 (c : Dev nD) (t : Fin cfg0.N) (e : Fin 2048) (d : Fin 1024) :
    iblk m c 2 t (ix2 e d) = argW m c (ix3 0 d ⟨1024 + e.val, by omega⟩) := by
  have h := (idx t).2.2.1
  rw [← weights_kv]
  blk_ext [iblk, h]
/-- The fourth window's block: the decay's weights. -/
theorem blk3 (c : Dev nD) (t : Fin cfg0.N) (d : Fin 1024) (e : Fin 128) : iblk m c 3 t (ix2 d e) = V m c main_v10 (ix2 d e) := by
  have h := (idx t).2.2.2.1
  blk_ext [iblk, h]
/-- The fifth window's block: the decay's bias. -/
theorem blk4 (c : Dev nD) (t : Fin cfg0.N) (e : Fin 128) : iblk m c 4 t (ix2 0 e) = V m c main_v13 (ix2 0 e) := by
  have h := (idx t).2.2.2.2
  blk_ext [iblk, h]

/-- THE KERNEL'S FIRST RESULT: the queries. -/
theorem final_q (c : Dev nD) : (dats m 0 c).arrAt 5 cfg0.N = query (argX m c) (argW m c) := by
  refine (dats m 0 c).arrAt_eq_of_covers 5 _ (by decide +kernel) fun t hf y => ?_
  blk_simp
  rw [after0_5]
  frame_out
  obtain ⟨r, l, rfl⟩ : ∃ (r : Fin 512) (l : Fin 1024), y = ix2 r l := ⟨y 0, y 1, eq_ix2 y⟩
  have hidx := (idx_out t).1
  have hemb : (win0_5.blk t).view.emb (ix2 r l) = ix2 (row (grid0.coords t) r) l := by
    blk_ext [hidx, row]
  rw [hemb]
  pointwise [k0_pay4, k0_pay3, blk0, blk1]
  change (_ : EReal) = _
  exact congrArg (· * (((8 * Real.log 2)⁻¹ : ℝ) : EReal))
    (Finset.sum_congr rfl fun d _ => congrArg (argX m c (ix3 0 (row (grid0.coords t) r) d) * ·) (weights_q m c d l))

/-- THE KERNEL'S SECOND RESULT: the values. -/
theorem final_vb (c : Dev nD) : (dats m 0 c).arrAt 6 cfg0.N = part 2 (argX m c) (argW m c) := by
  refine (dats m 0 c).arrAt_eq_of_covers 6 _ (by decide +kernel) fun t hf y => ?_
  blk_simp
  rw [after0_6]
  frame_out
  obtain ⟨r, l, rfl⟩ : ∃ (r : Fin 512) (l : Fin 1024), y = ix2 r l := ⟨y 0, y 1, eq_ix2 y⟩
  have hidx := (idx_out t).2.1
  have hemb : (win0_6.blk t).view.emb (ix2 r l) = ix2 (row (grid0.coords t) r) l := by
    blk_ext [hidx, row]
  rw [hemb]
  pointwise [k0_pay5, k0_pay3, blk0, blk1]
  change (_ : EReal) = _
  exact Finset.sum_congr rfl fun d _ => congrArg (argX m c (ix3 0 (row (grid0.coords t) r) d) * ·) (weights_v m c d l)

/-- THE KERNEL'S THIRD RESULT: the gate. -/
theorem final_z (c : Dev nD) : (dats m 0 c).arrAt 7 cfg0.N = part 3 (argX m c) (argW m c) := by
  refine (dats m 0 c).arrAt_eq_of_covers 7 _ (by decide +kernel) fun t hf y => ?_
  blk_simp
  rw [after0_7]
  frame_out
  obtain ⟨r, l, rfl⟩ : ∃ (r : Fin 512) (l : Fin 1024), y = ix2 r l := ⟨y 0, y 1, eq_ix2 y⟩
  have hidx := (idx_out t).2.2.1
  have hemb : (win0_7.blk t).view.emb (ix2 r l) = ix2 (row (grid0.coords t) r) l := by
    blk_ext [hidx, row]
  rw [hemb]
  pointwise [k0_pay6, k0_pay3, blk0, blk1]
  change (_ : EReal) = _
  exact Finset.sum_congr rfl fun d _ => congrArg (argX m c (ix3 0 (row (grid0.coords t) r) d) * ·) (weights_z m c d l)

/-- THE KERNEL'S FOURTH RESULT: the keys, transposed. -/
theorem final_kt (c : Dev nD) : (dats m 0 c).arrAt 8 cfg0.N = partT 1 (argX m c) (argW m c) := by
  refine (dats m 0 c).arrAt_eq_of_covers 8 _ (by decide +kernel) fun t hf y => ?_
  blk_simp
  rw [after0_8]
  frame_out
  obtain ⟨l, r, rfl⟩ : ∃ (l : Fin 1024) (r : Fin 512), y = ix2 l r := ⟨y 0, y 1, eq_ix2 y⟩
  have hidx := (idx_out t).2.2.2.1
  have hemb : (win0_8.blk t).view.emb (ix2 l r) = ix2 l (row (grid0.coords t) r) := by
    blk_ext [hidx, row]
  rw [hemb]
  pointwise [k0_pay7, k0_pay3, blk0, blk2]
  change (_ : EReal) = _
  exact Finset.sum_congr rfl fun d _ => mul_comm _ _

/-- THE KERNEL'S FIFTH RESULT: the keys again, as the attention takes them. -/
theorem final_ktb (c : Dev nD) : (dats m 0 c).arrAt 9 cfg0.N = partT 1 (argX m c) (argW m c) := by
  refine (dats m 0 c).arrAt_eq_of_covers 9 _ (by decide +kernel) fun t hf y => ?_
  blk_simp
  rw [after0_9]
  frame_out
  obtain ⟨l, r, rfl⟩ : ∃ (l : Fin 1024) (r : Fin 512), y = ix2 l r := ⟨y 0, y 1, eq_ix2 y⟩
  have hidx := (idx_out t).2.2.2.2.1
  have hemb : (win0_9.blk t).view.emb (ix2 l r) = ix2 l (row (grid0.coords t) r) := by
    blk_ext [hidx, row]
  rw [hemb]
  pointwise [k0_pay8, k0_pay7, k0_pay3, blk0, blk2]
  change (_ : EReal) = _
  exact Finset.sum_congr rfl fun d _ => mul_comm _ _

/-- THE KERNEL'S SIXTH RESULT: the values, transposed. -/
theorem final_vt (c : Dev nD) : (dats m 0 c).arrAt 10 cfg0.N = partT 2 (argX m c) (argW m c) := by
  refine (dats m 0 c).arrAt_eq_of_covers 10 _ (by decide +kernel) fun t hf y => ?_
  blk_simp
  rw [after0_10]
  frame_out
  obtain ⟨l, r, rfl⟩ : ∃ (l : Fin 1024) (r : Fin 512), y = ix2 l r := ⟨y 0, y 1, eq_ix2 y⟩
  have hidx := (idx_out t).2.2.2.2.2.1
  have hemb : (win0_10.blk t).view.emb (ix2 l r) = ix2 l (row (grid0.coords t) r) := by
    blk_ext [hidx, row]
  rw [hemb]
  pointwise [k0_pay1, k0_pay9, k0_pay10, k0_pay3, blk0, blk2]
  have swap (d : Fin 1024) : argW m c (ix3 0 d ⟨1024 + (1024 + l.val), by omega⟩) * argX m c (ix3 0 (row (grid0.coords t) r) d)
      = argX m c (ix3 0 (row (grid0.coords t) r) d) * argW m c (ix3 0 d (col 2 l)) := by
    rw [mul_comm]
    exact congrArg (fun e => argX m c (ix3 0 (row (grid0.coords t) r) d) * argW m c (ix3 0 d e)) (Fin.ext (by simp [col]; omega))
  change (_ : EReal) = _
  exact Finset.sum_congr rfl fun d _ => swap d

/-- THE KERNEL'S SEVENTH RESULT: the log forget gates. -/
theorem final_lf (c : Dev nD) : (dats m 0 c).arrAt 11 cfg0.N = fun j => logSigmoid (logit (argX m c) (argW m c) (argB m c) (j 0) (j 1)) := by
  refine (dats m 0 c).arrAt_eq_of_covers 11 _ (by decide +kernel) fun t hf y => ?_
  blk_simp
  rw [after0_11]
  frame_out
  obtain ⟨r, h, rfl⟩ : ∃ (r : Fin 512) (h : Fin 16), y = ix2 r h := ⟨y 0, y 1, eq_ix2 y⟩
  have hidx := (idx_out t).2.2.2.2.2.2
  have hemb : (win0_11.blk t).view.emb (ix2 r h) = ix2 (row (grid0.coords t) r) h := by
    blk_ext [hidx, row]
  rw [hemb]
  pointwise [k0_pay2, k0_pay10, k0_pay3, blk0, blk3, blk4]
  have hl : (∑ d : Fin 1024, argX m c (ix3 0 (row (grid0.coords t) r) d) * V m c main_v10 (ix2 d ⟨h.val, by omega⟩))
      + V m c main_v13 (ix2 0 ⟨h.val, by omega⟩) = logit (argX m c) (argW m c) (argB m c) (row (grid0.coords t) r) h :=
    congrArg₂ (· + ·) (Finset.sum_congr rfl fun d _ =>
      congrArg (argX m c (ix3 0 (row (grid0.coords t) r) d) * ·) (weights_f m c d h)) (bias_f m c h)
  exact congrArg logSigmoid hl

end Cert.InProjIdeal.Proj

namespace Cert.InProjRefIdeal.Proj

open Cert.InProjRefIdeal Cert.InProjRefIdeal.Gen Idealize.ShloMosaic Idealize.ShloMosaic.TcCoe Idealize.SL.Sem
open Idealize.ShloMosaic.Tactic
open Cert.InProjIdeal.Proj (part partT query logit entry col)
open Cert.Gate (logSigmoid)

/-- The reference's product of all rows with the whole weights. -/
def product (x : FVec Ideal S1x16384x1024 .f32) (w : FVec Ideal S1x1024x4112 .f32) : FVec Ideal S16384x4112 .f32 :=
  Host.dotGeneral dot_S16384x1024_S1024x4112_S16384x4112_1_0_0_1_n_n none (shapeCast _ x shapeCasts_S1x16384x1024_S16384x1024)
    (shapeCast _ w shapeCasts_S1x1024x4112_S1024x4112)

/-- The product's first 4096 columns: queries, keys, values and gate. -/
def wide (x : FVec Ideal S1x16384x1024 .f32) (w : FVec Ideal S1x1024x4112 .f32) : FVec Ideal S16384x4096 .f32 :=
  extractStridedSlice S16384x4096 ![0, 0] (product x w) slices_S16384x4112_S16384x4096_0_0

/-- The forget gates' logits. -/
def logits (x : FVec Ideal S1x16384x1024 .f32) (w : FVec Ideal S1x1024x4112 .f32) (b : FVec Ideal S1x16 .f32) :
    FVec Ideal S16384x16 .f32 :=
  addf (extractStridedSlice S16384x16 ![0, 4096] (product x w) slices_S16384x4112_S16384x16_0_4096)
    (broadcastInDim S16384x16 ![0, 1] bcast_S1x16_S16384x16_0_1 (broadcastInDim S1x16 ![1] bcast_S16_S1x16_1
      (shapeCast _ b shapeCasts_S1x16_S16)))

/-- An array of zeros. -/
def zeros : FVec Ideal S16384x16 .f32 := broadcastInDim S16384x16 ![] bcast_S_S16384x16 (constant S_ .f32 0x00000000#32)

/-- The log sigmoid of an array, as the reference's library spells it. -/
def logSig (h : FVec Ideal S16384x16 .f32) : FVec Ideal S16384x16 .f32 :=
  Host.negf (select (cmpf .une (subf (Host.negf h) zeros) (subf (Host.negf h) zeros)) (addf (Host.negf h) zeros)
    (addf (maximumf (Host.negf h) zeros) (Host.log1p (Host.exp (Host.negf (Host.absf (subf (Host.negf h) zeros)))))))

variable (x : FVec Ideal S1x16384x1024 .f32) (w : FVec Ideal S1x1024x4112 .f32)

/-- An eighth, divided by `log 2`, is the factor of the queries. -/
theorem scale (a : EReal) : Ideal.div (a * Ideal.ofBits .f32 0x3E000000#32) (Ideal.log (Ideal.ofBits .f32 0x40000000#32))
    = a * (((8 * Real.log 2)⁻¹ : ℝ) : EReal) := by
  have h8 : Ideal.ofBits .f32 0x3E000000#32 = ((8⁻¹ : ℝ) : EReal) := by
    simp [Ideal.ofBits, Ideal.ieee, -EReal.coe_mul]; norm_num
  have hl : Ideal.log (Ideal.ofBits .f32 0x40000000#32) = ((Real.log 2 : ℝ) : EReal) := by
    rw [Cert.Attn.ofBits_two]
    change (if _ then _ else _) = _
    rw [if_neg (by norm_num)]
  have h2 : Real.log 2 ≠ 0 := (Real.log_pos (by norm_num)).ne'
  rw [h8, hl, Ideal.div, if_neg (by exact_mod_cast h2), mul_assoc, ← EReal.coe_inv, ← EReal.coe_mul, mul_inv]

/-- THE REFERENCE'S FIRST RESULT: the queries. -/
theorem ref_q : truncf .bf16 (Host.divf (mulf (extractStridedSlice S16384x1024 ![0, 0] (wide x w) slices_S16384x4096_S16384x1024_0_0)
      (broadcastInDim S16384x1024 ![] bcast_S_S16384x1024 (constant S_ .f32 0x3E000000#32)))
      (broadcastInDim S16384x1024 ![] bcast_S_S16384x1024 (Host.log (constant S_ .f32 0x40000000#32)))) bitsLt_bf16_f32
    = query x w := by
  funext j
  obtain ⟨r, l, rfl⟩ : ∃ (r : Fin 16384) (l : Fin 1024), j = ix2 r l := ⟨j 0, j 1, eq_ix2 j⟩
  pointwise [wide, product]
  rw [scale]
  simp [query, part, entry, col, ix2]

/-- THE REFERENCE'S SECOND RESULT: the values. -/
theorem ref_vb : truncf .bf16 (extractStridedSlice S16384x1024 ![0, 2048] (wide x w) slices_S16384x4096_S16384x1024_0_2048)
    bitsLt_bf16_f32 = part 2 x w := by
  funext j
  obtain ⟨r, l, rfl⟩ : ∃ (r : Fin 16384) (l : Fin 1024), j = ix2 r l := ⟨j 0, j 1, eq_ix2 j⟩
  pointwise [wide, product]
  simp [part, entry, col, ix2]

/-- THE REFERENCE'S THIRD RESULT: the gate. -/
theorem ref_z : extractStridedSlice S16384x1024 ![0, 3072] (wide x w) slices_S16384x4096_S16384x1024_0_3072 = part 3 x w := by
  funext j
  obtain ⟨r, l, rfl⟩ : ∃ (r : Fin 16384) (l : Fin 1024), j = ix2 r l := ⟨j 0, j 1, eq_ix2 j⟩
  pointwise [wide, product]
  simp [part, entry, col, ix2]

/-- THE REFERENCE'S FOURTH AND FIFTH RESULT: the keys, transposed. -/
theorem ref_kt : transpose S1024x16384 [1, 0] (extractStridedSlice S16384x1024 ![0, 1024] (wide x w)
    slices_S16384x4096_S16384x1024_0_1024) transposes_S16384x1024_S1024x16384_1_0 = partT 1 x w := by
  funext j
  obtain ⟨l, r, rfl⟩ : ∃ (l : Fin 1024) (r : Fin 16384), j = ix2 l r := ⟨j 0, j 1, eq_ix2 j⟩
  pointwise [wide, product]
  simp [partT, entry, col, ix2]

/-- THE REFERENCE'S SIXTH RESULT: the values, transposed. -/
theorem ref_vt : transpose S1024x16384 [1, 0] (extractStridedSlice S16384x1024 ![0, 2048] (wide x w)
    slices_S16384x4096_S16384x1024_0_2048) transposes_S16384x1024_S1024x16384_1_0 = partT 2 x w := by
  funext j
  obtain ⟨l, r, rfl⟩ : ∃ (l : Fin 1024) (r : Fin 16384), j = ix2 l r := ⟨j 0, j 1, eq_ix2 j⟩
  pointwise [wide, product]
  simp [partT, entry, col, ix2]

/-- A logit of the reference. -/
theorem logits_at (b : FVec Ideal S1x16 .f32) (r : Fin 16384) (h : Fin 16) : logits x w b (ix2 r h) = logit x w b r h := by
  pointwise [logits, product]
  simp [logit, entry]

/-- THE REFERENCE'S SEVENTH RESULT: the log forget gates. -/
theorem ref_lf (b : FVec Ideal S1x16 .f32) : logSig (logits x w b) = fun j => logSigmoid (logit x w b (j 0) (j 1)) := by
  funext j
  obtain ⟨r, h, rfl⟩ : ∃ (r : Fin 16384) (h : Fin 16), j = ix2 r h := ⟨j 0, j 1, eq_ix2 j⟩
  pointwise [logSig, zeros, logits_at]
  rw [if_neg (not_not_intro rfl)]
  exact Cert.Gate.library _

end Cert.InProjRefIdeal.Proj

namespace Cert.Proof.InProjClaims

open Idealize.ShloMosaic Idealize.SL.Sem

/-- The reference runs, ends quiescent, and leaves its arguments as they were. -/
theorem frame_ri : Cert.quiescent_InProjRefIdeal := fun m ρ _ =>
  (θ_run Cert.InProjRefIdeal.defs _ _).mono
    (fun r h => ⟨fun c => (h c).2.2.2.2.2.2.2, sem_eq_zero_of_no_sems (by decide) r.2⟩)
    (Cert.InProjRefIdeal.Value.run (F := Ideal) m ρ)

/-- Kernel and reference end with equal results. -/
theorem algebraic : Cert.algebraic_InProjIdeal_InProjRefIdeal := by
  intro m ρ m' ρ' _ hagree
  refine ⟨_, _, _, _, _, _, _, Cert.InProjIdeal.Value.run_blocks m ρ, ?_⟩
  refine (θ_run Cert.InProjRefIdeal.defs _ _).mono (fun _ h c => ⟨(h c).1.trans ?_, (h c).2.1.trans ?_, (h c).2.2.1.trans ?_,
    (h c).2.2.2.1.trans ?_, (h c).2.2.2.2.1.trans ?_, (h c).2.2.2.2.2.1.trans ?_, (h c).2.2.2.2.2.2.1.trans ?_,
    (h c).2.2.2.2.2.2.2⟩) (Cert.InProjRefIdeal.Value.run (F := Ideal) m' ρ')
  all_goals rw [(hagree c).1, (hagree c).2.1]
  · exact (Cert.InProjRefIdeal.Proj.ref_q _ _).trans (Cert.InProjIdeal.Proj.final_q m c).symm
  · exact (Cert.InProjRefIdeal.Proj.ref_vb _ _).trans (Cert.InProjIdeal.Proj.final_vb m c).symm
  · exact (Cert.InProjRefIdeal.Proj.ref_z _ _).trans (Cert.InProjIdeal.Proj.final_z m c).symm
  · exact (Cert.InProjRefIdeal.Proj.ref_kt _ _).trans (Cert.InProjIdeal.Proj.final_kt m c).symm
  · exact (Cert.InProjRefIdeal.Proj.ref_kt _ _).trans (Cert.InProjIdeal.Proj.final_ktb m c).symm
  · exact (Cert.InProjRefIdeal.Proj.ref_vt _ _).trans (Cert.InProjIdeal.Proj.final_vt m c).symm
  · rw [(hagree c).2.2]
    exact (Cert.InProjRefIdeal.Proj.ref_lf _ _ _).trans (Cert.InProjIdeal.Proj.final_lf m c).symm

end Cert.Proof.InProjClaims

end
-- ==== Proof.InProjSample.lean ====
/-
  THE ATTENTION LAYER'S INPUT PROJECTION OF THE SAMPLE: 32 sequences of 4 positions, their 128 rows one after another in one
  block. The kernel multiplies them by the first 4096 columns of the weights, a thousand at a time, and by the columns of
  the forget gates, filled up to 128 with zeros; the reference multiplies them by the whole weights and splits the product.
-/
module

public import proofs.«01_k».proof.Defs
public import proofs.«01_k».proof.Proof.Gen.InProjSampleIdeal.Value
public import proofs.«01_k».proof.Proof.Gen.InProjSampleRefIdeal.Run
public import proofs.«01_k».proof.Proof.Gate
public import Idealize.ShloMosaic.Lib.Pipeline.ValueKit
public import Idealize.ShloMosaic.Lib.StableHlo.ReadAt
public import Idealize.ShloMosaic.Lib.Pointwise
public import Idealize.ShloMosaic.Adequacy

@[expose] public section

set_option maxRecDepth 16384

noncomputable section

namespace Cert.InProjSampleIdeal.Proj

open Cert.InProjSampleIdeal Cert.InProjSampleIdeal.Gen Idealize.ShloMosaic Idealize.ShloMosaic.TcCoe Idealize.SL.Sem
open Idealize.ShloMosaic.Tactic
open Cert.Gate (logSigmoid)

/-- The sequence and the position of row `r`. -/
def seq (r : Fin 128) : Fin 32 := ⟨r.val / 4, by omega⟩
/-- The position of a row. -/
def pos (r : Fin 128) : Fin 4 := ⟨r.val % 4, by omega⟩

/-- Row `r` of the input against column `e` of the weights. -/
def entry (x : S32x4x1024.Idx → EReal) (w : S1x1024x4112.Idx → EReal) (r : Fin 128) (e : Fin 4112) : EReal :=
  ∑ d : Fin 1024, x (ix3 (seq r) (pos r) d) * w (ix3 0 d e)

/-- The columns of queries, keys, values and gate (`b` = 0, 1, 2, 3). -/
def col (b : Fin 4) (l : Fin 1024) : Fin 4112 := ⟨1024 * b + l, by omega⟩

/-- Part `b` of the projection. -/
def part (b : Fin 4) (x : S32x4x1024.Idx → EReal) (w : S1x1024x4112.Idx → EReal) : S128x1024.Idx → EReal := fun j =>
  entry x w (j 0) (col b (j 1))

/-- The queries times an eighth. -/
def query (x : S32x4x1024.Idx → EReal) (w : S1x1024x4112.Idx → EReal) : S128x1024.Idx → EReal := fun j =>
  part 0 x w j * Ideal.ofBits .f32 0x3E000000#32

/-- The forget gate's logit of row `r` and head `h`. -/
def logit (x : S32x4x1024.Idx → EReal) (w : S1x1024x4112.Idx → EReal) (b : S1x16.Idx → EReal) (r : Fin 128) (h : Fin 16) :
    EReal :=
  entry x w r ⟨4096 + h, by omega⟩ + b (ix2 0 h)

variable (m : (ℓ : Loc nD τ sig) → Buf (Elt Ideal) ℓ)

/-- The arguments, as arrays of extended reals. -/
def argX (c : Dev nD) : S32x4x1024.Idx → EReal := m ((c : Thread nD τ).loc main_arg0)
/-- The call's argument: the projection's weights. -/
def argW (c : Dev nD) : S1x1024x4112.Idx → EReal := m ((c : Thread nD τ).loc main_arg1)
/-- The call's argument: the decay's bias. -/
def argB (c : Dev nD) : S1x16.Idx → EReal := m ((c : Thread nD τ).loc main_arg2)

/-- The rows as the call gets them are the argument's. -/
theorem rows (c : Dev nD) (r : Fin 128) (d : Fin 1024) : V m c main_v9 (ix2 r d) = argX m c (ix3 (seq r) (pos r) d) := by
  unfold argX V
  after_reads_at
  rfl

/-- The first weights as the call gets them: the argument's first columns. -/
theorem weights (c : Dev nD) (d : Fin 1024) (e : Fin 4096) : V m c main_v2 (ix2 d e) = argW m c (ix3 0 d ⟨e.val, by omega⟩) := by
  unfold argW V
  after_reads_at

/-- The second weights: the argument's columns of the forget gates (and columns of zeros, which no result reads). -/
theorem weights_f (c : Dev nD) (d : Fin 1024) (h : Fin 16) : V m c main_v5 (ix2 d ⟨h.val, by omega⟩)
    = argW m c (ix3 0 d ⟨4096 + h.val, by omega⟩) := by
  unfold argW V
  after_reads_at

/-- The bias of the forget gates. -/
theorem bias_f (c : Dev nD) (h : Fin 16) : V m c main_v8 (ix2 0 ⟨h.val, by omega⟩) = argB m c (ix2 0 h) := by
  unfold argB V
  after_reads_at

/-- Each window's block is a whole array. -/
theorem idx (t : Fin grid0.N) : win0_0.index t = ![0, 0] ∧ win0_1.index t = ![0, 0] ∧ win0_2.index t = ![0, 0]
    ∧ win0_3.index t = ![0, 0] := by
  revert t; decide +kernel

/-- So is each result's. -/
theorem idx_out (t : Fin grid0.N) : win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0] := by
  revert t; decide +kernel

/-- The windows' blocks. -/
theorem blk0 (c : Dev nD) (t : Fin cfg0.N) (r : Fin 128) (d : Fin 1024) :
    iblk m c 0 t (ix2 r d) = argX m c (ix3 (seq r) (pos r) d) := by
  have h := (idx t).1
  rw [← rows]
  blk_ext [iblk, h]
/-- The second window's block: columns 0 to 4095 of the weights. -/
theorem blk1 (c : Dev nD) (t : Fin cfg0.N) (d : Fin 1024) (e : Fin 4096) :
    iblk m c 1 t (ix2 d e) = argW m c (ix3 0 d ⟨e.val, by omega⟩) := by
  have h := (idx t).2.1
  rw [← weights]
  blk_ext [iblk, h]
/-- The third window's block: the decay's weights. -/
theorem blk2 (c : Dev nD) (t : Fin cfg0.N) (d : Fin 1024) (e : Fin 128) : iblk m c 2 t (ix2 d e) = V m c main_v5 (ix2 d e) := by
  have h := (idx t).2.2.1
  blk_ext [iblk, h]
/-- The fourth window's block: the decay's bias. -/
theorem blk3 (c : Dev nD) (t : Fin cfg0.N) (e : Fin 128) : iblk m c 3 t (ix2 0 e) = V m c main_v8 (ix2 0 e) := by
  have h := (idx t).2.2.2
  blk_ext [iblk, h]

/-- THE KERNEL'S FIRST RESULT: the queries. -/
theorem final_q (c : Dev nD) : (dats m 0 c).arrAt 4 cfg0.N = query (argX m c) (argW m c) := by
  refine (dats m 0 c).arrAt_eq_of_covers 4 _ (by decide +kernel) fun t hf y => ?_
  blk_simp
  rw [after0_4]
  frame_out
  obtain ⟨r, l, rfl⟩ : ∃ (r : Fin 128) (l : Fin 1024), y = ix2 r l := ⟨y 0, y 1, eq_ix2 y⟩
  have hidx := (idx_out t).1
  have hemb : (win0_4.blk t).view.emb (ix2 r l) = ix2 r l := by blk_ext [hidx]
  rw [hemb]
  pointwise [k0_pay3, k0_pay2, blk0, blk1]
  simp [query, part, entry, col, ix2]

/-- THE KERNEL'S SECOND RESULT: the keys. -/
theorem final_k (c : Dev nD) : (dats m 0 c).arrAt 5 cfg0.N = part 1 (argX m c) (argW m c) := by
  refine (dats m 0 c).arrAt_eq_of_covers 5 _ (by decide +kernel) fun t hf y => ?_
  blk_simp
  rw [after0_5]
  frame_out
  obtain ⟨r, l, rfl⟩ : ∃ (r : Fin 128) (l : Fin 1024), y = ix2 r l := ⟨y 0, y 1, eq_ix2 y⟩
  have hidx := (idx_out t).2.1
  have hemb : (win0_5.blk t).view.emb (ix2 r l) = ix2 r l := by blk_ext [hidx]
  rw [hemb]
  pointwise [k0_pay4, k0_pay2, blk0, blk1]
  simp [part, entry, col, ix2]

/-- THE KERNEL'S THIRD RESULT: the values. -/
theorem final_v (c : Dev nD) : (dats m 0 c).arrAt 6 cfg0.N = part 2 (argX m c) (argW m c) := by
  refine (dats m 0 c).arrAt_eq_of_covers 6 _ (by decide +kernel) fun t hf y => ?_
  blk_simp
  rw [after0_6]
  frame_out
  obtain ⟨r, l, rfl⟩ : ∃ (r : Fin 128) (l : Fin 1024), y = ix2 r l := ⟨y 0, y 1, eq_ix2 y⟩
  have hidx := (idx_out t).2.2.1
  have hemb : (win0_6.blk t).view.emb (ix2 r l) = ix2 r l := by blk_ext [hidx]
  rw [hemb]
  pointwise [k0_pay6, k0_pay2, blk0, blk1]
  simp [part, entry, col, ix2]

/-- THE KERNEL'S FOURTH RESULT: the keys again, as the attention takes them. -/
theorem final_kb (c : Dev nD) : (dats m 0 c).arrAt 7 cfg0.N = part 1 (argX m c) (argW m c) := by
  refine (dats m 0 c).arrAt_eq_of_covers 7 _ (by decide +kernel) fun t hf y => ?_
  blk_simp
  rw [after0_7]
  frame_out
  obtain ⟨r, l, rfl⟩ : ∃ (r : Fin 128) (l : Fin 1024), y = ix2 r l := ⟨y 0, y 1, eq_ix2 y⟩
  have hidx := (idx_out t).2.2.2.1
  have hemb : (win0_7.blk t).view.emb (ix2 r l) = ix2 r l := by blk_ext [hidx]
  rw [hemb]
  pointwise [k0_pay5, k0_pay4, k0_pay2, blk0, blk1]
  simp [part, entry, col, ix2]

/-- THE KERNEL'S FIFTH RESULT: the values again, as the attention takes them. -/
theorem final_vb (c : Dev nD) : (dats m 0 c).arrAt 8 cfg0.N = part 2 (argX m c) (argW m c) := by
  refine (dats m 0 c).arrAt_eq_of_covers 8 _ (by decide +kernel) fun t hf y => ?_
  blk_simp
  rw [after0_8]
  frame_out
  obtain ⟨r, l, rfl⟩ : ∃ (r : Fin 128) (l : Fin 1024), y = ix2 r l := ⟨y 0, y 1, eq_ix2 y⟩
  have hidx := (idx_out t).2.2.2.2.1
  have hemb : (win0_8.blk t).view.emb (ix2 r l) = ix2 r l := by blk_ext [hidx]
  rw [hemb]
  pointwise [k0_pay7, k0_pay6, k0_pay2, blk0, blk1]
  simp [part, entry, col, ix2]

/-- THE KERNEL'S SIXTH RESULT: the gate. -/
theorem final_z (c : Dev nD) : (dats m 0 c).arrAt 9 cfg0.N = part 3 (argX m c) (argW m c) := by
  refine (dats m 0 c).arrAt_eq_of_covers 9 _ (by decide +kernel) fun t hf y => ?_
  blk_simp
  rw [after0_9]
  frame_out
  obtain ⟨r, l, rfl⟩ : ∃ (r : Fin 128) (l : Fin 1024), y = ix2 r l := ⟨y 0, y 1, eq_ix2 y⟩
  have hidx := (idx_out t).2.2.2.2.2.1
  have hemb : (win0_9.blk t).view.emb (ix2 r l) = ix2 r l := by blk_ext [hidx]
  rw [hemb]
  pointwise [k0_pay8, k0_pay2, blk0, blk1]
  simp [part, entry, col, ix2]

/-- THE KERNEL'S SEVENTH RESULT: the log forget gates. -/
theorem final_lf (c : Dev nD) : (dats m 0 c).arrAt 10 cfg0.N = fun j => logSigmoid (logit (argX m c) (argW m c) (argB m c) (j 0) (j 1)) := by
  refine (dats m 0 c).arrAt_eq_of_covers 10 _ (by decide +kernel) fun t hf y => ?_
  blk_simp
  rw [after0_10]
  frame_out
  obtain ⟨r, h, rfl⟩ : ∃ (r : Fin 128) (h : Fin 16), y = ix2 r h := ⟨y 0, y 1, eq_ix2 y⟩
  have hidx := (idx_out t).2.2.2.2.2.2
  have hemb : (win0_10.blk t).view.emb (ix2 r h) = ix2 r h := by blk_ext [hidx]
  rw [hemb]
  pointwise [k0_pay1, k0_pay2, blk0, blk2, blk3]
  have hl : (∑ d : Fin 1024, argX m c (ix3 (seq r) (pos r) d) * V m c main_v5 (ix2 d ⟨h.val, by omega⟩))
      + V m c main_v8 (ix2 0 ⟨h.val, by omega⟩) = logit (argX m c) (argW m c) (argB m c) r h :=
    congrArg₂ (· + ·) (Finset.sum_congr rfl fun d _ =>
      congrArg (argX m c (ix3 (seq r) (pos r) d) * ·) (weights_f m c d h)) (bias_f m c h)
  exact congrArg logSigmoid hl

end Cert.InProjSampleIdeal.Proj

namespace Cert.InProjSampleRefIdeal.Proj

open Cert.InProjSampleRefIdeal Cert.InProjSampleRefIdeal.Gen Idealize.ShloMosaic Idealize.ShloMosaic.TcCoe Idealize.SL.Sem
open Idealize.ShloMosaic.Tactic
open Cert.InProjSampleIdeal.Proj (part query logit entry col seq pos)
open Cert.Gate (logSigmoid)

/-- The reference's product of all rows with the whole weights, one row after another. -/
def product (x : FVec Ideal S32x4x1024 .f32) (w : FVec Ideal S1x1024x4112 .f32) : FVec Ideal S128x4112 .f32 :=
  shapeCast _ (Host.dotGeneral dot_S32x4x1024_S1024x4112_S32x4x4112_2_0_01_1_n_n none x
    (shapeCast _ w shapeCasts_S1x1024x4112_S1024x4112)) shapeCasts_S32x4x4112_S128x4112

/-- The product's first 4096 columns: queries, keys, values and gate. -/
def wide (x : FVec Ideal S32x4x1024 .f32) (w : FVec Ideal S1x1024x4112 .f32) : FVec Ideal S128x4096 .f32 :=
  extractStridedSlice S128x4096 ![0, 0] (product x w) slices_S128x4112_S128x4096_0_0

/-- The forget gates' logits. -/
def logits (x : FVec Ideal S32x4x1024 .f32) (w : FVec Ideal S1x1024x4112 .f32) (b : FVec Ideal S1x16 .f32) :
    FVec Ideal S128x16 .f32 :=
  addf (extractStridedSlice S128x16 ![0, 4096] (product x w) slices_S128x4112_S128x16_0_4096)
    (broadcastInDim S128x16 ![0, 1] bcast_S1x16_S128x16_0_1 (broadcastInDim S1x16 ![1] bcast_S16_S1x16_1
      (shapeCast _ b shapeCasts_S1x16_S16)))

/-- An array of zeros. -/
def zeros : FVec Ideal S128x16 .f32 := broadcastInDim S128x16 ![] bcast_S_S128x16 (constant S_ .f32 0x00000000#32)

/-- The log sigmoid of an array, as the reference's library spells it. -/
def logSig (h : FVec Ideal S128x16 .f32) : FVec Ideal S128x16 .f32 :=
  Host.negf (select (cmpf .une (subf (Host.negf h) zeros) (subf (Host.negf h) zeros)) (addf (Host.negf h) zeros)
    (addf (maximumf (Host.negf h) zeros) (Host.log1p (Host.exp (Host.negf (Host.absf (subf (Host.negf h) zeros)))))))

variable (x : FVec Ideal S32x4x1024 .f32) (w : FVec Ideal S1x1024x4112 .f32)

/-- An entry of the reference's product. -/
theorem product_at (r : Fin 128) (e : Fin 4112) : product x w (ix2 r e) = entry x w r e := by
  pointwise [product]
  simp [entry, seq, pos]

/-- THE REFERENCE'S FIRST RESULT: the queries. -/
theorem ref_q : truncf .bf16 (mulf (extractStridedSlice S128x1024 ![0, 0] (wide x w) slices_S128x4096_S128x1024_0_0)
    (broadcastInDim S128x1024 ![] bcast_S_S128x1024 (constant S_ .f32 0x3E000000#32))) bitsLt_bf16_f32 = query x w := by
  funext j
  obtain ⟨r, l, rfl⟩ : ∃ (r : Fin 128) (l : Fin 1024), j = ix2 r l := ⟨j 0, j 1, eq_ix2 j⟩
  pointwise [wide, product_at]
  simp [query, part, col, ix2]

/-- THE REFERENCE'S SECOND AND FOURTH RESULT: the keys. -/
theorem ref_k : extractStridedSlice S128x1024 ![0, 1024] (wide x w) slices_S128x4096_S128x1024_0_1024 = part 1 x w := by
  funext j
  obtain ⟨r, l, rfl⟩ : ∃ (r : Fin 128) (l : Fin 1024), j = ix2 r l := ⟨j 0, j 1, eq_ix2 j⟩
  pointwise [wide, product_at]
  simp [part, col, ix2]

/-- THE REFERENCE'S THIRD AND FIFTH RESULT: the values. -/
theorem ref_v : extractStridedSlice S128x1024 ![0, 2048] (wide x w) slices_S128x4096_S128x1024_0_2048 = part 2 x w := by
  funext j
  obtain ⟨r, l, rfl⟩ : ∃ (r : Fin 128) (l : Fin 1024), j = ix2 r l := ⟨j 0, j 1, eq_ix2 j⟩
  pointwise [wide, product_at]
  simp [part, col, ix2]

/-- THE REFERENCE'S SIXTH RESULT: the gate. -/
theorem ref_z : extractStridedSlice S128x1024 ![0, 3072] (wide x w) slices_S128x4096_S128x1024_0_3072 = part 3 x w := by
  funext j
  obtain ⟨r, l, rfl⟩ : ∃ (r : Fin 128) (l : Fin 1024), j = ix2 r l := ⟨j 0, j 1, eq_ix2 j⟩
  pointwise [wide, product_at]
  simp [part, col, ix2]

/-- A logit of the reference. -/
theorem logits_at (b : FVec Ideal S1x16 .f32) (r : Fin 128) (h : Fin 16) : logits x w b (ix2 r h) = logit x w b r h := by
  pointwise [logits, product_at]
  simp [logit]

/-- THE REFERENCE'S SEVENTH RESULT: the log forget gates. -/
theorem ref_lf (b : FVec Ideal S1x16 .f32) : logSig (logits x w b) = fun j => logSigmoid (logit x w b (j 0) (j 1)) := by
  funext j
  obtain ⟨r, h, rfl⟩ : ∃ (r : Fin 128) (h : Fin 16), j = ix2 r h := ⟨j 0, j 1, eq_ix2 j⟩
  pointwise [logSig, zeros, logits_at]
  rw [if_neg (not_not_intro rfl)]
  exact Cert.Gate.library _

end Cert.InProjSampleRefIdeal.Proj

namespace Cert.Proof.InProjSampleClaims

open Idealize.ShloMosaic Idealize.SL.Sem

/-- The reference runs, ends quiescent, and leaves its arguments as they were. -/
theorem frame_ri : Cert.quiescent_InProjSampleRefIdeal := fun m ρ _ =>
  (θ_run Cert.InProjSampleRefIdeal.defs _ _).mono
    (fun r h => ⟨fun c => (h c).2.2.2.2.2.2.2, sem_eq_zero_of_no_sems (by decide) r.2⟩)
    (Cert.InProjSampleRefIdeal.Value.run (F := Ideal) m ρ)

/-- Kernel and reference end with equal results. -/
theorem algebraic : Cert.algebraic_InProjSampleIdeal_InProjSampleRefIdeal := by
  intro m ρ m' ρ' _ hagree
  refine ⟨_, _, _, _, _, _, _, Cert.InProjSampleIdeal.Value.run_blocks m ρ, ?_⟩
  refine (θ_run Cert.InProjSampleRefIdeal.defs _ _).mono (fun _ h c => ⟨(h c).1.trans ?_, (h c).2.1.trans ?_, (h c).2.2.1.trans ?_,
    (h c).2.2.2.1.trans ?_, (h c).2.2.2.2.1.trans ?_, (h c).2.2.2.2.2.1.trans ?_, (h c).2.2.2.2.2.2.1.trans ?_,
    (h c).2.2.2.2.2.2.2⟩) (Cert.InProjSampleRefIdeal.Value.run (F := Ideal) m' ρ')
  all_goals rw [(hagree c).1, (hagree c).2.1]
  · exact (Cert.InProjSampleRefIdeal.Proj.ref_q _ _).trans (Cert.InProjSampleIdeal.Proj.final_q m c).symm
  · exact (Cert.InProjSampleRefIdeal.Proj.ref_k _ _).trans (Cert.InProjSampleIdeal.Proj.final_k m c).symm
  · exact (Cert.InProjSampleRefIdeal.Proj.ref_v _ _).trans (Cert.InProjSampleIdeal.Proj.final_v m c).symm
  · exact (Cert.InProjSampleRefIdeal.Proj.ref_k _ _).trans (Cert.InProjSampleIdeal.Proj.final_kb m c).symm
  · exact (Cert.InProjSampleRefIdeal.Proj.ref_v _ _).trans (Cert.InProjSampleIdeal.Proj.final_vb m c).symm
  · exact (Cert.InProjSampleRefIdeal.Proj.ref_z _ _).trans (Cert.InProjSampleIdeal.Proj.final_z m c).symm
  · rw [(hagree c).2.2]
    exact (Cert.InProjSampleRefIdeal.Proj.ref_lf _ _ _).trans (Cert.InProjSampleIdeal.Proj.final_lf m c).symm

end Cert.Proof.InProjSampleClaims

end
-- ==== Proof.Norm.lean ====
/-
  THE LAYER NORM OF ONE ROW, and the factor of its residual: what both output projections end with.
-/
module

public import Idealize.ShloMosaic.PureOps.Ideal
public import Idealize.ShloMosaic.Lib.Pointwise

@[expose] public section

noncomputable section

namespace Cert.Norm

open Idealize.ShloMosaic

/-- The mean of a row of 1024. -/
def mean (v : Fin 1024 → EReal) : EReal := Ideal.div (∑ e, v e) (Ideal.ofBits .f32 0x44800000#32)

/-- Entry `l` of the row's layer norm, with the scale and the shift at that place. -/
def norm (v : Fin 1024 → EReal) (g b : EReal) (l : Fin 1024) : EReal :=
  (v l - mean v) * Ideal.rsqrt (mean (fun e => (v e - mean v) * (v e - mean v)) + Ideal.ofBits .f32 0x3727C5AC#32) * g + b

/-- The square root of the square root of four is the square root of two. -/
theorem alpha : Ideal.sqrt (Ideal.sqrt (Ideal.ofBits .f32 0x40800000#32)) = ((Real.sqrt 2 : ℝ) : EReal) := by
  have h4 : Ideal.ofBits .f32 0x40800000#32 = ((4 : ℝ) : EReal) := by
    simp [Ideal.ofBits, Ideal.ieee, -EReal.coe_mul]; norm_num
  have hr : Real.sqrt 4 = 2 := by
    rw [show (4 : ℝ) = 2 ^ 2 by norm_num]; exact Real.sqrt_sq (by norm_num)
  have h2 : Ideal.sqrt (Ideal.ofBits .f32 0x40800000#32) = ((2 : ℝ) : EReal) := by
    rw [h4]
    change (if _ then _ else _) = _
    rw [if_neg (by norm_num), hr]
  rw [h2]
  change (if _ then _ else _) = _
  rw [if_neg (by norm_num)]

end Cert.Norm

end
-- ==== Proof.AttnOut.lean ====
/-
  THE ATTENTION LAYER'S OUTPUT: the heads' outputs, gated, times the output weights, added to the scaled input, and the layer
  norm of that. The kernel takes the rows 512 at a time; both sides are stated by `Cert.Norm.norm` of a row.
-/
module

public import proofs.«01_k».proof.Defs
public import proofs.«01_k».proof.Proof.Gen.AttnOutIdeal.Value
public import proofs.«01_k».proof.Proof.Gen.AttnOutRefIdeal.Run
public import proofs.«01_k».proof.Proof.Norm
public import Idealize.ShloMosaic.Lib.Pipeline.ValueKit
public import Idealize.ShloMosaic.Lib.StableHlo.ReadAt
public import Idealize.ShloMosaic.Lib.Pointwise
public import Idealize.ShloMosaic.Adequacy

@[expose] public section

set_option maxRecDepth 16384

noncomputable section

namespace Cert.AttnOutIdeal.Row

open Cert.AttnOutIdeal Cert.AttnOutIdeal.Gen Idealize.ShloMosaic Idealize.ShloMosaic.TcCoe Idealize.SL.Sem
open Idealize.ShloMosaic.Tactic
open Cert.Norm (norm)

/-- Row `r` before the norm: the scaled input plus the gated heads' outputs times the weights. -/
def before (o z x : S16384x1024.Idx → EReal) (w : S1x1024x1024.Idx → EReal) (r : Fin 16384) (e : Fin 1024) : EReal :=
  ((Real.sqrt 2 : ℝ) : EReal) * x (ix2 r e)
    + ∑ d : Fin 1024, o (ix2 r d) * (z (ix2 r d) * Ideal.logistic (z (ix2 r d))) * w (ix3 0 d e)

/-- The result: the layer norm of each row. -/
def out (o z x : S16384x1024.Idx → EReal) (w : S1x1024x1024.Idx → EReal) (g b : S2x1024.Idx → EReal) : S16384x1024.Idx → EReal :=
  fun j => norm (before o z x w (j 0)) (g (ix2 0 (j 1))) (b (ix2 0 (j 1))) (j 1)

variable (m : (ℓ : Loc nD τ sig) → Buf (Elt Ideal) ℓ)

/-- The arguments, as arrays of extended reals. -/
def argO (c : Dev nD) : S16384x1024.Idx → EReal := m ((c : Thread nD τ).loc main_arg0)
/-- The call's argument: the gate. -/
def argZ (c : Dev nD) : S16384x1024.Idx → EReal := m ((c : Thread nD τ).loc main_arg1)
/-- The call's argument: the layer's input. -/
def argX (c : Dev nD) : S16384x1024.Idx → EReal := m ((c : Thread nD τ).loc main_arg2)
/-- The call's argument: the output weights. -/
def argW (c : Dev nD) : S1x1024x1024.Idx → EReal := m ((c : Thread nD τ).loc main_arg3)
/-- The call's argument: the norms' scales. -/
def argG (c : Dev nD) : S2x1024.Idx → EReal := m ((c : Thread nD τ).loc main_arg4)
/-- The call's argument: the norms' shifts. -/
def argB (c : Dev nD) : S2x1024.Idx → EReal := m ((c : Thread nD τ).loc main_arg5)

/-- The weights, the scale and the shift as the call gets them are the arguments'. -/
theorem weights (c : Dev nD) (d e : Fin 1024) : V m c main_v1 (ix2 d e) = argW m c (ix3 0 d e) := by
  unfold argW V
  after_reads_at
/-- The norm's scale as the call gets it is the argument's row. -/
theorem scale (c : Dev nD) (e : Fin 1024) : V m c main_v4 (ix2 0 e) = argG m c (ix2 0 e) := by
  unfold argG V
  after_reads_at
/-- The norm's shift as the call gets it is the argument's row. -/
theorem shift (c : Dev nD) (e : Fin 1024) : V m c main_v7 (ix2 0 e) = argB m c (ix2 0 e) := by
  unfold argB V
  after_reads_at

/-- Where each window's block sits. -/
theorem idx (t : Fin grid0.N) : win0_0.index t = ![(grid0.coords t 0).val, 0] ∧ win0_1.index t = ![(grid0.coords t 0).val, 0]
    ∧ win0_2.index t = ![(grid0.coords t 0).val, 0] ∧ win0_3.index t = ![0, 0] ∧ win0_4.index t = ![0, 0]
    ∧ win0_5.index t = ![0, 0] ∧ win0_6.index t = ![(grid0.coords t 0).val, 0] := by
  revert t; decide +kernel

/-- Row `r` of block `i`. -/
def row (i : grid0.Coords) (r : Fin 512) : Fin 16384 := ⟨512 * (i 0).val + r, by have : (i 0).val < 32 := (i 0).isLt; omega⟩

/-- The windows' blocks: 512 rows of the first three arguments, and whole arrays. -/
theorem blk0 (c : Dev nD) (t : Fin cfg0.N) (r : Fin 512) (d : Fin 1024) :
    iblk m c 0 t (ix2 r d) = argO m c (ix2 (row (grid0.coords t) r) d) := by
  have h := (idx t).1
  rw [argO, ← V_main_arg0 m c]
  blk_ext [iblk, h, row]
/-- The second window's block: its rows of the gate. -/
theorem blk1 (c : Dev nD) (t : Fin cfg0.N) (r : Fin 512) (d : Fin 1024) :
    iblk m c 1 t (ix2 r d) = argZ m c (ix2 (row (grid0.coords t) r) d) := by
  have h := (idx t).2.1
  rw [argZ, ← V_main_arg1 m c]
  blk_ext [iblk, h, row]
/-- The third window's block: 512 rows of the layer's input. -/
theorem blk2 (c : Dev nD) (t : Fin cfg0.N) (r : Fin 512) (d : Fin 1024) :
    iblk m c 2 t (ix2 r d) = argX m c (ix2 (row (grid0.coords t) r) d) := by
  have h := (idx t).2.2.1
  rw [argX, ← V_main_arg2 m c]
  blk_ext [iblk, h, row]
/-- The fourth window's block: the output weights. -/
theorem blk3 (c : Dev nD) (t : Fin cfg0.N) (d e : Fin 1024) : iblk m c 3 t (ix2 d e) = argW m c (ix3 0 d e) := by
  have h := (idx t).2.2.2.1
  rw [← weights]
  blk_ext [iblk, h]
/-- The fifth window's block: the norm's scale. -/
theorem blk4 (c : Dev nD) (t : Fin cfg0.N) (e : Fin 1024) : iblk m c 4 t (ix2 0 e) = argG m c (ix2 0 e) := by
  have h := (idx t).2.2.2.2.1
  rw [← scale]
  blk_ext [iblk, h]
/-- The sixth window's block: the norm's shift. -/
theorem blk5 (c : Dev nD) (t : Fin cfg0.N) (e : Fin 1024) : iblk m c 5 t (ix2 0 e) = argB m c (ix2 0 e) := by
  have h := (idx t).2.2.2.2.2.1
  rw [← shift]
  blk_ext [iblk, h]

/-- One entry of the block that a grid point stores. -/
theorem stored (o z : Vec Ideal S512x1024 .f32) (w : Vec Ideal S1024x1024 .bf16) (x : Vec Ideal S512x1024 .f32)
    (g b : Vec Ideal S1x1024 .f32) (r : Fin 512) (l : Fin 1024) : k0_pay1 o z w x g b (ix2 r l)
      = norm (fun e => ((Real.sqrt 2 : ℝ) : EReal) * x (ix2 r e)
        + ∑ d : Fin 1024, o (ix2 r d) * (z (ix2 r d) * Ideal.logistic (z (ix2 r d))) * w (ix2 d e)) (g (ix2 0 l)) (b (ix2 0 l)) l := by
  pointwise [k0_pay1]
  rfl

/-- THE KERNEL'S RESULT. -/
theorem final (c : Dev nD) :
    (dats m 0 c).arrAt 6 cfg0.N = out (argO m c) (argZ m c) (argX m c) (argW m c) (argG m c) (argB m c) := by
  refine (dats m 0 c).arrAt_eq_of_covers 6 _ (by decide +kernel) fun t hf y => ?_
  blk_simp
  rw [after0_6]
  frame_out
  obtain ⟨r, l, rfl⟩ : ∃ (r : Fin 512) (l : Fin 1024), y = ix2 r l := ⟨y 0, y 1, eq_ix2 y⟩
  have hidx := (idx t).2.2.2.2.2.2
  have hemb : (win0_6.blk t).view.emb (ix2 r l) = ix2 (row (grid0.coords t) r) l := by
    blk_ext [hidx, row]
  rw [hemb]
  pointwise [stored, blk0, blk1, blk2, blk3, blk4, blk5]
  rfl

end Cert.AttnOutIdeal.Row

namespace Cert.AttnOutRefIdeal.Row

open Cert.AttnOutRefIdeal Cert.AttnOutRefIdeal.Gen Idealize.ShloMosaic Idealize.ShloMosaic.TcCoe Idealize.SL.Sem
open Idealize.ShloMosaic.Tactic
open Cert.Norm (norm mean)

/-- An array of one float. -/
def fill (s : Shape) (h : S_.BroadcastsInDim s ![]) (c : BitVec 32) : FVec Ideal s .f32 := broadcastInDim s ![] h (constant S_ .f32 c)

/-- The gated heads' outputs times the weights. -/
def sub (o z : FVec Ideal S16384x1024 .f32) (w : FVec Ideal S1x1024x1024 .f32) : FVec Ideal S16384x1024 .f32 :=
  Host.dotGeneral dot_S16384x1024_S1024x1024_S16384x1024_1_0_0_1_n_n none
    (mulf o (mulf z (Host.divf (fill S16384x1024 bcast_S_S16384x1024 0x3F800000#32)
      (addf (fill S16384x1024 bcast_S_S16384x1024 0x3F800000#32) (Host.exp (Host.negf z))))))
    (shapeCast _ w shapeCasts_S1x1024x1024_S1024x1024)

/-- The rows before the norm. -/
def pre (o z x : FVec Ideal S16384x1024 .f32) (w : FVec Ideal S1x1024x1024 .f32) : FVec Ideal S16384x1024 .f32 :=
  addf (mulf (broadcastInDim S16384x1024 ![] bcast_S_S16384x1024 (Host.sqrt (Host.sqrt (constant S_ .f32 0x40800000#32)))) x)
    (sub o z w)

/-- The mean of each row, as a column. -/
def means (v : FVec Ideal S16384x1024 .f32) : FVec Ideal S16384x1 .f32 :=
  Host.divf (broadcastInDim S16384x1 ![0] bcast_S16384_S16384x1_0
    (Host.reduceAdd v (constant S_ .f32 0x00000000#32) reducesTo_S16384x1024_S16384_d1 h_S_))
    (fill S16384x1 bcast_S_S16384x1 0x44800000#32)

/-- The rows less their means. -/
def centred (v : FVec Ideal S16384x1024 .f32) : FVec Ideal S16384x1024 .f32 :=
  subf v (broadcastInDim S16384x1024 ![0, 1] bcast_S16384x1_S16384x1024_0_1 (means v))

/-- Row 0 of a pair of rows, for every row of the result. -/
def spread (g : FVec Ideal S2x1024 .f32) : FVec Ideal S16384x1024 .f32 :=
  broadcastInDim S16384x1024 ![0, 1] bcast_S1x1024_S16384x1024_0_1 (broadcastInDim S1x1024 ![1] bcast_S1024_S1x1024_1
    (shapeCast _ (extractStridedSlice S1x1024 ![0, 0] g slices_S2x1024_S1x1024_0_0) shapeCasts_S1x1024_S1024))

/-- The layer norm of the rows. -/
def normed (v : FVec Ideal S16384x1024 .f32) (g b : FVec Ideal S2x1024 .f32) : FVec Ideal S16384x1024 .f32 :=
  addf (mulf (mulf (centred v) (broadcastInDim S16384x1024 ![0, 1] bcast_S16384x1_S16384x1024_0_1
    (Host.rsqrt (addf (means (mulf (centred v) (centred v))) (fill S16384x1 bcast_S_S16384x1 0x3727C5AC#32))))) (spread g)) (spread b)

/-- The mean of a row, as the reference computes it. -/
theorem means_at (v : FVec Ideal S16384x1024 .f32) (r : Fin 16384) : means v (ix2 r 0) = mean (fun e => v (ix2 r e)) := by
  pointwise [means, fill]
  simp [mean]

/-- An entry less its row's mean. -/
theorem centred_at (v : FVec Ideal S16384x1024 .f32) (r : Fin 16384) (l : Fin 1024) :
    centred v (ix2 r l) = v (ix2 r l) - mean (fun e => v (ix2 r e)) := by
  pointwise [centred, means_at]

/-- A norm's vector spread over the rows reads the vector at the column. -/
theorem spread_at (g : FVec Ideal S2x1024 .f32) (r : Fin 16384) (l : Fin 1024) : spread g (ix2 r l) = g (ix2 0 l) := by
  pointwise [spread]

/-- One entry of the reference's norm: the norm of its row. -/
theorem normed_at (v : FVec Ideal S16384x1024 .f32) (g b : FVec Ideal S2x1024 .f32) (r : Fin 16384) (l : Fin 1024) :
    normed v g b (ix2 r l) = norm (fun e => v (ix2 r e)) (g (ix2 0 l)) (b (ix2 0 l)) l := by
  pointwise [normed, fill, means_at, centred_at, spread_at]
  rfl

/-- One entry of the reference's array before the norm. -/
theorem pre_at (o z x : FVec Ideal S16384x1024 .f32) (w : FVec Ideal S1x1024x1024 .f32) (r : Fin 16384) (e : Fin 1024) :
    pre o z x w (ix2 r e) = Cert.AttnOutIdeal.Row.before o z x w r e := by
  pointwise [pre, sub, fill]
  simp [Cert.AttnOutIdeal.Row.before, Cert.Norm.alpha, Ideal.logistic]

/-- THE REFERENCE'S RESULT. -/
theorem ref (o z x : FVec Ideal S16384x1024 .f32) (w : FVec Ideal S1x1024x1024 .f32) (g b : FVec Ideal S2x1024 .f32) :
    normed (pre o z x w) g b = Cert.AttnOutIdeal.Row.out o z x w g b := by
  funext j
  obtain ⟨r, l, rfl⟩ : ∃ (r : Fin 16384) (l : Fin 1024), j = ix2 r l := ⟨j 0, j 1, eq_ix2 j⟩
  rw [normed_at]
  simp only [pre_at]
  rfl

end Cert.AttnOutRefIdeal.Row

namespace Cert.Proof.AttnOutClaims

open Idealize.ShloMosaic Idealize.SL.Sem

/-- The reference runs, ends quiescent, and leaves its arguments as they were. -/
theorem frame_ri : Cert.quiescent_AttnOutRefIdeal := fun m ρ _ =>
  (θ_run Cert.AttnOutRefIdeal.defs _ _).mono (fun r h => ⟨fun c => (h c).2, sem_eq_zero_of_no_sems (by decide) r.2⟩)
    (Cert.AttnOutRefIdeal.Value.run (F := Ideal) m ρ)

/-- Kernel and reference end with equal results. -/
theorem algebraic : Cert.algebraic_AttnOutIdeal_AttnOutRefIdeal := by
  intro m ρ m' ρ' _ hagree
  refine ⟨_, Cert.AttnOutIdeal.Value.run_blocks m ρ, ?_⟩
  refine (θ_run Cert.AttnOutRefIdeal.defs _ _).mono (fun _ h c => ⟨(h c).1.trans ?_, (h c).2⟩)
    (Cert.AttnOutRefIdeal.Value.run (F := Ideal) m' ρ')
  rw [Cert.AttnOutRefIdeal.Value.res_main_v36, (hagree c).1, (hagree c).2.1, (hagree c).2.2.1, (hagree c).2.2.2.1,
    (hagree c).2.2.2.2.1, (hagree c).2.2.2.2.2]
  exact (Cert.AttnOutRefIdeal.Row.ref _ _ _ _ _ _).trans (Cert.AttnOutIdeal.Row.final m c).symm

end Cert.Proof.AttnOutClaims

end
-- ==== Proof.S5In.lean ====
/-
  THE S5 LAYER'S INPUT PROJECTION. The kernel multiplies each block of 512 rows by the two halves of the weights; the
  reference multiplies all rows by the whole weights and splits the product. Both results are `branch`: one row of the
  input against one column of the weights, the column in the first half or in the second.
-/
module

public import proofs.«01_k».proof.Defs
public import proofs.«01_k».proof.Proof.Gen.S5InIdeal.Value
public import proofs.«01_k».proof.Proof.Gen.S5InRefIdeal.Run
public import Idealize.ShloMosaic.Lib.Pipeline.ValueKit
public import Idealize.ShloMosaic.Lib.StableHlo.ReadAt
public import Idealize.ShloMosaic.Lib.Pointwise
public import Idealize.ShloMosaic.Adequacy

@[expose] public section

set_option maxRecDepth 16384

noncomputable section

namespace Cert.S5InIdeal.Proj

open Cert.S5InIdeal Cert.S5InIdeal.Gen Idealize.ShloMosaic Idealize.ShloMosaic.TcCoe Idealize.SL.Sem
open Idealize.ShloMosaic.Tactic

/-- Half `b` of the projection: rows of `x` against the columns `1024 b` onwards of `w`. -/
def branch (b : Fin 2) (x : S16384x1024.Idx → EReal) (w : S1x1024x2048.Idx → EReal) : S16384x1024.Idx → EReal := fun j =>
  ∑ d : Fin 1024, x (ix2 (j 0) d) * w (ix3 0 d ⟨1024 * b + (j 1).val, by have : (j 1).val < 1024 := (j 1).isLt; omega⟩)

variable (m : (ℓ : Loc nD τ sig) → Buf (Elt Ideal) ℓ)

/-- The arguments, as arrays of extended reals. -/
def argX (c : Dev nD) : S16384x1024.Idx → EReal := m ((c : Thread nD τ).loc main_arg0)
/-- The call's argument: the projection's weights. -/
def argW (c : Dev nD) : S1x1024x2048.Idx → EReal := m ((c : Thread nD τ).loc main_arg1)

/-- The weights as the call gets them are the argument's. -/
theorem weights (c : Dev nD) (d : Fin 1024) (e : Fin 2048) : V m c main_v1 (ix2 d e) = argW m c (ix3 0 d e) := by
  unfold argW V
  after_reads_at

/-- Where each window's block sits. -/
theorem idx (t : Fin grid0.N) : win0_0.index t = ![(grid0.coords t 0).val, 0] ∧ win0_1.index t = ![0, 0]
    ∧ win0_2.index t = ![(grid0.coords t 0).val, 0] ∧ win0_3.index t = ![(grid0.coords t 0).val, 0] := by
  revert t; decide +kernel

/-- Row `r` of block `i`. -/
def row (i : grid0.Coords) (r : Fin 512) : Fin 16384 := ⟨512 * (i 0).val + r, by have : (i 0).val < 32 := (i 0).isLt; omega⟩

/-- The first window's block: its rows of the input. -/
theorem blk0 (c : Dev nD) (t : Fin cfg0.N) (r : Fin 512) (d : Fin 1024) :
    iblk m c 0 t (ix2 r d) = argX m c (ix2 (row (grid0.coords t) r) d) := by
  have h := (idx t).1
  rw [argX, ← V_main_arg0 m c]
  blk_ext [iblk, h, row]

/-- The second window's block: the whole weights. -/
theorem blk1 (c : Dev nD) (t : Fin cfg0.N) (d : Fin 1024) (e : Fin 2048) : iblk m c 1 t (ix2 d e) = argW m c (ix3 0 d e) := by
  have h := (idx t).2.1
  rw [← weights]
  blk_ext [iblk, h]

/-- THE KERNEL'S FIRST RESULT: the branch input. -/
theorem final_u (c : Dev nD) : (dats m 0 c).arrAt 2 cfg0.N = branch 0 (argX m c) (argW m c) := by
  refine (dats m 0 c).arrAt_eq_of_covers 2 _ (by decide +kernel) fun t hf y => ?_
  blk_simp
  rw [after0_2]
  frame_out
  obtain ⟨r, l, rfl⟩ : ∃ (r : Fin 512) (l : Fin 1024), y = ix2 r l := ⟨y 0, y 1, eq_ix2 y⟩
  have hidx := (idx t).2.2.1
  have hemb : (win0_2.blk t).view.emb (ix2 r l) = ix2 (row (grid0.coords t) r) l := by
    blk_ext [hidx, row]
  rw [hemb]
  pointwise [k0_pay2, k0_pay1, blk0, blk1]
  simp [branch, ix2]

/-- THE KERNEL'S SECOND RESULT: the gate. -/
theorem final_z (c : Dev nD) : (dats m 0 c).arrAt 3 cfg0.N = branch 1 (argX m c) (argW m c) := by
  refine (dats m 0 c).arrAt_eq_of_covers 3 _ (by decide +kernel) fun t hf y => ?_
  blk_simp
  rw [after0_3]
  frame_out
  obtain ⟨r, l, rfl⟩ : ∃ (r : Fin 512) (l : Fin 1024), y = ix2 r l := ⟨y 0, y 1, eq_ix2 y⟩
  have hidx := (idx t).2.2.2
  have hemb : (win0_3.blk t).view.emb (ix2 r l) = ix2 (row (grid0.coords t) r) l := by
    blk_ext [hidx, row]
  rw [hemb]
  pointwise [k0_pay3, k0_pay1, blk0, blk1]
  simp [branch, ix2]

end Cert.S5InIdeal.Proj

namespace Cert.S5InRefIdeal.Proj

open Cert.S5InRefIdeal Cert.S5InRefIdeal.Gen Idealize.ShloMosaic Idealize.ShloMosaic.TcCoe Idealize.SL.Sem
open Idealize.ShloMosaic.Tactic
open Cert.S5InIdeal.Proj (branch)

/-- The reference's product of all rows with the whole weights. -/
def product (x : FVec Ideal S16384x1024 .f32) (w : FVec Ideal S1x1024x2048 .f32) : FVec Ideal S16384x2048 .f32 :=
  Host.dotGeneral dot_S16384x1024_S1024x2048_S16384x2048_1_0_0_1_n_n none x (shapeCast _ w shapeCasts_S1x1024x2048_S1024x2048)

/-- THE REFERENCE'S FIRST RESULT: the branch input. -/
theorem ref_u (x : FVec Ideal S16384x1024 .f32) (w : FVec Ideal S1x1024x2048 .f32) :
    extractStridedSlice S16384x1024 ![0, 0] (product x w) slices_S16384x2048_S16384x1024_0_0 = branch 0 x w := by
  funext j
  obtain ⟨r, l, rfl⟩ : ∃ (r : Fin 16384) (l : Fin 1024), j = ix2 r l := ⟨j 0, j 1, eq_ix2 j⟩
  pointwise [product]
  simp [branch, ix2]

/-- THE REFERENCE'S SECOND RESULT: the gate. -/
theorem ref_z (x : FVec Ideal S16384x1024 .f32) (w : FVec Ideal S1x1024x2048 .f32) :
    extractStridedSlice S16384x1024 ![0, 1024] (product x w) slices_S16384x2048_S16384x1024_0_1024 = branch 1 x w := by
  funext j
  obtain ⟨r, l, rfl⟩ : ∃ (r : Fin 16384) (l : Fin 1024), j = ix2 r l := ⟨j 0, j 1, eq_ix2 j⟩
  pointwise [product]
  simp [branch, ix2]

end Cert.S5InRefIdeal.Proj

namespace Cert.Proof.S5InClaims

open Idealize.ShloMosaic Idealize.SL.Sem

/-- The reference runs, ends quiescent, and leaves its arguments as they were. -/
theorem frame_ri : Cert.quiescent_S5InRefIdeal := fun m ρ _ =>
  (θ_run Cert.S5InRefIdeal.defs _ _).mono (fun r h => ⟨fun c => (h c).2.2, sem_eq_zero_of_no_sems (by decide) r.2⟩)
    (Cert.S5InRefIdeal.Value.run (F := Ideal) m ρ)

/-- Kernel and reference end with equal results: the two halves of the projection. -/
theorem algebraic : Cert.algebraic_S5InIdeal_S5InRefIdeal := by
  intro m ρ m' ρ' _ hagree
  refine ⟨_, _, Cert.S5InIdeal.Value.run_blocks m ρ, ?_⟩
  refine (θ_run Cert.S5InRefIdeal.defs _ _).mono (fun _ h c => ⟨(h c).1.trans ?_, (h c).2.1.trans ?_, (h c).2.2⟩)
    (Cert.S5InRefIdeal.Value.run (F := Ideal) m' ρ')
  all_goals rw [(hagree c).1, (hagree c).2]
  · exact (Cert.S5InRefIdeal.Proj.ref_u _ _).trans (Cert.S5InIdeal.Proj.final_u m c).symm
  · exact (Cert.S5InRefIdeal.Proj.ref_z _ _).trans (Cert.S5InIdeal.Proj.final_z m c).symm

end Cert.Proof.S5InClaims

end
-- ==== Proof.S5Out.lean ====
/-
  THE S5 LAYER'S OUTPUT: the scan's outputs through `gelu`, times their own gate and the layer's gate, times the output
  weights, added to the scaled input, and the layer norm of that. The kernel takes the rows 512 at a time; both sides are
  stated by `Cert.Norm.norm` of a row.
-/
module

public import proofs.«01_k».proof.Defs
public import proofs.«01_k».proof.Proof.Gen.S5OutIdeal.Value
public import proofs.«01_k».proof.Proof.Gen.S5OutRefIdeal.Run
public import proofs.«01_k».proof.Proof.Norm
public import Idealize.ShloMosaic.Lib.Pipeline.ValueKit
public import Idealize.ShloMosaic.Lib.StableHlo.ReadAt
public import Idealize.ShloMosaic.Lib.Pointwise
public import Idealize.ShloMosaic.Adequacy

@[expose] public section

set_option maxRecDepth 16384

noncomputable section

namespace Cert.S5OutIdeal.Row

open Cert.S5OutIdeal Cert.S5OutIdeal.Gen Idealize.ShloMosaic Idealize.ShloMosaic.TcCoe Idealize.SL.Sem
open Idealize.ShloMosaic.Tactic
open Cert.Norm (norm)

/-- `gelu` of a number, by the hyperbolic tangent. -/
def gelu (y : EReal) : EReal :=
  y * (Ideal.ofBits .f32 0x3F000000#32 * (1 + Ideal.tanh (Ideal.ofBits .f32 0x3F4C422A#32
    * (y + Ideal.ofBits .f32 0x3D372713#32 * (y * y * y)))))

/-- The gated activation of a row `y`, before the layer's gate: `gelu` of it, times the sigmoid of its projection. -/
def glu (y : Fin 1024 → EReal) (w : Fin 1024 → Fin 1024 → EReal) (b : Fin 1024 → EReal) (f : Fin 1024) : EReal :=
  gelu (y f) * Ideal.logistic ((∑ e : Fin 1024, gelu (y e) * w e f) + b f)

/-- A row before the norm, from the rows of the three arguments and the weights. -/
def residual (y z x : Fin 1024 → EReal) (wg : Fin 1024 → Fin 1024 → EReal) (bg : Fin 1024 → EReal)
    (wo : Fin 1024 → Fin 1024 → EReal) (e : Fin 1024) : EReal :=
  ((Real.sqrt 2 : ℝ) : EReal) * x e + ∑ f : Fin 1024, glu y wg bg f * (z f * Ideal.logistic (z f)) * wo f e

/-- Row `r` before the norm, from the arguments. -/
def before (y z x : S16384x1024.Idx → EReal) (wg : S1x1024x1024.Idx → EReal) (bg : S1x1024.Idx → EReal)
    (wo : S1x1024x1024.Idx → EReal) (r : Fin 16384) : Fin 1024 → EReal :=
  residual (fun e => y (ix2 r e)) (fun e => z (ix2 r e)) (fun e => x (ix2 r e)) (fun d e => wg (ix3 0 d e)) (fun e => bg (ix2 0 e))
    (fun d e => wo (ix3 0 d e))

/-- The result: the layer norm of each row. -/
def out (y z x : S16384x1024.Idx → EReal) (wg : S1x1024x1024.Idx → EReal) (bg : S1x1024.Idx → EReal)
    (wo : S1x1024x1024.Idx → EReal) (g b : S2x1024.Idx → EReal) : S16384x1024.Idx → EReal :=
  fun j => norm (before y z x wg bg wo (j 0)) (g (ix2 1 (j 1))) (b (ix2 1 (j 1))) (j 1)

variable (m : (ℓ : Loc nD τ sig) → Buf (Elt Ideal) ℓ)

/-- The arguments, as arrays of extended reals. -/
def argY (c : Dev nD) : S16384x1024.Idx → EReal := m ((c : Thread nD τ).loc main_arg0)
/-- The call's argument: the gate. -/
def argZ (c : Dev nD) : S16384x1024.Idx → EReal := m ((c : Thread nD τ).loc main_arg1)
/-- The call's argument: the layer's input. -/
def argX (c : Dev nD) : S16384x1024.Idx → EReal := m ((c : Thread nD τ).loc main_arg2)
/-- The call's argument: the gated unit's weights. -/
def argWg (c : Dev nD) : S1x1024x1024.Idx → EReal := m ((c : Thread nD τ).loc main_arg3)
/-- The call's argument: the gated unit's bias. -/
def argBg (c : Dev nD) : S1x1024.Idx → EReal := m ((c : Thread nD τ).loc main_arg4)
/-- The call's argument: the output weights. -/
def argWo (c : Dev nD) : S1x1024x1024.Idx → EReal := m ((c : Thread nD τ).loc main_arg5)
/-- The call's argument: the norms' scales. -/
def argG (c : Dev nD) : S2x1024.Idx → EReal := m ((c : Thread nD τ).loc main_arg6)
/-- The call's argument: the norms' shifts. -/
def argB (c : Dev nD) : S2x1024.Idx → EReal := m ((c : Thread nD τ).loc main_arg7)

/-- The weights and vectors as the call gets them are the arguments'. -/
theorem weights_g (c : Dev nD) (d e : Fin 1024) : V m c main_v1 (ix2 d e) = argWg m c (ix3 0 d e) := by
  unfold argWg V
  after_reads_at
/-- The gated unit's bias as the call gets it is the argument. -/
theorem bias_g (c : Dev nD) (e : Fin 1024) : V m c main_v3 (ix2 0 e) = argBg m c (ix2 0 e) := by
  unfold argBg V
  after_reads_at
/-- The output weights as the call gets them are the argument's. -/
theorem weights_o (c : Dev nD) (d e : Fin 1024) : V m c main_v5 (ix2 d e) = argWo m c (ix3 0 d e) := by
  unfold argWo V
  after_reads_at
/-- The norm's scale as the call gets it is the argument's row. -/
theorem scale (c : Dev nD) (e : Fin 1024) : V m c main_v8 (ix2 0 e) = argG m c (ix2 1 e) := by
  unfold argG V
  after_reads_at
/-- The norm's shift as the call gets it is the argument's row. -/
theorem shift (c : Dev nD) (e : Fin 1024) : V m c main_v11 (ix2 0 e) = argB m c (ix2 1 e) := by
  unfold argB V
  after_reads_at

/-- Where each window's block sits. -/
theorem idx (t : Fin grid0.N) : win0_0.index t = ![(grid0.coords t 0).val, 0] ∧ win0_1.index t = ![(grid0.coords t 0).val, 0]
    ∧ win0_2.index t = ![(grid0.coords t 0).val, 0] ∧ win0_3.index t = ![0, 0] ∧ win0_4.index t = ![0, 0]
    ∧ win0_5.index t = ![0, 0] ∧ win0_6.index t = ![0, 0] ∧ win0_7.index t = ![0, 0]
    ∧ win0_8.index t = ![(grid0.coords t 0).val, 0] := by
  revert t; decide +kernel

/-- Row `r` of block `i`. -/
def row (i : grid0.Coords) (r : Fin 512) : Fin 16384 := ⟨512 * (i 0).val + r, by have : (i 0).val < 32 := (i 0).isLt; omega⟩

/-- The windows' blocks: 512 rows of the first three arguments, and whole arrays. -/
theorem blk0 (c : Dev nD) (t : Fin cfg0.N) (r : Fin 512) (d : Fin 1024) :
    iblk m c 0 t (ix2 r d) = argY m c (ix2 (row (grid0.coords t) r) d) := by
  have h := (idx t).1
  rw [argY, ← V_main_arg0 m c]
  blk_ext [iblk, h, row]
/-- The second window's block: its rows of the gate. -/
theorem blk1 (c : Dev nD) (t : Fin cfg0.N) (r : Fin 512) (d : Fin 1024) :
    iblk m c 1 t (ix2 r d) = argZ m c (ix2 (row (grid0.coords t) r) d) := by
  have h := (idx t).2.1
  rw [argZ, ← V_main_arg1 m c]
  blk_ext [iblk, h, row]
/-- The third window's block: 512 rows of the layer's input. -/
theorem blk2 (c : Dev nD) (t : Fin cfg0.N) (r : Fin 512) (d : Fin 1024) :
    iblk m c 2 t (ix2 r d) = argX m c (ix2 (row (grid0.coords t) r) d) := by
  have h := (idx t).2.2.1
  rw [argX, ← V_main_arg2 m c]
  blk_ext [iblk, h, row]
/-- The fourth window's block: the gated unit's weights. -/
theorem blk3 (c : Dev nD) (t : Fin cfg0.N) (d e : Fin 1024) : iblk m c 3 t (ix2 d e) = argWg m c (ix3 0 d e) := by
  have h := (idx t).2.2.2.1
  rw [← weights_g]
  blk_ext [iblk, h]
/-- The fifth window's block: the gated unit's bias. -/
theorem blk4 (c : Dev nD) (t : Fin cfg0.N) (e : Fin 1024) : iblk m c 4 t (ix2 0 e) = argBg m c (ix2 0 e) := by
  have h := (idx t).2.2.2.2.1
  rw [← bias_g]
  blk_ext [iblk, h]
/-- The sixth window's block: the output weights. -/
theorem blk5 (c : Dev nD) (t : Fin cfg0.N) (d e : Fin 1024) : iblk m c 5 t (ix2 d e) = argWo m c (ix3 0 d e) := by
  have h := (idx t).2.2.2.2.2.1
  rw [← weights_o]
  blk_ext [iblk, h]
/-- The seventh window's block: the norm's scale. -/
theorem blk6 (c : Dev nD) (t : Fin cfg0.N) (e : Fin 1024) : iblk m c 6 t (ix2 0 e) = argG m c (ix2 1 e) := by
  have h := (idx t).2.2.2.2.2.2.1
  rw [← scale]
  blk_ext [iblk, h]
/-- The eighth window's block: the norm's shift. -/
theorem blk7 (c : Dev nD) (t : Fin cfg0.N) (e : Fin 1024) : iblk m c 7 t (ix2 0 e) = argB m c (ix2 1 e) := by
  have h := (idx t).2.2.2.2.2.2.2.1
  rw [← shift]
  blk_ext [iblk, h]

/-- One entry of the kernel's row before the norm. -/
theorem residual_at (y : Vec Ideal S512x1024 .f32) (wg : Vec Ideal S1024x1024 .bf16) (bg : Vec Ideal S1x1024 .f32)
    (z : Vec Ideal S512x1024 .f32) (wo : Vec Ideal S1024x1024 .bf16) (x : Vec Ideal S512x1024 .f32) (r : Fin 512) (e : Fin 1024) :
    k0_pay2 y wg bg z wo x (ix2 r e) = residual (fun e => y (ix2 r e)) (fun e => z (ix2 r e)) (fun e => x (ix2 r e))
      (fun d e => wg (ix2 d e)) (fun e => bg (ix2 0 e)) (fun d e => wo (ix2 d e)) e := by
  have cube (a : EReal) : a * (a * a) = a * a * a := (mul_assoc a a a).symm
  pointwise [k0_pay2]
  simp only [cube]
  rfl

/-- One entry of the block that a grid point stores: the norm of its row. -/
theorem stored (v : FVec Ideal S512x1024 .f32) (g : FVec Ideal S1x1024 .f32) (b : Vec Ideal S1x1024 .f32) (r : Fin 512)
    (l : Fin 1024) : k0_pay1 v g b (ix2 r l) = norm (fun e => v (ix2 r e)) (g (ix2 0 l)) (b (ix2 0 l)) l := by
  pointwise [k0_pay1]
  rfl

/-- THE KERNEL'S RESULT. -/
theorem final (c : Dev nD) : (dats m 0 c).arrAt 8 cfg0.N
    = out (argY m c) (argZ m c) (argX m c) (argWg m c) (argBg m c) (argWo m c) (argG m c) (argB m c) := by
  refine (dats m 0 c).arrAt_eq_of_covers 8 _ (by decide +kernel) fun t hf y => ?_
  blk_simp
  rw [after0_8]
  frame_out
  obtain ⟨r, l, rfl⟩ : ∃ (r : Fin 512) (l : Fin 1024), y = ix2 r l := ⟨y 0, y 1, eq_ix2 y⟩
  have hidx := (idx t).2.2.2.2.2.2.2.2
  have hemb : (win0_8.blk t).view.emb (ix2 r l) = ix2 (row (grid0.coords t) r) l := by
    blk_ext [hidx, row]
  rw [hemb]
  pointwise [stored, residual_at, k0_pay3, blk0, blk1, blk2, blk3, blk4, blk5, blk6, blk7]
  rfl

end Cert.S5OutIdeal.Row

namespace Cert.S5OutRefIdeal.Row

open Cert.S5OutRefIdeal Cert.S5OutRefIdeal.Gen Idealize.ShloMosaic Idealize.ShloMosaic.TcCoe Idealize.SL.Sem
open Idealize.ShloMosaic.Tactic
open Cert.Norm (norm mean)
open Cert.S5OutIdeal.Row (gelu glu)

/-- An array of one float. -/
def fill (s : Shape) (h : S_.BroadcastsInDim s ![]) (c : BitVec 32) : FVec Ideal s .f32 := broadcastInDim s ![] h (constant S_ .f32 c)
/-- An array filled with one value. -/
def wide (c : BitVec 32) : FVec Ideal S16384x1024 .f32 := fill S16384x1024 bcast_S_S16384x1024 c

/-- `gelu` and the sigmoid of an array. -/
def geluV (y : FVec Ideal S16384x1024 .f32) : FVec Ideal S16384x1024 .f32 :=
  mulf y (mulf (wide 0x3F000000#32) (addf (wide 0x3F800000#32) (Host.tanh (mulf (wide 0x3F4C422A#32)
    (addf y (mulf (wide 0x3D372713#32) (mulf (mulf y y) y)))))))
/-- The reference's logistic function of an array. -/
def sigmoidV (h : FVec Ideal S16384x1024 .f32) : FVec Ideal S16384x1024 .f32 :=
  Host.divf (wide 0x3F800000#32) (addf (wide 0x3F800000#32) (Host.exp (Host.negf h)))

/-- An array times square weights. -/
def times (a : FVec Ideal S16384x1024 .f32) (w : FVec Ideal S1x1024x1024 .f32) : FVec Ideal S16384x1024 .f32 :=
  Host.dotGeneral dot_S16384x1024_S1024x1024_S16384x1024_1_0_0_1_n_n none a (shapeCast _ w shapeCasts_S1x1024x1024_S1024x1024)

/-- The gated activation. -/
def gluV (y : FVec Ideal S16384x1024 .f32) (w : FVec Ideal S1x1024x1024 .f32) (b : FVec Ideal S1x1024 .f32) :
    FVec Ideal S16384x1024 .f32 :=
  mulf (geluV y) (sigmoidV (addf (times (geluV y) w) (broadcastInDim S16384x1024 ![0, 1] bcast_S1x1024_S16384x1024_0_1
    (broadcastInDim S1x1024 ![1] bcast_S1024_S1x1024_1 (shapeCast _ b shapeCasts_S1x1024_S1024)))))

/-- The rows before the norm. -/
def pre (y z x : FVec Ideal S16384x1024 .f32) (wg : FVec Ideal S1x1024x1024 .f32) (bg : FVec Ideal S1x1024 .f32)
    (wo : FVec Ideal S1x1024x1024 .f32) : FVec Ideal S16384x1024 .f32 :=
  addf (mulf (broadcastInDim S16384x1024 ![] bcast_S_S16384x1024 (Host.sqrt (Host.sqrt (constant S_ .f32 0x40800000#32)))) x)
    (times (mulf (gluV y wg bg) (mulf z (sigmoidV z))) wo)

/-- The mean of each row, as a column. -/
def means (v : FVec Ideal S16384x1024 .f32) : FVec Ideal S16384x1 .f32 :=
  Host.divf (broadcastInDim S16384x1 ![0] bcast_S16384_S16384x1_0
    (Host.reduceAdd v (constant S_ .f32 0x00000000#32) reducesTo_S16384x1024_S16384_d1 h_S_))
    (fill S16384x1 bcast_S_S16384x1 0x44800000#32)

/-- The rows less their means. -/
def centred (v : FVec Ideal S16384x1024 .f32) : FVec Ideal S16384x1024 .f32 :=
  subf v (broadcastInDim S16384x1024 ![0, 1] bcast_S16384x1_S16384x1024_0_1 (means v))

/-- Row 1 of a pair of rows, for every row of the result. -/
def spread (g : FVec Ideal S2x1024 .f32) : FVec Ideal S16384x1024 .f32 :=
  broadcastInDim S16384x1024 ![0, 1] bcast_S1x1024_S16384x1024_0_1 (broadcastInDim S1x1024 ![1] bcast_S1024_S1x1024_1
    (shapeCast _ (extractStridedSlice S1x1024 ![1, 0] g slices_S2x1024_S1x1024_1_0) shapeCasts_S1x1024_S1024))

/-- The layer norm of the rows. -/
def normed (v : FVec Ideal S16384x1024 .f32) (g b : FVec Ideal S2x1024 .f32) : FVec Ideal S16384x1024 .f32 :=
  addf (mulf (mulf (centred v) (broadcastInDim S16384x1024 ![0, 1] bcast_S16384x1_S16384x1024_0_1
    (Host.rsqrt (addf (means (mulf (centred v) (centred v))) (fill S16384x1 bcast_S_S16384x1 0x3727C5AC#32))))) (spread g)) (spread b)

/-- The mean of a row, as the reference computes it. -/
theorem means_at (v : FVec Ideal S16384x1024 .f32) (r : Fin 16384) : means v (ix2 r 0) = mean (fun e => v (ix2 r e)) := by
  pointwise [means, fill]
  simp [mean]

/-- An entry less its row's mean. -/
theorem centred_at (v : FVec Ideal S16384x1024 .f32) (r : Fin 16384) (l : Fin 1024) :
    centred v (ix2 r l) = v (ix2 r l) - mean (fun e => v (ix2 r e)) := by
  pointwise [centred, means_at]

/-- A norm's vector spread over the rows reads the vector at the column. -/
theorem spread_at (g : FVec Ideal S2x1024 .f32) (r : Fin 16384) (l : Fin 1024) : spread g (ix2 r l) = g (ix2 1 l) := by
  pointwise [spread]

/-- One entry of the reference's norm: the norm of its row. -/
theorem normed_at (v : FVec Ideal S16384x1024 .f32) (g b : FVec Ideal S2x1024 .f32) (r : Fin 16384) (l : Fin 1024) :
    normed v g b (ix2 r l) = norm (fun e => v (ix2 r e)) (g (ix2 1 l)) (b (ix2 1 l)) l := by
  pointwise [normed, fill, means_at, centred_at, spread_at]
  rfl

/-- An entry of each piece of the rows before the norm. -/
theorem gelu_at (y : FVec Ideal S16384x1024 .f32) (r : Fin 16384) (e : Fin 1024) : geluV y (ix2 r e) = gelu (y (ix2 r e)) := by
  pointwise [geluV, wide, fill]
  rfl
/-- One entry of the reference's logistic function. -/
theorem sigmoid_at (h : FVec Ideal S16384x1024 .f32) (r : Fin 16384) (e : Fin 1024) :
    sigmoidV h (ix2 r e) = Ideal.logistic (h (ix2 r e)) := by
  pointwise [sigmoidV, wide, fill]
  rfl
/-- One entry of a product with a layer's weights: the sum over the inputs. -/
theorem times_at (a : FVec Ideal S16384x1024 .f32) (w : FVec Ideal S1x1024x1024 .f32) (r : Fin 16384) (e : Fin 1024) :
    times a w (ix2 r e) = ∑ d : Fin 1024, a (ix2 r d) * w (ix3 0 d e) := by
  pointwise [times]
/-- One entry of the reference's gated unit. -/
theorem glu_at (y : FVec Ideal S16384x1024 .f32) (w : FVec Ideal S1x1024x1024 .f32) (b : FVec Ideal S1x1024 .f32) (r : Fin 16384)
    (e : Fin 1024) : gluV y w b (ix2 r e) = glu (fun e => y (ix2 r e)) (fun d e => w (ix3 0 d e)) (fun e => b (ix2 0 e)) e := by
  pointwise [gluV, gelu_at, sigmoid_at, times_at]
  rfl
/-- One entry of the reference's array before the norm. -/
theorem pre_at (y z x : FVec Ideal S16384x1024 .f32) (wg : FVec Ideal S1x1024x1024 .f32) (bg : FVec Ideal S1x1024 .f32)
    (wo : FVec Ideal S1x1024x1024 .f32) (r : Fin 16384) (e : Fin 1024) :
    pre y z x wg bg wo (ix2 r e) = Cert.S5OutIdeal.Row.before y z x wg bg wo r e := by
  pointwise [pre, glu_at, sigmoid_at, times_at]
  rw [Cert.Norm.alpha]
  rfl

/-- THE REFERENCE'S RESULT. -/
theorem ref (y z x : FVec Ideal S16384x1024 .f32) (wg : FVec Ideal S1x1024x1024 .f32) (bg : FVec Ideal S1x1024 .f32)
    (wo : FVec Ideal S1x1024x1024 .f32) (g b : FVec Ideal S2x1024 .f32) :
    normed (pre y z x wg bg wo) g b = Cert.S5OutIdeal.Row.out y z x wg bg wo g b := by
  funext j
  obtain ⟨r, l, rfl⟩ : ∃ (r : Fin 16384) (l : Fin 1024), j = ix2 r l := ⟨j 0, j 1, eq_ix2 j⟩
  rw [normed_at]
  simp only [pre_at]
  rfl

end Cert.S5OutRefIdeal.Row

namespace Cert.Proof.S5OutClaims

open Idealize.ShloMosaic Idealize.SL.Sem

/-- The reference runs, ends quiescent, and leaves its arguments as they were. -/
theorem frame_ri : Cert.quiescent_S5OutRefIdeal := fun m ρ _ =>
  (θ_run Cert.S5OutRefIdeal.defs _ _).mono (fun r h => ⟨fun c => (h c).2, sem_eq_zero_of_no_sems (by decide) r.2⟩)
    (Cert.S5OutRefIdeal.Value.run (F := Ideal) m ρ)

/-- Kernel and reference end with equal results. -/
theorem algebraic : Cert.algebraic_S5OutIdeal_S5OutRefIdeal := by
  intro m ρ m' ρ' _ hagree
  refine ⟨_, Cert.S5OutIdeal.Value.run_blocks m ρ, ?_⟩
  refine (θ_run Cert.S5OutRefIdeal.defs _ _).mono (fun _ h c => ⟨(h c).1.trans ?_, (h c).2⟩)
    (Cert.S5OutRefIdeal.Value.run (F := Ideal) m' ρ')
  obtain ⟨h0, h1, h2, h3, h4, h5, h6, h7⟩ := hagree c
  rw [Cert.S5OutRefIdeal.Value.res_main_v62, h0, h1, h2, h3, h4, h5, h6, h7]
  exact (Cert.S5OutRefIdeal.Row.ref _ _ _ _ _ _ _ _).trans (Cert.S5OutIdeal.Row.final m c).symm

end Cert.Proof.S5OutClaims

end
-- ==== Proof.AttnOutSample.lean ====
/-
  THE ATTENTION LAYER'S OUTPUT OF THE SAMPLE: as for the prompt, of the sample's 128 rows, which the kernel takes as one block. Both sides
  are stated by `Cert.Norm.norm` of a row.
-/
module

public import proofs.«01_k».proof.Defs
public import proofs.«01_k».proof.Proof.Gen.AttnOutSampleIdeal.Value
public import proofs.«01_k».proof.Proof.Gen.AttnOutSampleRefIdeal.Run
public import proofs.«01_k».proof.Proof.Norm
public import Idealize.ShloMosaic.Lib.Pipeline.ValueKit
public import Idealize.ShloMosaic.Lib.StableHlo.ReadAt
public import Idealize.ShloMosaic.Lib.Pointwise
public import Idealize.ShloMosaic.Adequacy

@[expose] public section

set_option maxRecDepth 16384

noncomputable section

namespace Cert.AttnOutSampleIdeal.Row

open Cert.AttnOutSampleIdeal Cert.AttnOutSampleIdeal.Gen Idealize.ShloMosaic Idealize.ShloMosaic.TcCoe Idealize.SL.Sem
open Idealize.ShloMosaic.Tactic
open Cert.Norm (norm)

/-- Row `r` before the norm: the scaled input plus the gated heads' outputs times the weights. -/
def before (o z x : S128x1024.Idx → EReal) (w : S1x1024x1024.Idx → EReal) (r : Fin 128) (e : Fin 1024) : EReal :=
  ((Real.sqrt 2 : ℝ) : EReal) * x (ix2 r e)
    + ∑ d : Fin 1024, o (ix2 r d) * (z (ix2 r d) * Ideal.logistic (z (ix2 r d))) * w (ix3 0 d e)

/-- The result: the layer norm of each row. -/
def out (o z x : S128x1024.Idx → EReal) (w : S1x1024x1024.Idx → EReal) (g b : S2x1024.Idx → EReal) : S128x1024.Idx → EReal :=
  fun j => norm (before o z x w (j 0)) (g (ix2 0 (j 1))) (b (ix2 0 (j 1))) (j 1)

variable (m : (ℓ : Loc nD τ sig) → Buf (Elt Ideal) ℓ)

/-- The arguments, as arrays of extended reals. -/
def argO (c : Dev nD) : S128x1024.Idx → EReal := m ((c : Thread nD τ).loc main_arg0)
/-- The call's argument: the gate. -/
def argZ (c : Dev nD) : S128x1024.Idx → EReal := m ((c : Thread nD τ).loc main_arg1)
/-- The call's argument: the layer's input. -/
def argX (c : Dev nD) : S128x1024.Idx → EReal := m ((c : Thread nD τ).loc main_arg2)
/-- The call's argument: the output weights. -/
def argW (c : Dev nD) : S1x1024x1024.Idx → EReal := m ((c : Thread nD τ).loc main_arg3)
/-- The call's argument: the norms' scales. -/
def argG (c : Dev nD) : S2x1024.Idx → EReal := m ((c : Thread nD τ).loc main_arg4)
/-- The call's argument: the norms' shifts. -/
def argB (c : Dev nD) : S2x1024.Idx → EReal := m ((c : Thread nD τ).loc main_arg5)

/-- The weights, the scale and the shift as the call gets them are the arguments'. -/
theorem weights (c : Dev nD) (d e : Fin 1024) : V m c main_v1 (ix2 d e) = argW m c (ix3 0 d e) := by
  unfold argW V
  after_reads_at
/-- The norm's scale as the call gets it is the argument's row. -/
theorem scale (c : Dev nD) (e : Fin 1024) : V m c main_v4 (ix2 0 e) = argG m c (ix2 0 e) := by
  unfold argG V
  after_reads_at
/-- The norm's shift as the call gets it is the argument's row. -/
theorem shift (c : Dev nD) (e : Fin 1024) : V m c main_v7 (ix2 0 e) = argB m c (ix2 0 e) := by
  unfold argB V
  after_reads_at

/-- Where each window's block sits. -/
theorem idx (t : Fin grid0.N) : win0_0.index t = ![(grid0.coords t 0).val, 0] ∧ win0_1.index t = ![(grid0.coords t 0).val, 0]
    ∧ win0_2.index t = ![(grid0.coords t 0).val, 0] ∧ win0_3.index t = ![0, 0] ∧ win0_4.index t = ![0, 0]
    ∧ win0_5.index t = ![0, 0] ∧ win0_6.index t = ![(grid0.coords t 0).val, 0] := by
  revert t; decide +kernel

/-- Row `r` of block `i`. -/
def row (i : grid0.Coords) (r : Fin 128) : Fin 128 := ⟨128 * (i 0).val + r, by have : (i 0).val < 1 := (i 0).isLt; omega⟩

/-- The windows' blocks: rows of the first three arguments, and whole arrays. -/
theorem blk0 (c : Dev nD) (t : Fin cfg0.N) (r : Fin 128) (d : Fin 1024) :
    iblk m c 0 t (ix2 r d) = argO m c (ix2 (row (grid0.coords t) r) d) := by
  have h := (idx t).1
  rw [argO, ← V_main_arg0 m c]
  blk_ext [iblk, h, row]
/-- The second window's block: its rows of the gate. -/
theorem blk1 (c : Dev nD) (t : Fin cfg0.N) (r : Fin 128) (d : Fin 1024) :
    iblk m c 1 t (ix2 r d) = argZ m c (ix2 (row (grid0.coords t) r) d) := by
  have h := (idx t).2.1
  rw [argZ, ← V_main_arg1 m c]
  blk_ext [iblk, h, row]
/-- The third window's block: 512 rows of the layer's input. -/
theorem blk2 (c : Dev nD) (t : Fin cfg0.N) (r : Fin 128) (d : Fin 1024) :
    iblk m c 2 t (ix2 r d) = argX m c (ix2 (row (grid0.coords t) r) d) := by
  have h := (idx t).2.2.1
  rw [argX, ← V_main_arg2 m c]
  blk_ext [iblk, h, row]
/-- The fourth window's block: the output weights. -/
theorem blk3 (c : Dev nD) (t : Fin cfg0.N) (d e : Fin 1024) : iblk m c 3 t (ix2 d e) = argW m c (ix3 0 d e) := by
  have h := (idx t).2.2.2.1
  rw [← weights]
  blk_ext [iblk, h]
/-- The fifth window's block: the norm's scale. -/
theorem blk4 (c : Dev nD) (t : Fin cfg0.N) (e : Fin 1024) : iblk m c 4 t (ix2 0 e) = argG m c (ix2 0 e) := by
  have h := (idx t).2.2.2.2.1
  rw [← scale]
  blk_ext [iblk, h]
/-- The sixth window's block: the norm's shift. -/
theorem blk5 (c : Dev nD) (t : Fin cfg0.N) (e : Fin 1024) : iblk m c 5 t (ix2 0 e) = argB m c (ix2 0 e) := by
  have h := (idx t).2.2.2.2.2.1
  rw [← shift]
  blk_ext [iblk, h]

/-- One entry of the block that a grid point stores. -/
theorem stored (o z : Vec Ideal S128x1024 .f32) (w : Vec Ideal S1024x1024 .bf16) (x : Vec Ideal S128x1024 .f32)
    (g b : Vec Ideal S1x1024 .f32) (r : Fin 128) (l : Fin 1024) : k0_pay1 o z w x g b (ix2 r l)
      = norm (fun e => ((Real.sqrt 2 : ℝ) : EReal) * x (ix2 r e)
        + ∑ d : Fin 1024, o (ix2 r d) * (z (ix2 r d) * Ideal.logistic (z (ix2 r d))) * w (ix2 d e)) (g (ix2 0 l)) (b (ix2 0 l)) l := by
  pointwise [k0_pay1]
  rfl

/-- THE KERNEL'S RESULT. -/
theorem final (c : Dev nD) :
    (dats m 0 c).arrAt 6 cfg0.N = out (argO m c) (argZ m c) (argX m c) (argW m c) (argG m c) (argB m c) := by
  refine (dats m 0 c).arrAt_eq_of_covers 6 _ (by decide +kernel) fun t hf y => ?_
  blk_simp
  rw [after0_6]
  frame_out
  obtain ⟨r, l, rfl⟩ : ∃ (r : Fin 128) (l : Fin 1024), y = ix2 r l := ⟨y 0, y 1, eq_ix2 y⟩
  have hidx := (idx t).2.2.2.2.2.2
  have hemb : (win0_6.blk t).view.emb (ix2 r l) = ix2 (row (grid0.coords t) r) l := by
    blk_ext [hidx, row]
  rw [hemb]
  pointwise [stored, blk0, blk1, blk2, blk3, blk4, blk5]
  rfl

end Cert.AttnOutSampleIdeal.Row

namespace Cert.AttnOutSampleRefIdeal.Row

open Cert.AttnOutSampleRefIdeal Cert.AttnOutSampleRefIdeal.Gen Idealize.ShloMosaic Idealize.ShloMosaic.TcCoe Idealize.SL.Sem
open Idealize.ShloMosaic.Tactic
open Cert.Norm (norm mean)

/-- An array of one float. -/
def fill (s : Shape) (h : S_.BroadcastsInDim s ![]) (c : BitVec 32) : FVec Ideal s .f32 := broadcastInDim s ![] h (constant S_ .f32 c)

/-- The gated heads' outputs times the weights. -/
def sub (o z : FVec Ideal S128x1024 .f32) (w : FVec Ideal S1x1024x1024 .f32) : FVec Ideal S128x1024 .f32 :=
  Host.dotGeneral dot_S128x1024_S1024x1024_S128x1024_1_0_0_1_n_n none
    (mulf o (mulf z (Host.divf (fill S128x1024 bcast_S_S128x1024 0x3F800000#32)
      (addf (fill S128x1024 bcast_S_S128x1024 0x3F800000#32) (Host.exp (Host.negf z))))))
    (shapeCast _ w shapeCasts_S1x1024x1024_S1024x1024)

/-- The rows before the norm. -/
def pre (o z x : FVec Ideal S128x1024 .f32) (w : FVec Ideal S1x1024x1024 .f32) : FVec Ideal S128x1024 .f32 :=
  addf (mulf (broadcastInDim S128x1024 ![] bcast_S_S128x1024 (Host.sqrt (Host.sqrt (constant S_ .f32 0x40800000#32)))) x)
    (sub o z w)

/-- The mean of each row, as a column. -/
def means (v : FVec Ideal S128x1024 .f32) : FVec Ideal S128x1 .f32 :=
  Host.divf (broadcastInDim S128x1 ![0] bcast_S128_S128x1_0
    (Host.reduceAdd v (constant S_ .f32 0x00000000#32) reducesTo_S128x1024_S128_d1 h_S_))
    (fill S128x1 bcast_S_S128x1 0x44800000#32)

/-- The rows less their means. -/
def centred (v : FVec Ideal S128x1024 .f32) : FVec Ideal S128x1024 .f32 :=
  subf v (broadcastInDim S128x1024 ![0, 1] bcast_S128x1_S128x1024_0_1 (means v))

/-- Row 0 of a pair of rows, for every row of the result. -/
def spread (g : FVec Ideal S2x1024 .f32) : FVec Ideal S128x1024 .f32 :=
  broadcastInDim S128x1024 ![0, 1] bcast_S1x1024_S128x1024_0_1 (broadcastInDim S1x1024 ![1] bcast_S1024_S1x1024_1
    (shapeCast _ (extractStridedSlice S1x1024 ![0, 0] g slices_S2x1024_S1x1024_0_0) shapeCasts_S1x1024_S1024))

/-- The layer norm of the rows. -/
def normed (v : FVec Ideal S128x1024 .f32) (g b : FVec Ideal S2x1024 .f32) : FVec Ideal S128x1024 .f32 :=
  addf (mulf (mulf (centred v) (broadcastInDim S128x1024 ![0, 1] bcast_S128x1_S128x1024_0_1
    (Host.rsqrt (addf (means (mulf (centred v) (centred v))) (fill S128x1 bcast_S_S128x1 0x3727C5AC#32))))) (spread g)) (spread b)

/-- The mean of a row, as the reference computes it. -/
theorem means_at (v : FVec Ideal S128x1024 .f32) (r : Fin 128) : means v (ix2 r 0) = mean (fun e => v (ix2 r e)) := by
  pointwise [means, fill]
  simp [mean]

/-- An entry less its row's mean. -/
theorem centred_at (v : FVec Ideal S128x1024 .f32) (r : Fin 128) (l : Fin 1024) :
    centred v (ix2 r l) = v (ix2 r l) - mean (fun e => v (ix2 r e)) := by
  pointwise [centred, means_at]

/-- A norm's vector spread over the rows reads the vector at the column. -/
theorem spread_at (g : FVec Ideal S2x1024 .f32) (r : Fin 128) (l : Fin 1024) : spread g (ix2 r l) = g (ix2 0 l) := by
  pointwise [spread]

/-- One entry of the reference's norm: the norm of its row. -/
theorem normed_at (v : FVec Ideal S128x1024 .f32) (g b : FVec Ideal S2x1024 .f32) (r : Fin 128) (l : Fin 1024) :
    normed v g b (ix2 r l) = norm (fun e => v (ix2 r e)) (g (ix2 0 l)) (b (ix2 0 l)) l := by
  pointwise [normed, fill, means_at, centred_at, spread_at]
  rfl

/-- One entry of the reference's array before the norm. -/
theorem pre_at (o z x : FVec Ideal S128x1024 .f32) (w : FVec Ideal S1x1024x1024 .f32) (r : Fin 128) (e : Fin 1024) :
    pre o z x w (ix2 r e) = Cert.AttnOutSampleIdeal.Row.before o z x w r e := by
  pointwise [pre, sub, fill]
  simp [Cert.AttnOutSampleIdeal.Row.before, Cert.Norm.alpha, Ideal.logistic]

/-- THE REFERENCE'S RESULT. -/
theorem ref (o z x : FVec Ideal S128x1024 .f32) (w : FVec Ideal S1x1024x1024 .f32) (g b : FVec Ideal S2x1024 .f32) :
    normed (pre o z x w) g b = Cert.AttnOutSampleIdeal.Row.out o z x w g b := by
  funext j
  obtain ⟨r, l, rfl⟩ : ∃ (r : Fin 128) (l : Fin 1024), j = ix2 r l := ⟨j 0, j 1, eq_ix2 j⟩
  rw [normed_at]
  simp only [pre_at]
  rfl

end Cert.AttnOutSampleRefIdeal.Row

namespace Cert.Proof.AttnOutSampleClaims

open Idealize.ShloMosaic Idealize.SL.Sem

/-- The reference runs, ends quiescent, and leaves its arguments as they were. -/
theorem frame_ri : Cert.quiescent_AttnOutSampleRefIdeal := fun m ρ _ =>
  (θ_run Cert.AttnOutSampleRefIdeal.defs _ _).mono (fun r h => ⟨fun c => (h c).2, sem_eq_zero_of_no_sems (by decide) r.2⟩)
    (Cert.AttnOutSampleRefIdeal.Value.run (F := Ideal) m ρ)

/-- Kernel and reference end with equal results. -/
theorem algebraic : Cert.algebraic_AttnOutSampleIdeal_AttnOutSampleRefIdeal := by
  intro m ρ m' ρ' _ hagree
  refine ⟨_, Cert.AttnOutSampleIdeal.Value.run_blocks m ρ, ?_⟩
  refine (θ_run Cert.AttnOutSampleRefIdeal.defs _ _).mono (fun _ h c => ⟨(h c).1.trans ?_, (h c).2⟩)
    (Cert.AttnOutSampleRefIdeal.Value.run (F := Ideal) m' ρ')
  rw [Cert.AttnOutSampleRefIdeal.Value.res_main_v36, (hagree c).1, (hagree c).2.1, (hagree c).2.2.1, (hagree c).2.2.2.1,
    (hagree c).2.2.2.2.1, (hagree c).2.2.2.2.2]
  exact (Cert.AttnOutSampleRefIdeal.Row.ref _ _ _ _ _ _).trans (Cert.AttnOutSampleIdeal.Row.final m c).symm

end Cert.Proof.AttnOutSampleClaims

end
-- ==== Proof.S5InSample.lean ====
/-
  THE S5 LAYER'S INPUT PROJECTION OF THE SAMPLE: as for the prompt, of the sample's 128 rows, which the kernel takes as one block. Both
  results are `branch`: one row of the input against one column of the weights.
-/
module

public import proofs.«01_k».proof.Defs
public import proofs.«01_k».proof.Proof.Gen.S5InSampleIdeal.Value
public import proofs.«01_k».proof.Proof.Gen.S5InSampleRefIdeal.Run
public import Idealize.ShloMosaic.Lib.Pipeline.ValueKit
public import Idealize.ShloMosaic.Lib.StableHlo.ReadAt
public import Idealize.ShloMosaic.Lib.Pointwise
public import Idealize.ShloMosaic.Adequacy

@[expose] public section

set_option maxRecDepth 16384

noncomputable section

namespace Cert.S5InSampleIdeal.Proj

open Cert.S5InSampleIdeal Cert.S5InSampleIdeal.Gen Idealize.ShloMosaic Idealize.ShloMosaic.TcCoe Idealize.SL.Sem
open Idealize.ShloMosaic.Tactic

/-- Half `b` of the projection: rows of `x` against the columns `1024 b` onwards of `w`. -/
def branch (b : Fin 2) (x : S128x1024.Idx → EReal) (w : S1x1024x2048.Idx → EReal) : S128x1024.Idx → EReal := fun j =>
  ∑ d : Fin 1024, x (ix2 (j 0) d) * w (ix3 0 d ⟨1024 * b + (j 1).val, by have : (j 1).val < 1024 := (j 1).isLt; omega⟩)

variable (m : (ℓ : Loc nD τ sig) → Buf (Elt Ideal) ℓ)

/-- The arguments, as arrays of extended reals. -/
def argX (c : Dev nD) : S128x1024.Idx → EReal := m ((c : Thread nD τ).loc main_arg0)
/-- The call's argument: the projection's weights. -/
def argW (c : Dev nD) : S1x1024x2048.Idx → EReal := m ((c : Thread nD τ).loc main_arg1)

/-- The weights as the call gets them are the argument's. -/
theorem weights (c : Dev nD) (d : Fin 1024) (e : Fin 2048) : V m c main_v1 (ix2 d e) = argW m c (ix3 0 d e) := by
  unfold argW V
  after_reads_at

/-- Where each window's block sits. -/
theorem idx (t : Fin grid0.N) : win0_0.index t = ![(grid0.coords t 0).val, 0] ∧ win0_1.index t = ![0, 0]
    ∧ win0_2.index t = ![(grid0.coords t 0).val, 0] ∧ win0_3.index t = ![(grid0.coords t 0).val, 0] := by
  revert t; decide +kernel

/-- Row `r` of block `i`. -/
def row (i : grid0.Coords) (r : Fin 128) : Fin 128 := ⟨128 * (i 0).val + r, by have : (i 0).val < 1 := (i 0).isLt; omega⟩

/-- The first window's block: its rows of the input. -/
theorem blk0 (c : Dev nD) (t : Fin cfg0.N) (r : Fin 128) (d : Fin 1024) :
    iblk m c 0 t (ix2 r d) = argX m c (ix2 (row (grid0.coords t) r) d) := by
  have h := (idx t).1
  rw [argX, ← V_main_arg0 m c]
  blk_ext [iblk, h, row]

/-- The second window's block: the whole weights. -/
theorem blk1 (c : Dev nD) (t : Fin cfg0.N) (d : Fin 1024) (e : Fin 2048) : iblk m c 1 t (ix2 d e) = argW m c (ix3 0 d e) := by
  have h := (idx t).2.1
  rw [← weights]
  blk_ext [iblk, h]

/-- THE KERNEL'S FIRST RESULT: the branch input. -/
theorem final_u (c : Dev nD) : (dats m 0 c).arrAt 2 cfg0.N = branch 0 (argX m c) (argW m c) := by
  refine (dats m 0 c).arrAt_eq_of_covers 2 _ (by decide +kernel) fun t hf y => ?_
  blk_simp
  rw [after0_2]
  frame_out
  obtain ⟨r, l, rfl⟩ : ∃ (r : Fin 128) (l : Fin 1024), y = ix2 r l := ⟨y 0, y 1, eq_ix2 y⟩
  have hidx := (idx t).2.2.1
  have hemb : (win0_2.blk t).view.emb (ix2 r l) = ix2 (row (grid0.coords t) r) l := by
    blk_ext [hidx, row]
  rw [hemb]
  pointwise [k0_pay2, k0_pay1, blk0, blk1]
  simp [branch, ix2]

/-- THE KERNEL'S SECOND RESULT: the gate. -/
theorem final_z (c : Dev nD) : (dats m 0 c).arrAt 3 cfg0.N = branch 1 (argX m c) (argW m c) := by
  refine (dats m 0 c).arrAt_eq_of_covers 3 _ (by decide +kernel) fun t hf y => ?_
  blk_simp
  rw [after0_3]
  frame_out
  obtain ⟨r, l, rfl⟩ : ∃ (r : Fin 128) (l : Fin 1024), y = ix2 r l := ⟨y 0, y 1, eq_ix2 y⟩
  have hidx := (idx t).2.2.2
  have hemb : (win0_3.blk t).view.emb (ix2 r l) = ix2 (row (grid0.coords t) r) l := by
    blk_ext [hidx, row]
  rw [hemb]
  pointwise [k0_pay3, k0_pay1, blk0, blk1]
  simp [branch, ix2]

end Cert.S5InSampleIdeal.Proj

namespace Cert.S5InSampleRefIdeal.Proj

open Cert.S5InSampleRefIdeal Cert.S5InSampleRefIdeal.Gen Idealize.ShloMosaic Idealize.ShloMosaic.TcCoe Idealize.SL.Sem
open Idealize.ShloMosaic.Tactic
open Cert.S5InSampleIdeal.Proj (branch)

/-- The reference's product of all rows with the whole weights. -/
def product (x : FVec Ideal S128x1024 .f32) (w : FVec Ideal S1x1024x2048 .f32) : FVec Ideal S128x2048 .f32 :=
  Host.dotGeneral dot_S128x1024_S1024x2048_S128x2048_1_0_0_1_n_n none x (shapeCast _ w shapeCasts_S1x1024x2048_S1024x2048)

/-- THE REFERENCE'S FIRST RESULT: the branch input. -/
theorem ref_u (x : FVec Ideal S128x1024 .f32) (w : FVec Ideal S1x1024x2048 .f32) :
    extractStridedSlice S128x1024 ![0, 0] (product x w) slices_S128x2048_S128x1024_0_0 = branch 0 x w := by
  funext j
  obtain ⟨r, l, rfl⟩ : ∃ (r : Fin 128) (l : Fin 1024), j = ix2 r l := ⟨j 0, j 1, eq_ix2 j⟩
  pointwise [product]
  simp [branch, ix2]

/-- THE REFERENCE'S SECOND RESULT: the gate. -/
theorem ref_z (x : FVec Ideal S128x1024 .f32) (w : FVec Ideal S1x1024x2048 .f32) :
    extractStridedSlice S128x1024 ![0, 1024] (product x w) slices_S128x2048_S128x1024_0_1024 = branch 1 x w := by
  funext j
  obtain ⟨r, l, rfl⟩ : ∃ (r : Fin 128) (l : Fin 1024), j = ix2 r l := ⟨j 0, j 1, eq_ix2 j⟩
  pointwise [product]
  simp [branch, ix2]

end Cert.S5InSampleRefIdeal.Proj

namespace Cert.Proof.S5InSampleClaims

open Idealize.ShloMosaic Idealize.SL.Sem

/-- The reference runs, ends quiescent, and leaves its arguments as they were. -/
theorem frame_ri : Cert.quiescent_S5InSampleRefIdeal := fun m ρ _ =>
  (θ_run Cert.S5InSampleRefIdeal.defs _ _).mono (fun r h => ⟨fun c => (h c).2.2, sem_eq_zero_of_no_sems (by decide) r.2⟩)
    (Cert.S5InSampleRefIdeal.Value.run (F := Ideal) m ρ)

/-- Kernel and reference end with equal results: the two halves of the projection. -/
theorem algebraic : Cert.algebraic_S5InSampleIdeal_S5InSampleRefIdeal := by
  intro m ρ m' ρ' _ hagree
  refine ⟨_, _, Cert.S5InSampleIdeal.Value.run_blocks m ρ, ?_⟩
  refine (θ_run Cert.S5InSampleRefIdeal.defs _ _).mono (fun _ h c => ⟨(h c).1.trans ?_, (h c).2.1.trans ?_, (h c).2.2⟩)
    (Cert.S5InSampleRefIdeal.Value.run (F := Ideal) m' ρ')
  all_goals rw [(hagree c).1, (hagree c).2]
  · exact (Cert.S5InSampleRefIdeal.Proj.ref_u _ _).trans (Cert.S5InSampleIdeal.Proj.final_u m c).symm
  · exact (Cert.S5InSampleRefIdeal.Proj.ref_z _ _).trans (Cert.S5InSampleIdeal.Proj.final_z m c).symm

end Cert.Proof.S5InSampleClaims

end
-- ==== Proof.S5StepsReads.lean ====
module

public import proofs.«01_k».proof.Proof.Gen.S5StepsIdeal.Value
public import Idealize.ShloMosaic.Lib.Pipeline.ValueKit
public import Idealize.ShloMosaic.Lib.StableHlo.ReadAt
public import Idealize.ShloMosaic.Lib.Pointwise
public import Idealize.ShloMosaic.Adequacy

/-! What the call of the recurrence's steps gets: each array is read back to an argument's entry. -/

@[expose] public section

set_option maxRecDepth 16384

noncomputable section

namespace Cert.S5StepsIdeal.Steps

open Cert.S5StepsIdeal Cert.S5StepsIdeal.Gen Idealize.ShloMosaic Idealize.ShloMosaic.TcCoe Idealize.SL.Sem
open Idealize.ShloMosaic.Tactic

variable (m : (ℓ : Loc nD τ sig) → Buf (Elt Ideal) ℓ)

/-- The call's argument: the input, the positions of a sequence together. -/
def argU (c : Dev nD) : S128x1024.Idx → EReal := m ((c : Thread nD τ).loc main_arg0)
/-- The call's argument: the real parts of the factor's powers. -/
def argPr (c : Dev nD) : S64x64x64.Idx → EReal := m ((c : Thread nD τ).loc main_arg1)
/-- The call's argument: the imaginary parts of the factor's powers. -/
def argPi (c : Dev nD) : S64x64x64.Idx → EReal := m ((c : Thread nD τ).loc main_arg2)
/-- The call's argument: the real parts of the input weights. -/
def argBr (c : Dev nD) : S1024x64.Idx → EReal := m ((c : Thread nD τ).loc main_arg3)
/-- The call's argument: the imaginary parts of the input weights. -/
def argBi (c : Dev nD) : S1024x64.Idx → EReal := m ((c : Thread nD τ).loc main_arg4)
/-- The call's argument: the real parts of the output weights. -/
def argCr (c : Dev nD) : S1x64x16x64.Idx → EReal := m ((c : Thread nD τ).loc main_arg5)
/-- The call's argument: the imaginary parts of the output weights. -/
def argCi (c : Dev nD) : S1x64x16x64.Idx → EReal := m ((c : Thread nD τ).loc main_arg6)
/-- The call's argument: the direct weights. -/
def argD (c : Dev nD) : S1x64x16.Idx → EReal := m ((c : Thread nD τ).loc main_arg7)
/-- The call's argument: the real parts of the first states. -/
def argHr (c : Dev nD) : S1x32x64x64.Idx → EReal := m ((c : Thread nD τ).loc main_arg8)
/-- The call's argument: the imaginary parts of the first states. -/
def argHi (c : Dev nD) : S1x32x64x64.Idx → EReal := m ((c : Thread nD τ).loc main_arg9)

/-- The eye's entry: one where the two groups are the same, zero elsewhere. -/
theorem eye_at (g h : Fin 8) :
    (FloatOps.uitofp FTy.f32 (IntOp.cmpi CmpIPredicate.eq (IntOp.addi (BitVec.ofNat 32 ↑g) 0#32) (BitVec.ofNat 32 ↑h)) : Ideal .f32)
      = if g = h then (1 : EReal) else 0 := by
  have e : IntOp.cmpi CmpIPredicate.eq (IntOp.addi (BitVec.ofNat 32 (g : ℕ)) 0#32) (BitVec.ofNat 32 (h : ℕ)) = if g = h then 1#1 else 0#1 := by
    revert g h; decide
  rw [e]
  by_cases hg : g = h
  · rw [if_pos hg, if_pos hg]
    simp [FloatOps.uitofp]
  · rw [if_neg hg, if_neg hg]
    simp [FloatOps.uitofp]

/-- The same of the groups as the lanes give them. -/
theorem eye_at' (g h : Fin 8) (n n' : ℕ) (hn : n = g) (hn' : n' = h) :
    (FloatOps.uitofp FTy.f32 (IntOp.cmpi CmpIPredicate.eq (IntOp.addi (BitVec.ofNat 32 n) 0#32) (BitVec.ofNat 32 n')) : Ideal .f32)
      = if g = h then (1 : EReal) else 0 := by
  subst hn hn'
  exact eye_at g h

/-- The call gets the input with the positions first. -/
theorem u_read (c : Dev nD) (t : Fin 4) (b : Fin 32) (l : Fin 1024) :
    V m c main_v59 (ix2 (⟨32 * t + b, by omega⟩ : Fin 128) l) = argU m c (ix2 (⟨4 * b + t, by omega⟩ : Fin 128) l) := by
  unfold argU V
  after_reads_at
  exact congrArg _ (by congr 1; exact Fin.ext (by simp only []; omega))

/-- The call's table of powers at a slab's lane, real: the group's entry. -/
theorem p_read (c : Dev nD) (k : Fin 8) (g : Fin 8) (p : Fin 64) :
    V m c main_v4 (ix3 k (1 : Fin 64) (⟨64 * g + p, by omega⟩ : Fin 1024)) = argPr m c (ix3 (1 : Fin 64) (⟨8 * k + g, by omega⟩ : Fin 64) p) := by
  unfold argPr V
  after_reads_at
  rw [dif_pos (by omega)]
  exact congrArg _ (by congr 1 <;> exact Fin.ext (by simp only []; omega))

/-- The call's table of powers at a slab's lane, imaginary. -/
theorem p_read' (c : Dev nD) (k : Fin 8) (g : Fin 8) (p : Fin 64) :
    V m c main_v4 (ix3 k (1 : Fin 64) (⟨512 + (64 * g + p), by omega⟩ : Fin 1024)) = argPi m c (ix3 (1 : Fin 64) (⟨8 * k + g, by omega⟩ : Fin 64) p) := by
  unfold argPi V
  after_reads_at
  exact congrArg _ (by congr 1 <;> exact Fin.ext (by simp only []; omega))

/-- The call's first states at a slab's lane, real: the group's. -/
theorem h_read (c : Dev nD) (k : Fin 8) (b : Fin 32) (g : Fin 8) (p : Fin 64) :
    V m c main_v56 (ix3 k b (⟨64 * g + p, by omega⟩ : Fin 1024)) = argHr m c (ix4 0 b (⟨8 * k + g, by omega⟩ : Fin 64) p) := by
  unfold argHr V
  after_reads_at
  rw [dif_pos (by omega)]
  exact congrArg _ (by congr 1 <;> exact Fin.ext (by simp only []; omega))

/-- The call's first states at a slab's lane, imaginary. -/
theorem h_read' (c : Dev nD) (k : Fin 8) (b : Fin 32) (g : Fin 8) (p : Fin 64) :
    V m c main_v56 (ix3 k b (⟨512 + (64 * g + p), by omega⟩ : Fin 1024)) = argHi m c (ix4 0 b (⟨8 * k + g, by omega⟩ : Fin 64) p) := by
  unfold argHi V
  after_reads_at
  exact congrArg _ (by congr 1 <;> exact Fin.ext (by simp only []; omega))

/-- The call's direct weights at a feature: the group's. -/
theorem d_read (c : Dev nD) (k : Fin 8) (g : Fin 8) (j : Fin 16) :
    V m c main_v49 (ix2 0 (⟨128 * k + (16 * g + j), by omega⟩ : Fin 1024)) = argD m c (ix3 0 (⟨8 * k + g, by omega⟩ : Fin 64) j) := by
  unfold argD V
  after_reads_at
  exact congrArg _ (by congr 1 <;> exact Fin.ext (by simp only []; omega))

/-- The call's input weights by slabs, real: a group's own on the diagonal, zero elsewhere. -/
theorem b_read (c : Dev nD) (k : Fin 8) (g : Fin 8) (j : Fin 16) (h : Fin 8) (p : Fin 64) :
    V m c main_v28 (ix3 k (⟨16 * g + j, by omega⟩ : Fin 128) (⟨64 * h + p, by omega⟩ : Fin 1024))
      = if g = h then argBr m c (ix2 (⟨16 * (8 * k + g) + j, by omega⟩ : Fin 1024) p) else 0 := by
  unfold argBr V
  after_reads_at
  rw [dif_pos (by omega)]
  after_reads_at
  refine (congrArg (HMul.hMul (α := EReal) (β := EReal) (γ := EReal) _) (eye_at g h)).trans ?_
  by_cases hg : g = h
  · rw [if_pos hg, if_pos hg]
    exact (mul_one (_ : EReal)).trans (congrArg _ (by congr 1; exact Fin.ext (by simp only []; omega)))
  · rw [if_neg hg, if_neg hg]
    exact mul_zero (_ : EReal)

/-- The call's input weights by slabs, imaginary. -/
theorem b_read' (c : Dev nD) (k : Fin 8) (g : Fin 8) (j : Fin 16) (h : Fin 8) (p : Fin 64) :
    V m c main_v28 (ix3 k (⟨16 * g + j, by omega⟩ : Fin 128) (⟨512 + (64 * h + p), by omega⟩ : Fin 1024))
      = if g = h then argBi m c (ix2 (⟨16 * (8 * k + g) + j, by omega⟩ : Fin 1024) p) else 0 := by
  unfold argBi V
  after_reads_at
  after_reads_at
  refine (congrArg (HMul.hMul (α := EReal) (β := EReal) (γ := EReal) _) (eye_at g h)).trans ?_
  by_cases hg : g = h
  · rw [if_pos hg, if_pos hg]
    exact (mul_one (_ : EReal)).trans (congrArg _ (by congr 1; exact Fin.ext (by simp only []; omega)))
  · rw [if_neg hg, if_neg hg]
    exact mul_zero (_ : EReal)

/-- The call's output weights by slabs for the real parts: a group's own on the diagonal, zero elsewhere. -/
theorem c_read (c : Dev nD) (k : Fin 8) (g : Fin 8) (j : Fin 16) (h : Fin 8) (p : Fin 64) :
    V m c main_v47 (ix3 k (⟨64 * h + p, by omega⟩ : Fin 1024) (⟨16 * g + j, by omega⟩ : Fin 128))
      = if h = g then argCr m c (ix4 0 (⟨8 * k + g, by omega⟩ : Fin 64) j p) else 0 := by
  unfold argCr V
  after_reads_at
  rw [dif_pos (by omega)]
  after_reads_at
  refine (congrArg₂ (HMul.hMul (α := EReal) (β := EReal) (γ := EReal))
    (congrArg (m (c, Proc.tc.devRef main_arg5)) (?_ : _ = ix4 0 (⟨8 * k + h, by omega⟩ : Fin 64) j p)) (eye_at' h g _ _ (by omega) (by omega))).trans ?_
  · congr 1 <;> exact Fin.ext (by simp only []; omega)
  by_cases hg : h = g
  · subst hg
    rw [if_pos rfl, if_pos rfl]
    exact mul_one (_ : EReal)
  · rw [if_neg hg, if_neg hg]
    exact mul_zero (_ : EReal)

/-- The call's output weights by slabs for the imaginary parts: negated. -/
theorem c_read' (c : Dev nD) (k : Fin 8) (g : Fin 8) (j : Fin 16) (h : Fin 8) (p : Fin 64) :
    V m c main_v47 (ix3 k (⟨512 + (64 * h + p), by omega⟩ : Fin 1024) (⟨16 * g + j, by omega⟩ : Fin 128))
      = if h = g then - argCi m c (ix4 0 (⟨8 * k + g, by omega⟩ : Fin 64) j p) else 0 := by
  unfold argCi V
  after_reads_at
  after_reads_at
  refine (congrArg (Neg.neg (α := EReal)) ((congrArg₂ (HMul.hMul (α := EReal) (β := EReal) (γ := EReal))
    (congrArg (m (c, Proc.tc.devRef main_arg6)) (?_ : _ = ix4 0 (⟨8 * k + h, by omega⟩ : Fin 64) j p)) (eye_at' h g _ _ (by omega) (by omega))))).trans ?_
  · congr 1 <;> exact Fin.ext (by simp only []; omega)
  by_cases hg : h = g
  · subst hg
    rw [if_pos rfl, if_pos rfl]
    exact congrArg (Neg.neg (α := EReal)) (mul_one (_ : EReal))
  · rw [if_neg hg, if_neg hg]
    exact (congrArg (Neg.neg (α := EReal)) (mul_zero (_ : EReal))).trans neg_zero

end Cert.S5StepsIdeal.Steps

end
-- ==== Proof.S5StepsSlab.lean ====
module

public import proofs.«01_k».proof.Proof.Gen.S5StepsIdeal.Value
public import Idealize.ShloMosaic.Lib.Pipeline.ValueKit
public import Idealize.ShloMosaic.Lib.StableHlo.ReadAt
public import Idealize.ShloMosaic.Lib.Pointwise
public import Idealize.ShloMosaic.Adequacy

/-! One slab of eight groups: what the body stores of its states and its outputs. -/

@[expose] public section

set_option maxRecDepth 16384

noncomputable section

namespace Cert.S5StepsIdeal.Slab

open Cert.S5StepsIdeal Cert.S5StepsIdeal.Gen Idealize.ShloMosaic Idealize.ShloMosaic.TcCoe Idealize.SL.Sem
open Idealize.ShloMosaic.Tactic

/-- One step of the recurrence for one complex state: `a h + b`, real and imaginary parts. -/
def stepR (a h b : EReal × EReal) : EReal := a.1 * h.1 - a.2 * h.2 + b.1
/-- The imaginary part of one step. -/
def stepI (a h b : EReal × EReal) : EReal := a.1 * h.2 + a.2 * h.1 + b.2
/-- One step of the recurrence. -/
def step (a h b : EReal × EReal) : EReal × EReal := (stepR a h b, stepI a h b)

/-- The states after each of four steps. -/
def after (a h : EReal × EReal) (b : Fin 4 → EReal × EReal) : Fin 4 → EReal × EReal
  | 0 => step a h (b 0)
  | 1 => step a (step a h (b 0)) (b 1)
  | 2 => step a (step a (step a h (b 0)) (b 1)) (b 2)
  | 3 => step a (step a (step a (step a h (b 0)) (b 1)) (b 2)) (b 3)

variable (u : Vec Ideal S128x128 .f32) (bb : Vec Ideal S1x128x1024 .bf16) (ar ai : Vec Ideal S1x1x512 .f32)
  (h0 : Vec Ideal S1x32x1024 .f32) (cc : Vec Ideal S1x1024x128 .bf16) (d : Vec Ideal S1x128 .f32)

/-- The real and imaginary parts of lane `x` of the slab. -/
def re (x : Fin 512) : Fin 1024 := ⟨x, by omega⟩
/-- The lane of the slab's imaginary part `x`. -/
def im (x : Fin 512) : Fin 1024 := ⟨512 + x, by omega⟩
/-- The row of position `t` and sequence `b`. -/
def row (t : Fin 4) (b : Fin 32) : Fin 128 := ⟨32 * t + b, by omega⟩

/-- The rows of the first position come first. -/
theorem row_zero (b : Fin 32) : row 0 b = ⟨b, by omega⟩ := Fin.ext (by simp [row])

/-- The input's part of the state of lane `x`. -/
def inp (b : Fin 32) (x : Fin 512) (t : Fin 4) : EReal × EReal :=
  (∑ l : Fin 128, u (ix2 (row t b) l) * bb (ix3 0 l (re x)), ∑ l : Fin 128, u (ix2 (row t b) l) * bb (ix3 0 l (im x)))

/-- The states of lane `x` and sequence `b`. -/
def states (b : Fin 32) (x : Fin 512) : Fin 4 → EReal × EReal :=
  after (ar (ix3 0 0 x), ai (ix3 0 0 x)) (h0 (ix3 0 b (re x)), h0 (ix3 0 b (im x))) (inp u bb b x)

/-- A sum over the slab's real and imaginary parts. -/
theorem sum_parts (f : Fin 1024 → EReal) : ∑ x, f x = ∑ x : Fin 512, f (re x) + ∑ x : Fin 512, f (im x) :=
  Fin.sum_univ_add (a := 512) (b := 512) f

/-- What the kernel stores of the slab's states, and of its outputs. -/
def hV : FVec Ideal S1x32x1024 .f32 :=
  k0_pay21 (k0_pay5 u bb) (k0_pay6 ar) (k0_pay7 ai) (k0_pay14 u bb ar ai h0) (k0_pay15 u bb ar ai h0) (k0_pay17 ar)
/-- What the kernel stores of a slab's outputs. -/
def yV : FVec Ideal S128x128 .f32 :=
  k0_pay22 (k0_pay4 u) (k0_pay5 u bb) (k0_pay6 ar) (k0_pay7 ai) (k0_pay13 u bb ar ai h0) (k0_pay14 u bb ar ai h0)
    (k0_pay15 u bb ar ai h0) (k0_pay16 u bb ar ai h0) (k0_pay17 ar) cc d

/-- One entry of the product of the input with a slab's input weights. -/
theorem bu_at (r : Fin 128) (x : Fin 1024) : k0_pay5 u bb (ix2 r x) = ∑ l : Fin 128, u (ix2 r l) * bb (ix3 0 l x) := by
  pointwise [k0_pay5, k0_pay4]

/-- The real part of the state after the first step. -/
theorem s0r (b : Fin 32) (x : Fin 512) : k0_pay11 u bb ar ai h0 (ix2 b x) = (states u bb ar ai h0 b x 0).1 := by
  pointwise [k0_pay11, k0_pay6, k0_pay7, k0_pay9, k0_pay10, k0_pay8, bu_at]
  simp only [states, after, step, stepR, stepI, inp, row_zero]
  rfl
/-- The imaginary part of the state after the first step. -/
theorem s0i (b : Fin 32) (x : Fin 512) : k0_pay12 u bb ar ai h0 (ix2 b x) = (states u bb ar ai h0 b x 0).2 := by
  pointwise [k0_pay12, k0_pay6, k0_pay7, k0_pay9, k0_pay10, k0_pay8, bu_at]
  simp only [states, after, step, stepR, stepI, inp, row_zero]
  rfl
/-- The real part of the state after the second step. -/
theorem s1r (b : Fin 32) (x : Fin 512) : k0_pay14 u bb ar ai h0 (ix2 b x) = (states u bb ar ai h0 b x 1).1 := by
  pointwise [k0_pay14, k0_pay6, k0_pay7, s0r, s0i, bu_at]
  rfl
/-- The imaginary part of the state after the second step. -/
theorem s1i (b : Fin 32) (x : Fin 512) : k0_pay15 u bb ar ai h0 (ix2 b x) = (states u bb ar ai h0 b x 1).2 := by
  pointwise [k0_pay15, k0_pay6, k0_pay7, s0r, s0i, bu_at]
  rfl

/-- The factor's real part as the body takes it. -/
theorem a_re (x : Fin 512) : k0_pay6 ar (ix2 0 x) = ar (ix3 0 0 x) := by pointwise [k0_pay6]
/-- The factor's imaginary part as the body takes it. -/
theorem a_im (x : Fin 512) : k0_pay7 ai (ix2 0 x) = ai (ix3 0 0 x) := by pointwise [k0_pay7]
/-- The first state, real, kept for the outputs. -/
theorem hist0r (b : Fin 32) (x : Fin 512) : k0_pay13 u bb ar ai h0 (ix2 b (re x)) = (states u bb ar ai h0 b x 0).1 := by
  pointwise [k0_pay13, re, s0r]
/-- The first state, imaginary, kept for the outputs. -/
theorem hist0i (b : Fin 32) (x : Fin 512) : k0_pay13 u bb ar ai h0 (ix2 b (im x)) = (states u bb ar ai h0 b x 0).2 := by
  pointwise [k0_pay13, im, s0i]
/-- The second state, real, kept for the outputs. -/
theorem hist1r (b : Fin 32) (x : Fin 512) : k0_pay16 u bb ar ai h0 (ix2 b (re x)) = (states u bb ar ai h0 b x 1).1 := by
  pointwise [k0_pay16, re, s1r]
/-- The second state, imaginary, kept for the outputs. -/
theorem hist1i (b : Fin 32) (x : Fin 512) : k0_pay16 u bb ar ai h0 (ix2 b (im x)) = (states u bb ar ai h0 b x 1).2 := by
  pointwise [k0_pay16, im, s1i]
/-- The real part of the state after the third step. -/
theorem s2r (b : Fin 32) (x : Fin 512) :
    k0_pay18 (k0_pay5 u bb) (k0_pay7 ai) (k0_pay14 u bb ar ai h0) (k0_pay15 u bb ar ai h0) (k0_pay17 ar) (ix2 b x)
      = (states u bb ar ai h0 b x 2).1 := by
  pointwise [k0_pay18, k0_pay17, k0_pay6, k0_pay7, s1r, s1i, bu_at]
  rfl
/-- The imaginary part of the state after the third step. -/
theorem s2i (b : Fin 32) (x : Fin 512) :
    k0_pay19 (k0_pay5 u bb) (k0_pay6 ar) (k0_pay7 ai) (k0_pay14 u bb ar ai h0) (k0_pay15 u bb ar ai h0) (ix2 b x)
      = (states u bb ar ai h0 b x 2).2 := by
  pointwise [k0_pay19, k0_pay6, k0_pay7, s1r, s1i, bu_at]
  rfl
/-- The real part of the state after the fourth step. -/
theorem s3r (b : Fin 32) (x : Fin 512) :
    k0_pay20 (k0_pay5 u bb) (k0_pay6 ar) (k0_pay7 ai) (k0_pay14 u bb ar ai h0) (k0_pay15 u bb ar ai h0) (k0_pay17 ar) (ix2 b (re x))
      = (states u bb ar ai h0 b x 3).1 := by
  pointwise [k0_pay20, a_re, a_im, s2r, s2i, bu_at, re]
  rfl
/-- The imaginary part of the state after the fourth step. -/
theorem s3i (b : Fin 32) (x : Fin 512) :
    k0_pay20 (k0_pay5 u bb) (k0_pay6 ar) (k0_pay7 ai) (k0_pay14 u bb ar ai h0) (k0_pay15 u bb ar ai h0) (k0_pay17 ar) (ix2 b (im x))
      = (states u bb ar ai h0 b x 3).2 := by
  pointwise [k0_pay20, a_re, a_im, s2r, s2i, bu_at, im]
  rfl
/-- What the kernel stores of a slab's last states, real parts. -/
theorem hV_re (b : Fin 32) (x : Fin 512) : hV u bb ar ai h0 (ix3 0 b (re x)) = (states u bb ar ai h0 b x 3).1 := by
  pointwise [hV, k0_pay21, s3r]
/-- What the kernel stores of a slab's last states, imaginary parts. -/
theorem hV_im (b : Fin 32) (x : Fin 512) : hV u bb ar ai h0 (ix3 0 b (im x)) = (states u bb ar ai h0 b x 3).2 := by
  pointwise [hV, k0_pay21, s3i]

/-- One entry of what the kernel stores of a slab's outputs: the states of its position times the output weights, and the direct part. -/
theorem yV_at (t : Fin 4) (b : Fin 32) (l : Fin 128) : yV u bb ar ai h0 cc d (ix2 (row t b) l)
    = ∑ x : Fin 512, (states u bb ar ai h0 b x t).1 * cc (ix3 0 (re x) l)
      + ∑ x : Fin 512, (states u bb ar ai h0 b x t).2 * cc (ix3 0 (im x) l)
      + d (ix2 0 l) * u (ix2 (row t b) l) := by
  unfold yV
  pointwise [k0_pay22, k0_pay4]
  refine congrArg (· + _) (congrArg₂ (HAdd.hAdd (α := EReal) (β := EReal) (γ := EReal)) (Finset.sum_congr rfl fun x _ => congrArg (· * _) ?_) (Finset.sum_congr rfl fun x _ => congrArg (· * _) ?_))
  · match t with
    | 0 => rw [dif_pos (by show 32 * 0 + (b : ℕ) < 32; omega)]; exact Eq.trans (congrArg _ (by congr 1; exact Fin.ext (by show 32 * 0 + (b : ℕ) = b; omega))) (hist0r u bb ar ai h0 b x)
    | 1 =>
      rw [dif_neg (by show ¬ 32 * 1 + (b : ℕ) < 32; omega), dif_pos (by show 32 * 1 + (b : ℕ) - 32 < 32; omega)]
      exact Eq.trans (congrArg _ (by congr 1; exact Fin.ext (by show 32 * 1 + (b : ℕ) - 32 = b; omega))) (hist1r u bb ar ai h0 b x)
    | 2 =>
      rw [dif_neg (by show ¬ 32 * 2 + (b : ℕ) < 32; omega), dif_neg (by show ¬ 32 * 2 + (b : ℕ) - 32 < 32; omega),
        dif_pos (by show 32 * 2 + (b : ℕ) - 32 - 32 < 32; omega)]
      exact Eq.trans (congrArg _ (by congr 1; exact Fin.ext (by show 32 * 2 + (b : ℕ) - 32 - 32 = b; omega))) (s2r u bb ar ai h0 b x)
    | 3 =>
      rw [dif_neg (by show ¬ 32 * 3 + (b : ℕ) < 32; omega), dif_neg (by show ¬ 32 * 3 + (b : ℕ) - 32 < 32; omega),
        dif_neg (by show ¬ 32 * 3 + (b : ℕ) - 32 - 32 < 32; omega)]
      exact Eq.trans (congrArg _ (by congr 1; exact Fin.ext (by show 32 * 3 + (b : ℕ) - 32 - 32 - 32 = b; omega))) (s3r u bb ar ai h0 b x)
  · match t with
    | 0 => rw [dif_pos (by show 32 * 0 + (b : ℕ) < 32; omega)]; exact Eq.trans (congrArg _ (by congr 1; exact Fin.ext (by show 32 * 0 + (b : ℕ) = b; omega))) (hist0i u bb ar ai h0 b x)
    | 1 =>
      rw [dif_neg (by show ¬ 32 * 1 + (b : ℕ) < 32; omega), dif_pos (by show 32 * 1 + (b : ℕ) - 32 < 32; omega)]
      exact Eq.trans (congrArg _ (by congr 1; exact Fin.ext (by show 32 * 1 + (b : ℕ) - 32 = b; omega))) (hist1i u bb ar ai h0 b x)
    | 2 =>
      rw [dif_neg (by show ¬ 32 * 2 + (b : ℕ) < 32; omega), dif_neg (by show ¬ 32 * 2 + (b : ℕ) - 32 < 32; omega),
        dif_pos (by show 32 * 2 + (b : ℕ) - 32 - 32 < 32; omega)]
      exact Eq.trans (congrArg _ (by congr 1; exact Fin.ext (by show 32 * 2 + (b : ℕ) - 32 - 32 = b; omega))) (s2i u bb ar ai h0 b x)
    | 3 =>
      rw [dif_neg (by show ¬ 32 * 3 + (b : ℕ) < 32; omega), dif_neg (by show ¬ 32 * 3 + (b : ℕ) - 32 < 32; omega),
        dif_neg (by show ¬ 32 * 3 + (b : ℕ) - 32 - 32 < 32; omega)]
      exact Eq.trans (congrArg _ (by congr 1; exact Fin.ext (by show 32 * 3 + (b : ℕ) - 32 - 32 - 32 = b; omega))) (s3i u bb ar ai h0 b x)

variable (x0 : Vec Ideal S128x1024 .f32) (x1 : Vec Ideal S8x128x1024 .bf16) (x2 : Vec Ideal S8x1024x128 .bf16)
  (x3 : Vec Ideal S8x64x1024 .f32) (x4 : Vec Ideal S1x1024 .f32) (x5 : Vec Ideal S8x32x1024 .f32)

/-- What the body stores, slab by slab. -/
theorem out6 : out0_6 x0 x1 x2 x3 x4 x5 = View.canon [⟨r0_49, yV (View.ld x0 r0_49) (View.ld x1 r0_50) (View.ld x3 r0_51) (View.ld x3 r0_52) (View.ld x5 r0_53) (View.ld x2 r0_54) (View.ld x4 r0_55)⟩,
    ⟨r0_42, yV (View.ld x0 r0_42) (View.ld x1 r0_43) (View.ld x3 r0_44) (View.ld x3 r0_45) (View.ld x5 r0_46) (View.ld x2 r0_47) (View.ld x4 r0_48)⟩,
    ⟨r0_35, yV (View.ld x0 r0_35) (View.ld x1 r0_36) (View.ld x3 r0_37) (View.ld x3 r0_38) (View.ld x5 r0_39) (View.ld x2 r0_40) (View.ld x4 r0_41)⟩,
    ⟨r0_28, yV (View.ld x0 r0_28) (View.ld x1 r0_29) (View.ld x3 r0_30) (View.ld x3 r0_31) (View.ld x5 r0_32) (View.ld x2 r0_33) (View.ld x4 r0_34)⟩,
    ⟨r0_21, yV (View.ld x0 r0_21) (View.ld x1 r0_22) (View.ld x3 r0_23) (View.ld x3 r0_24) (View.ld x5 r0_25) (View.ld x2 r0_26) (View.ld x4 r0_27)⟩,
    ⟨r0_14, yV (View.ld x0 r0_14) (View.ld x1 r0_15) (View.ld x3 r0_16) (View.ld x3 r0_17) (View.ld x5 r0_18) (View.ld x2 r0_19) (View.ld x4 r0_20)⟩,
    ⟨r0_7, yV (View.ld x0 r0_7) (View.ld x1 r0_8) (View.ld x3 r0_9) (View.ld x3 r0_10) (View.ld x5 r0_11) (View.ld x2 r0_12) (View.ld x4 r0_13)⟩,
    ⟨r0_0, yV (View.ld x0 r0_0) (View.ld x1 r0_1) (View.ld x3 r0_2) (View.ld x3 r0_3) (View.ld x5 r0_4) (View.ld x2 r0_5) (View.ld x4 r0_6)⟩] := by
  unfold_out out0_6
  rfl
/-- What the body stores of the states, slab by slab. -/
theorem out7 : out0_7 x0 x1 x2 x3 x4 x5 = View.canon [⟨r0_53, hV (View.ld x0 r0_49) (View.ld x1 r0_50) (View.ld x3 r0_51) (View.ld x3 r0_52) (View.ld x5 r0_53)⟩,
    ⟨r0_46, hV (View.ld x0 r0_42) (View.ld x1 r0_43) (View.ld x3 r0_44) (View.ld x3 r0_45) (View.ld x5 r0_46)⟩,
    ⟨r0_39, hV (View.ld x0 r0_35) (View.ld x1 r0_36) (View.ld x3 r0_37) (View.ld x3 r0_38) (View.ld x5 r0_39)⟩,
    ⟨r0_32, hV (View.ld x0 r0_28) (View.ld x1 r0_29) (View.ld x3 r0_30) (View.ld x3 r0_31) (View.ld x5 r0_32)⟩,
    ⟨r0_25, hV (View.ld x0 r0_21) (View.ld x1 r0_22) (View.ld x3 r0_23) (View.ld x3 r0_24) (View.ld x5 r0_25)⟩,
    ⟨r0_18, hV (View.ld x0 r0_14) (View.ld x1 r0_15) (View.ld x3 r0_16) (View.ld x3 r0_17) (View.ld x5 r0_18)⟩,
    ⟨r0_11, hV (View.ld x0 r0_7) (View.ld x1 r0_8) (View.ld x3 r0_9) (View.ld x3 r0_10) (View.ld x5 r0_11)⟩,
    ⟨r0_4, hV (View.ld x0 r0_0) (View.ld x1 r0_1) (View.ld x3 r0_2) (View.ld x3 r0_3) (View.ld x5 r0_4)⟩] := by
  unfold_out out0_7
  rfl

/-- Lane `l` of slab `k`. -/
def lane (k : Fin 8) (l : Fin 128) : Fin 1024 := ⟨128 * k + l, by omega⟩

/-- The states of slab `k`, from the whole arrays. -/
def slabStates (k : Fin 8) (b : Fin 32) (x : Fin 512) : Fin 4 → EReal × EReal :=
  after (x3 (ix3 k 1 (re x)), x3 (ix3 k 1 (im x))) (x5 (ix3 k b (re x)), x5 (ix3 k b (im x)))
    fun t => (∑ l : Fin 128, x0 (ix2 (row t b) (lane k l)) * x1 (ix3 k l (re x)),
      ∑ l : Fin 128, x0 (ix2 (row t b) (lane k l)) * x1 (ix3 k l (im x)))

/-- The loads of slab `k`. -/
theorem ld_u (k : Fin 8) (o : ℕ) (ho : o = 128 * k) (inb) (r l : Fin 128) :
    View.ld x0 (Rect.unit (s := S128x1024) ![0, o] S128x128.size inb) (ix2 r l) = x0 (ix2 r (lane k l)) :=
  congrArg x0 (funext fun a => match a with
    | 0 => Fin.ext (by show 0 + 1 * (r : ℕ) = r; omega)
    | 1 => Fin.ext (by show o + 1 * (l : ℕ) = 128 * k + l; omega))
/-- The direct weights that slab `k` loads. -/
theorem ld_d (k : Fin 8) (o : ℕ) (ho : o = 128 * k) (inb) (l : Fin 128) :
    View.ld x4 (Rect.unit (s := S1x1024) ![0, o] S1x128.size inb) (ix2 0 l) = x4 (ix2 0 (lane k l)) :=
  congrArg x4 (funext fun a => match a with
    | 0 => rfl
    | 1 => Fin.ext (by show o + 1 * (l : ℕ) = 128 * k + l; omega))
/-- The input weights that slab `k` loads. -/
theorem ld_b (k : Fin 8) (o : ℕ) (ho : o = k) (inb) (l : Fin 128) (x : Fin 1024) :
    View.ld x1 (Rect.unit (s := S8x128x1024) ![o, 0, 0] S1x128x1024.size inb) (ix3 0 l x) = x1 (ix3 k l x) :=
  congrArg x1 (funext fun a => match a with
    | 0 => Fin.ext (by show o + 1 * 0 = (k : ℕ); omega)
    | 1 => Fin.ext (by show 0 + 1 * (l : ℕ) = l; omega)
    | 2 => Fin.ext (by show 0 + 1 * (x : ℕ) = x; omega))
/-- The output weights that slab `k` loads. -/
theorem ld_c (k : Fin 8) (o : ℕ) (ho : o = k) (inb) (x : Fin 1024) (l : Fin 128) :
    View.ld x2 (Rect.unit (s := S8x1024x128) ![o, 0, 0] S1x1024x128.size inb) (ix3 0 x l) = x2 (ix3 k x l) :=
  congrArg x2 (funext fun a => match a with
    | 0 => Fin.ext (by show o + 1 * 0 = (k : ℕ); omega)
    | 1 => Fin.ext (by show 0 + 1 * (x : ℕ) = x; omega)
    | 2 => Fin.ext (by show 0 + 1 * (l : ℕ) = l; omega))
/-- The first states that slab `k` loads. -/
theorem ld_h (k : Fin 8) (o : ℕ) (ho : o = k) (inb) (b : Fin 32) (x : Fin 1024) :
    View.ld x5 (Rect.unit (s := S8x32x1024) ![o, 0, 0] S1x32x1024.size inb) (ix3 0 b x) = x5 (ix3 k b x) :=
  congrArg x5 (funext fun a => match a with
    | 0 => Fin.ext (by show o + 1 * 0 = (k : ℕ); omega)
    | 1 => Fin.ext (by show 0 + 1 * (b : ℕ) = b; omega)
    | 2 => Fin.ext (by show 0 + 1 * (x : ℕ) = x; omega))
/-- The factors' real parts that slab `k` loads. -/
theorem ld_p (k : Fin 8) (o : ℕ) (ho : o = k) (inb) (x : Fin 512) :
    View.ld x3 (Rect.unit (s := S8x64x1024) ![o, 1, 0] S1x1x512.size inb) (ix3 0 0 x) = x3 (ix3 k 1 (re x)) :=
  congrArg x3 (funext fun a => match a with
    | 0 => Fin.ext (by show o + 1 * 0 = (k : ℕ); omega)
    | 1 => rfl
    | 2 => Fin.ext (by show 0 + 1 * (x : ℕ) = x; omega))
/-- The factors' imaginary parts that slab `k` loads. -/
theorem ld_q (k : Fin 8) (o : ℕ) (ho : o = k) (inb) (x : Fin 512) :
    View.ld x3 (Rect.unit (s := S8x64x1024) ![o, 1, 512] S1x1x512.size inb) (ix3 0 0 x) = x3 (ix3 k 1 (im x)) :=
  congrArg x3 (funext fun a => match a with
    | 0 => Fin.ext (by show o + 1 * 0 = (k : ℕ); omega)
    | 1 => rfl
    | 2 => Fin.ext (by show 512 + 1 * (x : ℕ) = 512 + x; omega))

/-- A slab's states from its loads are the states from the whole arrays. -/
theorem states_ld (k : Fin 8) (o o' : ℕ) (ho : o = 128 * k) (ho' : o' = k) (i0 i1 i2 i3 i4) (b : Fin 32) (x : Fin 512) :
    states (View.ld x0 (Rect.unit (s := S128x1024) ![0, o] S128x128.size i0))
      (View.ld x1 (Rect.unit (s := S8x128x1024) ![o', 0, 0] S1x128x1024.size i1))
      (View.ld x3 (Rect.unit (s := S8x64x1024) ![o', 1, 0] S1x1x512.size i2))
      (View.ld x3 (Rect.unit (s := S8x64x1024) ![o', 1, 512] S1x1x512.size i3))
      (View.ld x5 (Rect.unit (s := S8x32x1024) ![o', 0, 0] S1x32x1024.size i4)) b x = slabStates x0 x1 x3 x5 k b x := by
  unfold states slabStates inp
  simp only [ld_u x0 k o ho, ld_b x1 k o' ho', ld_p x3 k o' ho', ld_q x3 k o' ho', ld_h x5 k o' ho']

/-- What the body stores of the states and outputs, from the whole arrays. -/
theorem out7_re (k : Fin 8) (b : Fin 32) (x : Fin 512) :
    out0_7 x0 x1 x2 x3 x4 x5 (ix3 k b (re x)) = (slabStates x0 x1 x3 x5 k b x 3).1 := by
  rw [out7]
  canon_tiles z h
  all_goals
    obtain ⟨z0, zb, zx, rfl⟩ : ∃ (z0 : Fin 1) (zb : Fin 32) (zx : Fin 1024), z = ix3 z0 zb zx := ⟨z 0, z 1, z 2, eq_ix3 z⟩
    obtain rfl : z0 = 0 := Subsingleton.elim _ _
    obtain rfl : b = zb := Fin.ext h1
    obtain rfl : re x = zx := Fin.ext h2
    replace h0 : (k : ℕ) = _ := h0
    rw [hV_re]
    exact congrArg Prod.fst (congrFun (states_ld x0 x1 x3 x5 k _ _ (by rw [h0]; rfl) h0.symm _ _ _ _ _ b x) 3)
/-- The imaginary parts of the last states that the body stores, from the whole arrays. -/
theorem out7_im (k : Fin 8) (b : Fin 32) (x : Fin 512) :
    out0_7 x0 x1 x2 x3 x4 x5 (ix3 k b (im x)) = (slabStates x0 x1 x3 x5 k b x 3).2 := by
  rw [out7]
  canon_tiles z h
  all_goals
    obtain ⟨z0, zb, zx, rfl⟩ : ∃ (z0 : Fin 1) (zb : Fin 32) (zx : Fin 1024), z = ix3 z0 zb zx := ⟨z 0, z 1, z 2, eq_ix3 z⟩
    obtain rfl : z0 = 0 := Subsingleton.elim _ _
    obtain rfl : b = zb := Fin.ext h1
    obtain rfl : im x = zx := Fin.ext h2
    replace h0 : (k : ℕ) = _ := h0
    rw [hV_im]
    exact congrArg Prod.snd (congrFun (states_ld x0 x1 x3 x5 k _ _ (by rw [h0]; rfl) h0.symm _ _ _ _ _ b x) 3)
/-- The outputs that the body stores, from the whole arrays. -/
theorem out6_at (k : Fin 8) (t : Fin 4) (b : Fin 32) (l : Fin 128) :
    out0_6 x0 x1 x2 x3 x4 x5 (ix2 (row t b) (lane k l))
      = ∑ x : Fin 512, (slabStates x0 x1 x3 x5 k b x t).1 * x2 (ix3 k (re x) l)
        + ∑ x : Fin 512, (slabStates x0 x1 x3 x5 k b x t).2 * x2 (ix3 k (im x) l)
        + x4 (ix2 0 (lane k l)) * x0 (ix2 (row t b) (lane k l)) := by
  rw [out6]
  canon_tiles z h
  all_goals
    obtain ⟨zr, zl, rfl⟩ : ∃ (zr zl : Fin 128), z = ix2 zr zl := ⟨z 0, z 1, eq_ix2 z⟩
    obtain rfl : row t b = zr := Fin.ext h0
    first
    | replace h1 : 128 * (k : ℕ) + l = _ + (zl : ℕ) := h1
    | replace h1 : 128 * (k : ℕ) + l = (zl : ℕ) := h1
    obtain rfl : l = zl := Fin.ext (by omega)
    rw [yV_at]
    simp (disch := omega) only [states_ld x0 x1 x3 x5 k, ld_u x0 k, ld_d x4 k, ld_c x2 k]

end Cert.S5StepsIdeal.Slab

end
-- ==== Proof.S5StepsGroups.lean ====
module

public import proofs.«01_k».proof.Proof.S5StepsReads
public import proofs.«01_k».proof.Proof.S5StepsSlab
public import Idealize.ShloMosaic.Lib.Pipeline.ValueKit
public import Idealize.ShloMosaic.Lib.Pointwise
public import Idealize.ShloMosaic.Adequacy

/-! The recurrence's four steps on the sample: the kernel works by slabs of eight groups, with the groups' weights on the
    diagonal of a slab's matrix; the reference works group by group. -/

@[expose] public section

set_option maxRecDepth 16384

noncomputable section

namespace Cert.S5StepsIdeal.Groups

open Cert.S5StepsIdeal Cert.S5StepsIdeal.Gen Idealize.ShloMosaic Idealize.ShloMosaic.TcCoe Idealize.SL.Sem
open Idealize.ShloMosaic.Tactic
open Cert.S5StepsIdeal.Steps Cert.S5StepsIdeal.Slab

/-- Group `g` of slab `k`, its state's lane `p` and its feature's lane `j`. -/
def group (k g : Fin 8) : Fin 64 := ⟨8 * k + g, by omega⟩
/-- Lane `p` of group `g` among a slab's states. -/
def state (g : Fin 8) (p : Fin 64) : Fin 512 := ⟨64 * g + p, by omega⟩
/-- Feature `j` of group `g` among a slab's features. -/
def feature (g : Fin 8) (j : Fin 16) : Fin 128 := ⟨16 * g + j, by omega⟩
/-- Feature `j` of group `G`, and the argument's row of position `t` of sequence `b`. -/
def column (G : Fin 64) (j : Fin 16) : Fin 1024 := ⟨16 * G + j, by omega⟩
/-- The argument's row of position `t` of sequence `b`. -/
def row' (t : Fin 4) (b : Fin 32) : Fin 128 := ⟨4 * b + t, by omega⟩

/-- A sum over a slab's states goes over its groups and their states; a sum over its features likewise. -/
theorem sum_states (f : Fin 512 → EReal) : ∑ x, f x = ∑ g : Fin 8, ∑ p : Fin 64, f (state g p) := by
  rw [← Fintype.sum_prod_type']
  refine (Fintype.sum_equiv (finProdFinEquiv (m := 8) (n := 64)) _ _ fun gp => ?_).symm
  exact congrArg f (Fin.ext (by simp [state, finProdFinEquiv]; omega))
/-- A sum over a slab's features goes over its groups and their features. -/
theorem sum_features (f : Fin 128 → EReal) : ∑ x, f x = ∑ g : Fin 8, ∑ j : Fin 16, f (feature g j) := by
  rw [← Fintype.sum_prod_type']
  refine (Fintype.sum_equiv (finProdFinEquiv (m := 8) (n := 16)) _ _ fun gp => ?_).symm
  exact congrArg f (Fin.ext (by simp [feature, finProdFinEquiv]; omega))

/-- Every lane of a slab is some group's. -/
theorem exists_state (x : Fin 512) : ∃ g p, x = state g p :=
  ⟨⟨x / 64, by omega⟩, ⟨x % 64, by omega⟩, Fin.ext (by simp only [state]; omega)⟩
/-- Every feature of a slab is some group's. -/
theorem exists_feature (l : Fin 128) : ∃ g j, l = feature g j :=
  ⟨⟨l / 16, by omega⟩, ⟨l % 16, by omega⟩, Fin.ext (by simp only [feature]; omega)⟩
/-- Every feature is some slab's. -/
theorem exists_lane (l : Fin 1024) : ∃ k y, l = lane k y :=
  ⟨⟨l / 128, by omega⟩, ⟨l % 128, by omega⟩, Fin.ext (by simp only [lane]; omega)⟩
/-- Every row is some position's of some sequence. -/
theorem exists_row (r : Fin 128) : ∃ t b, r = row t b :=
  ⟨⟨r / 32, by omega⟩, ⟨r % 32, by omega⟩, Fin.ext (by simp only [row]; omega)⟩
/-- Every lane of a slab's states is a real or an imaginary part. -/
theorem exists_part (x : Fin 1024) : (∃ y, x = re y) ∨ ∃ y, x = im y := by
  by_cases h : (x : ℕ) < 512
  · exact Or.inl ⟨⟨x, h⟩, rfl⟩
  · exact Or.inr ⟨⟨x - 512, by omega⟩, Fin.ext (by simp only [im]; omega)⟩

section Spec
variable (u : S128x1024.Idx → EReal) (pr pi : S64x64x64.Idx → EReal) (br bi : S1024x64.Idx → EReal)
  (cr ci : S1x64x16x64.Idx → EReal) (d : S1x64x16.Idx → EReal) (hr hi : S1x32x64x64.Idx → EReal)

/-- The states of lane `p` of group `G`, from the call's arguments. -/
def groupStates (b : Fin 32) (G p : Fin 64) : Fin 4 → EReal × EReal :=
  after (pr (ix3 1 G p), pi (ix3 1 G p)) (hr (ix4 0 b G p), hi (ix4 0 b G p)) fun t =>
    (∑ j : Fin 16, u (ix2 (row' t b) (column G j)) * br (ix2 (column G j) p),
      ∑ j : Fin 16, u (ix2 (row' t b) (column G j)) * bi (ix2 (column G j) p))

/-- The output at feature `j` of group `G`. -/
def output (t : Fin 4) (b : Fin 32) (G : Fin 64) (j : Fin 16) : EReal :=
  ∑ p : Fin 64, (groupStates u pr pi br bi hr hi b G p t).1 * cr (ix4 0 G j p)
    + ∑ p : Fin 64, (groupStates u pr pi br bi hr hi b G p t).2 * - ci (ix4 0 G j p)
    + d (ix3 0 G j) * u (ix2 (row' t b) (column G j))
end Spec

variable (m : (ℓ : Loc nD τ sig) → Buf (Elt Ideal) ℓ)

/-- The call's arrays read at a group's entries. -/
theorem get_u (c : Dev nD) (t : Fin 4) (b : Fin 32) (k g : Fin 8) (j : Fin 16) :
    V m c main_v59 (ix2 (row t b) (lane k (feature g j))) = argU m c (ix2 (row' t b) (column (group k g) j)) :=
  (u_read m c t b _).trans (congrArg _ (by congr 1; exact Fin.ext (by simp only [lane, feature, column, group]; omega)))
/-- The direct weights at a feature of a group. -/
theorem get_d (c : Dev nD) (k g : Fin 8) (j : Fin 16) :
    V m c main_v49 (ix2 0 (lane k (feature g j))) = argD m c (ix3 0 (group k g) j) := d_read m c k g j
/-- The factor's real part at a lane of a group. -/
theorem get_pr (c : Dev nD) (k g : Fin 8) (p : Fin 64) :
    V m c main_v4 (ix3 k 1 (re (state g p))) = argPr m c (ix3 1 (group k g) p) := p_read m c k g p
/-- The factor's imaginary part at a lane of a group. -/
theorem get_pi (c : Dev nD) (k g : Fin 8) (p : Fin 64) :
    V m c main_v4 (ix3 k 1 (im (state g p))) = argPi m c (ix3 1 (group k g) p) := p_read' m c k g p
/-- The first state's real part at a lane of a group. -/
theorem get_hr (c : Dev nD) (k g : Fin 8) (b : Fin 32) (p : Fin 64) :
    V m c main_v56 (ix3 k b (re (state g p))) = argHr m c (ix4 0 b (group k g) p) := h_read m c k b g p
/-- The first state's imaginary part at a lane of a group. -/
theorem get_hi (c : Dev nD) (k g : Fin 8) (b : Fin 32) (p : Fin 64) :
    V m c main_v56 (ix3 k b (im (state g p))) = argHi m c (ix4 0 b (group k g) p) := h_read' m c k b g p
/-- The input weights of a slab, real: a group's own on the diagonal, zero elsewhere. -/
theorem get_br (c : Dev nD) (k g h : Fin 8) (j : Fin 16) (p : Fin 64) : V m c main_v28 (ix3 k (feature g j) (re (state h p)))
    = if g = h then argBr m c (ix2 (column (group k g) j) p) else 0 := b_read m c k g j h p
/-- The input weights of a slab, imaginary: a group's own on the diagonal, zero elsewhere. -/
theorem get_bi (c : Dev nD) (k g h : Fin 8) (j : Fin 16) (p : Fin 64) : V m c main_v28 (ix3 k (feature g j) (im (state h p)))
    = if g = h then argBi m c (ix2 (column (group k g) j) p) else 0 := b_read' m c k g j h p
/-- The output weights of a slab for the real parts: a group's own on the diagonal, zero elsewhere. -/
theorem get_cr (c : Dev nD) (k g h : Fin 8) (j : Fin 16) (p : Fin 64) : V m c main_v47 (ix3 k (re (state h p)) (feature g j))
    = if h = g then argCr m c (ix4 0 (group k g) j p) else 0 := c_read m c k g j h p
/-- The output weights of a slab for the imaginary parts: a group's own, negated, on the diagonal, zero elsewhere. -/
theorem get_ci (c : Dev nD) (k g h : Fin 8) (j : Fin 16) (p : Fin 64) : V m c main_v47 (ix3 k (im (state h p)) (feature g j))
    = if h = g then - argCi m c (ix4 0 (group k g) j p) else 0 := c_read' m c k g j h p

/-- A sum over the groups of terms that only one group's weights reach. -/
theorem sum_one {n : ℕ} (g : Fin 8) (f w : Fin 8 → Fin n → EReal) :
    ∑ h : Fin 8, ∑ j, f h j * (if h = g then w h j else 0) = ∑ j, f g j * w g j := by
  rw [Finset.sum_eq_single g]
  · simp
  · intro h _ hg
    simp [hg]
  · intro h
    exact absurd (Finset.mem_univ g) h

section Arrays
variable (u : S128x1024.Idx → EReal) (pr pi : S64x64x64.Idx → EReal) (br bi : S1024x64.Idx → EReal)
  (cr ci : S1x64x16x64.Idx → EReal) (d : S1x64x16.Idx → EReal) (hr hi : S1x32x64x64.Idx → EReal)
variable (x0 : Vec Ideal S128x1024 .f32) (x1 : Vec Ideal S8x128x1024 .bf16) (x2 : Vec Ideal S8x1024x128 .bf16)
  (x3 : Vec Ideal S8x64x1024 .f32) (x4 : Vec Ideal S1x1024 .f32) (x5 : Vec Ideal S8x32x1024 .f32)

/-- A slab's states are its groups'. -/
theorem states_of (h0 : ∀ t b k g j, x0 (ix2 (row t b) (lane k (feature g j))) = u (ix2 (row' t b) (column (group k g) j)))
    (hbr : ∀ k g h j p, x1 (ix3 k (feature g j) (re (state h p))) = if g = h then br (ix2 (column (group k g) j) p) else 0)
    (hbi : ∀ k g h j p, x1 (ix3 k (feature g j) (im (state h p))) = if g = h then bi (ix2 (column (group k g) j) p) else 0)
    (hpr : ∀ k g p, x3 (ix3 k 1 (re (state g p))) = pr (ix3 1 (group k g) p))
    (hpi : ∀ k g p, x3 (ix3 k 1 (im (state g p))) = pi (ix3 1 (group k g) p))
    (hhr : ∀ k g b p, x5 (ix3 k b (re (state g p))) = hr (ix4 0 b (group k g) p))
    (hhi : ∀ k g b p, x5 (ix3 k b (im (state g p))) = hi (ix4 0 b (group k g) p))
    (k g : Fin 8) (b : Fin 32) (p : Fin 64) :
    slabStates x0 x1 x3 x5 k b (state g p) = groupStates u pr pi br bi hr hi b (group k g) p := by
  unfold slabStates groupStates
  rw [hpr, hpi, hhr, hhi]
  refine congrArg _ (funext fun t => Prod.ext ?_ ?_)
  · simp only [sum_features, h0, hbr]
    exact sum_one g (fun h j => u (ix2 (row' t b) (column (group k h) j))) (fun h j => br (ix2 (column (group k h) j) p))
  · simp only [sum_features, h0, hbi]
    exact sum_one g (fun h j => u (ix2 (row' t b) (column (group k h) j))) (fun h j => bi (ix2 (column (group k h) j) p))

/-- A slab's outputs are its groups'. -/
theorem output_of (h0 : ∀ t b k g j, x0 (ix2 (row t b) (lane k (feature g j))) = u (ix2 (row' t b) (column (group k g) j)))
    (hs : ∀ k g b p, slabStates x0 x1 x3 x5 k b (state g p) = groupStates u pr pi br bi hr hi b (group k g) p)
    (hcr : ∀ k g h j p, x2 (ix3 k (re (state h p)) (feature g j)) = if h = g then cr (ix4 0 (group k g) j p) else 0)
    (hci : ∀ k g h j p, x2 (ix3 k (im (state h p)) (feature g j)) = if h = g then - ci (ix4 0 (group k g) j p) else 0)
    (hd : ∀ k g j, x4 (ix2 0 (lane k (feature g j))) = d (ix3 0 (group k g) j))
    (t : Fin 4) (b : Fin 32) (k g : Fin 8) (j : Fin 16) :
    out0_6 x0 x1 x2 x3 x4 x5 (ix2 (row t b) (lane k (feature g j))) = output u pr pi br bi cr ci d hr hi t b (group k g) j := by
  rw [out6_at, hd, h0]
  unfold output
  refine congrArg (· + _) (congrArg₂ (HAdd.hAdd (α := EReal) (β := EReal) (γ := EReal)) ?_ ?_)
  · simp only [sum_states, hs, hcr]
    exact sum_one g (fun h p => (groupStates u pr pi br bi hr hi b (group k h) p t).1) (fun _ p => cr (ix4 0 (group k g) j p))
  · simp only [sum_states, hs, hci]
    exact sum_one g (fun h p => (groupStates u pr pi br bi hr hi b (group k h) p t).2) (fun _ p => - ci (ix4 0 (group k g) j p))
end Arrays

/-- The call's slabs hold its groups' states. -/
theorem slab_states (c : Dev nD) (k g : Fin 8) (b : Fin 32) (p : Fin 64) :
    slabStates (V m c main_v59) (V m c main_v28) (V m c main_v4) (V m c main_v56) k b (state g p)
      = groupStates (argU m c) (argPr m c) (argPi m c) (argBr m c) (argBi m c) (argHr m c) (argHi m c) b (group k g) p :=
  states_of _ _ _ _ _ _ _ _ _ _ _ (get_u m c) (get_br m c) (get_bi m c) (get_pr m c) (get_pi m c) (get_hr m c) (get_hi m c) k g b p

/-- The windows' blocks are the whole arrays: the grid has one point. -/
theorem idx (t : Fin grid0.N) : win0_0.index t = ![0, 0] ∧ win0_1.index t = ![0, 0, 0] ∧ win0_2.index t = ![0, 0, 0]
    ∧ win0_3.index t = ![0, 0, 0] ∧ win0_4.index t = ![0, 0] ∧ win0_5.index t = ![0, 0, 0]
    ∧ win0_6.index t = ![0, 0] ∧ win0_7.index t = ![0, 0, 0] := by
  revert t; decide +kernel
/-- The first window's block: the input. -/
theorem blk0 (c : Dev nD) (t : Fin cfg0.N) : iblk m c 0 t = V m c main_v59 := by
  have h := (idx t).1
  funext i
  blk_ext [iblk, h]
/-- The second window's block: the input weights by slabs. -/
theorem blk1 (c : Dev nD) (t : Fin cfg0.N) : iblk m c 1 t = V m c main_v28 := by
  have h := (idx t).2.1
  funext i
  blk_ext [iblk, h]
/-- The third window's block: the output weights by slabs. -/
theorem blk2 (c : Dev nD) (t : Fin cfg0.N) : iblk m c 2 t = V m c main_v47 := by
  have h := (idx t).2.2.1
  funext i
  blk_ext [iblk, h]
/-- The fourth window's block: the factor's powers by slabs. -/
theorem blk3 (c : Dev nD) (t : Fin cfg0.N) : iblk m c 3 t = V m c main_v4 := by
  have h := (idx t).2.2.2.1
  funext i
  blk_ext [iblk, h]
/-- The fifth window's block: the direct weights. -/
theorem blk4 (c : Dev nD) (t : Fin cfg0.N) : iblk m c 4 t = V m c main_v49 := by
  have h := (idx t).2.2.2.2.1
  funext i
  blk_ext [iblk, h]
/-- The sixth window's block: the first states by slabs. -/
theorem blk5 (c : Dev nD) (t : Fin cfg0.N) : iblk m c 5 t = V m c main_v56 := by
  have h := (idx t).2.2.2.2.2.1
  funext i
  blk_ext [iblk, h]

/-- The kernel's outputs and states, in the order in which the call leaves them. -/
theorem final6 (c : Dev nD) : (dats m 0 c).arrAt 6 cfg0.N
    = out0_6 (V m c main_v59) (V m c main_v28) (V m c main_v47) (V m c main_v4) (V m c main_v49) (V m c main_v56) := by
  refine (dats m 0 c).arrAt_eq_of_covers 6 _ (by decide +kernel) fun t hf y => ?_
  blk_simp
  rw [after0_6, blk0, blk1, blk2, blk3, blk4, blk5]
  have h := (idx t).2.2.2.2.2.2.1
  have hemb : (win0_6.blk t).view.emb y = y := by
    blk_ext [h]
  rw [hemb]
/-- The array of the last states holds what the body stores. -/
theorem final7 (c : Dev nD) : (dats m 0 c).arrAt 7 cfg0.N
    = out0_7 (V m c main_v59) (V m c main_v28) (V m c main_v47) (V m c main_v4) (V m c main_v49) (V m c main_v56) := by
  refine (dats m 0 c).arrAt_eq_of_covers 7 _ (by decide +kernel) fun t hf y => ?_
  blk_simp
  rw [after0_7, blk0, blk1, blk2, blk3, blk4, blk5]
  have h := (idx t).2.2.2.2.2.2.2
  have hemb : (win0_7.blk t).view.emb y = y := by
    blk_ext [h]
  rw [hemb]

/-- The kernel's output at a feature of a group, and its last states. -/
theorem final6_at (c : Dev nD) (t : Fin 4) (b : Fin 32) (k g : Fin 8) (j : Fin 16) :
    (dats m 0 c).arrAt 6 cfg0.N (ix2 (row t b) (lane k (feature g j)))
      = output (argU m c) (argPr m c) (argPi m c) (argBr m c) (argBi m c) (argCr m c) (argCi m c) (argD m c) (argHr m c) (argHi m c)
          t b (group k g) j := by
  rw [final6]
  exact output_of _ _ _ _ _ _ _ _ _ _ _ _ _ _ _ _ (get_u m c) (slab_states m c) (get_cr m c) (get_ci m c) (get_d m c) t b k g j
/-- The kernel's last states, real parts. -/
theorem final7_re (c : Dev nD) (b : Fin 32) (k g : Fin 8) (p : Fin 64) :
    (dats m 0 c).arrAt 7 cfg0.N (ix3 k b (re (state g p)))
      = (groupStates (argU m c) (argPr m c) (argPi m c) (argBr m c) (argBi m c) (argHr m c) (argHi m c) b (group k g) p 3).1 := by
  rw [final7]
  exact (out7_re _ _ _ _ _ _ k b _).trans (congrArg (fun s => (s 3).1) (slab_states m c k g b p))
/-- The kernel's last states, imaginary parts. -/
theorem final7_im (c : Dev nD) (b : Fin 32) (k g : Fin 8) (p : Fin 64) :
    (dats m 0 c).arrAt 7 cfg0.N (ix3 k b (im (state g p)))
      = (groupStates (argU m c) (argPr m c) (argPi m c) (argBr m c) (argBi m c) (argHr m c) (argHi m c) b (group k g) p 3).2 := by
  rw [final7]
  exact (out7_im _ _ _ _ _ _ k b _).trans (congrArg (fun s => (s 3).2) (slab_states m c k g b p))

end Cert.S5StepsIdeal.Groups

end
-- ==== Proof.S5Steps.lean ====
module

public import proofs.«01_k».proof.Proof.S5StepsGroups
public import proofs.«01_k».proof.Proof.Gen.S5StepsRefIdeal.Run
public import proofs.«01_k».proof.Defs
public import Idealize.ShloMosaic.Lib.Pointwise
public import Idealize.ShloMosaic.Adequacy

/-! The reference's four steps, group by group, and the claims on the recurrence's steps. -/

@[expose] public section

set_option maxRecDepth 16384

noncomputable section

namespace Cert.S5StepsRefIdeal.Groups

open Cert.S5StepsRefIdeal Cert.S5StepsRefIdeal.Gen Cert.S5StepsRefIdeal.Value Idealize.ShloMosaic Idealize.ShloMosaic.TcCoe Idealize.SL.Sem
open Idealize.ShloMosaic.Tactic Idealize.ShloMosaic.StableHlo
open Cert.S5StepsIdeal.Slab (after step stepR stepI row lane re im)
open Cert.S5StepsIdeal.Groups (groupStates output column row' group state feature)

variable (V0 : Valuation τ sig (Elt Ideal))

/-- The reference's arguments. -/
def inU : S128x1024.Idx → EReal := V0 (Proc.devRef .tc main_arg0)
/-- The reference's argument: the real parts of the factor's powers. -/
def inPr : S64x64x64.Idx → EReal := V0 (Proc.devRef .tc main_arg1)
/-- The reference's argument: the imaginary parts of the factor's powers. -/
def inPi : S64x64x64.Idx → EReal := V0 (Proc.devRef .tc main_arg2)
/-- The reference's argument: the real parts of the input weights. -/
def inBr : S1024x64.Idx → EReal := V0 (Proc.devRef .tc main_arg3)
/-- The reference's argument: the imaginary parts of the input weights. -/
def inBi : S1024x64.Idx → EReal := V0 (Proc.devRef .tc main_arg4)
/-- The reference's argument: the real parts of the output weights. -/
def inCr : S1x64x16x64.Idx → EReal := V0 (Proc.devRef .tc main_arg5)
/-- The reference's argument: the imaginary parts of the output weights. -/
def inCi : S1x64x16x64.Idx → EReal := V0 (Proc.devRef .tc main_arg6)
/-- The reference's argument: the direct weights. -/
def inD : S1x64x16.Idx → EReal := V0 (Proc.devRef .tc main_arg7)
/-- The reference's argument: the real parts of the first states. -/
def inHr : S1x32x64x64.Idx → EReal := V0 (Proc.devRef .tc main_arg8)
/-- The reference's argument: the imaginary parts of the first states. -/
def inHi : S1x32x64x64.Idx → EReal := V0 (Proc.devRef .tc main_arg9)

/-- The recurrence's factors, the input by groups, its part of the states, and the first states. -/
theorem ar_at (G p : Fin 64) : res_main_v1 V0 (ix2 G p) = inPr V0 (ix3 1 G p) := by
  pointwise [res_main_v1]
  rfl
/-- The imaginary part of a lane's factor. -/
theorem ai_at (G p : Fin 64) : res_main_v3 V0 (ix2 G p) = inPi V0 (ix3 1 G p) := by
  pointwise [res_main_v3]
  rfl
/-- The input by sequences, positions and groups. -/
theorem u_at (b : Fin 32) (t : Fin 4) (G : Fin 64) (j : Fin 16) :
    res_main_v4 V0 (ix4 b t G j) = inU V0 (ix2 (row' t b) (column G j)) := by
  pointwise [res_main_v4]
  exact congrArg (inU V0) (by congr 1 <;> exact Fin.ext (by simp only [row', column]; omega))
/-- The input's part of the state, real. -/
theorem br_at (b : Fin 32) (t : Fin 4) (G p : Fin 64) :
    res_main_v7 V0 (ix4 b t G p) = ∑ j : Fin 16, inU V0 (ix2 (row' t b) (column G j)) * inBr V0 (ix2 (column G j) p) := by
  pointwise [res_main_v7, u_at]
  change (_ : EReal) = _
  exact Finset.sum_congr rfl fun j _ => congrArg (HMul.hMul (α := EReal) (β := EReal) (γ := EReal) _)
    (congrArg (inBr V0) (by congr 1; exact Fin.ext (by simp only [column]; omega)))
/-- The input's part of the state, imaginary. -/
theorem bi_at (b : Fin 32) (t : Fin 4) (G p : Fin 64) :
    res_main_v10 V0 (ix4 b t G p) = ∑ j : Fin 16, inU V0 (ix2 (row' t b) (column G j)) * inBi V0 (ix2 (column G j) p) := by
  pointwise [res_main_v10, u_at]
  change (_ : EReal) = _
  exact Finset.sum_congr rfl fun j _ => congrArg (HMul.hMul (α := EReal) (β := EReal) (γ := EReal) _)
    (congrArg (inBi V0) (by congr 1; exact Fin.ext (by simp only [column]; omega)))
/-- The first state, real. -/
theorem hr_at (b : Fin 32) (G p : Fin 64) : res_main_v11 V0 (ix3 b G p) = inHr V0 (ix4 0 b G p) := by
  pointwise [res_main_v11]
  rfl
/-- The first state, imaginary. -/
theorem hi_at (b : Fin 32) (G p : Fin 64) : res_main_v12 V0 (ix3 b G p) = inHi V0 (ix4 0 b G p) := by
  pointwise [res_main_v12]
  rfl

/-- The states that the arguments give. -/
def st (b : Fin 32) (G p : Fin 64) : Fin 4 → EReal × EReal :=
  groupStates (inU V0) (inPr V0) (inPi V0) (inBr V0) (inBi V0) (inHr V0) (inHi V0) b G p

/-- The reference's states after each step. -/
theorem s0r (b : Fin 32) (G p : Fin 64) : res_main_v22 V0 (ix3 b G p) = (st V0 b G p 0).1 := by
  pointwise [res_main_v22, ar_at, ai_at, hr_at, hi_at, br_at]
  rfl
/-- The imaginary part of the state after the first step. -/
theorem s0i (b : Fin 32) (G p : Fin 64) : res_main_v32 V0 (ix3 b G p) = (st V0 b G p 0).2 := by
  pointwise [res_main_v32, ar_at, ai_at, hr_at, hi_at, bi_at]
  rfl
/-- The real part of the state after the second step. -/
theorem s1r (b : Fin 32) (G p : Fin 64) : res_main_v64 V0 (ix3 b G p) = (st V0 b G p 1).1 := by
  pointwise [res_main_v64, ar_at, ai_at, s0r, s0i, br_at]
  rfl
/-- The imaginary part of the state after the second step. -/
theorem s1i (b : Fin 32) (G p : Fin 64) : res_main_v74 V0 (ix3 b G p) = (st V0 b G p 1).2 := by
  pointwise [res_main_v74, ar_at, ai_at, s0r, s0i, bi_at]
  rfl
/-- The real part of the state after the third step. -/
theorem s2r (b : Fin 32) (G p : Fin 64) : res_main_v106 V0 (ix3 b G p) = (st V0 b G p 2).1 := by
  pointwise [res_main_v106, ar_at, ai_at, s1r, s1i, br_at]
  rfl
/-- The imaginary part of the state after the third step. -/
theorem s2i (b : Fin 32) (G p : Fin 64) : res_main_v116 V0 (ix3 b G p) = (st V0 b G p 2).2 := by
  pointwise [res_main_v116, ar_at, ai_at, s1r, s1i, bi_at]
  rfl
/-- The real part of the state after the fourth step. -/
theorem s3r (b : Fin 32) (G p : Fin 64) : res_main_v148 V0 (ix3 b G p) = (st V0 b G p 3).1 := by
  pointwise [res_main_v148, ar_at, ai_at, s2r, s2i, br_at]
  rfl
/-- The imaginary part of the state after the fourth step. -/
theorem s3i (b : Fin 32) (G p : Fin 64) : res_main_v158 V0 (ix3 b G p) = (st V0 b G p 3).2 := by
  pointwise [res_main_v158, ar_at, ai_at, s2r, s2i, bi_at]
  rfl

/-- One output before the sum of products is split. -/
def out (t : Fin 4) (b : Fin 32) (G : Fin 64) (j : Fin 16) : EReal :=
  ∑ p : Fin 64, (inCr V0 (ix4 0 G j p) * (st V0 b G p t).1 - inCi V0 (ix4 0 G j p) * (st V0 b G p t).2)
    + inD V0 (ix3 0 G j) * inU V0 (ix2 (row' t b) (column G j))
/-- The sum of differences is the two sums of products. -/
theorem out_eq (t : Fin 4) (b : Fin 32) (G : Fin 64) (j : Fin 16) : out V0 t b G j
    = output (inU V0) (inPr V0) (inPi V0) (inBr V0) (inBi V0) (inCr V0) (inCi V0) (inD V0) (inHr V0) (inHi V0) t b G j := by
  unfold out output
  refine congrArg (· + _) ?_
  rw [← Finset.sum_add_distrib]
  refine Finset.sum_congr rfl fun p _ => ?_
  rw [sub_eq_add_neg, mul_comm, mul_comm (inCi V0 _), ← mul_neg]
  rfl

/-- Outputs at equal places are equal. -/
theorem out_congr (t : Fin 4) (b b' : Fin 32) (G G' : Fin 64) (j j' : Fin 16) (hb : (b : ℕ) = b') (hG : G = G') (hj : j = j') :
    out V0 t b G j = out V0 t b' G' j' := by
  obtain rfl : b = b' := Fin.ext hb
  subst hG hj
  rfl

/-- One entry of the reference's outputs. -/
theorem y_at (t : Fin 4) (b : Fin 32) (k g : Fin 8) (j : Fin 16) :
    res_main_v181 V0 (ix2 (row t b) (lane k (feature g j))) = out V0 t b (group k g) j := by
  pointwise [res_main_v181, s0r, s0i, s1r, s1i, s2r, s2i, s3r, s3i, u_at]
  have hG : (⟨(lane k (feature g j) : ℕ) / 16, by omega⟩ : Fin 64) = group k g :=
    Fin.ext (by simp only [lane, feature, group]; omega)
  have hj : (⟨(lane k (feature g j) : ℕ) % 16, by omega⟩ : Fin 16) = j :=
    Fin.ext (by simp only [lane, feature]; omega)
  match t with
  | 0 =>
    rw [dif_pos (by show 32 * 0 + (b : ℕ) < 32; omega)]
    exact out_congr V0 0 ⟨32 * 0 + (b : ℕ), by omega⟩ b _ _ _ _ (by show 32 * 0 + (b : ℕ) = b; omega) hG hj
  | 1 =>
    rw [dif_neg (by show ¬ 32 * 1 + (b : ℕ) < 32; omega), dif_pos (by show 32 * 1 + (b : ℕ) - 32 < 32; omega)]
    exact out_congr V0 1 ⟨32 * 1 + (b : ℕ) - 32, by omega⟩ b _ _ _ _ (by show 32 * 1 + (b : ℕ) - 32 = b; omega) hG hj
  | 2 =>
    rw [dif_neg (by show ¬ 32 * 2 + (b : ℕ) < 32; omega), dif_neg (by show ¬ 32 * 2 + (b : ℕ) - 32 < 32; omega), dif_pos (by show 32 * 2 + (b : ℕ) - 32 - 32 < 32; omega)]
    exact out_congr V0 2 ⟨32 * 2 + (b : ℕ) - 32 - 32, by omega⟩ b _ _ _ _ (by show 32 * 2 + (b : ℕ) - 32 - 32 = b; omega) hG hj
  | 3 =>
    rw [dif_neg (by show ¬ 32 * 3 + (b : ℕ) < 32; omega), dif_neg (by show ¬ 32 * 3 + (b : ℕ) - 32 < 32; omega), dif_neg (by show ¬ 32 * 3 + (b : ℕ) - 32 - 32 < 32; omega)]
    exact out_congr V0 3 ⟨32 * 3 + (b : ℕ) - 32 - 32 - 32, by omega⟩ b _ _ _ _ (by show 32 * 3 + (b : ℕ) - 32 - 32 - 32 = b; omega) hG hj

/-- The reference's last states, by slabs. -/
def lastStates : Vec Ideal S8x32x1024 .f32 :=
  concatenate S8x32x1024 2 [⟨S8x32x512, (transpose S8x32x512 [1, 0, 2] (shapeCast _ (res_main_v148 V0) shapeCasts_S32x64x64_S32x8x512)
    transposes_S32x8x512_S8x32x512_1_0_2)⟩, ⟨S8x32x512, (transpose S8x32x512 [1, 0, 2] (shapeCast _ (res_main_v158 V0)
    shapeCasts_S32x64x64_S32x8x512) transposes_S32x8x512_S8x32x512_1_0_2)⟩] concatenates_S8x32x512_S8x32x512_S8x32x1024_d2
/-- The reference's last states, real parts. -/
theorem h_re (b : Fin 32) (k g : Fin 8) (p : Fin 64) : lastStates V0 (ix3 k b (re (state g p))) = (st V0 b (group k g) p 3).1 := by
  pointwise [lastStates, s3r, s3i, re]
  rw [show (⟨(k : ℕ) * 8 + (state g p : ℕ) / 64, by omega⟩ : Fin 64) = group k g from Fin.ext (by simp only [state, group]; omega),
    show (⟨(state g p : ℕ) % 64, by omega⟩ : Fin 64) = p from Fin.ext (by simp only [state]; omega)]
/-- The reference's last states, imaginary parts. -/
theorem h_im (b : Fin 32) (k g : Fin 8) (p : Fin 64) : lastStates V0 (ix3 k b (im (state g p))) = (st V0 b (group k g) p 3).2 := by
  pointwise [lastStates, s3r, s3i, im]
  rw [show (⟨(k : ℕ) * 8 + (state g p : ℕ) / 64, by omega⟩ : Fin 64) = group k g from Fin.ext (by simp only [state, group]; omega),
    show (⟨(state g p : ℕ) % 64, by omega⟩ : Fin 64) = p from Fin.ext (by simp only [state]; omega)]

end Cert.S5StepsRefIdeal.Groups

namespace Cert.Proof.S5StepsClaims

open Idealize.ShloMosaic Idealize.SL.Sem Idealize.ShloMosaic.Tactic
open Cert.S5StepsIdeal.Groups Cert.S5StepsIdeal.Slab

/-- The reference runs, ends quiescent, and leaves its arguments as they were. -/
theorem frame_ri : Cert.quiescent_S5StepsRefIdeal := fun m ρ _ =>
  (θ_run Cert.S5StepsRefIdeal.defs _ _).mono (fun r h => ⟨fun c => (h c).2.2, sem_eq_zero_of_no_sems (by decide) r.2⟩)
    (Cert.S5StepsRefIdeal.Value.run (F := Ideal) m ρ)

/-- Kernel and reference end with equal results. -/
theorem algebraic : Cert.algebraic_S5StepsIdeal_S5StepsRefIdeal := by
  intro m ρ m' ρ' _ hagree
  refine ⟨_, _, Cert.S5StepsIdeal.Value.run_blocks m ρ, ?_⟩
  refine (θ_run Cert.S5StepsRefIdeal.defs _ _).mono (fun _ h c => ⟨(h c).1.trans ?_, (h c).2.1.trans ?_, (h c).2.2⟩)
    (Cert.S5StepsRefIdeal.Value.run (F := Ideal) m' ρ')
  · obtain ⟨h0, h1, h2, h3, h4, h5, h6, h7, h8, h9⟩ := hagree c
    funext y
    obtain ⟨r, l, rfl⟩ : ∃ (r : Fin 128) (l : Fin 1024), y = ix2 r l := ⟨y 0, y 1, eq_ix2 y⟩
    obtain ⟨t, b, rfl⟩ := exists_row r
    obtain ⟨k, l, rfl⟩ := exists_lane l
    obtain ⟨g, j, rfl⟩ := exists_feature l
    refine ((Cert.S5StepsRefIdeal.Groups.y_at _ t b k g j).trans (Cert.S5StepsRefIdeal.Groups.out_eq _ t b _ j)).trans
      (Eq.trans ?_ (final6_at m c t b k g j).symm)
    rw [show Cert.S5StepsRefIdeal.Groups.inU (StableHlo.launchContents m' c) = Cert.S5StepsIdeal.Steps.argU m c from h0,
      show Cert.S5StepsRefIdeal.Groups.inPr (StableHlo.launchContents m' c) = Cert.S5StepsIdeal.Steps.argPr m c from h1,
      show Cert.S5StepsRefIdeal.Groups.inPi (StableHlo.launchContents m' c) = Cert.S5StepsIdeal.Steps.argPi m c from h2,
      show Cert.S5StepsRefIdeal.Groups.inBr (StableHlo.launchContents m' c) = Cert.S5StepsIdeal.Steps.argBr m c from h3,
      show Cert.S5StepsRefIdeal.Groups.inBi (StableHlo.launchContents m' c) = Cert.S5StepsIdeal.Steps.argBi m c from h4,
      show Cert.S5StepsRefIdeal.Groups.inCr (StableHlo.launchContents m' c) = Cert.S5StepsIdeal.Steps.argCr m c from h5,
      show Cert.S5StepsRefIdeal.Groups.inCi (StableHlo.launchContents m' c) = Cert.S5StepsIdeal.Steps.argCi m c from h6,
      show Cert.S5StepsRefIdeal.Groups.inD (StableHlo.launchContents m' c) = Cert.S5StepsIdeal.Steps.argD m c from h7,
      show Cert.S5StepsRefIdeal.Groups.inHr (StableHlo.launchContents m' c) = Cert.S5StepsIdeal.Steps.argHr m c from h8,
      show Cert.S5StepsRefIdeal.Groups.inHi (StableHlo.launchContents m' c) = Cert.S5StepsIdeal.Steps.argHi m c from h9]
  · obtain ⟨h0, h1, h2, h3, h4, h5, h6, h7, h8, h9⟩ := hagree c
    funext y
    obtain ⟨k, b, x, rfl⟩ : ∃ (k : Fin 8) (b : Fin 32) (x : Fin 1024), y = ix3 k b x := ⟨y 0, y 1, y 2, eq_ix3 y⟩
    rcases exists_part x with ⟨x, rfl⟩ | ⟨x, rfl⟩
    · obtain ⟨g, p, rfl⟩ := exists_state x
      refine (Cert.S5StepsRefIdeal.Groups.h_re _ b k g p).trans (Eq.trans ?_ (final7_re m c b k g p).symm)
      unfold Cert.S5StepsRefIdeal.Groups.st
      rw [show Cert.S5StepsRefIdeal.Groups.inU (StableHlo.launchContents m' c) = Cert.S5StepsIdeal.Steps.argU m c from h0,
      show Cert.S5StepsRefIdeal.Groups.inPr (StableHlo.launchContents m' c) = Cert.S5StepsIdeal.Steps.argPr m c from h1,
      show Cert.S5StepsRefIdeal.Groups.inPi (StableHlo.launchContents m' c) = Cert.S5StepsIdeal.Steps.argPi m c from h2,
      show Cert.S5StepsRefIdeal.Groups.inBr (StableHlo.launchContents m' c) = Cert.S5StepsIdeal.Steps.argBr m c from h3,
      show Cert.S5StepsRefIdeal.Groups.inBi (StableHlo.launchContents m' c) = Cert.S5StepsIdeal.Steps.argBi m c from h4,
      show Cert.S5StepsRefIdeal.Groups.inHr (StableHlo.launchContents m' c) = Cert.S5StepsIdeal.Steps.argHr m c from h8,
      show Cert.S5StepsRefIdeal.Groups.inHi (StableHlo.launchContents m' c) = Cert.S5StepsIdeal.Steps.argHi m c from h9]
    · obtain ⟨g, p, rfl⟩ := exists_state x
      refine (Cert.S5StepsRefIdeal.Groups.h_im _ b k g p).trans (Eq.trans ?_ (final7_im m c b k g p).symm)
      unfold Cert.S5StepsRefIdeal.Groups.st
      rw [show Cert.S5StepsRefIdeal.Groups.inU (StableHlo.launchContents m' c) = Cert.S5StepsIdeal.Steps.argU m c from h0,
      show Cert.S5StepsRefIdeal.Groups.inPr (StableHlo.launchContents m' c) = Cert.S5StepsIdeal.Steps.argPr m c from h1,
      show Cert.S5StepsRefIdeal.Groups.inPi (StableHlo.launchContents m' c) = Cert.S5StepsIdeal.Steps.argPi m c from h2,
      show Cert.S5StepsRefIdeal.Groups.inBr (StableHlo.launchContents m' c) = Cert.S5StepsIdeal.Steps.argBr m c from h3,
      show Cert.S5StepsRefIdeal.Groups.inBi (StableHlo.launchContents m' c) = Cert.S5StepsIdeal.Steps.argBi m c from h4,
      show Cert.S5StepsRefIdeal.Groups.inHr (StableHlo.launchContents m' c) = Cert.S5StepsIdeal.Steps.argHr m c from h8,
      show Cert.S5StepsRefIdeal.Groups.inHi (StableHlo.launchContents m' c) = Cert.S5StepsIdeal.Steps.argHi m c from h9]

end Cert.Proof.S5StepsClaims

end
-- ==== Proof.S5OutSample.lean ====
/-
  THE S5 LAYER'S OUTPUT OF THE SAMPLE: as for the prompt (`Cert.S5OutIdeal.Row`), of the sample's 128 rows, which the kernel takes as
  one block.
-/
module

public import proofs.«01_k».proof.Defs
public import proofs.«01_k».proof.Proof.Gen.S5OutSampleIdeal.Value
public import proofs.«01_k».proof.Proof.Gen.S5OutSampleRefIdeal.Run
public import proofs.«01_k».proof.Proof.Norm
public import proofs.«01_k».proof.Proof.S5Out
public import Idealize.ShloMosaic.Lib.Pipeline.ValueKit
public import Idealize.ShloMosaic.Lib.StableHlo.ReadAt
public import Idealize.ShloMosaic.Lib.Pointwise
public import Idealize.ShloMosaic.Adequacy

@[expose] public section

set_option maxRecDepth 16384

noncomputable section

namespace Cert.S5OutSampleIdeal.Row

open Cert.S5OutSampleIdeal Cert.S5OutSampleIdeal.Gen Idealize.ShloMosaic Idealize.ShloMosaic.TcCoe Idealize.SL.Sem
open Idealize.ShloMosaic.Tactic
open Cert.Norm (norm)
open Cert.S5OutIdeal.Row (gelu glu residual)

/-- Row `r` before the norm, from the arguments. -/
def before (y z x : S128x1024.Idx → EReal) (wg : S1x1024x1024.Idx → EReal) (bg : S1x1024.Idx → EReal)
    (wo : S1x1024x1024.Idx → EReal) (r : Fin 128) : Fin 1024 → EReal :=
  residual (fun e => y (ix2 r e)) (fun e => z (ix2 r e)) (fun e => x (ix2 r e)) (fun d e => wg (ix3 0 d e)) (fun e => bg (ix2 0 e))
    (fun d e => wo (ix3 0 d e))

/-- The result: the layer norm of each row. -/
def out (y z x : S128x1024.Idx → EReal) (wg : S1x1024x1024.Idx → EReal) (bg : S1x1024.Idx → EReal)
    (wo : S1x1024x1024.Idx → EReal) (g b : S2x1024.Idx → EReal) : S128x1024.Idx → EReal :=
  fun j => norm (before y z x wg bg wo (j 0)) (g (ix2 1 (j 1))) (b (ix2 1 (j 1))) (j 1)

variable (m : (ℓ : Loc nD τ sig) → Buf (Elt Ideal) ℓ)

/-- The arguments, as arrays of extended reals. -/
def argY (c : Dev nD) : S128x1024.Idx → EReal := m ((c : Thread nD τ).loc main_arg0)
/-- The call's argument: the gate. -/
def argZ (c : Dev nD) : S128x1024.Idx → EReal := m ((c : Thread nD τ).loc main_arg1)
/-- The call's argument: the layer's input. -/
def argX (c : Dev nD) : S128x1024.Idx → EReal := m ((c : Thread nD τ).loc main_arg2)
/-- The call's argument: the gated unit's weights. -/
def argWg (c : Dev nD) : S1x1024x1024.Idx → EReal := m ((c : Thread nD τ).loc main_arg3)
/-- The call's argument: the gated unit's bias. -/
def argBg (c : Dev nD) : S1x1024.Idx → EReal := m ((c : Thread nD τ).loc main_arg4)
/-- The call's argument: the output weights. -/
def argWo (c : Dev nD) : S1x1024x1024.Idx → EReal := m ((c : Thread nD τ).loc main_arg5)
/-- The call's argument: the norms' scales. -/
def argG (c : Dev nD) : S2x1024.Idx → EReal := m ((c : Thread nD τ).loc main_arg6)
/-- The call's argument: the norms' shifts. -/
def argB (c : Dev nD) : S2x1024.Idx → EReal := m ((c : Thread nD τ).loc main_arg7)

/-- The weights and vectors as the call gets them are the arguments'. -/
theorem weights_g (c : Dev nD) (d e : Fin 1024) : V m c main_v1 (ix2 d e) = argWg m c (ix3 0 d e) := by
  unfold argWg V
  after_reads_at
/-- The gated unit's bias as the call gets it is the argument. -/
theorem bias_g (c : Dev nD) (e : Fin 1024) : V m c main_v3 (ix2 0 e) = argBg m c (ix2 0 e) := by
  unfold argBg V
  after_reads_at
/-- The output weights as the call gets them are the argument's. -/
theorem weights_o (c : Dev nD) (d e : Fin 1024) : V m c main_v5 (ix2 d e) = argWo m c (ix3 0 d e) := by
  unfold argWo V
  after_reads_at
/-- The norm's scale as the call gets it is the argument's row. -/
theorem scale (c : Dev nD) (e : Fin 1024) : V m c main_v8 (ix2 0 e) = argG m c (ix2 1 e) := by
  unfold argG V
  after_reads_at
/-- The norm's shift as the call gets it is the argument's row. -/
theorem shift (c : Dev nD) (e : Fin 1024) : V m c main_v11 (ix2 0 e) = argB m c (ix2 1 e) := by
  unfold argB V
  after_reads_at

/-- Where each window's block sits. -/
theorem idx (t : Fin grid0.N) : win0_0.index t = ![(grid0.coords t 0).val, 0] ∧ win0_1.index t = ![(grid0.coords t 0).val, 0]
    ∧ win0_2.index t = ![(grid0.coords t 0).val, 0] ∧ win0_3.index t = ![0, 0] ∧ win0_4.index t = ![0, 0]
    ∧ win0_5.index t = ![0, 0] ∧ win0_6.index t = ![0, 0] ∧ win0_7.index t = ![0, 0]
    ∧ win0_8.index t = ![(grid0.coords t 0).val, 0] := by
  revert t; decide +kernel

/-- Row `r` of block `i`. -/
def row (i : grid0.Coords) (r : Fin 128) : Fin 128 := ⟨128 * (i 0).val + r, by have : (i 0).val < 1 := (i 0).isLt; omega⟩

/-- The windows' blocks: rows of the first three arguments, and whole arrays. -/
theorem blk0 (c : Dev nD) (t : Fin cfg0.N) (r : Fin 128) (d : Fin 1024) :
    iblk m c 0 t (ix2 r d) = argY m c (ix2 (row (grid0.coords t) r) d) := by
  have h := (idx t).1
  rw [argY, ← V_main_arg0 m c]
  blk_ext [iblk, h, row]
/-- The second window's block: its rows of the gate. -/
theorem blk1 (c : Dev nD) (t : Fin cfg0.N) (r : Fin 128) (d : Fin 1024) :
    iblk m c 1 t (ix2 r d) = argZ m c (ix2 (row (grid0.coords t) r) d) := by
  have h := (idx t).2.1
  rw [argZ, ← V_main_arg1 m c]
  blk_ext [iblk, h, row]
/-- The third window's block: 512 rows of the layer's input. -/
theorem blk2 (c : Dev nD) (t : Fin cfg0.N) (r : Fin 128) (d : Fin 1024) :
    iblk m c 2 t (ix2 r d) = argX m c (ix2 (row (grid0.coords t) r) d) := by
  have h := (idx t).2.2.1
  rw [argX, ← V_main_arg2 m c]
  blk_ext [iblk, h, row]
/-- The fourth window's block: the gated unit's weights. -/
theorem blk3 (c : Dev nD) (t : Fin cfg0.N) (d e : Fin 1024) : iblk m c 3 t (ix2 d e) = argWg m c (ix3 0 d e) := by
  have h := (idx t).2.2.2.1
  rw [← weights_g]
  blk_ext [iblk, h]
/-- The fifth window's block: the gated unit's bias. -/
theorem blk4 (c : Dev nD) (t : Fin cfg0.N) (e : Fin 1024) : iblk m c 4 t (ix2 0 e) = argBg m c (ix2 0 e) := by
  have h := (idx t).2.2.2.2.1
  rw [← bias_g]
  blk_ext [iblk, h]
/-- The sixth window's block: the output weights. -/
theorem blk5 (c : Dev nD) (t : Fin cfg0.N) (d e : Fin 1024) : iblk m c 5 t (ix2 d e) = argWo m c (ix3 0 d e) := by
  have h := (idx t).2.2.2.2.2.1
  rw [← weights_o]
  blk_ext [iblk, h]
/-- The seventh window's block: the norm's scale. -/
theorem blk6 (c : Dev nD) (t : Fin cfg0.N) (e : Fin 1024) : iblk m c 6 t (ix2 0 e) = argG m c (ix2 1 e) := by
  have h := (idx t).2.2.2.2.2.2.1
  rw [← scale]
  blk_ext [iblk, h]
/-- The eighth window's block: the norm's shift. -/
theorem blk7 (c : Dev nD) (t : Fin cfg0.N) (e : Fin 1024) : iblk m c 7 t (ix2 0 e) = argB m c (ix2 1 e) := by
  have h := (idx t).2.2.2.2.2.2.2.1
  rw [← shift]
  blk_ext [iblk, h]

/-- One entry of the kernel's row before the norm. -/
theorem residual_at (y : Vec Ideal S128x1024 .f32) (wg : Vec Ideal S1024x1024 .bf16) (bg : Vec Ideal S1x1024 .f32)
    (z : Vec Ideal S128x1024 .f32) (wo : Vec Ideal S1024x1024 .bf16) (x : Vec Ideal S128x1024 .f32) (r : Fin 128) (e : Fin 1024) :
    k0_pay2 y wg bg z wo x (ix2 r e) = residual (fun e => y (ix2 r e)) (fun e => z (ix2 r e)) (fun e => x (ix2 r e))
      (fun d e => wg (ix2 d e)) (fun e => bg (ix2 0 e)) (fun d e => wo (ix2 d e)) e := by
  have cube (a : EReal) : a * (a * a) = a * a * a := (mul_assoc a a a).symm
  pointwise [k0_pay2]
  simp only [cube]
  rfl

/-- One entry of the block that a grid point stores: the norm of its row. -/
theorem stored (v : FVec Ideal S128x1024 .f32) (g : FVec Ideal S1x1024 .f32) (b : Vec Ideal S1x1024 .f32) (r : Fin 128)
    (l : Fin 1024) : k0_pay1 v g b (ix2 r l) = norm (fun e => v (ix2 r e)) (g (ix2 0 l)) (b (ix2 0 l)) l := by
  pointwise [k0_pay1]
  rfl

/-- THE KERNEL'S RESULT. -/
theorem final (c : Dev nD) : (dats m 0 c).arrAt 8 cfg0.N
    = out (argY m c) (argZ m c) (argX m c) (argWg m c) (argBg m c) (argWo m c) (argG m c) (argB m c) := by
  refine (dats m 0 c).arrAt_eq_of_covers 8 _ (by decide +kernel) fun t hf y => ?_
  blk_simp
  rw [after0_8]
  frame_out
  obtain ⟨r, l, rfl⟩ : ∃ (r : Fin 128) (l : Fin 1024), y = ix2 r l := ⟨y 0, y 1, eq_ix2 y⟩
  have hidx := (idx t).2.2.2.2.2.2.2.2
  have hemb : (win0_8.blk t).view.emb (ix2 r l) = ix2 (row (grid0.coords t) r) l := by
    blk_ext [hidx, row]
  rw [hemb]
  pointwise [stored, residual_at, k0_pay3, blk0, blk1, blk2, blk3, blk4, blk5, blk6, blk7]
  rfl

end Cert.S5OutSampleIdeal.Row

namespace Cert.S5OutSampleRefIdeal.Row

open Cert.S5OutSampleRefIdeal Cert.S5OutSampleRefIdeal.Gen Idealize.ShloMosaic Idealize.ShloMosaic.TcCoe Idealize.SL.Sem
open Idealize.ShloMosaic.Tactic
open Cert.Norm (norm mean)
open Cert.S5OutIdeal.Row (gelu glu)

/-- An array of one float. -/
def fill (s : Shape) (h : S_.BroadcastsInDim s ![]) (c : BitVec 32) : FVec Ideal s .f32 := broadcastInDim s ![] h (constant S_ .f32 c)
/-- An array filled with one value. -/
def wide (c : BitVec 32) : FVec Ideal S128x1024 .f32 := fill S128x1024 bcast_S_S128x1024 c

/-- `gelu` and the sigmoid of an array. -/
def geluV (y : FVec Ideal S128x1024 .f32) : FVec Ideal S128x1024 .f32 :=
  mulf y (mulf (wide 0x3F000000#32) (addf (wide 0x3F800000#32) (Host.tanh (mulf (wide 0x3F4C422A#32)
    (addf y (mulf (wide 0x3D372713#32) (mulf (mulf y y) y)))))))
/-- The reference's logistic function of an array. -/
def sigmoidV (h : FVec Ideal S128x1024 .f32) : FVec Ideal S128x1024 .f32 :=
  Host.divf (wide 0x3F800000#32) (addf (wide 0x3F800000#32) (Host.exp (Host.negf h)))

/-- An array times square weights. -/
def times (a : FVec Ideal S128x1024 .f32) (w : FVec Ideal S1x1024x1024 .f32) : FVec Ideal S128x1024 .f32 :=
  Host.dotGeneral dot_S128x1024_S1024x1024_S128x1024_1_0_0_1_n_n none a (shapeCast _ w shapeCasts_S1x1024x1024_S1024x1024)

/-- The gated activation. -/
def gluV (y : FVec Ideal S128x1024 .f32) (w : FVec Ideal S1x1024x1024 .f32) (b : FVec Ideal S1x1024 .f32) :
    FVec Ideal S128x1024 .f32 :=
  mulf (geluV y) (sigmoidV (addf (times (geluV y) w) (broadcastInDim S128x1024 ![0, 1] bcast_S1x1024_S128x1024_0_1
    (broadcastInDim S1x1024 ![1] bcast_S1024_S1x1024_1 (shapeCast _ b shapeCasts_S1x1024_S1024)))))

/-- The rows before the norm. -/
def pre (y z x : FVec Ideal S128x1024 .f32) (wg : FVec Ideal S1x1024x1024 .f32) (bg : FVec Ideal S1x1024 .f32)
    (wo : FVec Ideal S1x1024x1024 .f32) : FVec Ideal S128x1024 .f32 :=
  addf (mulf (broadcastInDim S128x1024 ![] bcast_S_S128x1024 (Host.sqrt (Host.sqrt (constant S_ .f32 0x40800000#32)))) x)
    (times (mulf (gluV y wg bg) (mulf z (sigmoidV z))) wo)

/-- The mean of each row, as a column. -/
def means (v : FVec Ideal S128x1024 .f32) : FVec Ideal S128x1 .f32 :=
  Host.divf (broadcastInDim S128x1 ![0] bcast_S128_S128x1_0
    (Host.reduceAdd v (constant S_ .f32 0x00000000#32) reducesTo_S128x1024_S128_d1 h_S_))
    (fill S128x1 bcast_S_S128x1 0x44800000#32)

/-- The rows less their means. -/
def centred (v : FVec Ideal S128x1024 .f32) : FVec Ideal S128x1024 .f32 :=
  subf v (broadcastInDim S128x1024 ![0, 1] bcast_S128x1_S128x1024_0_1 (means v))

/-- Row 1 of a pair of rows, for every row of the result. -/
def spread (g : FVec Ideal S2x1024 .f32) : FVec Ideal S128x1024 .f32 :=
  broadcastInDim S128x1024 ![0, 1] bcast_S1x1024_S128x1024_0_1 (broadcastInDim S1x1024 ![1] bcast_S1024_S1x1024_1
    (shapeCast _ (extractStridedSlice S1x1024 ![1, 0] g slices_S2x1024_S1x1024_1_0) shapeCasts_S1x1024_S1024))

/-- The layer norm of the rows. -/
def normed (v : FVec Ideal S128x1024 .f32) (g b : FVec Ideal S2x1024 .f32) : FVec Ideal S128x1024 .f32 :=
  addf (mulf (mulf (centred v) (broadcastInDim S128x1024 ![0, 1] bcast_S128x1_S128x1024_0_1
    (Host.rsqrt (addf (means (mulf (centred v) (centred v))) (fill S128x1 bcast_S_S128x1 0x3727C5AC#32))))) (spread g)) (spread b)

/-- The mean of a row, as the reference computes it. -/
theorem means_at (v : FVec Ideal S128x1024 .f32) (r : Fin 128) : means v (ix2 r 0) = mean (fun e => v (ix2 r e)) := by
  pointwise [means, fill]
  simp [mean]

/-- An entry less its row's mean. -/
theorem centred_at (v : FVec Ideal S128x1024 .f32) (r : Fin 128) (l : Fin 1024) :
    centred v (ix2 r l) = v (ix2 r l) - mean (fun e => v (ix2 r e)) := by
  pointwise [centred, means_at]

/-- A norm's vector spread over the rows reads the vector at the column. -/
theorem spread_at (g : FVec Ideal S2x1024 .f32) (r : Fin 128) (l : Fin 1024) : spread g (ix2 r l) = g (ix2 1 l) := by
  pointwise [spread]

/-- One entry of the reference's norm: the norm of its row. -/
theorem normed_at (v : FVec Ideal S128x1024 .f32) (g b : FVec Ideal S2x1024 .f32) (r : Fin 128) (l : Fin 1024) :
    normed v g b (ix2 r l) = norm (fun e => v (ix2 r e)) (g (ix2 1 l)) (b (ix2 1 l)) l := by
  pointwise [normed, fill, means_at, centred_at, spread_at]
  rfl

/-- An entry of each piece of the rows before the norm. -/
theorem gelu_at (y : FVec Ideal S128x1024 .f32) (r : Fin 128) (e : Fin 1024) : geluV y (ix2 r e) = gelu (y (ix2 r e)) := by
  pointwise [geluV, wide, fill]
  rfl
/-- One entry of the reference's logistic function. -/
theorem sigmoid_at (h : FVec Ideal S128x1024 .f32) (r : Fin 128) (e : Fin 1024) :
    sigmoidV h (ix2 r e) = Ideal.logistic (h (ix2 r e)) := by
  pointwise [sigmoidV, wide, fill]
  rfl
/-- One entry of a product with a layer's weights: the sum over the inputs. -/
theorem times_at (a : FVec Ideal S128x1024 .f32) (w : FVec Ideal S1x1024x1024 .f32) (r : Fin 128) (e : Fin 1024) :
    times a w (ix2 r e) = ∑ d : Fin 1024, a (ix2 r d) * w (ix3 0 d e) := by
  pointwise [times]
/-- One entry of the reference's gated unit. -/
theorem glu_at (y : FVec Ideal S128x1024 .f32) (w : FVec Ideal S1x1024x1024 .f32) (b : FVec Ideal S1x1024 .f32) (r : Fin 128)
    (e : Fin 1024) : gluV y w b (ix2 r e) = glu (fun e => y (ix2 r e)) (fun d e => w (ix3 0 d e)) (fun e => b (ix2 0 e)) e := by
  pointwise [gluV, gelu_at, sigmoid_at, times_at]
  rfl
/-- One entry of the reference's array before the norm. -/
theorem pre_at (y z x : FVec Ideal S128x1024 .f32) (wg : FVec Ideal S1x1024x1024 .f32) (bg : FVec Ideal S1x1024 .f32)
    (wo : FVec Ideal S1x1024x1024 .f32) (r : Fin 128) (e : Fin 1024) :
    pre y z x wg bg wo (ix2 r e) = Cert.S5OutSampleIdeal.Row.before y z x wg bg wo r e := by
  pointwise [pre, glu_at, sigmoid_at, times_at]
  rw [Cert.Norm.alpha]
  rfl

/-- THE REFERENCE'S RESULT. -/
theorem ref (y z x : FVec Ideal S128x1024 .f32) (wg : FVec Ideal S1x1024x1024 .f32) (bg : FVec Ideal S1x1024 .f32)
    (wo : FVec Ideal S1x1024x1024 .f32) (g b : FVec Ideal S2x1024 .f32) :
    normed (pre y z x wg bg wo) g b = Cert.S5OutSampleIdeal.Row.out y z x wg bg wo g b := by
  funext j
  obtain ⟨r, l, rfl⟩ : ∃ (r : Fin 128) (l : Fin 1024), j = ix2 r l := ⟨j 0, j 1, eq_ix2 j⟩
  rw [normed_at]
  simp only [pre_at]
  rfl

end Cert.S5OutSampleRefIdeal.Row

namespace Cert.Proof.S5OutSampleClaims

open Idealize.ShloMosaic Idealize.SL.Sem

/-- The reference runs, ends quiescent, and leaves its arguments as they were. -/
theorem frame_ri : Cert.quiescent_S5OutSampleRefIdeal := fun m ρ _ =>
  (θ_run Cert.S5OutSampleRefIdeal.defs _ _).mono (fun r h => ⟨fun c => (h c).2, sem_eq_zero_of_no_sems (by decide) r.2⟩)
    (Cert.S5OutSampleRefIdeal.Value.run (F := Ideal) m ρ)

/-- Kernel and reference end with equal results. -/
theorem algebraic : Cert.algebraic_S5OutSampleIdeal_S5OutSampleRefIdeal := by
  intro m ρ m' ρ' _ hagree
  refine ⟨_, Cert.S5OutSampleIdeal.Value.run_blocks m ρ, ?_⟩
  refine (θ_run Cert.S5OutSampleRefIdeal.defs _ _).mono (fun _ h c => ⟨(h c).1.trans ?_, (h c).2⟩)
    (Cert.S5OutSampleRefIdeal.Value.run (F := Ideal) m' ρ')
  obtain ⟨h0, h1, h2, h3, h4, h5, h6, h7⟩ := hagree c
  rw [Cert.S5OutSampleRefIdeal.Value.res_main_v62, h0, h1, h2, h3, h4, h5, h6, h7]
  exact (Cert.S5OutSampleRefIdeal.Row.ref _ _ _ _ _ _ _ _).trans (Cert.S5OutSampleIdeal.Row.final m c).symm

end Cert.Proof.S5OutSampleClaims

end
-- ==== Proof.Sums.lean ====
/-
  THE RUNNING SUMS OF THE LOG FORGET GATES. The kernel takes 256 positions at a time: it multiplies them by a triangular matrix of
  ones, adds the sum of the positions before, which it carries along, and transposes by a product with the identity. Each factor
  is taken in three parts, of which over the reals the first is the whole and the others are zero. Both sides are stated by the
  sum of the real numbers up to a position.
-/
module

public import proofs.«01_k».proof.Defs
public import proofs.«01_k».proof.Proof.Gen.SumsIdeal.Value
public import proofs.«01_k».proof.Proof.Gen.SumsRefIdeal.Run
public import proofs.«01_k».proof.Proof.Gen.Pre_finite_sums
public import proofs.«01_k».proof.Proof.Pre
public import Idealize.ShloMosaic.Lib.Pipeline.ReadBack
public import Idealize.ShloMosaic.Lib.Pipeline.ValueKit
public import Idealize.ShloMosaic.Lib.StableHlo.ReadAt
public import Idealize.ShloMosaic.Lib.Routing.OpsOne
public import Idealize.ShloMosaic.Lib.Pointwise
public import Idealize.ShloMosaic.Adequacy

@[expose] public section

set_option maxRecDepth 16384

noncomputable section

namespace Cert.Sums.Row

open Idealize.ShloMosaic Cert.Attn

/-- The log forget gates' shape. -/
abbrev SL : Shape := ⟨2, ![16384, 16]⟩

/-- The gate of head `h` at position `k`, as a real number. -/
def gate (x : SL.Idx → EReal) (h : Fin 16) (k : ℕ) : ℝ := if hk : k < 16384 then (x (ix2 ⟨k, hk⟩ h)).toReal else 0

/-- The sum of the first `n` gates of head `h`. -/
def upto (x : SL.Idx → EReal) (h : Fin 16) (n : ℕ) : ℝ := ∑ k ∈ Finset.range n, gate x h k

/-- The result: at each head and position the sum of the gates up to and with the position. -/
def out (x : SL.Idx → EReal) : SC.Idx → EReal := fun j => (upto x (j 0) ((j 1).val + 1) : EReal)

/-- A finite array's gate is the array's entry. -/
theorem gate_eq {x : SL.Idx → EReal} (hx : Finite x) (h : Fin 16) (k : Fin 16384) : x (ix2 k h) = (gate x h k : EReal) := by
  rw [gate, dif_pos k.isLt]
  exact hx _

/-- Choosing by the signed comparison `a ≥ b` of two small numbers is choosing by `b ≤ a`. -/
theorem select_sge {α : Type} (a b : ℕ) (ha : a < 2 ^ 31) (hb : b < 2 ^ 31) (x y : α) :
    Scalar.select (IntOp.cmpi .sge (BitVec.ofNat 32 a) (BitVec.ofNat 32 b)) x y = if b ≤ a then x else y :=
  select_sle b a hb ha x y

/-- The sum over the positions of a block up to the row `r`. -/
theorem sum_rows (w : ℕ → ℝ) (r : Fin 256) :
    (∑ s : Fin 256, if (s : ℕ) ≤ r then (w s : EReal) else 0) = ((∑ k ∈ Finset.range (r + 1), w k : ℝ) : EReal) := by
  have h1 : ∀ s : Fin 256, (if (s : ℕ) ≤ r then (w s : EReal) else 0) = (((if (s : ℕ) ≤ r then w s else 0 : ℝ)) : EReal) := by
    intro s
    split_ifs
    · rfl
    · rfl
  rw [Finset.sum_congr rfl fun s _ => h1 s, ← coe_sum]
  congr 1
  rw [← Finset.sum_range fun k => if k ≤ (r : ℕ) then w k else 0, ← Finset.sum_filter]
  refine Finset.sum_congr (Finset.ext fun k => ?_) fun _ _ => rfl
  have hr := r.isLt
  simp only [Finset.mem_filter, Finset.mem_range]
  omega

end Cert.Sums.Row

namespace Cert.SumsIdeal.Row

open Cert.SumsIdeal Cert.SumsIdeal.Gen Idealize.ShloMosaic Idealize.ShloMosaic.TcCoe Idealize.SL.Sem
open Idealize.ShloMosaic.Tactic
open Cert.Attn (Finite)
open Cert.Sums.Row

/-- One entry of a block's running sums: what is carried in, and the block's gates up to the row. -/
theorem acc_at (v : Vec Ideal S1x16 .f32) (x : Vec Ideal S256x16 .f32) (h : Fin 16) (a : ℝ) (w : ℕ → ℝ)
    (hv : v (ix2 0 h) = (a : EReal)) (hx : ∀ s : Fin 256, x (ix2 s h) = (w s : EReal)) (r : Fin 256) :
    k0_pay3 v x (ix2 r h) = ((a + ∑ k ∈ Finset.range (r + 1), w k : ℝ) : EReal) := by
  have e : ∀ t : ℝ, (t : EReal) - (t : EReal) = 0 := fun t => by rw [← EReal.coe_sub, sub_self, EReal.coe_zero]
  pointwise [k0_pay3]
  simp (disch := omega) only [select_sge, hv, hx, e, sub_zero, ite_self, Finset.sum_const_zero, add_zero, sum_rows, EReal.coe_add]

/-- One entry of the block stored: the transposed block's. -/
theorem store_at (v : FVec Ideal S256x16 .bf16) (w : FVec Ideal S256x16 .f32) (r : Fin 256) (h : Fin 16)
    (hw : ∀ k : Fin 16, w (ix2 r k) = 0) : k0_pay1 k0_pay5 k0_pay6 v w (ix2 h r) = v (ix2 r h) := by
  have e : ∀ a b : Fin 16, ((a : ℕ) = (b : ℕ)) ↔ b = a := fun a b => ⟨fun q => (Fin.ext q).symm, fun q => congrArg _ q.symm⟩
  pointwise [k0_pay1, k0_pay5, k0_pay6]
  simp (disch := omega) only [Cert.Attn.select_eq, hw, sub_zero, ite_self, Finset.sum_const_zero, add_zero, e]
  exact Fintype.sum_ite_eq' h _

/-- What is carried on: the block's last row. -/
theorem next_at (v : Vec Ideal S1x16 .f32) (x : Vec Ideal S256x16 .f32) (h : Fin 16) :
    k0_pay4 v x (ix2 0 h) = k0_pay3 v x (ix2 255 h) := by
  pointwise [k0_pay4]

/-- One entry of the block stored, from what is carried in and the block's gates. -/
theorem stored (v : Vec Ideal S1x16 .f32) (x : Vec Ideal S256x16 .f32) (a : Fin 16 → ℝ) (w : Fin 16 → ℕ → ℝ)
    (hv : ∀ h, v (ix2 0 h) = (a h : EReal)) (hx : ∀ h (s : Fin 256), x (ix2 s h) = (w h s : EReal)) (r : Fin 256) (h : Fin 16) :
    k0_pay1 k0_pay5 k0_pay6 (k0_pay7 v x) (k0_pay8 v x) (ix2 h r)
      = ((a h + ∑ k ∈ Finset.range (r + 1), w h k : ℝ) : EReal) := by
  have e : ∀ t : ℝ, (t : EReal) - (t : EReal) = 0 := fun t => by rw [← EReal.coe_sub, sub_self, EReal.coe_zero]
  rw [store_at]
  · pointwise [k0_pay7]
    exact acc_at v x h (a h) (w h) (hv h) (hx h) r
  · intro k
    pointwise [k0_pay8, k0_pay7]
    rw [acc_at v x k (a k) (w k) (hv k) (hx k) r, e]

variable (m : (ℓ : Loc nD τ sig) → Buf (Elt Ideal) ℓ)

/-- The argument, as an array of extended reals. -/
def arg (c : Dev nD) : S16384x16.Idx → EReal := m ((c : Thread nD τ).loc main_arg0)

/-- Where each window's block sits. -/
theorem idx (t : Fin grid0.N) : win0_0.index t = ![t.val, 0] ∧ win0_1.index t = ![0, t.val] := by
  revert t; decide +kernel

/-- Position `r` of block `t`. -/
def row (t : Fin grid0.N) (r : Fin 256) : Fin 16384 := ⟨256 * t.val + r, by have := lt_of_lt_of_eq t.isLt N_0; omega⟩

/-- The input window's block: 256 positions. -/
theorem blk0 (c : Dev nD) (t : Fin cfg0.N) (r : Fin 256) (h : Fin 16) : iblk m c 0 t (ix2 r h) = arg m c (ix2 (row t r) h) := by
  have e := (idx t).1
  rw [arg, ← V_main_arg0 m c]
  blk_ext [iblk, e, row]

variable {m}

/-- Block `t`'s gates as real numbers: of head `h` at the block's row `r`. -/
def gates (x : S16384x16.Idx → EReal) (t : ℕ) (h : Fin 16) (r : ℕ) : ℝ := gate x h (256 * t + r)

/-- The block's entries are the gates. -/
theorem blk_gate {c : Dev nD} (hx : Finite (arg m c)) (t : Fin cfg0.N) (h : Fin 16) (r : Fin 256) :
    iblk m c 0 t (ix2 r h) = (gates (arg m c) t.val h r : EReal) := by
  rw [blk0]
  exact gate_eq hx h (row t r)

/-- The gates before a block and the block's first ones are the gates up to there. -/
theorem upto_add (x : S16384x16.Idx → EReal) (h : Fin 16) (n r : ℕ) :
    upto x h n + ∑ k ∈ Finset.range r, gate x h (n + k) = upto x h (n + r) :=
  (Finset.sum_range_add _ _ _).symm

/-- AFTER EACH POINT: the output block holds the running sums of its positions, and the sum of all positions so far is carried on. -/
theorem after {c : Dev nD} (hx : Finite (arg m c)) : ∀ (n : ℕ) (hn : n < cfg0.N),
    (∀ (h : Fin 16) (r : Fin 256), (outsAt0 m c n hn).1 (ix2 h r) = (upto (arg m c) h (256 * n + (r + 1)) : EReal))
    ∧ ∀ h : Fin 16, (outsAt0 m c n hn).2 (ix2 0 h) = (upto (arg m c) h (256 * n + 256) : EReal)
  | 0, hn => by
    have hz : ∀ h : Fin 16, k0_pay2 (F := Ideal) (ix2 0 h) = (((fun _ => 0 : Fin 16 → ℝ) h : ℝ) : EReal) := by
      intro h
      pointwise [k0_pay2]
      rfl
    rw [outsAt0_A m c ⟨0, hn⟩ (Nat.zero_mod _)]
    constructor
    · intro h r
      dsimp only
      frame_out
      rw [stored _ _ _ (gates (arg m c) 0) hz (blk_gate hx ⟨0, hn⟩) r h, ← upto_add]
      simp [upto, gates]
    · intro h
      dsimp only
      frame_out
      rw [next_at, acc_at _ _ h _ (gates (arg m c) 0 h) (hz h) (blk_gate hx ⟨0, hn⟩ h), ← upto_add]
      simp [upto, gates]
  | n + 1, hn => by
    have ih : ∀ h : Fin 16, (outsAt0 m c (n + 1 - 1) (lt_of_le_of_lt (Nat.sub_le _ _) hn)).2 (ix2 0 h)
        = (upto (arg m c) h (256 * n + 256) : EReal) := (after hx n (Nat.lt_of_succ_lt hn)).2
    have hN := lt_of_lt_of_eq hn N_0
    have e : 256 * (n + 1) = 256 * n + 256 := by ring
    rw [outsAt0_B m c ⟨n + 1, hn⟩ (by show ¬(n + 1) % 64 = 0; omega)]
    dsimp only
    generalize (outsAt0 m c (n + 1 - 1) _).2 = s0 at ih ⊢
    constructor
    · intro h r
      frame_out
      rw [read_unread_whole, stored _ _ _ (gates (arg m c) (n + 1)) ih (blk_gate hx ⟨n + 1, hn⟩) r h, ← upto_add _ _ (256 * (n + 1))]
      simp only [gates]
      rw [e]
    · intro h
      frame_out
      rw [read_unread_whole, next_at, acc_at _ _ h _ (gates (arg m c) (n + 1) h) (ih h) (blk_gate hx ⟨n + 1, hn⟩ h), ← upto_add _ _ (256 * (n + 1))]
      simp only [gates]
      rw [e]
      rfl

/-- THE KERNEL'S RESULT. -/
theorem final {c : Dev nD} (hx : Finite (arg m c)) : (dats m 0 c).arrAt 1 cfg0.N = out (arg m c) := by
  refine (dats m 0 c).arrAt_eq_of_covers 1 _ (by decide +kernel) fun t hf y => ?_
  blk_simp
  rw [after0_1]
  obtain ⟨h, r, rfl⟩ : ∃ (h : Fin 16) (r : Fin 256), y = ix2 h r := ⟨y 0, y 1, eq_ix2 y⟩
  have hidx := (idx t).2
  have hemb : (win0_1.blk t).view.emb (ix2 h r) = ix2 h (row t r) := by
    blk_ext [hidx, row]
  rw [hemb]
  exact (after hx t.val t.isLt).1 h r

end Cert.SumsIdeal.Row

namespace Cert.SumsRefIdeal.Row

open Cert.SumsRefIdeal Cert.SumsRefIdeal.Gen Idealize.ShloMosaic Idealize.ShloMosaic.TcCoe Idealize.SL.Sem
open Idealize.ShloMosaic.Tactic
open Cert.Attn (Finite coe_sum)
open Cert.Sums.Row

/-- A fold of additions is a sum. -/
theorem fold_sum {n : ℕ} (f : Fin n → EReal) (v : EReal) : (List.finRange n).foldl (fun r k => r + f k) v = v + ∑ k, f k := by
  rw [Fin.sum_univ_def]
  generalize List.finRange n = l
  induction l generalizing v with
  | nil => simp
  | cons a l ih => rw [List.foldl_cons, ih, List.map_cons, List.sum_cons, add_assoc]

/-- The gates in the window of position `t` are those up to it. -/
theorem window (g : ℕ → ℝ) {N : ℕ} (hN : N = 16384) (t : Fin 16384) :
    ∑ n : Fin N, (if 16383 ≤ t.val + n.val then g (t.val + n.val - 16383) else 0) = ∑ k ∈ Finset.range (t.val + 1), g k := by
  rw [← Finset.sum_range fun n => if 16383 ≤ t.val + n then g (t.val + n - 16383) else 0]
  have ht := t.isLt
  have e : N = (16383 - t.val) + (t.val + 1) := by omega
  rw [e, Finset.sum_range_add, Finset.sum_eq_zero, zero_add]
  · refine Finset.sum_congr rfl fun k hk => ?_
    rw [Finset.mem_range] at hk
    rw [if_pos (by omega)]
    exact congrArg g (by omega)
  · intro k hk
    rw [Finset.mem_range] at hk
    rw [if_neg (by omega)]

/-- THE REFERENCE'S RUNNING SUM at position `t` of head `h`. -/
theorem sum_at {x : S16384x16.Idx → EReal} (hx : Finite x) (hw : S16384x16.ReduceWindows ![16384, 1] ![1, 1] ![16383, 0] ![0, 0] S16384x16)
    (hu : 0 < (⟨0, ![]⟩ : Shape).numel) (t : Fin 16384) (h : Fin 16) :
    Host.reduceWindow (· + ·) ![16384, 1] ![1, 1] ![16383, 0] ![0, 0] x (fun _ : (⟨0, ![]⟩ : Shape).Idx => (0 : EReal)) hw hu (ix2 t h)
      = (upto x h (t.val + 1) : EReal) := by
  unfold Host.reduceWindow
  rw [fold_sum, zero_add, upto, ← window (gate x h) (Routing.numel_col 16384) t, coe_sum]
  refine Finset.sum_congr rfl fun n _ => ?_
  have ht := t.isLt
  have hh := h.isLt
  have hn : n.val < 16384 := (n.cast (Routing.numel_col 16384)).isLt
  have h0 : ((⟨2, ![16384, 1]⟩ : Shape).rowMajor.symm n 0).val = n.val := by rw [Routing.symm_col]; rfl
  have h1 : ((⟨2, ![16384, 1]⟩ : Shape).rowMajor.symm n 1).val = 0 := by rw [Routing.symm_col]; rfl
  by_cases hp : 16383 ≤ t.val + n.val
  · have hin : ∀ a : Fin 2, (![16383, 0] : Fin 2 → ℕ) a ≤ ((ix2 t h : S16384x16.Idx) a).val * (![1, 1] : Fin 2 → ℕ) a + ((⟨2, ![16384, 1]⟩ : Shape).rowMajor.symm n a).val
        ∧ ((ix2 t h : S16384x16.Idx) a).val * (![1, 1] : Fin 2 → ℕ) a + ((⟨2, ![16384, 1]⟩ : Shape).rowMajor.symm n a).val - (![16383, 0] : Fin 2 → ℕ) a < S16384x16.size a := by
      intro a
      match a with
      | ⟨0, _⟩ =>
        show 16383 ≤ t.val * 1 + ((⟨2, ![16384, 1]⟩ : Shape).rowMajor.symm n 0).val
          ∧ t.val * 1 + ((⟨2, ![16384, 1]⟩ : Shape).rowMajor.symm n 0).val - 16383 < 16384
        rw [h0]; omega
      | ⟨1, _⟩ =>
        show 0 ≤ h.val * 1 + ((⟨2, ![16384, 1]⟩ : Shape).rowMajor.symm n 1).val
          ∧ h.val * 1 + ((⟨2, ![16384, 1]⟩ : Shape).rowMajor.symm n 1).val - 0 < 16
        rw [h1]; omega
    rw [if_pos hp]
    refine (dif_pos hin).trans ?_
    rw [← gate_eq hx h ⟨t.val + n.val - 16383, by omega⟩]
    refine congrArg x (funext fun a => Fin.ext ?_)
    match a with
    | ⟨0, _⟩ =>
      show t.val * 1 + ((⟨2, ![16384, 1]⟩ : Shape).rowMajor.symm n 0).val - 16383 = t.val + n.val - 16383
      rw [h0, Nat.mul_one]
    | ⟨1, _⟩ =>
      show h.val * 1 + ((⟨2, ![16384, 1]⟩ : Shape).rowMajor.symm n 1).val - 0 = h.val
      rw [h1]; omega
  · rw [if_neg hp]
    refine (dif_neg fun hin => hp ?_).trans EReal.coe_zero.symm
    have q := (hin (0 : Fin 2)).1
    change 16383 ≤ t.val * 1 + ((⟨2, ![16384, 1]⟩ : Shape).rowMajor.symm n 0).val at q
    rw [h0] at q
    omega

/-- The zero the sums start from. -/
theorem zero_init (hb : S_.BroadcastsInDim S_ (![] : Fin 0 → Fin S_.rank)) (j : S_.Idx) :
    broadcastInDim S_ ![] hb (constant (F := Ideal) S_ .f32 0x00000000#32) j = (0 : EReal) := by
  show FloatOps.ofBits (F := Ideal) .f32 0x00000000#32 = (0 : EReal)
  simp

/-- The transpose swaps the two coordinates. -/
theorem turn (Y : FVec Ideal S16384x16 .f32) (h : Fin 16) (t : Fin 16384) :
    transpose S16x16384 [1, 0] Y transposes_S16384x16_S16x16384_1_0 (ix2 h t) = Y (ix2 t h) := by
  pointwise []

/-- THE REFERENCE'S RESULT. -/
theorem ref {x : S16384x16.Idx → EReal} (hx : Finite x) :
    transpose S16x16384 [1, 0] (Host.reduceWindowAdd (F := Ideal) (φ := .f32) ![16384, 1] ![1, 1] ![16383, 0] ![0, 0] x
        (broadcastInDim S_ ![] bcast_S_S_ (constant (F := Ideal) S_ .f32 0x00000000#32))
        reduceWindows_S16384x16_S16384x16_w16384s1p16383_0_w1s1p0_0 h_S_) transposes_S16384x16_S16x16384_1_0 = out x := by
  funext j
  obtain ⟨h, t, rfl⟩ : ∃ (h : Fin 16) (t : Fin 16384), j = ix2 h t := ⟨j 0, j 1, eq_ix2 j⟩
  unfold Host.reduceWindowAdd
  rw [turn, Ideal.hostReduceWindowAdd_def, zero_init, Ideal.hostReduceWindowAdd]
  exact sum_at hx reduceWindows_S16384x16_S16384x16_w16384s1p16383_0_w1s1p0_0 _ t h

end Cert.SumsRefIdeal.Row

namespace Cert.Proof.SumsClaims

open Idealize.ShloMosaic Idealize.ShloMosaic.TcCoe Idealize.SL.Sem
open Cert.Attn (Finite)

/-- The reference runs, and its argument ends unchanged. -/
theorem frame_ri : Cert.quiescent_SumsRefIdeal := fun m ρ _ =>
  (θ_run Cert.SumsRefIdeal.defs _ _).mono (fun r h => ⟨fun c => (h c).2, sem_eq_zero_of_no_sems (by decide) r.2⟩)
    (Cert.SumsRefIdeal.Value.run (F := Ideal) m ρ)

/-- THE PRECONDITION: the gates are real numbers. -/
theorem finite_of_pre {x : FVec Ideal Cert.Pre_finite_sums.S16384x16 .f32} (h : Cert.Pre_finite_sums.fn x = fun _ => 1#1) : Finite x := by
  have e := congrFun h ix0
  dsimp only [Cert.Pre_finite_sums.fn] at e
  exact Cert.Pre_finite.Attn.finite_of_all e

/-- Kernel and reference end with equal results, where the gates are finite. -/
theorem algebraic : Cert.algebraic_SumsIdeal_SumsRefIdeal_pre_finite_sums := by
  intro m ρ m' ρ' hpre hagree
  refine ⟨_, Cert.SumsIdeal.Value.run_blocks m ρ, ?_⟩
  refine (θ_run Cert.SumsRefIdeal.defs _ _).mono (fun _ h c => ⟨(h c).1.trans ?_, (h c).2⟩)
    (Cert.SumsRefIdeal.Value.run (F := Ideal) m' ρ')
  have hx : Finite (Cert.SumsIdeal.Row.arg m c) := finite_of_pre (hpre c)
  rw [hagree c]
  exact (Cert.SumsRefIdeal.Row.ref hx).trans (Cert.SumsIdeal.Row.final hx).symm

end Cert.Proof.SumsClaims

end
-- ==== Proof.lean ====
/-
  THE CLAIM. Each program runs and ends quiescent with its arguments unchanged; each literal that an exact kernel reads as
  a named number is that number rounded; and over the extended reals each kernel and its reference end with equal results:
  the attention on finite queries, keys and decay sums, the projections and norms on any arguments.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Array
public import proofs.«01_k».proof.Proof.RefValue
public import proofs.«01_k».proof.Proof.Pre
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.InProjSample
public import proofs.«01_k».proof.Proof.Gen.InProjSample.Skeleton
public import proofs.«01_k».proof.Proof.Gen.InProjSample.Launch
public import proofs.«01_k».proof.Proof.Gen.InProjSample.Points
public import proofs.«01_k».proof.Proof.Gen.InProjSample.Frame
public import proofs.«01_k».proof.Proof.Gen.InProjSampleIdeal
public import proofs.«01_k».proof.Proof.Gen.InProjSampleIdeal.Skeleton
public import proofs.«01_k».proof.Proof.Gen.InProjSampleIdeal.Launch
public import proofs.«01_k».proof.Proof.Gen.InProjSampleIdeal.Points
public import proofs.«01_k».proof.Proof.Gen.InProjSampleIdeal.Frame
public import proofs.«01_k».proof.Proof.Gen.InProjSampleIdeal.Value
public import proofs.«01_k».proof.Proof.Gen.InProjSampleRefIdeal
public import proofs.«01_k».proof.Proof.Gen.InProjSampleRefIdeal.Run
public import proofs.«01_k».proof.Proof.Gen.AttnOut
public import proofs.«01_k».proof.Proof.Gen.AttnOut.Skeleton
public import proofs.«01_k».proof.Proof.Gen.AttnOut.Launch
public import proofs.«01_k».proof.Proof.Gen.AttnOut.Points
public import proofs.«01_k».proof.Proof.Gen.AttnOut.Frame
public import proofs.«01_k».proof.Proof.Gen.AttnOutIdeal
public import proofs.«01_k».proof.Proof.Gen.AttnOutIdeal.Skeleton
public import proofs.«01_k».proof.Proof.Gen.AttnOutIdeal.Launch
public import proofs.«01_k».proof.Proof.Gen.AttnOutIdeal.Points
public import proofs.«01_k».proof.Proof.Gen.AttnOutIdeal.Frame
public import proofs.«01_k».proof.Proof.Gen.AttnOutIdeal.Value
public import proofs.«01_k».proof.Proof.Gen.AttnOutRefIdeal
public import proofs.«01_k».proof.Proof.Gen.AttnOutRefIdeal.Run
public import proofs.«01_k».proof.Proof.Gen.S5In
public import proofs.«01_k».proof.Proof.Gen.S5In.Skeleton
public import proofs.«01_k».proof.Proof.Gen.S5In.Launch
public import proofs.«01_k».proof.Proof.Gen.S5In.Points
public import proofs.«01_k».proof.Proof.Gen.S5In.Frame
public import proofs.«01_k».proof.Proof.Gen.S5InIdeal
public import proofs.«01_k».proof.Proof.Gen.S5InIdeal.Skeleton
public import proofs.«01_k».proof.Proof.Gen.S5InIdeal.Launch
public import proofs.«01_k».proof.Proof.Gen.S5InIdeal.Points
public import proofs.«01_k».proof.Proof.Gen.S5InIdeal.Frame
public import proofs.«01_k».proof.Proof.Gen.S5InIdeal.Value
public import proofs.«01_k».proof.Proof.Gen.S5InRefIdeal
public import proofs.«01_k».proof.Proof.Gen.S5InRefIdeal.Run
public import proofs.«01_k».proof.Proof.Gen.S5Out
public import proofs.«01_k».proof.Proof.Gen.S5Out.Skeleton
public import proofs.«01_k».proof.Proof.Gen.S5Out.Launch
public import proofs.«01_k».proof.Proof.Gen.S5Out.Points
public import proofs.«01_k».proof.Proof.Gen.S5Out.Frame
public import proofs.«01_k».proof.Proof.Gen.S5OutIdeal
public import proofs.«01_k».proof.Proof.Gen.S5OutIdeal.Skeleton
public import proofs.«01_k».proof.Proof.Gen.S5OutIdeal.Launch
public import proofs.«01_k».proof.Proof.Gen.S5OutIdeal.Points
public import proofs.«01_k».proof.Proof.Gen.S5OutIdeal.Frame
public import proofs.«01_k».proof.Proof.Gen.S5OutIdeal.Value
public import proofs.«01_k».proof.Proof.Gen.S5OutRefIdeal
public import proofs.«01_k».proof.Proof.Gen.S5OutRefIdeal.Run
public import proofs.«01_k».proof.Proof.InProj
public import proofs.«01_k».proof.Proof.InProjSample
public import proofs.«01_k».proof.Proof.AttnOut
public import proofs.«01_k».proof.Proof.S5In
public import proofs.«01_k».proof.Proof.S5Out
public import proofs.«01_k».proof.Proof.Gen.AttnOutSample
public import proofs.«01_k».proof.Proof.Gen.AttnOutSample.Skeleton
public import proofs.«01_k».proof.Proof.Gen.AttnOutSample.Launch
public import proofs.«01_k».proof.Proof.Gen.AttnOutSample.Points
public import proofs.«01_k».proof.Proof.Gen.AttnOutSample.Frame
public import proofs.«01_k».proof.Proof.Gen.AttnOutSampleIdeal
public import proofs.«01_k».proof.Proof.Gen.AttnOutSampleIdeal.Skeleton
public import proofs.«01_k».proof.Proof.Gen.AttnOutSampleIdeal.Launch
public import proofs.«01_k».proof.Proof.Gen.AttnOutSampleIdeal.Points
public import proofs.«01_k».proof.Proof.Gen.AttnOutSampleIdeal.Frame
public import proofs.«01_k».proof.Proof.Gen.AttnOutSampleIdeal.Value
public import proofs.«01_k».proof.Proof.Gen.AttnOutSampleRefIdeal
public import proofs.«01_k».proof.Proof.Gen.AttnOutSampleRefIdeal.Run
public import proofs.«01_k».proof.Proof.Gen.S5InSample
public import proofs.«01_k».proof.Proof.Gen.S5InSample.Skeleton
public import proofs.«01_k».proof.Proof.Gen.S5InSample.Launch
public import proofs.«01_k».proof.Proof.Gen.S5InSample.Points
public import proofs.«01_k».proof.Proof.Gen.S5InSample.Frame
public import proofs.«01_k».proof.Proof.Gen.S5InSampleIdeal
public import proofs.«01_k».proof.Proof.Gen.S5InSampleIdeal.Skeleton
public import proofs.«01_k».proof.Proof.Gen.S5InSampleIdeal.Launch
public import proofs.«01_k».proof.Proof.Gen.S5InSampleIdeal.Points
public import proofs.«01_k».proof.Proof.Gen.S5InSampleIdeal.Frame
public import proofs.«01_k».proof.Proof.Gen.S5InSampleIdeal.Value
public import proofs.«01_k».proof.Proof.Gen.S5InSampleRefIdeal
public import proofs.«01_k».proof.Proof.Gen.S5InSampleRefIdeal.Run
public import proofs.«01_k».proof.Proof.Gen.S5Steps
public import proofs.«01_k».proof.Proof.Gen.S5Steps.Skeleton
public import proofs.«01_k».proof.Proof.Gen.S5Steps.Launch
public import proofs.«01_k».proof.Proof.Gen.S5Steps.Points
public import proofs.«01_k».proof.Proof.Gen.S5Steps.Frame
public import proofs.«01_k».proof.Proof.Gen.S5StepsIdeal
public import proofs.«01_k».proof.Proof.Gen.S5StepsIdeal.Skeleton
public import proofs.«01_k».proof.Proof.Gen.S5StepsIdeal.Launch
public import proofs.«01_k».proof.Proof.Gen.S5StepsIdeal.Points
public import proofs.«01_k».proof.Proof.Gen.S5StepsIdeal.Frame
public import proofs.«01_k».proof.Proof.Gen.S5StepsIdeal.Value
public import proofs.«01_k».proof.Proof.Gen.S5StepsRefIdeal
public import proofs.«01_k».proof.Proof.Gen.S5StepsRefIdeal.Run
public import proofs.«01_k».proof.Proof.Gen.S5OutSample
public import proofs.«01_k».proof.Proof.Gen.S5OutSample.Skeleton
public import proofs.«01_k».proof.Proof.Gen.S5OutSample.Launch
public import proofs.«01_k».proof.Proof.Gen.S5OutSample.Points
public import proofs.«01_k».proof.Proof.Gen.S5OutSample.Frame
public import proofs.«01_k».proof.Proof.Gen.S5OutSampleIdeal
public import proofs.«01_k».proof.Proof.Gen.S5OutSampleIdeal.Skeleton
public import proofs.«01_k».proof.Proof.Gen.S5OutSampleIdeal.Launch
public import proofs.«01_k».proof.Proof.Gen.S5OutSampleIdeal.Points
public import proofs.«01_k».proof.Proof.Gen.S5OutSampleIdeal.Frame
public import proofs.«01_k».proof.Proof.Gen.S5OutSampleIdeal.Value
public import proofs.«01_k».proof.Proof.Gen.S5OutSampleRefIdeal
public import proofs.«01_k».proof.Proof.Gen.S5OutSampleRefIdeal.Run
public import proofs.«01_k».proof.Proof.AttnOutSample
public import proofs.«01_k».proof.Proof.S5InSample
public import proofs.«01_k».proof.Proof.S5Steps
public import proofs.«01_k».proof.Proof.S5OutSample
public import proofs.«01_k».proof.Proof.Gen.Sums
public import proofs.«01_k».proof.Proof.Gen.Sums.Skeleton
public import proofs.«01_k».proof.Proof.Gen.Sums.Launch
public import proofs.«01_k».proof.Proof.Gen.Sums.Points
public import proofs.«01_k».proof.Proof.Gen.Sums.Frame
public import proofs.«01_k».proof.Proof.Gen.SumsIdeal
public import proofs.«01_k».proof.Proof.Gen.SumsIdeal.Skeleton
public import proofs.«01_k».proof.Proof.Gen.SumsIdeal.Launch
public import proofs.«01_k».proof.Proof.Gen.SumsIdeal.Points
public import proofs.«01_k».proof.Proof.Gen.SumsIdeal.Frame
public import proofs.«01_k».proof.Proof.Gen.SumsIdeal.Value
public import proofs.«01_k».proof.Proof.Gen.SumsRefIdeal
public import proofs.«01_k».proof.Proof.Gen.SumsRefIdeal.Run
public import proofs.«01_k».proof.Proof.Gen.Pre_finite_sums
public import proofs.«01_k».proof.Proof.Sums
public import Idealize.ShloMosaic.Adequacy
public import Idealize.ShloMosaic.Init

@[expose] public section

noncomputable section

namespace Cert.Proof

open Idealize.ShloMosaic Idealize.SL.Sem

/-- The two exact programs end with equal results: each with the attention of its own arguments, which agree. -/
theorem algebraic : Cert.algebraic_KernelIdeal_ReferenceIdeal_pre_finite := by
  intro m ρ m' ρ' hpre hagree
  refine ⟨_, Cert.KernelIdeal.Value.run_blocks m ρ, ?_⟩
  refine (θ_run Cert.ReferenceIdeal.defs _ _).mono (fun _ h c => ⟨(h c).1.trans ?_, (h c).2⟩)
    (Cert.ReferenceIdeal.Value.run (F := Ideal) m' ρ')
  obtain ⟨hq, hk, hc⟩ := Cert.Pre_finite.Attn.finite_of_pre (hpre c)
  rw [Cert.ReferenceIdeal.Attn.res_eq, (hagree c).1, (hagree c).2.1, (hagree c).2.2.1, (hagree c).2.2.2]
  exact (Cert.ReferenceIdeal.Attn.stages_eq _ hq hk hc).trans (Cert.KernelIdeal.Attn.final_eq hq hk hc).symm

/-- The reference runs, ends quiescent, and leaves its arguments as they were. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- THE CLAIM. -/
theorem claim : Cert.Claim :=
  ⟨Cert.Kernel.Gen.facts, Cert.KernelIdeal.Gen.facts, Cert.ReferenceIdeal.Gen.facts,
    Cert.InProj.Gen.facts, Cert.InProjIdeal.Gen.facts, Cert.InProjRefIdeal.Gen.facts,
    Cert.InProjSample.Gen.facts, Cert.InProjSampleIdeal.Gen.facts, Cert.InProjSampleRefIdeal.Gen.facts,
    Cert.AttnOut.Gen.facts, Cert.AttnOutIdeal.Gen.facts, Cert.AttnOutRefIdeal.Gen.facts,
    Cert.S5In.Gen.facts, Cert.S5InIdeal.Gen.facts, Cert.S5InRefIdeal.Gen.facts,
    Cert.S5Out.Gen.facts, Cert.S5OutIdeal.Gen.facts, Cert.S5OutRefIdeal.Gen.facts,
    Cert.AttnOutSample.Gen.facts, Cert.AttnOutSampleIdeal.Gen.facts, Cert.AttnOutSampleRefIdeal.Gen.facts,
    Cert.S5InSample.Gen.facts, Cert.S5InSampleIdeal.Gen.facts, Cert.S5InSampleRefIdeal.Gen.facts,
    Cert.S5Steps.Gen.facts, Cert.S5StepsIdeal.Gen.facts, Cert.S5StepsRefIdeal.Gen.facts,
    Cert.S5OutSample.Gen.facts, Cert.S5OutSampleIdeal.Gen.facts, Cert.S5OutSampleRefIdeal.Gen.facts,
    Cert.Sums.Gen.facts, Cert.SumsIdeal.Gen.facts, Cert.SumsRefIdeal.Gen.facts, Cert.Pre_finite.Gen.facts, Cert.Pre_finite_sums.Gen.facts,
    fun m ρ _ => Cert.Kernel.Gen.frame m ρ,
    fun m ρ _ => Cert.KernelIdeal.Gen.frame m ρ,
    fun m ρ _ => Cert.KernelIdeal.Gen.frame m ρ,
    frame_ri,
    fun m ρ _ => frame_ri m ρ trivial,
    fun m ρ _ => Cert.InProj.Gen.frame m ρ,
    fun m ρ _ => Cert.InProjIdeal.Gen.frame m ρ,
    InProjClaims.frame_ri,
    fun m ρ _ => Cert.InProjSample.Gen.frame m ρ,
    fun m ρ _ => Cert.InProjSampleIdeal.Gen.frame m ρ,
    InProjSampleClaims.frame_ri,
    fun m ρ _ => Cert.AttnOut.Gen.frame m ρ,
    fun m ρ _ => Cert.AttnOutIdeal.Gen.frame m ρ,
    AttnOutClaims.frame_ri,
    fun m ρ _ => Cert.S5In.Gen.frame m ρ,
    fun m ρ _ => Cert.S5InIdeal.Gen.frame m ρ,
    S5InClaims.frame_ri,
    fun m ρ _ => Cert.S5Out.Gen.frame m ρ,
    fun m ρ _ => Cert.S5OutIdeal.Gen.frame m ρ,
    S5OutClaims.frame_ri,
    fun m ρ _ => Cert.AttnOutSample.Gen.frame m ρ,
    fun m ρ _ => Cert.AttnOutSampleIdeal.Gen.frame m ρ,
    AttnOutSampleClaims.frame_ri,
    fun m ρ _ => Cert.S5InSample.Gen.frame m ρ,
    fun m ρ _ => Cert.S5InSampleIdeal.Gen.frame m ρ,
    S5InSampleClaims.frame_ri,
    fun m ρ _ => Cert.S5Steps.Gen.frame m ρ,
    fun m ρ _ => Cert.S5StepsIdeal.Gen.frame m ρ,
    S5StepsClaims.frame_ri,
    fun m ρ _ => Cert.S5OutSample.Gen.frame m ρ,
    fun m ρ _ => Cert.S5OutSampleIdeal.Gen.frame m ρ,
    S5OutSampleClaims.frame_ri,
    fun m ρ _ => Cert.Sums.Gen.frame m ρ,
    fun m ρ _ => Cert.SumsIdeal.Gen.frame m ρ,
    fun m ρ _ => Cert.SumsIdeal.Gen.frame m ρ,
    SumsClaims.frame_ri,
    fun m ρ _ => SumsClaims.frame_ri m ρ trivial,
    IdealRules.named_const.statement Cert.KernelIdeal.κ "log2e" .f32 0x3FB8AA3B#32 (((Real.log 2)⁻¹ : ℝ) : EReal) rfl,
    algebraic,
    IdealRules.named_const.statement Cert.InProjIdeal.κ "query_scale" .f32 0x3E38AA3B#32 (((8 * (Real.log 2))⁻¹ : ℝ) : EReal) rfl,
    InProjClaims.algebraic,
    trivial,
    InProjSampleClaims.algebraic,
    IdealRules.named_const.statement Cert.AttnOutIdeal.κ "alpha" .f32 0x3FB504F3#32 ((Real.sqrt 2 : ℝ) : EReal) rfl,
    AttnOutClaims.algebraic,
    trivial,
    S5InClaims.algebraic,
    IdealRules.named_const.statement Cert.S5OutIdeal.κ "alpha" .f32 0x3FB504F3#32 ((Real.sqrt 2 : ℝ) : EReal) rfl,
    S5OutClaims.algebraic,
    IdealRules.named_const.statement Cert.AttnOutSampleIdeal.κ "alpha" .f32 0x3FB504F3#32 ((Real.sqrt 2 : ℝ) : EReal) rfl,
    AttnOutSampleClaims.algebraic,
    trivial,
    S5InSampleClaims.algebraic,
    trivial,
    S5StepsClaims.algebraic,
    IdealRules.named_const.statement Cert.S5OutSampleIdeal.κ "alpha" .f32 0x3FB504F3#32 ((Real.sqrt 2 : ℝ) : EReal) rfl,
    S5OutSampleClaims.algebraic,
    trivial,
    SumsClaims.algebraic⟩

end Cert.Proof

end
